-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_KernelDwGate (m : (ℓ : Loc Cert.KernelDwGate.nD Cert.KernelDwGate.τ Cert.KernelDwGate.sig) → Buf (Elt Bits) ℓ) : Prop :=
  True

def Pre_KernelDwGateIdeal (m : (ℓ : Loc Cert.KernelDwGateIdeal.nD Cert.KernelDwGateIdeal.τ Cert.KernelDwGateIdeal.sig) → Buf (Elt Ideal) ℓ) : Prop :=
  True

def Pre_ReferenceDwGateIdeal (m : (ℓ : Loc Cert.ReferenceDwGateIdeal.nD Cert.ReferenceDwGateIdeal.τ Cert.ReferenceDwGateIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDmerged (m : (ℓ : Loc Cert.KernelDmerged.nD Cert.KernelDmerged.τ Cert.KernelDmerged.sig) → Buf (Elt Bits) ℓ) : Prop :=
  True

def Pre_KernelDmergedIdeal (m : (ℓ : Loc Cert.KernelDmergedIdeal.nD Cert.KernelDmergedIdeal.τ Cert.KernelDmergedIdeal.sig) → Buf (Elt Ideal) ℓ) : Prop :=
  True

def Pre_ReferenceDmergedIdeal (m : (ℓ : Loc Cert.ReferenceDmergedIdeal.nD Cert.ReferenceDmergedIdeal.τ Cert.ReferenceDmergedIdeal.sig) → Buf (Elt Ideal) ℓ) : Prop :=
  True

def Pre_KernelDwBrA (m : (ℓ : Loc Cert.KernelDwBrA.nD Cert.KernelDwBrA.τ Cert.KernelDwBrA.sig) → Buf (Elt Bits) ℓ) : Prop :=
  True

def Pre_KernelDwBrAIdeal (m : (ℓ : Loc Cert.KernelDwBrAIdeal.nD Cert.KernelDwBrAIdeal.τ Cert.KernelDwBrAIdeal.sig) → Buf (Elt Ideal) ℓ) : Prop :=
  True

def Pre_ReferenceDwBrAIdeal (m : (ℓ : Loc Cert.ReferenceDwBrAIdeal.nD Cert.ReferenceDwBrAIdeal.τ Cert.ReferenceDwBrAIdeal.sig) → Buf (Elt Ideal) ℓ) : Prop :=
  True

def Pre_KernelDwBrB (m : (ℓ : Loc Cert.KernelDwBrB.nD Cert.KernelDwBrB.τ Cert.KernelDwBrB.sig) → Buf (Elt Bits) ℓ) : Prop :=
  True

def Pre_KernelDwBrBIdeal (m : (ℓ : Loc Cert.KernelDwBrBIdeal.nD Cert.KernelDwBrBIdeal.τ Cert.KernelDwBrBIdeal.sig) → Buf (Elt Ideal) ℓ) : Prop :=
  True

def Pre_ReferenceDwBrBIdeal (m : (ℓ : Loc Cert.ReferenceDwBrBIdeal.nD Cert.ReferenceDwBrBIdeal.τ Cert.ReferenceDwBrBIdeal.sig) → Buf (Elt Ideal) ℓ) : Prop :=
  True

def Pre_KernelDwBrC (m : (ℓ : Loc Cert.KernelDwBrC.nD Cert.KernelDwBrC.τ Cert.KernelDwBrC.sig) → Buf (Elt Bits) ℓ) : Prop :=
  True

def Pre_KernelDwBrCIdeal (m : (ℓ : Loc Cert.KernelDwBrCIdeal.nD Cert.KernelDwBrCIdeal.τ Cert.KernelDwBrCIdeal.sig) → Buf (Elt Ideal) ℓ) : Prop :=
  True

def Pre_ReferenceDwBrCIdeal (m : (ℓ : Loc Cert.ReferenceDwBrCIdeal.nD Cert.ReferenceDwBrCIdeal.τ Cert.ReferenceDwBrCIdeal.sig) → Buf (Elt Ideal) ℓ) : Prop :=
  True

def Pre_KernelDya (m : (ℓ : Loc Cert.KernelDya.nD Cert.KernelDya.τ Cert.KernelDya.sig) → Buf (Elt Bits) ℓ) : Prop :=
  True

def Pre_KernelDyaIdeal (m : (ℓ : Loc Cert.KernelDyaIdeal.nD Cert.KernelDyaIdeal.τ Cert.KernelDyaIdeal.sig) → Buf (Elt Ideal) ℓ) : Prop :=
  True

def Pre_ReferenceDyaIdeal (m : (ℓ : Loc Cert.ReferenceDyaIdeal.nD Cert.ReferenceDyaIdeal.τ Cert.ReferenceDyaIdeal.sig) → Buf (Elt Ideal) ℓ) : Prop :=
  True

def Pre_KernelDyb (m : (ℓ : Loc Cert.KernelDyb.nD Cert.KernelDyb.τ Cert.KernelDyb.sig) → Buf (Elt Bits) ℓ) : Prop :=
  True

def Pre_KernelDybIdeal (m : (ℓ : Loc Cert.KernelDybIdeal.nD Cert.KernelDybIdeal.τ Cert.KernelDybIdeal.sig) → Buf (Elt Ideal) ℓ) : Prop :=
  True

def Pre_ReferenceDybIdeal (m : (ℓ : Loc Cert.ReferenceDybIdeal.nD Cert.ReferenceDybIdeal.τ Cert.ReferenceDybIdeal.sig) → Buf (Elt Ideal) ℓ) : Prop :=
  True

def Pre_KernelDyc (m : (ℓ : Loc Cert.KernelDyc.nD Cert.KernelDyc.τ Cert.KernelDyc.sig) → Buf (Elt Bits) ℓ) : Prop :=
  True

def Pre_KernelDycIdeal (m : (ℓ : Loc Cert.KernelDycIdeal.nD Cert.KernelDycIdeal.τ Cert.KernelDycIdeal.sig) → Buf (Elt Ideal) ℓ) : Prop :=
  True

def Pre_ReferenceDycIdeal (m : (ℓ : Loc Cert.ReferenceDycIdeal.nD Cert.ReferenceDycIdeal.τ Cert.ReferenceDycIdeal.sig) → Buf (Elt Ideal) ℓ) : Prop :=
  True

def Pre_KernelInProj (m : (ℓ : Loc Cert.KernelInProj.nD Cert.KernelInProj.τ Cert.KernelInProj.sig) → Buf (Elt Bits) ℓ) : Prop :=
  True

def Pre_KernelInProjIdeal (m : (ℓ : Loc Cert.KernelInProjIdeal.nD Cert.KernelInProjIdeal.τ Cert.KernelInProjIdeal.sig) → Buf (Elt Ideal) ℓ) : Prop :=
  True

def Pre_ReferenceInProjIdeal (m : (ℓ : Loc Cert.ReferenceInProjIdeal.nD Cert.ReferenceInProjIdeal.τ Cert.ReferenceInProjIdeal.sig) → Buf (Elt Ideal) ℓ) : Prop :=
  True

def Pre_KernelGateProj (m : (ℓ : Loc Cert.KernelGateProj.nD Cert.KernelGateProj.τ Cert.KernelGateProj.sig) → Buf (Elt Bits) ℓ) : Prop :=
  True

def Pre_KernelGateProjIdeal (m : (ℓ : Loc Cert.KernelGateProjIdeal.nD Cert.KernelGateProjIdeal.τ Cert.KernelGateProjIdeal.sig) → Buf (Elt Ideal) ℓ) : Prop :=
  True

def Pre_ReferenceGateProjIdeal (m : (ℓ : Loc Cert.ReferenceGateProjIdeal.nD Cert.ReferenceGateProjIdeal.τ Cert.ReferenceGateProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1))
      ∧ r.2.sem = fun _ => 0)

def quiescent_KernelDwGate [hKernelDwGate : Cert.KernelDwGate.Facts] : Prop :=
  ∀ (m : (ℓ : Loc Cert.KernelDwGate.nD Cert.KernelDwGate.τ Cert.KernelDwGate.sig) → Buf (Elt Bits) ℓ) (g : Dev Cert.KernelDwGate.nD → PrngReg), Pre_KernelDwGate m →
    θ_run (Cert.KernelDwGate.defs (F := Bits)) (onTc (τ := Cert.KernelDwGate.τ) (Cert.KernelDwGate.main (F := Bits))) ⟨m, fun _ => 0, g⟩ (fun r => (∀ c : Dev Cert.KernelDwGate.nD,
      r.2.mem ((c.tc : Thread Cert.KernelDwGate.nD Cert.KernelDwGate.τ).loc Cert.KernelDwGate.main_arg0) = m ((c.tc : Thread Cert.KernelDwGate.nD Cert.KernelDwGate.τ).loc Cert.KernelDwGate.main_arg0)
      ∧ r.2.mem ((c.tc : Thread Cert.KernelDwGate.nD Cert.KernelDwGate.τ).loc Cert.KernelDwGate.main_arg1) = m ((c.tc : Thread Cert.KernelDwGate.nD Cert.KernelDwGate.τ).loc Cert.KernelDwGate.main_arg1))
      ∧ r.2.sem = fun _ => 0)

def quiescent_KernelDwGateIdeal [hKernelDwGateIdeal : Cert.KernelDwGateIdeal.Facts] : Prop :=
  ∀ (m : (ℓ : Loc Cert.KernelDwGateIdeal.nD Cert.KernelDwGateIdeal.τ Cert.KernelDwGateIdeal.sig) → Buf (Elt Ideal) ℓ) (g : Dev Cert.KernelDwGateIdeal.nD → PrngReg), Pre_KernelDwGateIdeal m →
    θ_run (Cert.KernelDwGateIdeal.defs (F := Ideal)) (onTc (τ := Cert.KernelDwGateIdeal.τ) (Cert.KernelDwGateIdeal.main (F := Ideal))) ⟨m, fun _ => 0, g⟩ (fun r => (∀ c : Dev Cert.KernelDwGateIdeal.nD,
      r.2.mem ((c.tc : Thread Cert.KernelDwGateIdeal.nD Cert.KernelDwGateIdeal.τ).loc Cert.KernelDwGateIdeal.main_arg0) = m ((c.tc : Thread Cert.KernelDwGateIdeal.nD Cert.KernelDwGateIdeal.τ).loc Cert.KernelDwGateIdeal.main_arg0)
      ∧ r.2.mem ((c.tc : Thread Cert.KernelDwGateIdeal.nD Cert.KernelDwGateIdeal.τ).loc Cert.KernelDwGateIdeal.main_arg1) = m ((c.tc : Thread Cert.KernelDwGateIdeal.nD Cert.KernelDwGateIdeal.τ).loc Cert.KernelDwGateIdeal.main_arg1))
      ∧ r.2.sem = fun _ => 0)

def quiescent_ReferenceDwGateIdeal [hReferenceDwGateIdeal : Cert.ReferenceDwGateIdeal.Facts] : Prop :=
  ∀ (m : (ℓ : Loc Cert.ReferenceDwGateIdeal.nD Cert.ReferenceDwGateIdeal.τ Cert.ReferenceDwGateIdeal.sig) → Buf (Elt Ideal) ℓ) (g : Dev Cert.ReferenceDwGateIdeal.nD → PrngReg), Pre_ReferenceDwGateIdeal m →
    θ_run (Cert.ReferenceDwGateIdeal.defs (F := Ideal)) (onTc (τ := Cert.ReferenceDwGateIdeal.τ) (Cert.ReferenceDwGateIdeal.main (F := Ideal))) ⟨m, fun _ => 0, g⟩ (fun r => (∀ c : Dev Cert.ReferenceDwGateIdeal.nD,
      r.2.mem ((c.tc : Thread Cert.ReferenceDwGateIdeal.nD Cert.ReferenceDwGateIdeal.τ).loc Cert.ReferenceDwGateIdeal.main_arg0) = m ((c.tc : Thread Cert.ReferenceDwGateIdeal.nD Cert.ReferenceDwGateIdeal.τ).loc Cert.ReferenceDwGateIdeal.main_arg0)
      ∧ r.2.mem ((c.tc : Thread Cert.ReferenceDwGateIdeal.nD Cert.ReferenceDwGateIdeal.τ).loc Cert.ReferenceDwGateIdeal.main_arg1) = m ((c.tc : Thread Cert.ReferenceDwGateIdeal.nD Cert.ReferenceDwGateIdeal.τ).loc Cert.ReferenceDwGateIdeal.main_arg1))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1))
      ∧ r.2.sem = fun _ => 0)

def quiescent_KernelDmerged [hKernelDmerged : Cert.KernelDmerged.Facts] : Prop :=
  ∀ (m : (ℓ : Loc Cert.KernelDmerged.nD Cert.KernelDmerged.τ Cert.KernelDmerged.sig) → Buf (Elt Bits) ℓ) (g : Dev Cert.KernelDmerged.nD → PrngReg), Pre_KernelDmerged m →
    θ_run (Cert.KernelDmerged.defs (F := Bits)) (onTc (τ := Cert.KernelDmerged.τ) (Cert.KernelDmerged.main (F := Bits))) ⟨m, fun _ => 0, g⟩ (fun r => (∀ c : Dev Cert.KernelDmerged.nD,
      r.2.mem ((c.tc : Thread Cert.KernelDmerged.nD Cert.KernelDmerged.τ).loc Cert.KernelDmerged.main_arg0) = m ((c.tc : Thread Cert.KernelDmerged.nD Cert.KernelDmerged.τ).loc Cert.KernelDmerged.main_arg0)
      ∧ r.2.mem ((c.tc : Thread Cert.KernelDmerged.nD Cert.KernelDmerged.τ).loc Cert.KernelDmerged.main_arg1) = m ((c.tc : Thread Cert.KernelDmerged.nD Cert.KernelDmerged.τ).loc Cert.KernelDmerged.main_arg1))
      ∧ r.2.sem = fun _ => 0)

def quiescent_KernelDmergedIdeal [hKernelDmergedIdeal : Cert.KernelDmergedIdeal.Facts] : Prop :=
  ∀ (m : (ℓ : Loc Cert.KernelDmergedIdeal.nD Cert.KernelDmergedIdeal.τ Cert.KernelDmergedIdeal.sig) → Buf (Elt Ideal) ℓ) (g : Dev Cert.KernelDmergedIdeal.nD → PrngReg), Pre_KernelDmergedIdeal m →
    θ_run (Cert.KernelDmergedIdeal.defs (F := Ideal)) (onTc (τ := Cert.KernelDmergedIdeal.τ) (Cert.KernelDmergedIdeal.main (F := Ideal))) ⟨m, fun _ => 0, g⟩ (fun r => (∀ c : Dev Cert.KernelDmergedIdeal.nD,
      r.2.mem ((c.tc : Thread Cert.KernelDmergedIdeal.nD Cert.KernelDmergedIdeal.τ).loc Cert.KernelDmergedIdeal.main_arg0) = m ((c.tc : Thread Cert.KernelDmergedIdeal.nD Cert.KernelDmergedIdeal.τ).loc Cert.KernelDmergedIdeal.main_arg0)
      ∧ r.2.mem ((c.tc : Thread Cert.KernelDmergedIdeal.nD Cert.KernelDmergedIdeal.τ).loc Cert.KernelDmergedIdeal.main_arg1) = m ((c.tc : Thread Cert.KernelDmergedIdeal.nD Cert.KernelDmergedIdeal.τ).loc Cert.KernelDmergedIdeal.main_arg1))
      ∧ r.2.sem = fun _ => 0)

def quiescent_ReferenceDmergedIdeal [hReferenceDmergedIdeal : Cert.ReferenceDmergedIdeal.Facts] : Prop :=
  ∀ (m : (ℓ : Loc Cert.ReferenceDmergedIdeal.nD Cert.ReferenceDmergedIdeal.τ Cert.ReferenceDmergedIdeal.sig) → Buf (Elt Ideal) ℓ) (g : Dev Cert.ReferenceDmergedIdeal.nD → PrngReg), Pre_ReferenceDmergedIdeal m →
    θ_run (Cert.ReferenceDmergedIdeal.defs (F := Ideal)) (onTc (τ := Cert.ReferenceDmergedIdeal.τ) (Cert.ReferenceDmergedIdeal.main (F := Ideal))) ⟨m, fun _ => 0, g⟩ (fun r => (∀ c : Dev Cert.ReferenceDmergedIdeal.nD,
      r.2.mem ((c.tc : Thread Cert.ReferenceDmergedIdeal.nD Cert.ReferenceDmergedIdeal.τ).loc Cert.ReferenceDmergedIdeal.main_arg0) = m ((c.tc : Thread Cert.ReferenceDmergedIdeal.nD Cert.ReferenceDmergedIdeal.τ).loc Cert.ReferenceDmergedIdeal.main_arg0)
      ∧ r.2.mem ((c.tc : Thread Cert.ReferenceDmergedIdeal.nD Cert.ReferenceDmergedIdeal.τ).loc Cert.ReferenceDmergedIdeal.main_arg1) = m ((c.tc : Thread Cert.ReferenceDmergedIdeal.nD Cert.ReferenceDmergedIdeal.τ).loc Cert.ReferenceDmergedIdeal.main_arg1))
      ∧ r.2.sem = fun _ => 0)

def quiescent_KernelDwBrA [hKernelDwBrA : Cert.KernelDwBrA.Facts] : Prop :=
  ∀ (m : (ℓ : Loc Cert.KernelDwBrA.nD Cert.KernelDwBrA.τ Cert.KernelDwBrA.sig) → Buf (Elt Bits) ℓ) (g : Dev Cert.KernelDwBrA.nD → PrngReg), Pre_KernelDwBrA m →
    θ_run (Cert.KernelDwBrA.defs (F := Bits)) (onTc (τ := Cert.KernelDwBrA.τ) (Cert.KernelDwBrA.main (F := Bits))) ⟨m, fun _ => 0, g⟩ (fun r => (∀ c : Dev Cert.KernelDwBrA.nD,
      r.2.mem ((c.tc : Thread Cert.KernelDwBrA.nD Cert.KernelDwBrA.τ).loc Cert.KernelDwBrA.main_arg0) = m ((c.tc : Thread Cert.KernelDwBrA.nD Cert.KernelDwBrA.τ).loc Cert.KernelDwBrA.main_arg0)
      ∧ r.2.mem ((c.tc : Thread Cert.KernelDwBrA.nD Cert.KernelDwBrA.τ).loc Cert.KernelDwBrA.main_arg1) = m ((c.tc : Thread Cert.KernelDwBrA.nD Cert.KernelDwBrA.τ).loc Cert.KernelDwBrA.main_arg1))
      ∧ r.2.sem = fun _ => 0)

def quiescent_KernelDwBrAIdeal [hKernelDwBrAIdeal : Cert.KernelDwBrAIdeal.Facts] : Prop :=
  ∀ (m : (ℓ : Loc Cert.KernelDwBrAIdeal.nD Cert.KernelDwBrAIdeal.τ Cert.KernelDwBrAIdeal.sig) → Buf (Elt Ideal) ℓ) (g : Dev Cert.KernelDwBrAIdeal.nD → PrngReg), Pre_KernelDwBrAIdeal m →
    θ_run (Cert.KernelDwBrAIdeal.defs (F := Ideal)) (onTc (τ := Cert.KernelDwBrAIdeal.τ) (Cert.KernelDwBrAIdeal.main (F := Ideal))) ⟨m, fun _ => 0, g⟩ (fun r => (∀ c : Dev Cert.KernelDwBrAIdeal.nD,
      r.2.mem ((c.tc : Thread Cert.KernelDwBrAIdeal.nD Cert.KernelDwBrAIdeal.τ).loc Cert.KernelDwBrAIdeal.main_arg0) = m ((c.tc : Thread Cert.KernelDwBrAIdeal.nD Cert.KernelDwBrAIdeal.τ).loc Cert.KernelDwBrAIdeal.main_arg0)
      ∧ r.2.mem ((c.tc : Thread Cert.KernelDwBrAIdeal.nD Cert.KernelDwBrAIdeal.τ).loc Cert.KernelDwBrAIdeal.main_arg1) = m ((c.tc : Thread Cert.KernelDwBrAIdeal.nD Cert.KernelDwBrAIdeal.τ).loc Cert.KernelDwBrAIdeal.main_arg1))
      ∧ r.2.sem = fun _ => 0)

def quiescent_ReferenceDwBrAIdeal [hReferenceDwBrAIdeal : Cert.ReferenceDwBrAIdeal.Facts] : Prop :=
  ∀ (m : (ℓ : Loc Cert.ReferenceDwBrAIdeal.nD Cert.ReferenceDwBrAIdeal.τ Cert.ReferenceDwBrAIdeal.sig) → Buf (Elt Ideal) ℓ) (g : Dev Cert.ReferenceDwBrAIdeal.nD → PrngReg), Pre_ReferenceDwBrAIdeal m →
    θ_run (Cert.ReferenceDwBrAIdeal.defs (F := Ideal)) (onTc (τ := Cert.ReferenceDwBrAIdeal.τ) (Cert.ReferenceDwBrAIdeal.main (F := Ideal))) ⟨m, fun _ => 0, g⟩ (fun r => (∀ c : Dev Cert.ReferenceDwBrAIdeal.nD,
      r.2.mem ((c.tc : Thread Cert.ReferenceDwBrAIdeal.nD Cert.ReferenceDwBrAIdeal.τ).loc Cert.ReferenceDwBrAIdeal.main_arg0) = m ((c.tc : Thread Cert.ReferenceDwBrAIdeal.nD Cert.ReferenceDwBrAIdeal.τ).loc Cert.ReferenceDwBrAIdeal.main_arg0)
      ∧ r.2.mem ((c.tc : Thread Cert.ReferenceDwBrAIdeal.nD Cert.ReferenceDwBrAIdeal.τ).loc Cert.ReferenceDwBrAIdeal.main_arg1) = m ((c.tc : Thread Cert.ReferenceDwBrAIdeal.nD Cert.ReferenceDwBrAIdeal.τ).loc Cert.ReferenceDwBrAIdeal.main_arg1))
      ∧ r.2.sem = fun _ => 0)

def quiescent_KernelDwBrB [hKernelDwBrB : Cert.KernelDwBrB.Facts] : Prop :=
  ∀ (m : (ℓ : Loc Cert.KernelDwBrB.nD Cert.KernelDwBrB.τ Cert.KernelDwBrB.sig) → Buf (Elt Bits) ℓ) (g : Dev Cert.KernelDwBrB.nD → PrngReg), Pre_KernelDwBrB m →
    θ_run (Cert.KernelDwBrB.defs (F := Bits)) (onTc (τ := Cert.KernelDwBrB.τ) (Cert.KernelDwBrB.main (F := Bits))) ⟨m, fun _ => 0, g⟩ (fun r => (∀ c : Dev Cert.KernelDwBrB.nD,
      r.2.mem ((c.tc : Thread Cert.KernelDwBrB.nD Cert.KernelDwBrB.τ).loc Cert.KernelDwBrB.main_arg0) = m ((c.tc : Thread Cert.KernelDwBrB.nD Cert.KernelDwBrB.τ).loc Cert.KernelDwBrB.main_arg0)
      ∧ r.2.mem ((c.tc : Thread Cert.KernelDwBrB.nD Cert.KernelDwBrB.τ).loc Cert.KernelDwBrB.main_arg1) = m ((c.tc : Thread Cert.KernelDwBrB.nD Cert.KernelDwBrB.τ).loc Cert.KernelDwBrB.main_arg1))
      ∧ r.2.sem = fun _ => 0)

def quiescent_KernelDwBrBIdeal [hKernelDwBrBIdeal : Cert.KernelDwBrBIdeal.Facts] : Prop :=
  ∀ (m : (ℓ : Loc Cert.KernelDwBrBIdeal.nD Cert.KernelDwBrBIdeal.τ Cert.KernelDwBrBIdeal.sig) → Buf (Elt Ideal) ℓ) (g : Dev Cert.KernelDwBrBIdeal.nD → PrngReg), Pre_KernelDwBrBIdeal m →
    θ_run (Cert.KernelDwBrBIdeal.defs (F := Ideal)) (onTc (τ := Cert.KernelDwBrBIdeal.τ) (Cert.KernelDwBrBIdeal.main (F := Ideal))) ⟨m, fun _ => 0, g⟩ (fun r => (∀ c : Dev Cert.KernelDwBrBIdeal.nD,
      r.2.mem ((c.tc : Thread Cert.KernelDwBrBIdeal.nD Cert.KernelDwBrBIdeal.τ).loc Cert.KernelDwBrBIdeal.main_arg0) = m ((c.tc : Thread Cert.KernelDwBrBIdeal.nD Cert.KernelDwBrBIdeal.τ).loc Cert.KernelDwBrBIdeal.main_arg0)
      ∧ r.2.mem ((c.tc : Thread Cert.KernelDwBrBIdeal.nD Cert.KernelDwBrBIdeal.τ).loc Cert.KernelDwBrBIdeal.main_arg1) = m ((c.tc : Thread Cert.KernelDwBrBIdeal.nD Cert.KernelDwBrBIdeal.τ).loc Cert.KernelDwBrBIdeal.main_arg1))
      ∧ r.2.sem = fun _ => 0)

def quiescent_ReferenceDwBrBIdeal [hReferenceDwBrBIdeal : Cert.ReferenceDwBrBIdeal.Facts] : Prop :=
  ∀ (m : (ℓ : Loc Cert.ReferenceDwBrBIdeal.nD Cert.ReferenceDwBrBIdeal.τ Cert.ReferenceDwBrBIdeal.sig) → Buf (Elt Ideal) ℓ) (g : Dev Cert.ReferenceDwBrBIdeal.nD → PrngReg), Pre_ReferenceDwBrBIdeal m →
    θ_run (Cert.ReferenceDwBrBIdeal.defs (F := Ideal)) (onTc (τ := Cert.ReferenceDwBrBIdeal.τ) (Cert.ReferenceDwBrBIdeal.main (F := Ideal))) ⟨m, fun _ => 0, g⟩ (fun r => (∀ c : Dev Cert.ReferenceDwBrBIdeal.nD,
      r.2.mem ((c.tc : Thread Cert.ReferenceDwBrBIdeal.nD Cert.ReferenceDwBrBIdeal.τ).loc Cert.ReferenceDwBrBIdeal.main_arg0) = m ((c.tc : Thread Cert.ReferenceDwBrBIdeal.nD Cert.ReferenceDwBrBIdeal.τ).loc Cert.ReferenceDwBrBIdeal.main_arg0)
      ∧ r.2.mem ((c.tc : Thread Cert.ReferenceDwBrBIdeal.nD Cert.ReferenceDwBrBIdeal.τ).loc Cert.ReferenceDwBrBIdeal.main_arg1) = m ((c.tc : Thread Cert.ReferenceDwBrBIdeal.nD Cert.ReferenceDwBrBIdeal.τ).loc Cert.ReferenceDwBrBIdeal.main_arg1))
      ∧ r.2.sem = fun _ => 0)

def quiescent_KernelDwBrC [hKernelDwBrC : Cert.KernelDwBrC.Facts] : Prop :=
  ∀ (m : (ℓ : Loc Cert.KernelDwBrC.nD Cert.KernelDwBrC.τ Cert.KernelDwBrC.sig) → Buf (Elt Bits) ℓ) (g : Dev Cert.KernelDwBrC.nD → PrngReg), Pre_KernelDwBrC m →
    θ_run (Cert.KernelDwBrC.defs (F := Bits)) (onTc (τ := Cert.KernelDwBrC.τ) (Cert.KernelDwBrC.main (F := Bits))) ⟨m, fun _ => 0, g⟩ (fun r => (∀ c : Dev Cert.KernelDwBrC.nD,
      r.2.mem ((c.tc : Thread Cert.KernelDwBrC.nD Cert.KernelDwBrC.τ).loc Cert.KernelDwBrC.main_arg0) = m ((c.tc : Thread Cert.KernelDwBrC.nD Cert.KernelDwBrC.τ).loc Cert.KernelDwBrC.main_arg0)
      ∧ r.2.mem ((c.tc : Thread Cert.KernelDwBrC.nD Cert.KernelDwBrC.τ).loc Cert.KernelDwBrC.main_arg1) = m ((c.tc : Thread Cert.KernelDwBrC.nD Cert.KernelDwBrC.τ).loc Cert.KernelDwBrC.main_arg1))
      ∧ r.2.sem = fun _ => 0)

def quiescent_KernelDwBrCIdeal [hKernelDwBrCIdeal : Cert.KernelDwBrCIdeal.Facts] : Prop :=
  ∀ (m : (ℓ : Loc Cert.KernelDwBrCIdeal.nD Cert.KernelDwBrCIdeal.τ Cert.KernelDwBrCIdeal.sig) → Buf (Elt Ideal) ℓ) (g : Dev Cert.KernelDwBrCIdeal.nD → PrngReg), Pre_KernelDwBrCIdeal m →
    θ_run (Cert.KernelDwBrCIdeal.defs (F := Ideal)) (onTc (τ := Cert.KernelDwBrCIdeal.τ) (Cert.KernelDwBrCIdeal.main (F := Ideal))) ⟨m, fun _ => 0, g⟩ (fun r => (∀ c : Dev Cert.KernelDwBrCIdeal.nD,
      r.2.mem ((c.tc : Thread Cert.KernelDwBrCIdeal.nD Cert.KernelDwBrCIdeal.τ).loc Cert.KernelDwBrCIdeal.main_arg0) = m ((c.tc : Thread Cert.KernelDwBrCIdeal.nD Cert.KernelDwBrCIdeal.τ).loc Cert.KernelDwBrCIdeal.main_arg0)
      ∧ r.2.mem ((c.tc : Thread Cert.KernelDwBrCIdeal.nD Cert.KernelDwBrCIdeal.τ).loc Cert.KernelDwBrCIdeal.main_arg1) = m ((c.tc : Thread Cert.KernelDwBrCIdeal.nD Cert.KernelDwBrCIdeal.τ).loc Cert.KernelDwBrCIdeal.main_arg1))
      ∧ r.2.sem = fun _ => 0)

def quiescent_ReferenceDwBrCIdeal [hReferenceDwBrCIdeal : Cert.ReferenceDwBrCIdeal.Facts] : Prop :=
  ∀ (m : (ℓ : Loc Cert.ReferenceDwBrCIdeal.nD Cert.ReferenceDwBrCIdeal.τ Cert.ReferenceDwBrCIdeal.sig) → Buf (Elt Ideal) ℓ) (g : Dev Cert.ReferenceDwBrCIdeal.nD → PrngReg), Pre_ReferenceDwBrCIdeal m →
    θ_run (Cert.ReferenceDwBrCIdeal.defs (F := Ideal)) (onTc (τ := Cert.ReferenceDwBrCIdeal.τ) (Cert.ReferenceDwBrCIdeal.main (F := Ideal))) ⟨m, fun _ => 0, g⟩ (fun r => (∀ c : Dev Cert.ReferenceDwBrCIdeal.nD,
      r.2.mem ((c.tc : Thread Cert.ReferenceDwBrCIdeal.nD Cert.ReferenceDwBrCIdeal.τ).loc Cert.ReferenceDwBrCIdeal.main_arg0) = m ((c.tc : Thread Cert.ReferenceDwBrCIdeal.nD Cert.ReferenceDwBrCIdeal.τ).loc Cert.ReferenceDwBrCIdeal.main_arg0)
      ∧ r.2.mem ((c.tc : Thread Cert.ReferenceDwBrCIdeal.nD Cert.ReferenceDwBrCIdeal.τ).loc Cert.ReferenceDwBrCIdeal.main_arg1) = m ((c.tc : Thread Cert.ReferenceDwBrCIdeal.nD Cert.ReferenceDwBrCIdeal.τ).loc Cert.ReferenceDwBrCIdeal.main_arg1))
      ∧ r.2.sem = fun _ => 0)

def quiescent_KernelDya [hKernelDya : Cert.KernelDya.Facts] : Prop :=
  ∀ (m : (ℓ : Loc Cert.KernelDya.nD Cert.KernelDya.τ Cert.KernelDya.sig) → Buf (Elt Bits) ℓ) (g : Dev Cert.KernelDya.nD → PrngReg), Pre_KernelDya m →
    θ_run (Cert.KernelDya.defs (F := Bits)) (onTc (τ := Cert.KernelDya.τ) (Cert.KernelDya.main (F := Bits))) ⟨m, fun _ => 0, g⟩ (fun r => (∀ c : Dev Cert.KernelDya.nD,
      r.2.mem ((c.tc : Thread Cert.KernelDya.nD Cert.KernelDya.τ).loc Cert.KernelDya.main_arg0) = m ((c.tc : Thread Cert.KernelDya.nD Cert.KernelDya.τ).loc Cert.KernelDya.main_arg0)
      ∧ r.2.mem ((c.tc : Thread Cert.KernelDya.nD Cert.KernelDya.τ).loc Cert.KernelDya.main_arg1) = m ((c.tc : Thread Cert.KernelDya.nD Cert.KernelDya.τ).loc Cert.KernelDya.main_arg1))
      ∧ r.2.sem = fun _ => 0)

def quiescent_KernelDyaIdeal [hKernelDyaIdeal : Cert.KernelDyaIdeal.Facts] : Prop :=
  ∀ (m : (ℓ : Loc Cert.KernelDyaIdeal.nD Cert.KernelDyaIdeal.τ Cert.KernelDyaIdeal.sig) → Buf (Elt Ideal) ℓ) (g : Dev Cert.KernelDyaIdeal.nD → PrngReg), Pre_KernelDyaIdeal m →
    θ_run (Cert.KernelDyaIdeal.defs (F := Ideal)) (onTc (τ := Cert.KernelDyaIdeal.τ) (Cert.KernelDyaIdeal.main (F := Ideal))) ⟨m, fun _ => 0, g⟩ (fun r => (∀ c : Dev Cert.KernelDyaIdeal.nD,
      r.2.mem ((c.tc : Thread Cert.KernelDyaIdeal.nD Cert.KernelDyaIdeal.τ).loc Cert.KernelDyaIdeal.main_arg0) = m ((c.tc : Thread Cert.KernelDyaIdeal.nD Cert.KernelDyaIdeal.τ).loc Cert.KernelDyaIdeal.main_arg0)
      ∧ r.2.mem ((c.tc : Thread Cert.KernelDyaIdeal.nD Cert.KernelDyaIdeal.τ).loc Cert.KernelDyaIdeal.main_arg1) = m ((c.tc : Thread Cert.KernelDyaIdeal.nD Cert.KernelDyaIdeal.τ).loc Cert.KernelDyaIdeal.main_arg1))
      ∧ r.2.sem = fun _ => 0)

def quiescent_ReferenceDyaIdeal [hReferenceDyaIdeal : Cert.ReferenceDyaIdeal.Facts] : Prop :=
  ∀ (m : (ℓ : Loc Cert.ReferenceDyaIdeal.nD Cert.ReferenceDyaIdeal.τ Cert.ReferenceDyaIdeal.sig) → Buf (Elt Ideal) ℓ) (g : Dev Cert.ReferenceDyaIdeal.nD → PrngReg), Pre_ReferenceDyaIdeal m →
    θ_run (Cert.ReferenceDyaIdeal.defs (F := Ideal)) (onTc (τ := Cert.ReferenceDyaIdeal.τ) (Cert.ReferenceDyaIdeal.main (F := Ideal))) ⟨m, fun _ => 0, g⟩ (fun r => (∀ c : Dev Cert.ReferenceDyaIdeal.nD,
      r.2.mem ((c.tc : Thread Cert.ReferenceDyaIdeal.nD Cert.ReferenceDyaIdeal.τ).loc Cert.ReferenceDyaIdeal.main_arg0) = m ((c.tc : Thread Cert.ReferenceDyaIdeal.nD Cert.ReferenceDyaIdeal.τ).loc Cert.ReferenceDyaIdeal.main_arg0)
      ∧ r.2.mem ((c.tc : Thread Cert.ReferenceDyaIdeal.nD Cert.ReferenceDyaIdeal.τ).loc Cert.ReferenceDyaIdeal.main_arg1) = m ((c.tc : Thread Cert.ReferenceDyaIdeal.nD Cert.ReferenceDyaIdeal.τ).loc Cert.ReferenceDyaIdeal.main_arg1))
      ∧ r.2.sem = fun _ => 0)

def quiescent_KernelDyb [hKernelDyb : Cert.KernelDyb.Facts] : Prop :=
  ∀ (m : (ℓ : Loc Cert.KernelDyb.nD Cert.KernelDyb.τ Cert.KernelDyb.sig) → Buf (Elt Bits) ℓ) (g : Dev Cert.KernelDyb.nD → PrngReg), Pre_KernelDyb m →
    θ_run (Cert.KernelDyb.defs (F := Bits)) (onTc (τ := Cert.KernelDyb.τ) (Cert.KernelDyb.main (F := Bits))) ⟨m, fun _ => 0, g⟩ (fun r => (∀ c : Dev Cert.KernelDyb.nD,
      r.2.mem ((c.tc : Thread Cert.KernelDyb.nD Cert.KernelDyb.τ).loc Cert.KernelDyb.main_arg0) = m ((c.tc : Thread Cert.KernelDyb.nD Cert.KernelDyb.τ).loc Cert.KernelDyb.main_arg0)
      ∧ r.2.mem ((c.tc : Thread Cert.KernelDyb.nD Cert.KernelDyb.τ).loc Cert.KernelDyb.main_arg1) = m ((c.tc : Thread Cert.KernelDyb.nD Cert.KernelDyb.τ).loc Cert.KernelDyb.main_arg1))
      ∧ r.2.sem = fun _ => 0)

def quiescent_KernelDybIdeal [hKernelDybIdeal : Cert.KernelDybIdeal.Facts] : Prop :=
  ∀ (m : (ℓ : Loc Cert.KernelDybIdeal.nD Cert.KernelDybIdeal.τ Cert.KernelDybIdeal.sig) → Buf (Elt Ideal) ℓ) (g : Dev Cert.KernelDybIdeal.nD → PrngReg), Pre_KernelDybIdeal m →
    θ_run (Cert.KernelDybIdeal.defs (F := Ideal)) (onTc (τ := Cert.KernelDybIdeal.τ) (Cert.KernelDybIdeal.main (F := Ideal))) ⟨m, fun _ => 0, g⟩ (fun r => (∀ c : Dev Cert.KernelDybIdeal.nD,
      r.2.mem ((c.tc : Thread Cert.KernelDybIdeal.nD Cert.KernelDybIdeal.τ).loc Cert.KernelDybIdeal.main_arg0) = m ((c.tc : Thread Cert.KernelDybIdeal.nD Cert.KernelDybIdeal.τ).loc Cert.KernelDybIdeal.main_arg0)
      ∧ r.2.mem ((c.tc : Thread Cert.KernelDybIdeal.nD Cert.KernelDybIdeal.τ).loc Cert.KernelDybIdeal.main_arg1) = m ((c.tc : Thread Cert.KernelDybIdeal.nD Cert.KernelDybIdeal.τ).loc Cert.KernelDybIdeal.main_arg1))
      ∧ r.2.sem = fun _ => 0)

def quiescent_ReferenceDybIdeal [hReferenceDybIdeal : Cert.ReferenceDybIdeal.Facts] : Prop :=
  ∀ (m : (ℓ : Loc Cert.ReferenceDybIdeal.nD Cert.ReferenceDybIdeal.τ Cert.ReferenceDybIdeal.sig) → Buf (Elt Ideal) ℓ) (g : Dev Cert.ReferenceDybIdeal.nD → PrngReg), Pre_ReferenceDybIdeal m →
    θ_run (Cert.ReferenceDybIdeal.defs (F := Ideal)) (onTc (τ := Cert.ReferenceDybIdeal.τ) (Cert.ReferenceDybIdeal.main (F := Ideal))) ⟨m, fun _ => 0, g⟩ (fun r => (∀ c : Dev Cert.ReferenceDybIdeal.nD,
      r.2.mem ((c.tc : Thread Cert.ReferenceDybIdeal.nD Cert.ReferenceDybIdeal.τ).loc Cert.ReferenceDybIdeal.main_arg0) = m ((c.tc : Thread Cert.ReferenceDybIdeal.nD Cert.ReferenceDybIdeal.τ).loc Cert.ReferenceDybIdeal.main_arg0)
      ∧ r.2.mem ((c.tc : Thread Cert.ReferenceDybIdeal.nD Cert.ReferenceDybIdeal.τ).loc Cert.ReferenceDybIdeal.main_arg1) = m ((c.tc : Thread Cert.ReferenceDybIdeal.nD Cert.ReferenceDybIdeal.τ).loc Cert.ReferenceDybIdeal.main_arg1))
      ∧ r.2.sem = fun _ => 0)

def quiescent_KernelDyc [hKernelDyc : Cert.KernelDyc.Facts] : Prop :=
  ∀ (m : (ℓ : Loc Cert.KernelDyc.nD Cert.KernelDyc.τ Cert.KernelDyc.sig) → Buf (Elt Bits) ℓ) (g : Dev Cert.KernelDyc.nD → PrngReg), Pre_KernelDyc m →
    θ_run (Cert.KernelDyc.defs (F := Bits)) (onTc (τ := Cert.KernelDyc.τ) (Cert.KernelDyc.main (F := Bits))) ⟨m, fun _ => 0, g⟩ (fun r => (∀ c : Dev Cert.KernelDyc.nD,
      r.2.mem ((c.tc : Thread Cert.KernelDyc.nD Cert.KernelDyc.τ).loc Cert.KernelDyc.main_arg0) = m ((c.tc : Thread Cert.KernelDyc.nD Cert.KernelDyc.τ).loc Cert.KernelDyc.main_arg0)
      ∧ r.2.mem ((c.tc : Thread Cert.KernelDyc.nD Cert.KernelDyc.τ).loc Cert.KernelDyc.main_arg1) = m ((c.tc : Thread Cert.KernelDyc.nD Cert.KernelDyc.τ).loc Cert.KernelDyc.main_arg1))
      ∧ r.2.sem = fun _ => 0)

def quiescent_KernelDycIdeal [hKernelDycIdeal : Cert.KernelDycIdeal.Facts] : Prop :=
  ∀ (m : (ℓ : Loc Cert.KernelDycIdeal.nD Cert.KernelDycIdeal.τ Cert.KernelDycIdeal.sig) → Buf (Elt Ideal) ℓ) (g : Dev Cert.KernelDycIdeal.nD → PrngReg), Pre_KernelDycIdeal m →
    θ_run (Cert.KernelDycIdeal.defs (F := Ideal)) (onTc (τ := Cert.KernelDycIdeal.τ) (Cert.KernelDycIdeal.main (F := Ideal))) ⟨m, fun _ => 0, g⟩ (fun r => (∀ c : Dev Cert.KernelDycIdeal.nD,
      r.2.mem ((c.tc : Thread Cert.KernelDycIdeal.nD Cert.KernelDycIdeal.τ).loc Cert.KernelDycIdeal.main_arg0) = m ((c.tc : Thread Cert.KernelDycIdeal.nD Cert.KernelDycIdeal.τ).loc Cert.KernelDycIdeal.main_arg0)
      ∧ r.2.mem ((c.tc : Thread Cert.KernelDycIdeal.nD Cert.KernelDycIdeal.τ).loc Cert.KernelDycIdeal.main_arg1) = m ((c.tc : Thread Cert.KernelDycIdeal.nD Cert.KernelDycIdeal.τ).loc Cert.KernelDycIdeal.main_arg1))
      ∧ r.2.sem = fun _ => 0)

def quiescent_ReferenceDycIdeal [hReferenceDycIdeal : Cert.ReferenceDycIdeal.Facts] : Prop :=
  ∀ (m : (ℓ : Loc Cert.ReferenceDycIdeal.nD Cert.ReferenceDycIdeal.τ Cert.ReferenceDycIdeal.sig) → Buf (Elt Ideal) ℓ) (g : Dev Cert.ReferenceDycIdeal.nD → PrngReg), Pre_ReferenceDycIdeal m →
    θ_run (Cert.ReferenceDycIdeal.defs (F := Ideal)) (onTc (τ := Cert.ReferenceDycIdeal.τ) (Cert.ReferenceDycIdeal.main (F := Ideal))) ⟨m, fun _ => 0, g⟩ (fun r => (∀ c : Dev Cert.ReferenceDycIdeal.nD,
      r.2.mem ((c.tc : Thread Cert.ReferenceDycIdeal.nD Cert.ReferenceDycIdeal.τ).loc Cert.ReferenceDycIdeal.main_arg0) = m ((c.tc : Thread Cert.ReferenceDycIdeal.nD Cert.ReferenceDycIdeal.τ).loc Cert.ReferenceDycIdeal.main_arg0)
      ∧ r.2.mem ((c.tc : Thread Cert.ReferenceDycIdeal.nD Cert.ReferenceDycIdeal.τ).loc Cert.ReferenceDycIdeal.main_arg1) = m ((c.tc : Thread Cert.ReferenceDycIdeal.nD Cert.ReferenceDycIdeal.τ).loc Cert.ReferenceDycIdeal.main_arg1))
      ∧ r.2.sem = fun _ => 0)

def quiescent_KernelInProj [hKernelInProj : Cert.KernelInProj.Facts] : Prop :=
  ∀ (m : (ℓ : Loc Cert.KernelInProj.nD Cert.KernelInProj.τ Cert.KernelInProj.sig) → Buf (Elt Bits) ℓ) (g : Dev Cert.KernelInProj.nD → PrngReg), Pre_KernelInProj m →
    θ_run (Cert.KernelInProj.defs (F := Bits)) (onTc (τ := Cert.KernelInProj.τ) (Cert.KernelInProj.main (F := Bits))) ⟨m, fun _ => 0, g⟩ (fun r => (∀ c : Dev Cert.KernelInProj.nD,
      r.2.mem ((c.tc : Thread Cert.KernelInProj.nD Cert.KernelInProj.τ).loc Cert.KernelInProj.main_arg0) = m ((c.tc : Thread Cert.KernelInProj.nD Cert.KernelInProj.τ).loc Cert.KernelInProj.main_arg0)
      ∧ r.2.mem ((c.tc : Thread Cert.KernelInProj.nD Cert.KernelInProj.τ).loc Cert.KernelInProj.main_arg1) = m ((c.tc : Thread Cert.KernelInProj.nD Cert.KernelInProj.τ).loc Cert.KernelInProj.main_arg1))
      ∧ r.2.sem = fun _ => 0)

def quiescent_KernelInProjIdeal [hKernelInProjIdeal : Cert.KernelInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg), Pre_KernelInProjIdeal m →
    θ_run (Cert.KernelInProjIdeal.defs (F := Ideal)) (onTc (τ := Cert.KernelInProjIdeal.τ) (Cert.KernelInProjIdeal.main (F := Ideal))) ⟨m, fun _ => 0, g⟩ (fun r => (∀ c : Dev Cert.KernelInProjIdeal.nD,
      r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
      ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1))
      ∧ r.2.sem = fun _ => 0)

def quiescent_ReferenceInProjIdeal [hReferenceInProjIdeal : Cert.ReferenceInProjIdeal.Facts] : Prop :=
  ∀ (m : (ℓ : Loc Cert.ReferenceInProjIdeal.nD Cert.ReferenceInProjIdeal.τ Cert.ReferenceInProjIdeal.sig) → Buf (Elt Ideal) ℓ) (g : Dev Cert.ReferenceInProjIdeal.nD → PrngReg), Pre_ReferenceInProjIdeal m →
    θ_run (Cert.ReferenceInProjIdeal.defs (F := Ideal)) (onTc (τ := Cert.ReferenceInProjIdeal.τ) (Cert.ReferenceInProjIdeal.main (F := Ideal))) ⟨m, fun _ => 0, g⟩ (fun r => (∀ c : Dev Cert.ReferenceInProjIdeal.nD,
      r.2.mem ((c.tc : Thread Cert.ReferenceInProjIdeal.nD Cert.ReferenceInProjIdeal.τ).loc Cert.ReferenceInProjIdeal.main_arg0) = m ((c.tc : Thread Cert.ReferenceInProjIdeal.nD Cert.ReferenceInProjIdeal.τ).loc Cert.ReferenceInProjIdeal.main_arg0)
      ∧ r.2.mem ((c.tc : Thread Cert.ReferenceInProjIdeal.nD Cert.ReferenceInProjIdeal.τ).loc Cert.ReferenceInProjIdeal.main_arg1) = m ((c.tc : Thread Cert.ReferenceInProjIdeal.nD Cert.ReferenceInProjIdeal.τ).loc Cert.ReferenceInProjIdeal.main_arg1))
      ∧ r.2.sem = fun _ => 0)

def quiescent_KernelGateProj [hKernelGateProj : Cert.KernelGateProj.Facts] : Prop :=
  ∀ (m : (ℓ : Loc Cert.KernelGateProj.nD Cert.KernelGateProj.τ Cert.KernelGateProj.sig) → Buf (Elt Bits) ℓ) (g : Dev Cert.KernelGateProj.nD → PrngReg), Pre_KernelGateProj m →
    θ_run (Cert.KernelGateProj.defs (F := Bits)) (onTc (τ := Cert.KernelGateProj.τ) (Cert.KernelGateProj.main (F := Bits))) ⟨m, fun _ => 0, g⟩ (fun r => (∀ c : Dev Cert.KernelGateProj.nD,
      r.2.mem ((c.tc : Thread Cert.KernelGateProj.nD Cert.KernelGateProj.τ).loc Cert.KernelGateProj.main_arg0) = m ((c.tc : Thread Cert.KernelGateProj.nD Cert.KernelGateProj.τ).loc Cert.KernelGateProj.main_arg0)
      ∧ r.2.mem ((c.tc : Thread Cert.KernelGateProj.nD Cert.KernelGateProj.τ).loc Cert.KernelGateProj.main_arg1) = m ((c.tc : Thread Cert.KernelGateProj.nD Cert.KernelGateProj.τ).loc Cert.KernelGateProj.main_arg1)
      ∧ r.2.mem ((c.tc : Thread Cert.KernelGateProj.nD Cert.KernelGateProj.τ).loc Cert.KernelGateProj.main_arg2) = m ((c.tc : Thread Cert.KernelGateProj.nD Cert.KernelGateProj.τ).loc Cert.KernelGateProj.main_arg2))
      ∧ r.2.sem = fun _ => 0)

def quiescent_KernelGateProjIdeal [hKernelGateProjIdeal : Cert.KernelGateProjIdeal.Facts] : Prop :=
  ∀ (m : (ℓ : Loc Cert.KernelGateProjIdeal.nD Cert.KernelGateProjIdeal.τ Cert.KernelGateProjIdeal.sig) → Buf (Elt Ideal) ℓ) (g : Dev Cert.KernelGateProjIdeal.nD → PrngReg), Pre_KernelGateProjIdeal m →
    θ_run (Cert.KernelGateProjIdeal.defs (F := Ideal)) (onTc (τ := Cert.KernelGateProjIdeal.τ) (Cert.KernelGateProjIdeal.main (F := Ideal))) ⟨m, fun _ => 0, g⟩ (fun r => (∀ c : Dev Cert.KernelGateProjIdeal.nD,
      r.2.mem ((c.tc : Thread Cert.KernelGateProjIdeal.nD Cert.KernelGateProjIdeal.τ).loc Cert.KernelGateProjIdeal.main_arg0) = m ((c.tc : Thread Cert.KernelGateProjIdeal.nD Cert.KernelGateProjIdeal.τ).loc Cert.KernelGateProjIdeal.main_arg0)
      ∧ r.2.mem ((c.tc : Thread Cert.KernelGateProjIdeal.nD Cert.KernelGateProjIdeal.τ).loc Cert.KernelGateProjIdeal.main_arg1) = m ((c.tc : Thread Cert.KernelGateProjIdeal.nD Cert.KernelGateProjIdeal.τ).loc Cert.KernelGateProjIdeal.main_arg1)
      ∧ r.2.mem ((c.tc : Thread Cert.KernelGateProjIdeal.nD Cert.KernelGateProjIdeal.τ).loc Cert.KernelGateProjIdeal.main_arg2) = m ((c.tc : Thread Cert.KernelGateProjIdeal.nD Cert.KernelGateProjIdeal.τ).loc Cert.KernelGateProjIdeal.main_arg2))
      ∧ r.2.sem = fun _ => 0)

def quiescent_ReferenceGateProjIdeal [hReferenceGateProjIdeal : Cert.ReferenceGateProjIdeal.Facts] : Prop :=
  ∀ (m : (ℓ : Loc Cert.ReferenceGateProjIdeal.nD Cert.ReferenceGateProjIdeal.τ Cert.ReferenceGateProjIdeal.sig) → Buf (Elt Ideal) ℓ) (g : Dev Cert.ReferenceGateProjIdeal.nD → PrngReg), Pre_ReferenceGateProjIdeal m →
    θ_run (Cert.ReferenceGateProjIdeal.defs (F := Ideal)) (onTc (τ := Cert.ReferenceGateProjIdeal.τ) (Cert.ReferenceGateProjIdeal.main (F := Ideal))) ⟨m, fun _ => 0, g⟩ (fun r => (∀ c : Dev Cert.ReferenceGateProjIdeal.nD,
      r.2.mem ((c.tc : Thread Cert.ReferenceGateProjIdeal.nD Cert.ReferenceGateProjIdeal.τ).loc Cert.ReferenceGateProjIdeal.main_arg0) = m ((c.tc : Thread Cert.ReferenceGateProjIdeal.nD Cert.ReferenceGateProjIdeal.τ).loc Cert.ReferenceGateProjIdeal.main_arg0)
      ∧ r.2.mem ((c.tc : Thread Cert.ReferenceGateProjIdeal.nD Cert.ReferenceGateProjIdeal.τ).loc Cert.ReferenceGateProjIdeal.main_arg1) = m ((c.tc : Thread Cert.ReferenceGateProjIdeal.nD Cert.ReferenceGateProjIdeal.τ).loc Cert.ReferenceGateProjIdeal.main_arg1)
      ∧ r.2.mem ((c.tc : Thread Cert.ReferenceGateProjIdeal.nD Cert.ReferenceGateProjIdeal.τ).loc Cert.ReferenceGateProjIdeal.main_arg2) = m ((c.tc : Thread Cert.ReferenceGateProjIdeal.nD Cert.ReferenceGateProjIdeal.τ).loc Cert.ReferenceGateProjIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)) (v3 : (c : Dev Cert.KernelIdeal.nD) → Buf (Elt Ideal) ((c.tc : Thread Cert.KernelIdeal.nD Cert.KernelIdeal.τ).loc Cert.KernelIdeal.main_v39_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_v39_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)) →
    ∃ (v0 : (c : Dev Cert.KernelDhIdeal.nD) → Buf (Elt Ideal) ((c.tc : Thread Cert.KernelDhIdeal.nD Cert.KernelDhIdeal.τ).loc Cert.KernelDhIdeal.main_v4)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v4) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v9) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)) →
    ∃ (v0 : (c : Dev Cert.KernelDwInIdeal.nD) → Buf (Elt Ideal) ((c.tc : Thread Cert.KernelDwInIdeal.nD Cert.KernelDwInIdeal.τ).loc Cert.KernelDwInIdeal.main_v0)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v0) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v8) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1))

def preserves_KernelDwGate_KernelDwGateIdeal : Prop :=
  True

def algebraic_KernelDwGateIdeal_ReferenceDwGateIdeal [hKernelDwGateIdeal : Cert.KernelDwGateIdeal.Facts] [hReferenceDwGateIdeal : Cert.ReferenceDwGateIdeal.Facts] : Prop :=
  ∀ (m : (ℓ : Loc Cert.KernelDwGateIdeal.nD Cert.KernelDwGateIdeal.τ Cert.KernelDwGateIdeal.sig) → Buf (Elt Ideal) ℓ) (g : Dev Cert.KernelDwGateIdeal.nD → PrngReg)
    (m' : (ℓ : Loc Cert.ReferenceDwGateIdeal.nD Cert.ReferenceDwGateIdeal.τ Cert.ReferenceDwGateIdeal.sig) → Buf (Elt Ideal) ℓ) (g' : Dev Cert.ReferenceDwGateIdeal.nD → PrngReg), Pre_KernelDwGateIdeal m →
    (∀ c : Dev Cert.KernelDwGateIdeal.nD,
      m' ((c.tc : Thread Cert.ReferenceDwGateIdeal.nD Cert.ReferenceDwGateIdeal.τ).loc Cert.ReferenceDwGateIdeal.main_arg0) = m ((c.tc : Thread Cert.KernelDwGateIdeal.nD Cert.KernelDwGateIdeal.τ).loc Cert.KernelDwGateIdeal.main_arg0)
      ∧ m' ((c.tc : Thread Cert.ReferenceDwGateIdeal.nD Cert.ReferenceDwGateIdeal.τ).loc Cert.ReferenceDwGateIdeal.main_arg1) = m ((c.tc : Thread Cert.KernelDwGateIdeal.nD Cert.KernelDwGateIdeal.τ).loc Cert.KernelDwGateIdeal.main_arg1)) →
    ∃ (v0 : (c : Dev Cert.KernelDwGateIdeal.nD) → Buf (Elt Ideal) ((c.tc : Thread Cert.KernelDwGateIdeal.nD Cert.KernelDwGateIdeal.τ).loc Cert.KernelDwGateIdeal.main_v0)),
      θ_run (Cert.KernelDwGateIdeal.defs (F := Ideal)) (onTc (τ := Cert.KernelDwGateIdeal.τ) (Cert.KernelDwGateIdeal.main (F := Ideal))) ⟨m, fun _ => 0, g⟩ (fun r => ∀ c : Dev Cert.KernelDwGateIdeal.nD,
          r.2.mem ((c.tc : Thread Cert.KernelDwGateIdeal.nD Cert.KernelDwGateIdeal.τ).loc Cert.KernelDwGateIdeal.main_v0) = v0 c
          ∧ r.2.mem ((c.tc : Thread Cert.KernelDwGateIdeal.nD Cert.KernelDwGateIdeal.τ).loc Cert.KernelDwGateIdeal.main_arg0) = m ((c.tc : Thread Cert.KernelDwGateIdeal.nD Cert.KernelDwGateIdeal.τ).loc Cert.KernelDwGateIdeal.main_arg0)
          ∧ r.2.mem ((c.tc : Thread Cert.KernelDwGateIdeal.nD Cert.KernelDwGateIdeal.τ).loc Cert.KernelDwGateIdeal.main_arg1) = m ((c.tc : Thread Cert.KernelDwGateIdeal.nD Cert.KernelDwGateIdeal.τ).loc Cert.KernelDwGateIdeal.main_arg1))
      ∧ θ_run (Cert.ReferenceDwGateIdeal.defs (F := Ideal)) (onTc (τ := Cert.ReferenceDwGateIdeal.τ) (Cert.ReferenceDwGateIdeal.main (F := Ideal))) ⟨m', fun _ => 0, g'⟩ (fun r => ∀ c : Dev Cert.ReferenceDwGateIdeal.nD,
          r.2.mem ((c.tc : Thread Cert.ReferenceDwGateIdeal.nD Cert.ReferenceDwGateIdeal.τ).loc Cert.ReferenceDwGateIdeal.main_v8) = v0 c
          ∧ r.2.mem ((c.tc : Thread Cert.ReferenceDwGateIdeal.nD Cert.ReferenceDwGateIdeal.τ).loc Cert.ReferenceDwGateIdeal.main_arg0) = m' ((c.tc : Thread Cert.ReferenceDwGateIdeal.nD Cert.ReferenceDwGateIdeal.τ).loc Cert.ReferenceDwGateIdeal.main_arg0)
          ∧ r.2.mem ((c.tc : Thread Cert.ReferenceDwGateIdeal.nD Cert.ReferenceDwGateIdeal.τ).loc Cert.ReferenceDwGateIdeal.main_arg1) = m' ((c.tc : Thread Cert.ReferenceDwGateIdeal.nD Cert.ReferenceDwGateIdeal.τ).loc Cert.ReferenceDwGateIdeal.main_arg1))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)) →
    ∃ (v0 : (c : Dev Cert.KernelDwOutIdeal.nD) → Buf (Elt Ideal) ((c.tc : Thread Cert.KernelDwOutIdeal.nD Cert.KernelDwOutIdeal.τ).loc Cert.KernelDwOutIdeal.main_v0)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v0) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v7) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1))

def preserves_KernelDmerged_KernelDmergedIdeal : Prop :=
  True

def algebraic_KernelDmergedIdeal_ReferenceDmergedIdeal [hKernelDmergedIdeal : Cert.KernelDmergedIdeal.Facts] [hReferenceDmergedIdeal : Cert.ReferenceDmergedIdeal.Facts] : Prop :=
  ∀ (m : (ℓ : Loc Cert.KernelDmergedIdeal.nD Cert.KernelDmergedIdeal.τ Cert.KernelDmergedIdeal.sig) → Buf (Elt Ideal) ℓ) (g : Dev Cert.KernelDmergedIdeal.nD → PrngReg)
    (m' : (ℓ : Loc Cert.ReferenceDmergedIdeal.nD Cert.ReferenceDmergedIdeal.τ Cert.ReferenceDmergedIdeal.sig) → Buf (Elt Ideal) ℓ) (g' : Dev Cert.ReferenceDmergedIdeal.nD → PrngReg), Pre_KernelDmergedIdeal m →
    (∀ c : Dev Cert.KernelDmergedIdeal.nD,
      m' ((c.tc : Thread Cert.ReferenceDmergedIdeal.nD Cert.ReferenceDmergedIdeal.τ).loc Cert.ReferenceDmergedIdeal.main_arg0) = m ((c.tc : Thread Cert.KernelDmergedIdeal.nD Cert.KernelDmergedIdeal.τ).loc Cert.KernelDmergedIdeal.main_arg0)
      ∧ m' ((c.tc : Thread Cert.ReferenceDmergedIdeal.nD Cert.ReferenceDmergedIdeal.τ).loc Cert.ReferenceDmergedIdeal.main_arg1) = m ((c.tc : Thread Cert.KernelDmergedIdeal.nD Cert.KernelDmergedIdeal.τ).loc Cert.KernelDmergedIdeal.main_arg1)) →
    ∃ (v0 : (c : Dev Cert.KernelDmergedIdeal.nD) → Buf (Elt Ideal) ((c.tc : Thread Cert.KernelDmergedIdeal.nD Cert.KernelDmergedIdeal.τ).loc Cert.KernelDmergedIdeal.main_v1)),
      θ_run (Cert.KernelDmergedIdeal.defs (F := Ideal)) (onTc (τ := Cert.KernelDmergedIdeal.τ) (Cert.KernelDmergedIdeal.main (F := Ideal))) ⟨m, fun _ => 0, g⟩ (fun r => ∀ c : Dev Cert.KernelDmergedIdeal.nD,
          r.2.mem ((c.tc : Thread Cert.KernelDmergedIdeal.nD Cert.KernelDmergedIdeal.τ).loc Cert.KernelDmergedIdeal.main_v1) = v0 c
          ∧ r.2.mem ((c.tc : Thread Cert.KernelDmergedIdeal.nD Cert.KernelDmergedIdeal.τ).loc Cert.KernelDmergedIdeal.main_arg0) = m ((c.tc : Thread Cert.KernelDmergedIdeal.nD Cert.KernelDmergedIdeal.τ).loc Cert.KernelDmergedIdeal.main_arg0)
          ∧ r.2.mem ((c.tc : Thread Cert.KernelDmergedIdeal.nD Cert.KernelDmergedIdeal.τ).loc Cert.KernelDmergedIdeal.main_arg1) = m ((c.tc : Thread Cert.KernelDmergedIdeal.nD Cert.KernelDmergedIdeal.τ).loc Cert.KernelDmergedIdeal.main_arg1))
      ∧ θ_run (Cert.ReferenceDmergedIdeal.defs (F := Ideal)) (onTc (τ := Cert.ReferenceDmergedIdeal.τ) (Cert.ReferenceDmergedIdeal.main (F := Ideal))) ⟨m', fun _ => 0, g'⟩ (fun r => ∀ c : Dev Cert.ReferenceDmergedIdeal.nD,
          r.2.mem ((c.tc : Thread Cert.ReferenceDmergedIdeal.nD Cert.ReferenceDmergedIdeal.τ).loc Cert.ReferenceDmergedIdeal.main_v5) = v0 c
          ∧ r.2.mem ((c.tc : Thread Cert.ReferenceDmergedIdeal.nD Cert.ReferenceDmergedIdeal.τ).loc Cert.ReferenceDmergedIdeal.main_arg0) = m' ((c.tc : Thread Cert.ReferenceDmergedIdeal.nD Cert.ReferenceDmergedIdeal.τ).loc Cert.ReferenceDmergedIdeal.main_arg0)
          ∧ r.2.mem ((c.tc : Thread Cert.ReferenceDmergedIdeal.nD Cert.ReferenceDmergedIdeal.τ).loc Cert.ReferenceDmergedIdeal.main_arg1) = m' ((c.tc : Thread Cert.ReferenceDmergedIdeal.nD Cert.ReferenceDmergedIdeal.τ).loc Cert.ReferenceDmergedIdeal.main_arg1))

def preserves_KernelDwBrA_KernelDwBrAIdeal : Prop :=
  True

def algebraic_KernelDwBrAIdeal_ReferenceDwBrAIdeal [hKernelDwBrAIdeal : Cert.KernelDwBrAIdeal.Facts] [hReferenceDwBrAIdeal : Cert.ReferenceDwBrAIdeal.Facts] : Prop :=
  ∀ (m : (ℓ : Loc Cert.KernelDwBrAIdeal.nD Cert.KernelDwBrAIdeal.τ Cert.KernelDwBrAIdeal.sig) → Buf (Elt Ideal) ℓ) (g : Dev Cert.KernelDwBrAIdeal.nD → PrngReg)
    (m' : (ℓ : Loc Cert.ReferenceDwBrAIdeal.nD Cert.ReferenceDwBrAIdeal.τ Cert.ReferenceDwBrAIdeal.sig) → Buf (Elt Ideal) ℓ) (g' : Dev Cert.ReferenceDwBrAIdeal.nD → PrngReg), Pre_KernelDwBrAIdeal m →
    (∀ c : Dev Cert.KernelDwBrAIdeal.nD,
      m' ((c.tc : Thread Cert.ReferenceDwBrAIdeal.nD Cert.ReferenceDwBrAIdeal.τ).loc Cert.ReferenceDwBrAIdeal.main_arg0) = m ((c.tc : Thread Cert.KernelDwBrAIdeal.nD Cert.KernelDwBrAIdeal.τ).loc Cert.KernelDwBrAIdeal.main_arg0)
      ∧ m' ((c.tc : Thread Cert.ReferenceDwBrAIdeal.nD Cert.ReferenceDwBrAIdeal.τ).loc Cert.ReferenceDwBrAIdeal.main_arg1) = m ((c.tc : Thread Cert.KernelDwBrAIdeal.nD Cert.KernelDwBrAIdeal.τ).loc Cert.KernelDwBrAIdeal.main_arg1)) →
    ∃ (v0 : (c : Dev Cert.KernelDwBrAIdeal.nD) → Buf (Elt Ideal) ((c.tc : Thread Cert.KernelDwBrAIdeal.nD Cert.KernelDwBrAIdeal.τ).loc Cert.KernelDwBrAIdeal.main_v0)),
      θ_run (Cert.KernelDwBrAIdeal.defs (F := Ideal)) (onTc (τ := Cert.KernelDwBrAIdeal.τ) (Cert.KernelDwBrAIdeal.main (F := Ideal))) ⟨m, fun _ => 0, g⟩ (fun r => ∀ c : Dev Cert.KernelDwBrAIdeal.nD,
          r.2.mem ((c.tc : Thread Cert.KernelDwBrAIdeal.nD Cert.KernelDwBrAIdeal.τ).loc Cert.KernelDwBrAIdeal.main_v0) = v0 c
          ∧ r.2.mem ((c.tc : Thread Cert.KernelDwBrAIdeal.nD Cert.KernelDwBrAIdeal.τ).loc Cert.KernelDwBrAIdeal.main_arg0) = m ((c.tc : Thread Cert.KernelDwBrAIdeal.nD Cert.KernelDwBrAIdeal.τ).loc Cert.KernelDwBrAIdeal.main_arg0)
          ∧ r.2.mem ((c.tc : Thread Cert.KernelDwBrAIdeal.nD Cert.KernelDwBrAIdeal.τ).loc Cert.KernelDwBrAIdeal.main_arg1) = m ((c.tc : Thread Cert.KernelDwBrAIdeal.nD Cert.KernelDwBrAIdeal.τ).loc Cert.KernelDwBrAIdeal.main_arg1))
      ∧ θ_run (Cert.ReferenceDwBrAIdeal.defs (F := Ideal)) (onTc (τ := Cert.ReferenceDwBrAIdeal.τ) (Cert.ReferenceDwBrAIdeal.main (F := Ideal))) ⟨m', fun _ => 0, g'⟩ (fun r => ∀ c : Dev Cert.ReferenceDwBrAIdeal.nD,
          r.2.mem ((c.tc : Thread Cert.ReferenceDwBrAIdeal.nD Cert.ReferenceDwBrAIdeal.τ).loc Cert.ReferenceDwBrAIdeal.main_v9) = v0 c
          ∧ r.2.mem ((c.tc : Thread Cert.ReferenceDwBrAIdeal.nD Cert.ReferenceDwBrAIdeal.τ).loc Cert.ReferenceDwBrAIdeal.main_arg0) = m' ((c.tc : Thread Cert.ReferenceDwBrAIdeal.nD Cert.ReferenceDwBrAIdeal.τ).loc Cert.ReferenceDwBrAIdeal.main_arg0)
          ∧ r.2.mem ((c.tc : Thread Cert.ReferenceDwBrAIdeal.nD Cert.ReferenceDwBrAIdeal.τ).loc Cert.ReferenceDwBrAIdeal.main_arg1) = m' ((c.tc : Thread Cert.ReferenceDwBrAIdeal.nD Cert.ReferenceDwBrAIdeal.τ).loc Cert.ReferenceDwBrAIdeal.main_arg1))

def preserves_KernelDwBrB_KernelDwBrBIdeal : Prop :=
  True

def algebraic_KernelDwBrBIdeal_ReferenceDwBrBIdeal [hKernelDwBrBIdeal : Cert.KernelDwBrBIdeal.Facts] [hReferenceDwBrBIdeal : Cert.ReferenceDwBrBIdeal.Facts] : Prop :=
  ∀ (m : (ℓ : Loc Cert.KernelDwBrBIdeal.nD Cert.KernelDwBrBIdeal.τ Cert.KernelDwBrBIdeal.sig) → Buf (Elt Ideal) ℓ) (g : Dev Cert.KernelDwBrBIdeal.nD → PrngReg)
    (m' : (ℓ : Loc Cert.ReferenceDwBrBIdeal.nD Cert.ReferenceDwBrBIdeal.τ Cert.ReferenceDwBrBIdeal.sig) → Buf (Elt Ideal) ℓ) (g' : Dev Cert.ReferenceDwBrBIdeal.nD → PrngReg), Pre_KernelDwBrBIdeal m →
    (∀ c : Dev Cert.KernelDwBrBIdeal.nD,
      m' ((c.tc : Thread Cert.ReferenceDwBrBIdeal.nD Cert.ReferenceDwBrBIdeal.τ).loc Cert.ReferenceDwBrBIdeal.main_arg0) = m ((c.tc : Thread Cert.KernelDwBrBIdeal.nD Cert.KernelDwBrBIdeal.τ).loc Cert.KernelDwBrBIdeal.main_arg0)
      ∧ m' ((c.tc : Thread Cert.ReferenceDwBrBIdeal.nD Cert.ReferenceDwBrBIdeal.τ).loc Cert.ReferenceDwBrBIdeal.main_arg1) = m ((c.tc : Thread Cert.KernelDwBrBIdeal.nD Cert.KernelDwBrBIdeal.τ).loc Cert.KernelDwBrBIdeal.main_arg1)) →
    ∃ (v0 : (c : Dev Cert.KernelDwBrBIdeal.nD) → Buf (Elt Ideal) ((c.tc : Thread Cert.KernelDwBrBIdeal.nD Cert.KernelDwBrBIdeal.τ).loc Cert.KernelDwBrBIdeal.main_v0)),
      θ_run (Cert.KernelDwBrBIdeal.defs (F := Ideal)) (onTc (τ := Cert.KernelDwBrBIdeal.τ) (Cert.KernelDwBrBIdeal.main (F := Ideal))) ⟨m, fun _ => 0, g⟩ (fun r => ∀ c : Dev Cert.KernelDwBrBIdeal.nD,
          r.2.mem ((c.tc : Thread Cert.KernelDwBrBIdeal.nD Cert.KernelDwBrBIdeal.τ).loc Cert.KernelDwBrBIdeal.main_v0) = v0 c
          ∧ r.2.mem ((c.tc : Thread Cert.KernelDwBrBIdeal.nD Cert.KernelDwBrBIdeal.τ).loc Cert.KernelDwBrBIdeal.main_arg0) = m ((c.tc : Thread Cert.KernelDwBrBIdeal.nD Cert.KernelDwBrBIdeal.τ).loc Cert.KernelDwBrBIdeal.main_arg0)
          ∧ r.2.mem ((c.tc : Thread Cert.KernelDwBrBIdeal.nD Cert.KernelDwBrBIdeal.τ).loc Cert.KernelDwBrBIdeal.main_arg1) = m ((c.tc : Thread Cert.KernelDwBrBIdeal.nD Cert.KernelDwBrBIdeal.τ).loc Cert.KernelDwBrBIdeal.main_arg1))
      ∧ θ_run (Cert.ReferenceDwBrBIdeal.defs (F := Ideal)) (onTc (τ := Cert.ReferenceDwBrBIdeal.τ) (Cert.ReferenceDwBrBIdeal.main (F := Ideal))) ⟨m', fun _ => 0, g'⟩ (fun r => ∀ c : Dev Cert.ReferenceDwBrBIdeal.nD,
          r.2.mem ((c.tc : Thread Cert.ReferenceDwBrBIdeal.nD Cert.ReferenceDwBrBIdeal.τ).loc Cert.ReferenceDwBrBIdeal.main_v8) = v0 c
          ∧ r.2.mem ((c.tc : Thread Cert.ReferenceDwBrBIdeal.nD Cert.ReferenceDwBrBIdeal.τ).loc Cert.ReferenceDwBrBIdeal.main_arg0) = m' ((c.tc : Thread Cert.ReferenceDwBrBIdeal.nD Cert.ReferenceDwBrBIdeal.τ).loc Cert.ReferenceDwBrBIdeal.main_arg0)
          ∧ r.2.mem ((c.tc : Thread Cert.ReferenceDwBrBIdeal.nD Cert.ReferenceDwBrBIdeal.τ).loc Cert.ReferenceDwBrBIdeal.main_arg1) = m' ((c.tc : Thread Cert.ReferenceDwBrBIdeal.nD Cert.ReferenceDwBrBIdeal.τ).loc Cert.ReferenceDwBrBIdeal.main_arg1))

def preserves_KernelDwBrC_KernelDwBrCIdeal : Prop :=
  True

def algebraic_KernelDwBrCIdeal_ReferenceDwBrCIdeal [hKernelDwBrCIdeal : Cert.KernelDwBrCIdeal.Facts] [hReferenceDwBrCIdeal : Cert.ReferenceDwBrCIdeal.Facts] : Prop :=
  ∀ (m : (ℓ : Loc Cert.KernelDwBrCIdeal.nD Cert.KernelDwBrCIdeal.τ Cert.KernelDwBrCIdeal.sig) → Buf (Elt Ideal) ℓ) (g : Dev Cert.KernelDwBrCIdeal.nD → PrngReg)
    (m' : (ℓ : Loc Cert.ReferenceDwBrCIdeal.nD Cert.ReferenceDwBrCIdeal.τ Cert.ReferenceDwBrCIdeal.sig) → Buf (Elt Ideal) ℓ) (g' : Dev Cert.ReferenceDwBrCIdeal.nD → PrngReg), Pre_KernelDwBrCIdeal m →
    (∀ c : Dev Cert.KernelDwBrCIdeal.nD,
      m' ((c.tc : Thread Cert.ReferenceDwBrCIdeal.nD Cert.ReferenceDwBrCIdeal.τ).loc Cert.ReferenceDwBrCIdeal.main_arg0) = m ((c.tc : Thread Cert.KernelDwBrCIdeal.nD Cert.KernelDwBrCIdeal.τ).loc Cert.KernelDwBrCIdeal.main_arg0)
      ∧ m' ((c.tc : Thread Cert.ReferenceDwBrCIdeal.nD Cert.ReferenceDwBrCIdeal.τ).loc Cert.ReferenceDwBrCIdeal.main_arg1) = m ((c.tc : Thread Cert.KernelDwBrCIdeal.nD Cert.KernelDwBrCIdeal.τ).loc Cert.KernelDwBrCIdeal.main_arg1)) →
    ∃ (v0 : (c : Dev Cert.KernelDwBrCIdeal.nD) → Buf (Elt Ideal) ((c.tc : Thread Cert.KernelDwBrCIdeal.nD Cert.KernelDwBrCIdeal.τ).loc Cert.KernelDwBrCIdeal.main_v0)),
      θ_run (Cert.KernelDwBrCIdeal.defs (F := Ideal)) (onTc (τ := Cert.KernelDwBrCIdeal.τ) (Cert.KernelDwBrCIdeal.main (F := Ideal))) ⟨m, fun _ => 0, g⟩ (fun r => ∀ c : Dev Cert.KernelDwBrCIdeal.nD,
          r.2.mem ((c.tc : Thread Cert.KernelDwBrCIdeal.nD Cert.KernelDwBrCIdeal.τ).loc Cert.KernelDwBrCIdeal.main_v0) = v0 c
          ∧ r.2.mem ((c.tc : Thread Cert.KernelDwBrCIdeal.nD Cert.KernelDwBrCIdeal.τ).loc Cert.KernelDwBrCIdeal.main_arg0) = m ((c.tc : Thread Cert.KernelDwBrCIdeal.nD Cert.KernelDwBrCIdeal.τ).loc Cert.KernelDwBrCIdeal.main_arg0)
          ∧ r.2.mem ((c.tc : Thread Cert.KernelDwBrCIdeal.nD Cert.KernelDwBrCIdeal.τ).loc Cert.KernelDwBrCIdeal.main_arg1) = m ((c.tc : Thread Cert.KernelDwBrCIdeal.nD Cert.KernelDwBrCIdeal.τ).loc Cert.KernelDwBrCIdeal.main_arg1))
      ∧ θ_run (Cert.ReferenceDwBrCIdeal.defs (F := Ideal)) (onTc (τ := Cert.ReferenceDwBrCIdeal.τ) (Cert.ReferenceDwBrCIdeal.main (F := Ideal))) ⟨m', fun _ => 0, g'⟩ (fun r => ∀ c : Dev Cert.ReferenceDwBrCIdeal.nD,
          r.2.mem ((c.tc : Thread Cert.ReferenceDwBrCIdeal.nD Cert.ReferenceDwBrCIdeal.τ).loc Cert.ReferenceDwBrCIdeal.main_v9) = v0 c
          ∧ r.2.mem ((c.tc : Thread Cert.ReferenceDwBrCIdeal.nD Cert.ReferenceDwBrCIdeal.τ).loc Cert.ReferenceDwBrCIdeal.main_arg0) = m' ((c.tc : Thread Cert.ReferenceDwBrCIdeal.nD Cert.ReferenceDwBrCIdeal.τ).loc Cert.ReferenceDwBrCIdeal.main_arg0)
          ∧ r.2.mem ((c.tc : Thread Cert.ReferenceDwBrCIdeal.nD Cert.ReferenceDwBrCIdeal.τ).loc Cert.ReferenceDwBrCIdeal.main_arg1) = m' ((c.tc : Thread Cert.ReferenceDwBrCIdeal.nD Cert.ReferenceDwBrCIdeal.τ).loc Cert.ReferenceDwBrCIdeal.main_arg1))

def preserves_KernelDya_KernelDyaIdeal : Prop :=
  True

def algebraic_KernelDyaIdeal_ReferenceDyaIdeal [hKernelDyaIdeal : Cert.KernelDyaIdeal.Facts] [hReferenceDyaIdeal : Cert.ReferenceDyaIdeal.Facts] : Prop :=
  ∀ (m : (ℓ : Loc Cert.KernelDyaIdeal.nD Cert.KernelDyaIdeal.τ Cert.KernelDyaIdeal.sig) → Buf (Elt Ideal) ℓ) (g : Dev Cert.KernelDyaIdeal.nD → PrngReg)
    (m' : (ℓ : Loc Cert.ReferenceDyaIdeal.nD Cert.ReferenceDyaIdeal.τ Cert.ReferenceDyaIdeal.sig) → Buf (Elt Ideal) ℓ) (g' : Dev Cert.ReferenceDyaIdeal.nD → PrngReg), Pre_KernelDyaIdeal m →
    (∀ c : Dev Cert.KernelDyaIdeal.nD,
      m' ((c.tc : Thread Cert.ReferenceDyaIdeal.nD Cert.ReferenceDyaIdeal.τ).loc Cert.ReferenceDyaIdeal.main_arg0) = m ((c.tc : Thread Cert.KernelDyaIdeal.nD Cert.KernelDyaIdeal.τ).loc Cert.KernelDyaIdeal.main_arg0)
      ∧ m' ((c.tc : Thread Cert.ReferenceDyaIdeal.nD Cert.ReferenceDyaIdeal.τ).loc Cert.ReferenceDyaIdeal.main_arg1) = m ((c.tc : Thread Cert.KernelDyaIdeal.nD Cert.KernelDyaIdeal.τ).loc Cert.KernelDyaIdeal.main_arg1)) →
    ∃ (v0 : (c : Dev Cert.KernelDyaIdeal.nD) → Buf (Elt Ideal) ((c.tc : Thread Cert.KernelDyaIdeal.nD Cert.KernelDyaIdeal.τ).loc Cert.KernelDyaIdeal.main_v2)),
      θ_run (Cert.KernelDyaIdeal.defs (F := Ideal)) (onTc (τ := Cert.KernelDyaIdeal.τ) (Cert.KernelDyaIdeal.main (F := Ideal))) ⟨m, fun _ => 0, g⟩ (fun r => ∀ c : Dev Cert.KernelDyaIdeal.nD,
          r.2.mem ((c.tc : Thread Cert.KernelDyaIdeal.nD Cert.KernelDyaIdeal.τ).loc Cert.KernelDyaIdeal.main_v2) = v0 c
          ∧ r.2.mem ((c.tc : Thread Cert.KernelDyaIdeal.nD Cert.KernelDyaIdeal.τ).loc Cert.KernelDyaIdeal.main_arg0) = m ((c.tc : Thread Cert.KernelDyaIdeal.nD Cert.KernelDyaIdeal.τ).loc Cert.KernelDyaIdeal.main_arg0)
          ∧ r.2.mem ((c.tc : Thread Cert.KernelDyaIdeal.nD Cert.KernelDyaIdeal.τ).loc Cert.KernelDyaIdeal.main_arg1) = m ((c.tc : Thread Cert.KernelDyaIdeal.nD Cert.KernelDyaIdeal.τ).loc Cert.KernelDyaIdeal.main_arg1))
      ∧ θ_run (Cert.ReferenceDyaIdeal.defs (F := Ideal)) (onTc (τ := Cert.ReferenceDyaIdeal.τ) (Cert.ReferenceDyaIdeal.main (F := Ideal))) ⟨m', fun _ => 0, g'⟩ (fun r => ∀ c : Dev Cert.ReferenceDyaIdeal.nD,
          r.2.mem ((c.tc : Thread Cert.ReferenceDyaIdeal.nD Cert.ReferenceDyaIdeal.τ).loc Cert.ReferenceDyaIdeal.main_v6) = v0 c
          ∧ r.2.mem ((c.tc : Thread Cert.ReferenceDyaIdeal.nD Cert.ReferenceDyaIdeal.τ).loc Cert.ReferenceDyaIdeal.main_arg0) = m' ((c.tc : Thread Cert.ReferenceDyaIdeal.nD Cert.ReferenceDyaIdeal.τ).loc Cert.ReferenceDyaIdeal.main_arg0)
          ∧ r.2.mem ((c.tc : Thread Cert.ReferenceDyaIdeal.nD Cert.ReferenceDyaIdeal.τ).loc Cert.ReferenceDyaIdeal.main_arg1) = m' ((c.tc : Thread Cert.ReferenceDyaIdeal.nD Cert.ReferenceDyaIdeal.τ).loc Cert.ReferenceDyaIdeal.main_arg1))

def preserves_KernelDyb_KernelDybIdeal : Prop :=
  True

def algebraic_KernelDybIdeal_ReferenceDybIdeal [hKernelDybIdeal : Cert.KernelDybIdeal.Facts] [hReferenceDybIdeal : Cert.ReferenceDybIdeal.Facts] : Prop :=
  ∀ (m : (ℓ : Loc Cert.KernelDybIdeal.nD Cert.KernelDybIdeal.τ Cert.KernelDybIdeal.sig) → Buf (Elt Ideal) ℓ) (g : Dev Cert.KernelDybIdeal.nD → PrngReg)
    (m' : (ℓ : Loc Cert.ReferenceDybIdeal.nD Cert.ReferenceDybIdeal.τ Cert.ReferenceDybIdeal.sig) → Buf (Elt Ideal) ℓ) (g' : Dev Cert.ReferenceDybIdeal.nD → PrngReg), Pre_KernelDybIdeal m →
    (∀ c : Dev Cert.KernelDybIdeal.nD,
      m' ((c.tc : Thread Cert.ReferenceDybIdeal.nD Cert.ReferenceDybIdeal.τ).loc Cert.ReferenceDybIdeal.main_arg0) = m ((c.tc : Thread Cert.KernelDybIdeal.nD Cert.KernelDybIdeal.τ).loc Cert.KernelDybIdeal.main_arg0)
      ∧ m' ((c.tc : Thread Cert.ReferenceDybIdeal.nD Cert.ReferenceDybIdeal.τ).loc Cert.ReferenceDybIdeal.main_arg1) = m ((c.tc : Thread Cert.KernelDybIdeal.nD Cert.KernelDybIdeal.τ).loc Cert.KernelDybIdeal.main_arg1)) →
    ∃ (v0 : (c : Dev Cert.KernelDybIdeal.nD) → Buf (Elt Ideal) ((c.tc : Thread Cert.KernelDybIdeal.nD Cert.KernelDybIdeal.τ).loc Cert.KernelDybIdeal.main_v1)),
      θ_run (Cert.KernelDybIdeal.defs (F := Ideal)) (onTc (τ := Cert.KernelDybIdeal.τ) (Cert.KernelDybIdeal.main (F := Ideal))) ⟨m, fun _ => 0, g⟩ (fun r => ∀ c : Dev Cert.KernelDybIdeal.nD,
          r.2.mem ((c.tc : Thread Cert.KernelDybIdeal.nD Cert.KernelDybIdeal.τ).loc Cert.KernelDybIdeal.main_v1) = v0 c
          ∧ r.2.mem ((c.tc : Thread Cert.KernelDybIdeal.nD Cert.KernelDybIdeal.τ).loc Cert.KernelDybIdeal.main_arg0) = m ((c.tc : Thread Cert.KernelDybIdeal.nD Cert.KernelDybIdeal.τ).loc Cert.KernelDybIdeal.main_arg0)
          ∧ r.2.mem ((c.tc : Thread Cert.KernelDybIdeal.nD Cert.KernelDybIdeal.τ).loc Cert.KernelDybIdeal.main_arg1) = m ((c.tc : Thread Cert.KernelDybIdeal.nD Cert.KernelDybIdeal.τ).loc Cert.KernelDybIdeal.main_arg1))
      ∧ θ_run (Cert.ReferenceDybIdeal.defs (F := Ideal)) (onTc (τ := Cert.ReferenceDybIdeal.τ) (Cert.ReferenceDybIdeal.main (F := Ideal))) ⟨m', fun _ => 0, g'⟩ (fun r => ∀ c : Dev Cert.ReferenceDybIdeal.nD,
          r.2.mem ((c.tc : Thread Cert.ReferenceDybIdeal.nD Cert.ReferenceDybIdeal.τ).loc Cert.ReferenceDybIdeal.main_v6) = v0 c
          ∧ r.2.mem ((c.tc : Thread Cert.ReferenceDybIdeal.nD Cert.ReferenceDybIdeal.τ).loc Cert.ReferenceDybIdeal.main_arg0) = m' ((c.tc : Thread Cert.ReferenceDybIdeal.nD Cert.ReferenceDybIdeal.τ).loc Cert.ReferenceDybIdeal.main_arg0)
          ∧ r.2.mem ((c.tc : Thread Cert.ReferenceDybIdeal.nD Cert.ReferenceDybIdeal.τ).loc Cert.ReferenceDybIdeal.main_arg1) = m' ((c.tc : Thread Cert.ReferenceDybIdeal.nD Cert.ReferenceDybIdeal.τ).loc Cert.ReferenceDybIdeal.main_arg1))

def preserves_KernelDyc_KernelDycIdeal : Prop :=
  True

def algebraic_KernelDycIdeal_ReferenceDycIdeal [hKernelDycIdeal : Cert.KernelDycIdeal.Facts] [hReferenceDycIdeal : Cert.ReferenceDycIdeal.Facts] : Prop :=
  ∀ (m : (ℓ : Loc Cert.KernelDycIdeal.nD Cert.KernelDycIdeal.τ Cert.KernelDycIdeal.sig) → Buf (Elt Ideal) ℓ) (g : Dev Cert.KernelDycIdeal.nD → PrngReg)
    (m' : (ℓ : Loc Cert.ReferenceDycIdeal.nD Cert.ReferenceDycIdeal.τ Cert.ReferenceDycIdeal.sig) → Buf (Elt Ideal) ℓ) (g' : Dev Cert.ReferenceDycIdeal.nD → PrngReg), Pre_KernelDycIdeal m →
    (∀ c : Dev Cert.KernelDycIdeal.nD,
      m' ((c.tc : Thread Cert.ReferenceDycIdeal.nD Cert.ReferenceDycIdeal.τ).loc Cert.ReferenceDycIdeal.main_arg0) = m ((c.tc : Thread Cert.KernelDycIdeal.nD Cert.KernelDycIdeal.τ).loc Cert.KernelDycIdeal.main_arg0)
      ∧ m' ((c.tc : Thread Cert.ReferenceDycIdeal.nD Cert.ReferenceDycIdeal.τ).loc Cert.ReferenceDycIdeal.main_arg1) = m ((c.tc : Thread Cert.KernelDycIdeal.nD Cert.KernelDycIdeal.τ).loc Cert.KernelDycIdeal.main_arg1)) →
    ∃ (v0 : (c : Dev Cert.KernelDycIdeal.nD) → Buf (Elt Ideal) ((c.tc : Thread Cert.KernelDycIdeal.nD Cert.KernelDycIdeal.τ).loc Cert.KernelDycIdeal.main_v2)),
      θ_run (Cert.KernelDycIdeal.defs (F := Ideal)) (onTc (τ := Cert.KernelDycIdeal.τ) (Cert.KernelDycIdeal.main (F := Ideal))) ⟨m, fun _ => 0, g⟩ (fun r => ∀ c : Dev Cert.KernelDycIdeal.nD,
          r.2.mem ((c.tc : Thread Cert.KernelDycIdeal.nD Cert.KernelDycIdeal.τ).loc Cert.KernelDycIdeal.main_v2) = v0 c
          ∧ r.2.mem ((c.tc : Thread Cert.KernelDycIdeal.nD Cert.KernelDycIdeal.τ).loc Cert.KernelDycIdeal.main_arg0) = m ((c.tc : Thread Cert.KernelDycIdeal.nD Cert.KernelDycIdeal.τ).loc Cert.KernelDycIdeal.main_arg0)
          ∧ r.2.mem ((c.tc : Thread Cert.KernelDycIdeal.nD Cert.KernelDycIdeal.τ).loc Cert.KernelDycIdeal.main_arg1) = m ((c.tc : Thread Cert.KernelDycIdeal.nD Cert.KernelDycIdeal.τ).loc Cert.KernelDycIdeal.main_arg1))
      ∧ θ_run (Cert.ReferenceDycIdeal.defs (F := Ideal)) (onTc (τ := Cert.ReferenceDycIdeal.τ) (Cert.ReferenceDycIdeal.main (F := Ideal))) ⟨m', fun _ => 0, g'⟩ (fun r => ∀ c : Dev Cert.ReferenceDycIdeal.nD,
          r.2.mem ((c.tc : Thread Cert.ReferenceDycIdeal.nD Cert.ReferenceDycIdeal.τ).loc Cert.ReferenceDycIdeal.main_v6) = v0 c
          ∧ r.2.mem ((c.tc : Thread Cert.ReferenceDycIdeal.nD Cert.ReferenceDycIdeal.τ).loc Cert.ReferenceDycIdeal.main_arg0) = m' ((c.tc : Thread Cert.ReferenceDycIdeal.nD Cert.ReferenceDycIdeal.τ).loc Cert.ReferenceDycIdeal.main_arg0)
          ∧ r.2.mem ((c.tc : Thread Cert.ReferenceDycIdeal.nD Cert.ReferenceDycIdeal.τ).loc Cert.ReferenceDycIdeal.main_arg1) = m' ((c.tc : Thread Cert.ReferenceDycIdeal.nD Cert.ReferenceDycIdeal.τ).loc Cert.ReferenceDycIdeal.main_arg1))

def preserves_KernelInProj_KernelInProjIdeal : Prop :=
  True

def algebraic_KernelInProjIdeal_ReferenceInProjIdeal [hKernelInProjIdeal : Cert.KernelInProjIdeal.Facts] [hReferenceInProjIdeal : Cert.ReferenceInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg)
    (m' : (ℓ : Loc Cert.ReferenceInProjIdeal.nD Cert.ReferenceInProjIdeal.τ Cert.ReferenceInProjIdeal.sig) → Buf (Elt Ideal) ℓ) (g' : Dev Cert.ReferenceInProjIdeal.nD → PrngReg), Pre_KernelInProjIdeal m →
    (∀ c : Dev Cert.KernelInProjIdeal.nD,
      m' ((c.tc : Thread Cert.ReferenceInProjIdeal.nD Cert.ReferenceInProjIdeal.τ).loc Cert.ReferenceInProjIdeal.main_arg0) = m ((c.tc : Thread Cert.KernelInProjIdeal.nD Cert.KernelInProjIdeal.τ).loc Cert.KernelInProjIdeal.main_arg0)
      ∧ m' ((c.tc : Thread Cert.ReferenceInProjIdeal.nD Cert.ReferenceInProjIdeal.τ).loc Cert.ReferenceInProjIdeal.main_arg1) = m ((c.tc : Thread Cert.KernelInProjIdeal.nD Cert.KernelInProjIdeal.τ).loc Cert.KernelInProjIdeal.main_arg1)) →
    ∃ (v0 : (c : Dev Cert.KernelInProjIdeal.nD) → Buf (Elt Ideal) ((c.tc : Thread Cert.KernelInProjIdeal.nD Cert.KernelInProjIdeal.τ).loc Cert.KernelInProjIdeal.main_v2)),
      θ_run (Cert.KernelInProjIdeal.defs (F := Ideal)) (onTc (τ := Cert.KernelInProjIdeal.τ) (Cert.KernelInProjIdeal.main (F := Ideal))) ⟨m, fun _ => 0, g⟩ (fun r => ∀ c : Dev Cert.KernelInProjIdeal.nD,
          r.2.mem ((c.tc : Thread Cert.KernelInProjIdeal.nD Cert.KernelInProjIdeal.τ).loc Cert.KernelInProjIdeal.main_v2) = v0 c
          ∧ r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
          ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1))
      ∧ θ_run (Cert.ReferenceInProjIdeal.defs (F := Ideal)) (onTc (τ := Cert.ReferenceInProjIdeal.τ) (Cert.ReferenceInProjIdeal.main (F := Ideal))) ⟨m', fun _ => 0, g'⟩ (fun r => ∀ c : Dev Cert.ReferenceInProjIdeal.nD,
          r.2.mem ((c.tc : Thread Cert.ReferenceInProjIdeal.nD Cert.ReferenceInProjIdeal.τ).loc Cert.ReferenceInProjIdeal.main_v3) = v0 c
          ∧ r.2.mem ((c.tc : Thread Cert.ReferenceInProjIdeal.nD Cert.ReferenceInProjIdeal.τ).loc Cert.ReferenceInProjIdeal.main_arg0) = m' ((c.tc : Thread Cert.ReferenceInProjIdeal.nD Cert.ReferenceInProjIdeal.τ).loc Cert.ReferenceInProjIdeal.main_arg0)
          ∧ r.2.mem ((c.tc : Thread Cert.ReferenceInProjIdeal.nD Cert.ReferenceInProjIdeal.τ).loc Cert.ReferenceInProjIdeal.main_arg1) = m' ((c.tc : Thread Cert.ReferenceInProjIdeal.nD Cert.ReferenceInProjIdeal.τ).loc Cert.ReferenceInProjIdeal.main_arg1))

def preserves_KernelGateProj_KernelGateProjIdeal : Prop :=
  True

def algebraic_KernelGateProjIdeal_ReferenceGateProjIdeal [hKernelGateProjIdeal : Cert.KernelGateProjIdeal.Facts] [hReferenceGateProjIdeal : Cert.ReferenceGateProjIdeal.Facts] : Prop :=
  ∀ (m : (ℓ : Loc Cert.KernelGateProjIdeal.nD Cert.KernelGateProjIdeal.τ Cert.KernelGateProjIdeal.sig) → Buf (Elt Ideal) ℓ) (g : Dev Cert.KernelGateProjIdeal.nD → PrngReg)
    (m' : (ℓ : Loc Cert.ReferenceGateProjIdeal.nD Cert.ReferenceGateProjIdeal.τ Cert.ReferenceGateProjIdeal.sig) → Buf (Elt Ideal) ℓ) (g' : Dev Cert.ReferenceGateProjIdeal.nD → PrngReg), Pre_KernelGateProjIdeal m →
    (∀ c : Dev Cert.KernelGateProjIdeal.nD,
      m' ((c.tc : Thread Cert.ReferenceGateProjIdeal.nD Cert.ReferenceGateProjIdeal.τ).loc Cert.ReferenceGateProjIdeal.main_arg0) = m ((c.tc : Thread Cert.KernelGateProjIdeal.nD Cert.KernelGateProjIdeal.τ).loc Cert.KernelGateProjIdeal.main_arg0)
      ∧ m' ((c.tc : Thread Cert.ReferenceGateProjIdeal.nD Cert.ReferenceGateProjIdeal.τ).loc Cert.ReferenceGateProjIdeal.main_arg1) = m ((c.tc : Thread Cert.KernelGateProjIdeal.nD Cert.KernelGateProjIdeal.τ).loc Cert.KernelGateProjIdeal.main_arg1)
      ∧ m' ((c.tc : Thread Cert.ReferenceGateProjIdeal.nD Cert.ReferenceGateProjIdeal.τ).loc Cert.ReferenceGateProjIdeal.main_arg2) = m ((c.tc : Thread Cert.KernelGateProjIdeal.nD Cert.KernelGateProjIdeal.τ).loc Cert.KernelGateProjIdeal.main_arg2)) →
    ∃ (v0 : (c : Dev Cert.KernelGateProjIdeal.nD) → Buf (Elt Ideal) ((c.tc : Thread Cert.KernelGateProjIdeal.nD Cert.KernelGateProjIdeal.τ).loc Cert.KernelGateProjIdeal.main_v3)),
      θ_run (Cert.KernelGateProjIdeal.defs (F := Ideal)) (onTc (τ := Cert.KernelGateProjIdeal.τ) (Cert.KernelGateProjIdeal.main (F := Ideal))) ⟨m, fun _ => 0, g⟩ (fun r => ∀ c : Dev Cert.KernelGateProjIdeal.nD,
          r.2.mem ((c.tc : Thread Cert.KernelGateProjIdeal.nD Cert.KernelGateProjIdeal.τ).loc Cert.KernelGateProjIdeal.main_v3) = v0 c
          ∧ r.2.mem ((c.tc : Thread Cert.KernelGateProjIdeal.nD Cert.KernelGateProjIdeal.τ).loc Cert.KernelGateProjIdeal.main_arg0) = m ((c.tc : Thread Cert.KernelGateProjIdeal.nD Cert.KernelGateProjIdeal.τ).loc Cert.KernelGateProjIdeal.main_arg0)
          ∧ r.2.mem ((c.tc : Thread Cert.KernelGateProjIdeal.nD Cert.KernelGateProjIdeal.τ).loc Cert.KernelGateProjIdeal.main_arg1) = m ((c.tc : Thread Cert.KernelGateProjIdeal.nD Cert.KernelGateProjIdeal.τ).loc Cert.KernelGateProjIdeal.main_arg1)
          ∧ r.2.mem ((c.tc : Thread Cert.KernelGateProjIdeal.nD Cert.KernelGateProjIdeal.τ).loc Cert.KernelGateProjIdeal.main_arg2) = m ((c.tc : Thread Cert.KernelGateProjIdeal.nD Cert.KernelGateProjIdeal.τ).loc Cert.KernelGateProjIdeal.main_arg2))
      ∧ θ_run (Cert.ReferenceGateProjIdeal.defs (F := Ideal)) (onTc (τ := Cert.ReferenceGateProjIdeal.τ) (Cert.ReferenceGateProjIdeal.main (F := Ideal))) ⟨m', fun _ => 0, g'⟩ (fun r => ∀ c : Dev Cert.ReferenceGateProjIdeal.nD,
          r.2.mem ((c.tc : Thread Cert.ReferenceGateProjIdeal.nD Cert.ReferenceGateProjIdeal.τ).loc Cert.ReferenceGateProjIdeal.main_v6) = v0 c
          ∧ r.2.mem ((c.tc : Thread Cert.ReferenceGateProjIdeal.nD Cert.ReferenceGateProjIdeal.τ).loc Cert.ReferenceGateProjIdeal.main_arg0) = m' ((c.tc : Thread Cert.ReferenceGateProjIdeal.nD Cert.ReferenceGateProjIdeal.τ).loc Cert.ReferenceGateProjIdeal.main_arg0)
          ∧ r.2.mem ((c.tc : Thread Cert.ReferenceGateProjIdeal.nD Cert.ReferenceGateProjIdeal.τ).loc Cert.ReferenceGateProjIdeal.main_arg1) = m' ((c.tc : Thread Cert.ReferenceGateProjIdeal.nD Cert.ReferenceGateProjIdeal.τ).loc Cert.ReferenceGateProjIdeal.main_arg1)
          ∧ r.2.mem ((c.tc : Thread Cert.ReferenceGateProjIdeal.nD Cert.ReferenceGateProjIdeal.τ).loc Cert.ReferenceGateProjIdeal.main_arg2) = m' ((c.tc : Thread Cert.ReferenceGateProjIdeal.nD Cert.ReferenceGateProjIdeal.τ).loc Cert.ReferenceGateProjIdeal.main_arg2))

def Claim : Prop :=
  ∃ (hKernel : Cert.Kernel.Facts) (hKernelIdeal : Cert.KernelIdeal.Facts) (hReferenceIdeal : Cert.ReferenceIdeal.Facts) (hKernelDh : Cert.KernelDh.Facts) (hKernelDhIdeal : Cert.KernelDhIdeal.Facts) (hReferenceDhIdeal : Cert.ReferenceDhIdeal.Facts) (hKernelDwIn : Cert.KernelDwIn.Facts) (hKernelDwInIdeal : Cert.KernelDwInIdeal.Facts) (hReferenceDwInIdeal : Cert.ReferenceDwInIdeal.Facts) (hKernelDwGate : Cert.KernelDwGate.Facts) (hKernelDwGateIdeal : Cert.KernelDwGateIdeal.Facts) (hReferenceDwGateIdeal : Cert.ReferenceDwGateIdeal.Facts) (hKernelDwOut : Cert.KernelDwOut.Facts) (hKernelDwOutIdeal : Cert.KernelDwOutIdeal.Facts) (hReferenceDwOutIdeal : Cert.ReferenceDwOutIdeal.Facts) (hKernelDmerged : Cert.KernelDmerged.Facts) (hKernelDmergedIdeal : Cert.KernelDmergedIdeal.Facts) (hReferenceDmergedIdeal : Cert.ReferenceDmergedIdeal.Facts) (hKernelDwBrA : Cert.KernelDwBrA.Facts) (hKernelDwBrAIdeal : Cert.KernelDwBrAIdeal.Facts) (hReferenceDwBrAIdeal : Cert.ReferenceDwBrAIdeal.Facts) (hKernelDwBrB : Cert.KernelDwBrB.Facts) (hKernelDwBrBIdeal : Cert.KernelDwBrBIdeal.Facts) (hReferenceDwBrBIdeal : Cert.ReferenceDwBrBIdeal.Facts) (hKernelDwBrC : Cert.KernelDwBrC.Facts) (hKernelDwBrCIdeal : Cert.KernelDwBrCIdeal.Facts) (hReferenceDwBrCIdeal : Cert.ReferenceDwBrCIdeal.Facts) (hKernelDya : Cert.KernelDya.Facts) (hKernelDyaIdeal : Cert.KernelDyaIdeal.Facts) (hReferenceDyaIdeal : Cert.ReferenceDyaIdeal.Facts) (hKernelDyb : Cert.KernelDyb.Facts) (hKernelDybIdeal : Cert.KernelDybIdeal.Facts) (hReferenceDybIdeal : Cert.ReferenceDybIdeal.Facts) (hKernelDyc : Cert.KernelDyc.Facts) (hKernelDycIdeal : Cert.KernelDycIdeal.Facts) (hReferenceDycIdeal : Cert.ReferenceDycIdeal.Facts) (hKernelInProj : Cert.KernelInProj.Facts) (hKernelInProjIdeal : Cert.KernelInProjIdeal.Facts) (hReferenceInProjIdeal : Cert.ReferenceInProjIdeal.Facts) (hKernelGateProj : Cert.KernelGateProj.Facts) (hKernelGateProjIdeal : Cert.KernelGateProjIdeal.Facts) (hReferenceGateProjIdeal : Cert.ReferenceGateProjIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ quiescent_KernelDwGate (hKernelDwGate := hKernelDwGate)
    ∧ quiescent_KernelDwGateIdeal (hKernelDwGateIdeal := hKernelDwGateIdeal)
    ∧ quiescent_ReferenceDwGateIdeal (hReferenceDwGateIdeal := hReferenceDwGateIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDmerged (hKernelDmerged := hKernelDmerged)
    ∧ quiescent_KernelDmergedIdeal (hKernelDmergedIdeal := hKernelDmergedIdeal)
    ∧ quiescent_ReferenceDmergedIdeal (hReferenceDmergedIdeal := hReferenceDmergedIdeal)
    ∧ quiescent_KernelDwBrA (hKernelDwBrA := hKernelDwBrA)
    ∧ quiescent_KernelDwBrAIdeal (hKernelDwBrAIdeal := hKernelDwBrAIdeal)
    ∧ quiescent_ReferenceDwBrAIdeal (hReferenceDwBrAIdeal := hReferenceDwBrAIdeal)
    ∧ quiescent_KernelDwBrB (hKernelDwBrB := hKernelDwBrB)
    ∧ quiescent_KernelDwBrBIdeal (hKernelDwBrBIdeal := hKernelDwBrBIdeal)
    ∧ quiescent_ReferenceDwBrBIdeal (hReferenceDwBrBIdeal := hReferenceDwBrBIdeal)
    ∧ quiescent_KernelDwBrC (hKernelDwBrC := hKernelDwBrC)
    ∧ quiescent_KernelDwBrCIdeal (hKernelDwBrCIdeal := hKernelDwBrCIdeal)
    ∧ quiescent_ReferenceDwBrCIdeal (hReferenceDwBrCIdeal := hReferenceDwBrCIdeal)
    ∧ quiescent_KernelDya (hKernelDya := hKernelDya)
    ∧ quiescent_KernelDyaIdeal (hKernelDyaIdeal := hKernelDyaIdeal)
    ∧ quiescent_ReferenceDyaIdeal (hReferenceDyaIdeal := hReferenceDyaIdeal)
    ∧ quiescent_KernelDyb (hKernelDyb := hKernelDyb)
    ∧ quiescent_KernelDybIdeal (hKernelDybIdeal := hKernelDybIdeal)
    ∧ quiescent_ReferenceDybIdeal (hReferenceDybIdeal := hReferenceDybIdeal)
    ∧ quiescent_KernelDyc (hKernelDyc := hKernelDyc)
    ∧ quiescent_KernelDycIdeal (hKernelDycIdeal := hKernelDycIdeal)
    ∧ quiescent_ReferenceDycIdeal (hReferenceDycIdeal := hReferenceDycIdeal)
    ∧ quiescent_KernelInProj (hKernelInProj := hKernelInProj)
    ∧ quiescent_KernelInProjIdeal (hKernelInProjIdeal := hKernelInProjIdeal)
    ∧ quiescent_ReferenceInProjIdeal (hReferenceInProjIdeal := hReferenceInProjIdeal)
    ∧ quiescent_KernelGateProj (hKernelGateProj := hKernelGateProj)
    ∧ quiescent_KernelGateProjIdeal (hKernelGateProjIdeal := hKernelGateProjIdeal)
    ∧ quiescent_ReferenceGateProjIdeal (hReferenceGateProjIdeal := hReferenceGateProjIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDh_KernelDhIdeal
    ∧ algebraic_KernelDhIdeal_ReferenceDhIdeal (hKernelDhIdeal := hKernelDhIdeal) (hReferenceDhIdeal := hReferenceDhIdeal)
    ∧ preserves_KernelDwIn_KernelDwInIdeal
    ∧ algebraic_KernelDwInIdeal_ReferenceDwInIdeal (hKernelDwInIdeal := hKernelDwInIdeal) (hReferenceDwInIdeal := hReferenceDwInIdeal)
    ∧ preserves_KernelDwGate_KernelDwGateIdeal
    ∧ algebraic_KernelDwGateIdeal_ReferenceDwGateIdeal (hKernelDwGateIdeal := hKernelDwGateIdeal) (hReferenceDwGateIdeal := hReferenceDwGateIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDmerged_KernelDmergedIdeal
    ∧ algebraic_KernelDmergedIdeal_ReferenceDmergedIdeal (hKernelDmergedIdeal := hKernelDmergedIdeal) (hReferenceDmergedIdeal := hReferenceDmergedIdeal)
    ∧ preserves_KernelDwBrA_KernelDwBrAIdeal
    ∧ algebraic_KernelDwBrAIdeal_ReferenceDwBrAIdeal (hKernelDwBrAIdeal := hKernelDwBrAIdeal) (hReferenceDwBrAIdeal := hReferenceDwBrAIdeal)
    ∧ preserves_KernelDwBrB_KernelDwBrBIdeal
    ∧ algebraic_KernelDwBrBIdeal_ReferenceDwBrBIdeal (hKernelDwBrBIdeal := hKernelDwBrBIdeal) (hReferenceDwBrBIdeal := hReferenceDwBrBIdeal)
    ∧ preserves_KernelDwBrC_KernelDwBrCIdeal
    ∧ algebraic_KernelDwBrCIdeal_ReferenceDwBrCIdeal (hKernelDwBrCIdeal := hKernelDwBrCIdeal) (hReferenceDwBrCIdeal := hReferenceDwBrCIdeal)
    ∧ preserves_KernelDya_KernelDyaIdeal
    ∧ algebraic_KernelDyaIdeal_ReferenceDyaIdeal (hKernelDyaIdeal := hKernelDyaIdeal) (hReferenceDyaIdeal := hReferenceDyaIdeal)
    ∧ preserves_KernelDyb_KernelDybIdeal
    ∧ algebraic_KernelDybIdeal_ReferenceDybIdeal (hKernelDybIdeal := hKernelDybIdeal) (hReferenceDybIdeal := hReferenceDybIdeal)
    ∧ preserves_KernelDyc_KernelDycIdeal
    ∧ algebraic_KernelDycIdeal_ReferenceDycIdeal (hKernelDycIdeal := hKernelDycIdeal) (hReferenceDycIdeal := hReferenceDycIdeal)
    ∧ preserves_KernelInProj_KernelInProjIdeal
    ∧ algebraic_KernelInProjIdeal_ReferenceInProjIdeal (hKernelInProjIdeal := hKernelInProjIdeal) (hReferenceInProjIdeal := hReferenceInProjIdeal)
    ∧ preserves_KernelGateProj_KernelGateProjIdeal
    ∧ algebraic_KernelGateProjIdeal_ReferenceGateProjIdeal (hKernelGateProjIdeal := hKernelGateProjIdeal) (hReferenceGateProjIdeal := hReferenceGateProjIdeal)
-- ==== Pre_finite.lean ====
abbrev S4096x2048 : Shape := ⟨2, ![4096, 2048]⟩
abbrev S4096x14336 : Shape := ⟨2, ![4096, 14336]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4096x14336 : S_.BroadcastsInDim S4096x14336 (![] : Fin 0 → Fin S4096x14336.rank)

variable [Facts]

def fn {F : FTy → Type} [FloatOps F] (main_arg0 : FVec F S4096x2048 .bf16) (main_arg1 : FVec F S4096x14336 .bf16) : IVec S4096x2048 1 × IVec S4096x14336 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x14336 .f32 := (extf .f32 · bitsLt_bf16_f32) main_arg1
  let main_v5 : FVec F S4096x14336 .f32 := Host.absf main_v4
  let main_cst_0 : FVec F S_ .f32 := constant S_ .f32 0x7F800000#32
  let main_v6 : FVec F S4096x14336 .f32 := broadcastInDim S4096x14336 ![] bcast_S_S4096x14336 main_cst_0
  let main_v7 : IVec S4096x14336 1 := cmpf .olt main_v5 main_v6
  (main_v3, main_v7)
-- ==== Kernel.lean ====
abbrev S4096x2048 : Shape := ⟨2, ![4096, 2048]⟩
abbrev S4096x14336 : Shape := ⟨2, ![4096, 14336]⟩
abbrev S4096x16x128 : Shape := ⟨3, ![4096, 16, 128]⟩
abbrev S_ : Shape := ⟨0, ![]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096 : Shape := ⟨2, ![16, 4096]⟩
abbrev S4096x16 : Shape := ⟨2, ![4096, 16]⟩
abbrev S4096x16x1 : Shape := ⟨3, ![4096, 16, 1]⟩
abbrev S512x256 : Shape := ⟨2, ![512, 256]⟩
abbrev S4096x256 : Shape := ⟨2, ![4096, 256]⟩
abbrev S512x128 : Shape := ⟨2, ![512, 128]⟩
abbrev S512x512 : Shape := ⟨2, ![512, 512]⟩
abbrev S256x256 : Shape := ⟨2, ![256, 256]⟩
abbrev S512x1 : Shape := ⟨2, ![512, 1]⟩
abbrev S256x128 : Shape := ⟨2, ![256, 128]⟩
abbrev S256x1 : Shape := ⟨2, ![256, 1]⟩
abbrev S256x512 : Shape := ⟨2, ![256, 512]⟩

abbrev nBuf : Space → Nat
  | .hbm => 85
  | .vmem => 24
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .f32⟩
  | .hbm, ⟨7, _⟩ => ⟨S4096x16x128, .f32⟩
  | .hbm, ⟨8, _⟩ => ⟨S_, .f32⟩
  | .hbm, ⟨9, _⟩ => ⟨S4096x16x128, .f32⟩
  | .hbm, ⟨10, _⟩ => ⟨S4096x16x128, .f32⟩
  | .hbm, ⟨11, _⟩ => ⟨S4096x2048, .f32⟩
  | .hbm, ⟨12, _⟩ => ⟨S4096x16x128, .f32⟩
  | .hbm, ⟨13, _⟩ => ⟨S4096x2048, .f32⟩
  | .hbm, ⟨14, _⟩ => ⟨S4096x16x128, .f32⟩
  | .hbm, ⟨15, _⟩ => ⟨S16x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S_, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S16x4096x4096, .f32⟩
  | .hbm, ⟨53, _⟩ => ⟨S16x4096x4096, .i1⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S_, .f32⟩
  | .hbm, ⟨66, _⟩ => ⟨S_, .f32⟩
  | .hbm, ⟨67, _⟩ => ⟨S16x4096x4096, .i1⟩
  | .hbm, ⟨68, _⟩ => ⟨S16x4096x4096, .f32⟩
  | .hbm, ⟨69, _⟩ => ⟨S16x4096x4096, .f32⟩
  | .hbm, ⟨70, _⟩ => ⟨S16x128x4096, .f32⟩
  | .hbm, ⟨71, _⟩ => ⟨S4096x16x128, .f32⟩
  | .hbm, ⟨72, _⟩ => ⟨S4096x2048, .f32⟩
  | .hbm, ⟨73, _⟩ => ⟨S_, .f32⟩
  | .hbm, ⟨74, _⟩ => ⟨S16x4096, .f32⟩
  | .hbm, ⟨75, _⟩ => ⟨S16x4096, .f32⟩
  | .hbm, ⟨76, _⟩ => ⟨S4096x16, .f32⟩
  | .hbm, ⟨77, _⟩ => ⟨S4096x16x1, .f32⟩
  | .hbm, ⟨78, _⟩ => ⟨S4096x16x128, .f32⟩
  | .hbm, ⟨79, _⟩ => ⟨S4096x2048, .f32⟩
  | .hbm, ⟨80, _⟩ => ⟨S4096x2048, .bf16⟩
  | .hbm, ⟨81, _⟩ => ⟨S4096x2048, .bf16⟩
  | .hbm, ⟨82, _⟩ => ⟨S4096x2048, .bf16⟩
  | .hbm, ⟨83, _⟩ => ⟨S4096x2048, .bf16⟩
  | .hbm, ⟨84, _⟩ => ⟨S4096x2048, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .bf16⟩
  | .local _ .vmem, ⟨20, _⟩ => ⟨S512x256, .bf16⟩
  | .local _ .vmem, ⟨21, _⟩ => ⟨S512x256, .bf16⟩
  | .local _ .vmem, ⟨22, _⟩ => ⟨S4096x256, .f32⟩
  | .local _ .vmem, ⟨23, _⟩ => ⟨S4096x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v22 : Ref sig .tc := ⟨.hbm, 42, rfl⟩
abbrev main_call2_cst : Ref sig .tc := ⟨.hbm, 43, rfl⟩
abbrev main_call2_v0 : Ref sig .tc := ⟨.hbm, 44, rfl⟩
abbrev main_v23 : Ref sig .tc := ⟨.hbm, 45, rfl⟩
abbrev main_v24 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_2 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39_0 : Ref sig .tc := ⟨.hbm, 81, rfl⟩
abbrev main_v39_1 : Ref sig .tc := ⟨.hbm, 82, rfl⟩
abbrev main_v39_2 : Ref sig .tc := ⟨.hbm, 83, rfl⟩
abbrev main_v39_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_53 : BitVec 32 := 1#32
  ⟨c0_i32_51, v115, c1_i32_53⟩
def k0_mult1 (i : grid0.Coords) (k0_t1 : Fin (k0_t1_loop i).trips) : BitVec 32 :=
  let c2_i32_149 : BitVec 32 := 2#32
  let c0_i32_51 : BitVec 32 := 0#32
  let c1_i32_53 : BitVec 32 := 1#32
  let arg15 : BitVec 32 := Scf.iv c0_i32_51 c1_i32_53 k0_t1
  let v459 : BitVec 32 := Scalar.muli c2_i32_149 arg15
  let c512_i32_150 : BitVec 32 := 512#32
  let v460 : BitVec 32 := Scalar.muli v459 c512_i32_150
  v460
def k0_off1 (i : grid0.Coords) (k0_t1 : Fin (k0_t1_loop i).trips) : Fin 2 → Nat :=
  let c2_i32_149 : BitVec 32 := 2#32
  let c0_i32_51 : BitVec 32 := 0#32
  let c1_i32_53 : BitVec 32 := 1#32
  let arg15 : BitVec 32 := Scf.iv c0_i32_51 c1_i32_53 k0_t1
  let v459 : BitVec 32 := Scalar.muli c2_i32_149 arg15
  let c512_i32_150 : BitVec 32 := 512#32
  let v460 : BitVec 32 := Scalar.muli v459 c512_i32_150
  let v461 : BitVec 32 := v460
  let v462 : Index := Scalar.indexCast v461
  let c0_151 : Index := 0#32
  ![v462.toNat, 0]
def k0_off2 (i : grid0.Coords) (k0_t1 : Fin (k0_t1_loop i).trips) : Fin 2 → Nat :=
  let c2_i32_149 : BitVec 32 := 2#32
  let c0_i32_51 : BitVec 32 := 0#32
  let c1_i32_53 : BitVec 32 := 1#32
  let arg15 : BitVec 32 := Scf.iv c0_i32_51 c1_i32_53 k0_t1
  let v459 : BitVec 32 := Scalar.muli c2_i32_149 arg15
  let c512_i32_150 : BitVec 32 := 512#32
  let v460 : BitVec 32 := Scalar.muli v459 c512_i32_150
  let v461 : BitVec 32 := v460
  let v536 : Index := Scalar.indexCast v461
  let c128_169 : Index := 128#32
  ![v536.toNat, 128]
def k0_mult2 (i : grid0.Coords) (k0_t1 : Fin (k0_t1_loop i).trips) : BitVec 32 :=
  let c2_i32_147 : BitVec 32 := 2#32
  let c0_i32_51 : BitVec 32 := 0#32
  let c1_i32_53 : BitVec 32 := 1#32
  let arg15 : BitVec 32 := Scf.iv c0_i32_51 c1_i32_53 k0_t1
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  v610
def k0_off3 (i : grid0.Coords) (k0_t1 : Fin (k0_t1_loop i).trips) : Fin 2 → Nat :=
  let c2_i32_147 : BitVec 32 := 2#32
  let c0_i32_51 : BitVec 32 := 0#32
  let c1_i32_53 : BitVec 32 := 1#32
  let arg15 : BitVec 32 := Scf.iv c0_i32_51 c1_i32_53 k0_t1
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  let v611 : BitVec 32 := v610
  let v612 : Index := Scalar.indexCast v611
  let c0_188 : Index := 0#32
  ![v612.toNat, 0]
def k0_off4 (i : grid0.Coords) (k0_t1 : Fin (k0_t1_loop i).trips) : Fin 2 → Nat :=
  let c2_i32_147 : BitVec 32 := 2#32
  let c0_i32_51 : BitVec 32 := 0#32
  let c1_i32_53 : BitVec 32 := 1#32
  let arg15 : BitVec 32 := Scf.iv c0_i32_51 c1_i32_53 k0_t1
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  let v611 : BitVec 32 := v610
  let v686 : Index := Scalar.indexCast v611
  let c128_206 : Index := 128#32
  ![v686.toNat, 128]
@[reducible] def k0_t2_loop (i : grid0.Coords) : Scf.Loop 32 :=
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let v112 : BitVec 32 := Scalar.addi c0_i32_51 v111
  let c1_i32_54 : BitVec 32 := 1#32
  ⟨v115, v112, c1_i32_54⟩
def k0_mult3 (i : grid0.Coords) (k0_t2 : Fin (k0_t2_loop i).trips) : BitVec 32 :=
  let c2_i32_149 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v459 : BitVec 32 := Scalar.muli c2_i32_149 arg15
  let c512_i32_150 : BitVec 32 := 512#32
  let v460 : BitVec 32 := Scalar.muli v459 c512_i32_150
  v460
def k0_off5 (i : grid0.Coords) (k0_t2 : Fin (k0_t2_loop i).trips) : Fin 2 → Nat :=
  let c2_i32_149 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v459 : BitVec 32 := Scalar.muli c2_i32_149 arg15
  let c512_i32_150 : BitVec 32 := 512#32
  let v460 : BitVec 32 := Scalar.muli v459 c512_i32_150
  let v461 : BitVec 32 := v460
  let v462 : Index := Scalar.indexCast v461
  let c0_151 : Index := 0#32
  ![v462.toNat, 0]
def k0_off6 (i : grid0.Coords) (k0_t2 : Fin (k0_t2_loop i).trips) : Fin 2 → Nat :=
  let c2_i32_149 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v459 : BitVec 32 := Scalar.muli c2_i32_149 arg15
  let c512_i32_150 : BitVec 32 := 512#32
  let v460 : BitVec 32 := Scalar.muli v459 c512_i32_150
  let v461 : BitVec 32 := v460
  let v536 : Index := Scalar.indexCast v461
  let c128_169 : Index := 128#32
  ![v536.toNat, 128]
def k0_mult4 (i : grid0.Coords) (k0_t2 : Fin (k0_t2_loop i).trips) : BitVec 32 :=
  let c2_i32_147 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  v610
def k0_off7 (i : grid0.Coords) (k0_t2 : Fin (k0_t2_loop i).trips) : Fin 2 → Nat :=
  let c2_i32_147 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  let v611 : BitVec 32 := v610
  let v612 : Index := Scalar.indexCast v611
  let c0_188 : Index := 0#32
  ![v612.toNat, 0]
def k0_off8 (i : grid0.Coords) (k0_t2 : Fin (k0_t2_loop i).trips) : Fin 2 → Nat :=
  let c2_i32_147 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  let v611 : BitVec 32 := v610
  let v686 : Index := Scalar.indexCast v611
  let c128_206 : Index := 128#32
  ![v686.toNat, 128]
def k0_cond2 (i : grid0.Coords) : BitVec 1 :=
  let arg1 : BitVec 32 := BitVec.ofNat 32 (i 1).val
  let c1_i32 : BitVec 32 := 1#32
  let v82 : BitVec 32 := Scalar.muli arg1 c1_i32
  let c2_i32 : BitVec 32 := 2#32
  let c0_i32_38 : BitVec 32 := 0#32
  let v83 : BitVec 1 := Scalar.cmpi .eq c2_i32 c0_i32_38
  let c1_i32_39 : BitVec 32 := 1#32
  let v84 : BitVec 32 := Scalar.select v83 c1_i32_39 c2_i32
  let v85 : BitVec 32 := Scalar.remsi v82 v84
  let c0_i32_41 : BitVec 32 := 0#32
  let v87 : BitVec 1 := Scalar.cmpi .slt v85 c0_i32_41
  let c0_i32_42 : BitVec 32 := 0#32
  let v88 : BitVec 1 := Scalar.cmpi .slt v84 c0_i32_42
  let v89 : BitVec 1 := Scalar.xori v87 v88
  let c0_i32_40 : BitVec 32 := 0#32
  let v86 : BitVec 1 := Scalar.cmpi .ne v85 c0_i32_40
  let v90 : BitVec 1 := Scalar.andi v89 v86
  let v91 : BitVec 32 := Scalar.addi v85 v84
  let v92 : BitVec 32 := Scalar.select v90 v91 v85
  let c1_i32_43 : BitVec 32 := 1#32
  let v93 : BitVec 1 := Scalar.cmpi .eq v92 c1_i32_43
  let v118 : BitVec 32 := Scalar.extui v93
  let c0_i32_55 : BitVec 32 := 0#32
  let v119 : BitVec 1 := Scalar.cmpi .ne v118 c0_i32_55
  v119

def k0_mult5 (i : grid0.Coords) : BitVec 32 :=
  let arg1 : BitVec 32 := BitVec.ofNat 32 (i 1).val
  let c1_i32 : BitVec 32 := 1#32
  let v82 : BitVec 32 := Scalar.muli arg1 c1_i32
  let c1_i32_147 : BitVec 32 := 1#32
  let v457 : BitVec 32 := Scalar.subi v82 c1_i32_147
  let c512_i32_148 : BitVec 32 := 512#32
  let v458 : BitVec 32 := Scalar.muli v457 c512_i32_148
  v458
def k0_off9 (i : grid0.Coords) : Fin 2 → Nat :=
  let arg1 : BitVec 32 := BitVec.ofNat 32 (i 1).val
  let c1_i32 : BitVec 32 := 1#32
  let v82 : BitVec 32 := Scalar.muli arg1 c1_i32
  let c1_i32_147 : BitVec 32 := 1#32
  let v457 : BitVec 32 := Scalar.subi v82 c1_i32_147
  let c512_i32_148 : BitVec 32 := 512#32
  let v458 : BitVec 32 := Scalar.muli v457 c512_i32_148
  let v459 : BitVec 32 := v458
  let v460 : Index := Scalar.indexCast v459
  let c0_149 : Index := 0#32
  ![v460.toNat, 0]
def k0_off10 (i : grid0.Coords) : Fin 2 → Nat :=
  let arg1 : BitVec 32 := BitVec.ofNat 32 (i 1).val
  let c1_i32 : BitVec 32 := 1#32
  let v82 : BitVec 32 := Scalar.muli arg1 c1_i32
  let c1_i32_147 : BitVec 32 := 1#32
  let v457 : BitVec 32 := Scalar.subi v82 c1_i32_147
  let c512_i32_148 : BitVec 32 := 512#32
  let v458 : BitVec 32 := Scalar.muli v457 c512_i32_148
  let v459 : BitVec 32 := v458
  let v534 : Index := Scalar.indexCast v459
  let c128_167 : Index := 128#32
  ![v534.toNat, 128]
def k0_mult6 (i : grid0.Coords) : BitVec 32 :=
  let arg1 : BitVec 32 := BitVec.ofNat 32 (i 1).val
  let c1_i32 : BitVec 32 := 1#32
  let v82 : BitVec 32 := Scalar.muli arg1 c1_i32
  let c0_i32_56 : BitVec 32 := 0#32
  let v121 : BitVec 32 := Scalar.addi v82 c0_i32_56
  let c512_i32 : BitVec 32 := 512#32
  let v122 : BitVec 32 := Scalar.muli v121 c512_i32
  v122
def k0_off11 (i : grid0.Coords) : Fin 2 → Nat :=
  let arg1 : BitVec 32 := BitVec.ofNat 32 (i 1).val
  let c1_i32 : BitVec 32 := 1#32
  let v82 : BitVec 32 := Scalar.muli arg1 c1_i32
  let c0_i32_56 : BitVec 32 := 0#32
  let v121 : BitVec 32 := Scalar.addi v82 c0_i32_56
  let c512_i32 : BitVec 32 := 512#32
  let v122 : BitVec 32 := Scalar.muli v121 c512_i32
  let v123 : BitVec 32 := v122
  let v127 : Index := Scalar.indexCast v123
  let c0_57 : Index := 0#32
  ![v127.toNat, 0]
def k0_off12 (i : grid0.Coords) : Fin 2 → Nat :=
  let arg1 : BitVec 32 := BitVec.ofNat 32 (i 1).val
  let c1_i32 : BitVec 32 := 1#32
  let v82 : BitVec 32 := Scalar.muli arg1 c1_i32
  let c0_i32_56 : BitVec 32 := 0#32
  let v121 : BitVec 32 := Scalar.addi v82 c0_i32_56
  let c512_i32 : BitVec 32 := 512#32
  let v122 : BitVec 32 := Scalar.muli v121 c512_i32
  let v123 : BitVec 32 := v122
  let v198 : Index := Scalar.indexCast v123
  let c0_77 : Index := 0#32
  ![v198.toNat, 0]
def k0_off13 (i : grid0.Coords) : Fin 2 → Nat :=
  let arg1 : BitVec 32 := BitVec.ofNat 32 (i 1).val
  let c1_i32 : BitVec 32 := 1#32
  let v82 : BitVec 32 := Scalar.muli arg1 c1_i32
  let c0_i32_56 : BitVec 32 := 0#32
  let v121 : BitVec 32 := Scalar.addi v82 c0_i32_56
  let c512_i32 : BitVec 32 := 512#32
  let v122 : BitVec 32 := Scalar.muli v121 c512_i32
  let v123 : BitVec 32 := v122
  let v288 : Index := Scalar.indexCast v123
  let c128_98 : Index := 128#32
  ![v288.toNat, 128]
def k0_off14 (i : grid0.Coords) : Fin 2 → Nat :=
  let arg1 : BitVec 32 := BitVec.ofNat 32 (i 1).val
  let c1_i32 : BitVec 32 := 1#32
  let v82 : BitVec 32 := Scalar.muli arg1 c1_i32
  let c0_i32_56 : BitVec 32 := 0#32
  let v121 : BitVec 32 := Scalar.addi v82 c0_i32_56
  let c512_i32 : BitVec 32 := 512#32
  let v122 : BitVec 32 := Scalar.muli v121 c512_i32
  let v123 : BitVec 32 := v122
  let v359 : Index := Scalar.indexCast v123
  let c128_118 : Index := 128#32
  ![v359.toNat, 128]
def k0_cond3 (i : grid0.Coords) : BitVec 1 :=
  let arg1 : BitVec 32 := BitVec.ofNat 32 (i 1).val
  let c7_i32 : BitVec 32 := 7#32
  let v454 : BitVec 1 := Scalar.cmpi .eq arg1 c7_i32
  let v455 : BitVec 32 := Scalar.extui v454
  let c0_i32_146 : BitVec 32 := 0#32
  let v456 : BitVec 1 := Scalar.cmpi .ne v455 c0_i32_146
  v456

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4096x2048 : Shape := ⟨2, ![4096, 2048]⟩
abbrev S4096x14336 : Shape := ⟨2, ![4096, 14336]⟩
abbrev S4096x16x128 : Shape := ⟨3, ![4096, 16, 128]⟩
abbrev S_ : Shape := ⟨0, ![]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096x128 : Shape := ⟨3, ![16, 4096, 128]⟩

abbrev nBuf : Space → Nat
  | .hbm => 200
  | .vmem => 0
  | .smem => 0
  | _ => 0

abbrev hbmTy0_0 (i : Nat) : BufTy := match i % 128 with
  | 0 => ⟨S4096x2048, .bf16⟩
  | 1 => ⟨S4096x14336, .bf16⟩
  | 2 => ⟨S4096x2048, .bf16⟩
  | 3 => ⟨S4096x2048, .bf16⟩
  | 4 => ⟨S4096x2048, .bf16⟩
  | 5 => ⟨S4096x2048, .bf16⟩
  | 6 => ⟨S4096x2048, .f32⟩
  | 7 => ⟨S4096x2048, .f32⟩
  | 8 => ⟨S4096x2048, .f32⟩
  | 9 => ⟨S4096x2048, .f32⟩
  | 10 => ⟨S4096x16x128, .f32⟩
  | 11 => ⟨S_, .f32⟩
  | 12 => ⟨S4096x16x128, .f32⟩
  | 13 => ⟨S4096x16x128, .f32⟩
  | 14 => ⟨S4096x16x128, .f32⟩
  | 15 => ⟨S4096x16x128, .f32⟩
  | 16 => ⟨S16x4096x4096, .f32⟩
  | 17 => ⟨S4096, .i32⟩
  | 18 => ⟨S1x4096, .i32⟩
  | 19 => ⟨S4096, .i32⟩
  | 20 => ⟨S4096x1, .i32⟩
  | 21 => ⟨S4096x4096, .i32⟩
  | 22 => ⟨S4096x4096, .i32⟩
  | 23 => ⟨S4096x4096, .i1⟩
  | 24 => ⟨S_, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .i1⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S_, .f32⟩
  | 39 => ⟨S16x4096x4096, .f32⟩
  | 40 => ⟨S16x4096x4096, .i1⟩
  | 41 => ⟨S_, .f32⟩
  | 42 => ⟨S16x4096x4096, .f32⟩
  | 43 => ⟨S16x4096x4096, .f32⟩
  | 44 => ⟨S_, .f32⟩
  | 45 => ⟨S16x4096x4096, .f32⟩
  | 46 => ⟨S16x4096x4096, .i1⟩
  | 47 => ⟨S_, .f32⟩
  | 48 => ⟨S16x4096x4096, .f32⟩
  | 49 => ⟨S16x4096x4096, .f32⟩
  | 50 => ⟨S16x4096x4096, .f32⟩
  | 51 => ⟨S16x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S16x4096x4096, .f32⟩
  | 60 => ⟨S16x4096x4096, .i1⟩
  | 61 => ⟨S_, .f32⟩
  | 62 => ⟨S16x4096x4096, .f32⟩
  | 63 => ⟨S16x4096x4096, .f32⟩
  | 64 => ⟨S16x4096x4096, .f32⟩
  | 65 => ⟨S16x4096x4096, .f32⟩
  | 66 => ⟨S16x4096x4096, .f32⟩
  | 67 => ⟨S_, .f32⟩
  | 68 => ⟨S16x4096x4096, .f32⟩
  | 69 => ⟨S16x4096x4096, .f32⟩
  | 70 => ⟨S16x4096x4096, .f32⟩
  | 71 => ⟨S_, .f32⟩
  | 72 => ⟨S_, .f32⟩
  | 73 => ⟨S16x4096x4096, .i1⟩
  | 74 => ⟨S16x4096x4096, .f32⟩
  | 75 => ⟨S16x4096x4096, .f32⟩
  | 76 => ⟨S_, .f32⟩
  | 77 => ⟨S16x4096x4096, .f32⟩
  | 78 => ⟨S_, .f32⟩
  | 79 => ⟨S_, .f32⟩
  | 80 => ⟨S16x4096x4096, .f32⟩
  | 81 => ⟨S16x4096x4096, .f32⟩
  | 82 => ⟨S16x4096x4096, .f32⟩
  | 83 => ⟨S_, .f32⟩
  | 84 => ⟨S16x4096x4096, .f32⟩
  | 85 => ⟨S16x4096x4096, .f32⟩
  | 86 => ⟨S16x4096x4096, .f32⟩
  | 87 => ⟨S16x4096x4096, .f32⟩
  | 88 => ⟨S16x4096x4096, .i1⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S16x4096x4096, .f32⟩
  | 97 => ⟨S_, .f32⟩
  | 98 => ⟨S16x4096x4096, .f32⟩
  | 99 => ⟨S16x4096x4096, .i1⟩
  | 100 => ⟨S_, .f32⟩
  | 101 => ⟨S16x4096x4096, .f32⟩
  | 102 => ⟨S16x4096x4096, .f32⟩
  | 103 => ⟨S_, .f32⟩
  | 104 => ⟨S16x4096x4096, .f32⟩
  | 105 => ⟨S16x4096x4096, .i1⟩
  | 106 => ⟨S_, .f32⟩
  | 107 => ⟨S16x4096x4096, .f32⟩
  | 108 => ⟨S16x4096x4096, .f32⟩
  | 109 => ⟨S16x4096x4096, .f32⟩
  | 110 => ⟨S16x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S16x4096x4096, .f32⟩
  | 119 => ⟨S16x4096x4096, .i1⟩
  | 120 => ⟨S_, .f32⟩
  | 121 => ⟨S16x4096x4096, .f32⟩
  | 122 => ⟨S16x4096x4096, .f32⟩
  | 123 => ⟨S16x4096x4096, .f32⟩
  | 124 => ⟨S16x4096x4096, .f32⟩
  | 125 => ⟨S16x4096x4096, .f32⟩
  | 126 => ⟨S_, .f32⟩
  | 127 => ⟨S16x4096x4096, .f32⟩
  | _ => ⟨S4096x2048, .bf16⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S16x4096x4096, .f32⟩
  | 4 => ⟨S_, .f32⟩
  | 5 => ⟨S_, .f32⟩
  | 6 => ⟨S16x4096x4096, .i1⟩
  | 7 => ⟨S16x4096x4096, .f32⟩
  | 8 => ⟨S16x4096x4096, .f32⟩
  | 9 => ⟨S_, .f32⟩
  | 10 => ⟨S16x4096x4096, .f32⟩
  | 11 => ⟨S16x128x4096, .f32⟩
  | 12 => ⟨S4096x16x128, .f32⟩
  | 13 => ⟨S4096x2048, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S_, .f32⟩
  | 23 => ⟨S4096x2048, .f32⟩
  | 24 => ⟨S4096x2048, .f32⟩
  | 25 => ⟨S4096x2048, .f32⟩
  | 26 => ⟨S4096x2048, .f32⟩
  | 27 => ⟨S4096x2048, .f32⟩
  | 28 => ⟨S4096x2048, .f32⟩
  | 29 => ⟨S4096x2048, .f32⟩
  | 30 => ⟨S4096x2048, .f32⟩
  | 31 => ⟨S4096x2048, .f32⟩
  | 32 => ⟨S4096x2048, .f32⟩
  | 33 => ⟨S4096x2048, .f32⟩
  | 34 => ⟨S4096x2048, .f32⟩
  | 35 => ⟨S4096x16x128, .f32⟩
  | 36 => ⟨S16x128x4096, .f32⟩
  | 37 => ⟨S16x4096x4096, .f32⟩
  | 38 => ⟨S16x128x4096, .f32⟩
  | 39 => ⟨S4096x16x128, .f32⟩
  | 40 => ⟨S_, .f32⟩
  | 41 => ⟨S16x4096x4096, .f32⟩
  | 42 => ⟨S16x4096x4096, .f32⟩
  | 43 => ⟨S16x4096x4096, .f32⟩
  | 44 => ⟨S16x4096x4096, .f32⟩
  | 45 => ⟨S16x4096x4096, .f32⟩
  | 46 => ⟨S16x4096x4096, .f32⟩
  | 47 => ⟨S16x4096x4096, .f32⟩
  | 48 => ⟨S_, .f32⟩
  | 49 => ⟨S_, .f32⟩
  | 50 => ⟨S16x4096x4096, .f32⟩
  | 51 => ⟨S16x4096x4096, .f32⟩
  | 52 => ⟨S_, .f32⟩
  | 53 => ⟨S16x4096x4096, .f32⟩
  | 54 => ⟨S16x4096x4096, .f32⟩
  | 55 => ⟨S16x4096x4096, .f32⟩
  | 56 => ⟨S16x4096x4096, .f32⟩
  | 57 => ⟨S16x4096x4096, .f32⟩
  | 58 => ⟨S16x4096x128, .f32⟩
  | 59 => ⟨S4096x16x128, .f32⟩
  | 60 => ⟨S16x4096x128, .f32⟩
  | 61 => ⟨S4096x16x128, .f32⟩
  | 62 => ⟨S4096x2048, .f32⟩
  | 63 => ⟨S4096x2048, .f32⟩
  | 64 => ⟨S_, .f32⟩
  | 65 => ⟨S4096x16x128, .f32⟩
  | 66 => ⟨S4096x16x128, .f32⟩
  | 67 => ⟨S4096x2048, .f32⟩
  | 68 => ⟨S4096x2048, .bf16⟩
  | 69 => ⟨S4096x2048, .bf16⟩
  | 70 => ⟨S4096x2048, .bf16⟩
  | 71 => ⟨S4096x2048, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v21_0 : Ref sig .tc := ⟨.hbm, 37, rfl⟩
abbrev main_call0_cst_0 : Ref sig .tc := ⟨.hbm, 38, rfl⟩
abbrev main_call0_v13 : Ref sig .tc := ⟨.hbm, 39, rfl⟩
abbrev main_call0_v14 : Ref sig .tc := ⟨.hbm, 40, rfl⟩
abbrev main_call0_cst_1 : Ref sig .tc := ⟨.hbm, 41, rfl⟩
abbrev main_call0_v15 : Ref sig .tc := ⟨.hbm, 42, rfl⟩
abbrev main_call0_v16 : Ref sig .tc := ⟨.hbm, 43, rfl⟩
abbrev main_call0_cst_2 : Ref sig .tc := ⟨.hbm, 44, rfl⟩
abbrev main_call0_v17 : Ref sig .tc := ⟨.hbm, 45, rfl⟩
abbrev main_call0_v18 : Ref sig .tc := ⟨.hbm, 46, rfl⟩
abbrev main_call0_cst_3 : Ref sig .tc := ⟨.hbm, 47, rfl⟩
abbrev main_call0_v19 : Ref sig .tc := ⟨.hbm, 48, rfl⟩
abbrev main_call0_v20 : Ref sig .tc := ⟨.hbm, 49, rfl⟩
abbrev main_call0_v21 : Ref sig .tc := ⟨.hbm, 50, rfl⟩
abbrev main_v21_1 : Ref sig .tc := ⟨.hbm, 51, rfl⟩
abbrev main_call0_cst_4 : Ref sig .tc := ⟨.hbm, 52, rfl⟩
abbrev main_call0_cst_5 : Ref sig .tc := ⟨.hbm, 53, rfl⟩
abbrev main_call0_v23 : Ref sig .tc := ⟨.hbm, 54, rfl⟩
abbrev main_call0_cst_6 : Ref sig .tc := ⟨.hbm, 55, rfl⟩
abbrev main_call0_cst_7 : Ref sig .tc := ⟨.hbm, 56, rfl⟩
abbrev main_call0_v24 : Ref sig .tc := ⟨.hbm, 57, rfl⟩
abbrev main_call0_cst_8 : Ref sig .tc := ⟨.hbm, 58, rfl⟩
abbrev main_call0_v25 : Ref sig .tc := ⟨.hbm, 59, rfl⟩
abbrev main_call0_v26 : Ref sig .tc := ⟨.hbm, 60, rfl⟩
abbrev main_call0_cst_9 : Ref sig .tc := ⟨.hbm, 61, rfl⟩
abbrev main_call0_v27 : Ref sig .tc := ⟨.hbm, 62, rfl⟩
abbrev main_call0_v28 : Ref sig .tc := ⟨.hbm, 63, rfl⟩
abbrev main_call0_v29 : Ref sig .tc := ⟨.hbm, 64, rfl⟩
abbrev main_call0_v30 : Ref sig .tc := ⟨.hbm, 65, rfl⟩
abbrev main_call0_v31 : Ref sig .tc := ⟨.hbm, 66, rfl⟩
abbrev main_call0_cst_10 : Ref sig .tc := ⟨.hbm, 67, rfl⟩
abbrev main_call0_v32 : Ref sig .tc := ⟨.hbm, 68, rfl⟩
abbrev main_v21_2 : Ref sig .tc := ⟨.hbm, 69, rfl⟩
abbrev main_v22 : Ref sig .tc := ⟨.hbm, 70, rfl⟩
abbrev main_cst_0 : Ref sig .tc := ⟨.hbm, 71, rfl⟩
abbrev main_call1_v0 : Ref sig .tc := ⟨.hbm, 72, rfl⟩
abbrev main_v23_1 : Ref sig .tc := ⟨.hbm, 73, rfl⟩
abbrev main_call1_v2 : Ref sig .tc := ⟨.hbm, 74, rfl⟩
abbrev main_v23_0 : Ref sig .tc := ⟨.hbm, 75, rfl⟩
abbrev main_call1_cst : Ref sig .tc := ⟨.hbm, 76, rfl⟩
abbrev main_v23_2 : Ref sig .tc := ⟨.hbm, 77, rfl⟩
abbrev main_call2_cst : Ref sig .tc := ⟨.hbm, 78, rfl⟩
abbrev main_call2_v0 : Ref sig .tc := ⟨.hbm, 79, rfl⟩
abbrev main_v24 : Ref sig .tc := ⟨.hbm, 80, rfl⟩
abbrev main_v25 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v26_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v26_2 : Ref sig .tc := ⟨.hbm, 128, rfl⟩
abbrev main_v26_0 : Ref sig .tc := ⟨.hbm, 129, rfl⟩
abbrev main_v27 : Ref sig .tc := ⟨.hbm, 130, rfl⟩
abbrev main_v28 : Ref sig .tc := ⟨.hbm, 131, rfl⟩
abbrev main_cst_1 : Ref sig .tc := ⟨.hbm, 132, rfl⟩
abbrev main_call4_v0 : Ref sig .tc := ⟨.hbm, 133, rfl⟩
abbrev main_v29_1 : Ref sig .tc := ⟨.hbm, 134, rfl⟩
abbrev main_call4_v2 : Ref sig .tc := ⟨.hbm, 135, rfl⟩
abbrev main_v29_0 : Ref sig .tc := ⟨.hbm, 136, rfl⟩
abbrev main_call4_cst : Ref sig .tc := ⟨.hbm, 137, rfl⟩
abbrev main_v29_2 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_call5_v0 : Ref sig .tc := ⟨.hbm, 142, rfl⟩
abbrev main_call5_v1 : Ref sig .tc := ⟨.hbm, 143, rfl⟩
abbrev main_call5_cst : Ref sig .tc := ⟨.hbm, 144, rfl⟩
abbrev main_call5_v2 : Ref sig .tc := ⟨.hbm, 145, rfl⟩
abbrev main_call5_v3 : Ref sig .tc := ⟨.hbm, 146, rfl⟩
abbrev main_call5_cst_0 : Ref sig .tc := ⟨.hbm, 147, rfl⟩
abbrev main_call5_v4 : Ref sig .tc := ⟨.hbm, 148, rfl⟩
abbrev main_v33_2 : Ref sig .tc := ⟨.hbm, 149, rfl⟩
abbrev main_call5_cst_1 : Ref sig .tc := ⟨.hbm, 150, rfl⟩
abbrev main_call5_v6 : Ref sig .tc := ⟨.hbm, 151, rfl⟩
abbrev main_call5_v7 : Ref sig .tc := ⟨.hbm, 152, rfl⟩
abbrev main_v33_1 : Ref sig .tc := ⟨.hbm, 153, rfl⟩
abbrev main_v33_0 : Ref sig .tc := ⟨.hbm, 154, rfl⟩
abbrev main_v34 : Ref sig .tc := ⟨.hbm, 155, rfl⟩
abbrev main_v35 : Ref sig .tc := ⟨.hbm, 156, rfl⟩
abbrev main_v36 : Ref sig .tc := ⟨.hbm, 157, rfl⟩
abbrev main_v37 : Ref sig .tc := ⟨.hbm, 158, rfl⟩
abbrev main_call6_v0 : Ref sig .tc := ⟨.hbm, 159, rfl⟩
abbrev main_call6_v1 : Ref sig .tc := ⟨.hbm, 160, rfl⟩
abbrev main_call6_v2 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_call7_cst : Ref sig .tc := ⟨.hbm, 168, rfl⟩
abbrev main_call7_v0 : Ref sig .tc := ⟨.hbm, 169, rfl⟩
abbrev main_v44 : Ref sig .tc := ⟨.hbm, 170, rfl⟩
abbrev main_v45 : Ref sig .tc := ⟨.hbm, 171, rfl⟩
abbrev main_call8_v0 : Ref sig .tc := ⟨.hbm, 172, rfl⟩
abbrev main_call8_v1 : Ref sig .tc := ⟨.hbm, 173, rfl⟩
abbrev main_v46 : Ref sig .tc := ⟨.hbm, 174, rfl⟩
abbrev main_v47 : Ref sig .tc := ⟨.hbm, 175, rfl⟩
abbrev main_call9_cst : Ref sig .tc := ⟨.hbm, 176, rfl⟩
abbrev main_call9_v0 : Ref sig .tc := ⟨.hbm, 177, rfl⟩
abbrev main_v48 : Ref sig .tc := ⟨.hbm, 178, rfl⟩
abbrev main_v49 : Ref sig .tc := ⟨.hbm, 179, rfl⟩
abbrev main_call10_cst : Ref sig .tc := ⟨.hbm, 180, rfl⟩
abbrev main_call10_v0 : Ref sig .tc := ⟨.hbm, 181, rfl⟩
abbrev main_v50 : Ref sig .tc := ⟨.hbm, 182, rfl⟩
abbrev main_v51 : Ref sig .tc := ⟨.hbm, 183, rfl⟩
abbrev main_v52 : Ref sig .tc := ⟨.hbm, 184, rfl⟩
abbrev main_v53 : Ref sig .tc := ⟨.hbm, 185, rfl⟩
abbrev main_v54 : Ref sig .tc := ⟨.hbm, 186, rfl⟩
abbrev main_v55 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_v59 : Ref sig .tc := ⟨.hbm, 191, rfl⟩
abbrev main_cst_2 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩
abbrev main_v64 : Ref sig .tc := ⟨.hbm, 197, rfl⟩
abbrev main_v65 : Ref sig .tc := ⟨.hbm, 198, rfl⟩
abbrev main_v66 : Ref sig .tc := ⟨.hbm, 199, rfl⟩

abbrev nD : Nat := 1
abbrev τ : Topo := Topo.v7x

variable {F : FTy → Type} [FloatOps F]
-- ==== KernelDh.lean ====
abbrev S4096x14336 : Shape := ⟨2, ![4096, 14336]⟩
abbrev S4096x6144 : Shape := ⟨2, ![4096, 6144]⟩
abbrev S2048x14336 : Shape := ⟨2, ![2048, 14336]⟩
abbrev S2048x6144 : Shape := ⟨2, ![2048, 6144]⟩
abbrev S2048x8x1792 : Shape := ⟨3, ![2048, 8, 1792]⟩
abbrev S8x2048x1792 : Shape := ⟨3, ![8, 2048, 1792]⟩
abbrev S2048x8x768 : Shape := ⟨3, ![2048, 8, 768]⟩
abbrev S8x2048x768 : Shape := ⟨3, ![8, 2048, 768]⟩
abbrev S4096x2048 : Shape := ⟨2, ![4096, 2048]⟩
abbrev S512x1792 : Shape := ⟨2, ![512, 1792]⟩
abbrev S1x2048x1792 : Shape := ⟨3, ![1, 2048, 1792]⟩
abbrev S512x768 : Shape := ⟨2, ![512, 768]⟩
abbrev S1x2048x768 : Shape := ⟨3, ![1, 2048, 768]⟩
abbrev S512x2048 : Shape := ⟨2, ![512, 2048]⟩
abbrev S2048x1792 : Shape := ⟨2, ![2048, 1792]⟩
abbrev S2048x768 : Shape := ⟨2, ![2048, 768]⟩

abbrev nBuf : Space → Nat
  | .hbm => 9
  | .vmem => 10
  | .smem => 0
  | _ => 0

abbrev bufTy : (tb : Table) → Fin (tcTables nBuf tb) → BufTy
  | .hbm, ⟨0, _⟩ => ⟨S4096x14336, .bf16⟩
  | .hbm, ⟨1, _⟩ => ⟨S4096x6144, .bf16⟩
  | .hbm, ⟨2, _⟩ => ⟨S2048x14336, .bf16⟩
  | .hbm, ⟨3, _⟩ => ⟨S2048x6144, .bf16⟩
  | .hbm, ⟨4, _⟩ => ⟨S2048x8x1792, .bf16⟩
  | .hbm, ⟨5, _⟩ => ⟨S8x2048x1792, .bf16⟩
  | .hbm, ⟨6, _⟩ => ⟨S2048x8x768, .bf16⟩
  | .hbm, ⟨7, _⟩ => ⟨S8x2048x768, .bf16⟩
  | .hbm, ⟨8, _⟩ => ⟨S4096x2048, .f32⟩
  | .local _ .vmem, ⟨0, _⟩ => ⟨S512x1792, .bf16⟩
  | .local _ .vmem, ⟨1, _⟩ => ⟨S512x1792, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S512x768, .bf16⟩
  | .local _ .vmem, ⟨5, _⟩ => ⟨S512x768, .bf16⟩
  | .local _ .vmem, ⟨6, _⟩ => ⟨S1x2048x768, .bf16⟩
  | .local _ .vmem, ⟨7, _⟩ => ⟨S1x2048x768, .bf16⟩
  | .local _ .vmem, ⟨8, _⟩ => ⟨S512x2048, .f32⟩
  | .local _ .vmem, ⟨9, _⟩ => ⟨S512x2048, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c8_i32 : BitVec 32 := 8#32
  let v4 : BitVec 1 := Scalar.cmpi .slt arg1 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c8_i32_3 : BitVec 32 := 8#32
  let v8 : BitVec 1 := Scalar.cmpi .sge arg1 c8_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceDhIdeal.lean ====
abbrev S4096x14336 : Shape := ⟨2, ![4096, 14336]⟩
abbrev S4096x6144 : Shape := ⟨2, ![4096, 6144]⟩
abbrev S2048x14336 : Shape := ⟨2, ![2048, 14336]⟩
abbrev S2048x6144 : Shape := ⟨2, ![2048, 6144]⟩
abbrev S_ : Shape := ⟨0, ![]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S4096x6144, .bf16⟩
  | .hbm, ⟨2, _⟩ => ⟨S2048x14336, .bf16⟩
  | .hbm, ⟨3, _⟩ => ⟨S2048x6144, .bf16⟩
  | .hbm, ⟨4, _⟩ => ⟨S2048x14336, .f32⟩
  | .hbm, ⟨5, _⟩ => ⟨S2048x6144, .f32⟩
  | .hbm, ⟨6, _⟩ => ⟨S_, .f32⟩
  | .hbm, ⟨7, _⟩ => ⟨S4096x2048, .f32⟩
  | .hbm, ⟨8, _⟩ => ⟨S4096x14336, .f32⟩
  | .hbm, ⟨9, _⟩ => ⟨S4096x6144, .f32⟩
  | .hbm, ⟨10, _⟩ => ⟨S4096x14336, .f32⟩
  | .hbm, ⟨11, _⟩ => ⟨S4096x6144, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelDwIn.lean ====
abbrev S4096x2048 : Shape := ⟨2, ![4096, 2048]⟩
abbrev S4096x14336 : Shape := ⟨2, ![4096, 14336]⟩
abbrev S8x2048x1792 : Shape := ⟨3, ![8, 2048, 1792]⟩
abbrev S1024x1024 : Shape := ⟨2, ![1024, 1024]⟩
abbrev S1024x1792 : Shape := ⟨2, ![1024, 1792]⟩
abbrev S1x1024x1792 : Shape := ⟨3, ![1, 1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S8x2048x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1024x1792, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwInIdeal.lean ====
abbrev S4096x2048 : Shape := ⟨2, ![4096, 2048]⟩
abbrev S4096x14336 : Shape := ⟨2, ![4096, 14336]⟩
abbrev S_ : Shape := ⟨0, ![]⟩
abbrev S2048x14336 : Shape := ⟨2, ![2048, 14336]⟩
abbrev S14336x2048 : Shape := ⟨2, ![14336, 2048]⟩
abbrev S2048x8x1792 : Shape := ⟨3, ![2048, 8, 1792]⟩
abbrev S8x2048x1792 : Shape := ⟨3, ![8, 2048, 1792]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S4096x2048, .f32⟩
  | .hbm, ⟨3, _⟩ => ⟨S_, .f32⟩
  | .hbm, ⟨4, _⟩ => ⟨S2048x14336, .f32⟩
  | .hbm, ⟨5, _⟩ => ⟨S4096x14336, .f32⟩
  | .hbm, ⟨6, _⟩ => ⟨S4096x14336, .f32⟩
  | .hbm, ⟨7, _⟩ => ⟨S14336x2048, .f32⟩
  | .hbm, ⟨8, _⟩ => ⟨S2048x14336, .f32⟩
  | .hbm, ⟨9, _⟩ => ⟨S2048x14336, .bf16⟩
  | .hbm, ⟨10, _⟩ => ⟨S2048x8x1792, .bf16⟩
  | .hbm, ⟨11, _⟩ => ⟨S8x2048x1792, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDwGate.lean ====
abbrev S4096x2048 : Shape := ⟨2, ![4096, 2048]⟩
abbrev S4096x6144 : Shape := ⟨2, ![4096, 6144]⟩
abbrev S8x2048x768 : Shape := ⟨3, ![8, 2048, 768]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S8x2048x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwGateIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S_, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | .hbm, ⟨10, _⟩ => ⟨S2048x8x768, .bf16⟩
  | .hbm, ⟨11, _⟩ => ⟨S8x2048x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDwOut.lean ====
abbrev S4096x2048 : Shape := ⟨2, ![4096, 2048]⟩
abbrev S1x2048x2048 : Shape := ⟨3, ![1, 2048, 2048]⟩
abbrev S1024x512 : Shape := ⟨2, ![1024, 512]⟩
abbrev S1024x2048 : Shape := ⟨2, ![1024, 2048]⟩
abbrev S1x512x2048 : Shape := ⟨3, ![1, 512, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwOutIdeal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDmerged.lean ====
abbrev S4096x2048 : Shape := ⟨2, ![4096, 2048]⟩
abbrev S2048x2048 : Shape := ⟨2, ![2048, 2048]⟩
abbrev S1x2048x2048 : Shape := ⟨3, ![1, 2048, 2048]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x2048x2048, .bf16⟩
  | .hbm, ⟨3, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDmergedIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwBrA.lean ====
abbrev S4096x1024 : Shape := ⟨2, ![4096, 1024]⟩
abbrev S4096x6144 : Shape := ⟨2, ![4096, 6144]⟩
abbrev S8x1024x256 : Shape := ⟨3, ![8, 1024, 256]⟩
abbrev S2048x1024 : Shape := ⟨2, ![2048, 1024]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwBrAIdeal.lean ====
abbrev S4096x1024 : Shape := ⟨2, ![4096, 1024]⟩
abbrev S4096x6144 : Shape := ⟨2, ![4096, 6144]⟩
abbrev S_ : Shape := ⟨0, ![]⟩
abbrev S1024x2048 : Shape := ⟨2, ![1024, 2048]⟩
abbrev S4096x2048 : Shape := ⟨2, ![4096, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | .hbm, ⟨11, _⟩ => ⟨S1024x8x256, .bf16⟩
  | .hbm, ⟨12, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelDwBrB.lean ====
abbrev S4096x2048 : Shape := ⟨2, ![4096, 2048]⟩
abbrev S4096x6144 : Shape := ⟨2, ![4096, 6144]⟩
abbrev S1x2048x2048 : Shape := ⟨3, ![1, 2048, 2048]⟩
abbrev S1024x512 : Shape := ⟨2, ![1024, 512]⟩
abbrev S1024x2048 : Shape := ⟨2, ![1024, 2048]⟩
abbrev S1x512x2048 : Shape := ⟨3, ![1, 512, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S1x2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwBrBIdeal.lean ====
abbrev S4096x2048 : Shape := ⟨2, ![4096, 2048]⟩
abbrev S4096x6144 : Shape := ⟨2, ![4096, 6144]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDwBrC.lean ====
abbrev S4096x1024 : Shape := ⟨2, ![4096, 1024]⟩
abbrev S4096x6144 : Shape := ⟨2, ![4096, 6144]⟩
abbrev S8x1024x256 : Shape := ⟨3, ![8, 1024, 256]⟩
abbrev S2048x1024 : Shape := ⟨2, ![2048, 1024]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwBrCIdeal.lean ====
abbrev S4096x1024 : Shape := ⟨2, ![4096, 1024]⟩
abbrev S4096x6144 : Shape := ⟨2, ![4096, 6144]⟩
abbrev S_ : Shape := ⟨0, ![]⟩
abbrev S1024x2048 : Shape := ⟨2, ![1024, 2048]⟩
abbrev S4096x2048 : Shape := ⟨2, ![4096, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | .hbm, ⟨11, _⟩ => ⟨S1024x8x256, .bf16⟩
  | .hbm, ⟨12, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelDya.lean ====
abbrev S4096x6144 : Shape := ⟨2, ![4096, 6144]⟩
abbrev S1024x2048 : Shape := ⟨2, ![1024, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S2048x256 : Shape := ⟨2, ![2048, 256]⟩
abbrev S1x1024x256 : Shape := ⟨3, ![1, 1024, 256]⟩
abbrev S2048x1024 : Shape := ⟨2, ![2048, 1024]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S1024x2048, .bf16⟩
  | .hbm, ⟨2, _⟩ => ⟨S1024x8x256, .bf16⟩
  | .hbm, ⟨3, _⟩ => ⟨S8x1024x256, .bf16⟩
  | .hbm, ⟨4, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDyaIdeal.lean ====
abbrev S4096x6144 : Shape := ⟨2, ![4096, 6144]⟩
abbrev S1024x2048 : Shape := ⟨2, ![1024, 2048]⟩
abbrev S_ : Shape := ⟨0, ![]⟩
abbrev S4096x1024 : Shape := ⟨2, ![4096, 1024]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S4096x1024, .f32⟩
  | .hbm, ⟨9, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDyb.lean ====
abbrev S4096x6144 : Shape := ⟨2, ![4096, 6144]⟩
abbrev S2048x2048 : Shape := ⟨2, ![2048, 2048]⟩
abbrev S1x2048x2048 : Shape := ⟨3, ![1, 2048, 2048]⟩
abbrev S4096x2048 : Shape := ⟨2, ![4096, 2048]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S2048x2048, .bf16⟩
  | .hbm, ⟨2, _⟩ => ⟨S1x2048x2048, .bf16⟩
  | .hbm, ⟨3, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDybIdeal.lean ====
abbrev S4096x6144 : Shape := ⟨2, ![4096, 6144]⟩
abbrev S2048x2048 : Shape := ⟨2, ![2048, 2048]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDyc.lean ====
abbrev S4096x6144 : Shape := ⟨2, ![4096, 6144]⟩
abbrev S1024x2048 : Shape := ⟨2, ![1024, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S2048x256 : Shape := ⟨2, ![2048, 256]⟩
abbrev S1x1024x256 : Shape := ⟨3, ![1, 1024, 256]⟩
abbrev S2048x1024 : Shape := ⟨2, ![2048, 1024]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S1024x2048, .bf16⟩
  | .hbm, ⟨2, _⟩ => ⟨S1024x8x256, .bf16⟩
  | .hbm, ⟨3, _⟩ => ⟨S8x1024x256, .bf16⟩
  | .hbm, ⟨4, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDycIdeal.lean ====
abbrev S4096x6144 : Shape := ⟨2, ![4096, 6144]⟩
abbrev S1024x2048 : Shape := ⟨2, ![1024, 2048]⟩
abbrev S_ : Shape := ⟨0, ![]⟩
abbrev S4096x1024 : Shape := ⟨2, ![4096, 1024]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S4096x1024, .f32⟩
  | .hbm, ⟨9, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelInProj.lean ====
abbrev S4096x2048 : Shape := ⟨2, ![4096, 2048]⟩
abbrev S2048x14336 : Shape := ⟨2, ![2048, 14336]⟩
abbrev S2048x8x1792 : Shape := ⟨3, ![2048, 8, 1792]⟩
abbrev S8x2048x1792 : Shape := ⟨3, ![8, 2048, 1792]⟩
abbrev S4096x14336 : Shape := ⟨2, ![4096, 14336]⟩
abbrev S512x2048 : Shape := ⟨2, ![512, 2048]⟩
abbrev S1x2048x1792 : Shape := ⟨3, ![1, 2048, 1792]⟩
abbrev S512x1792 : Shape := ⟨2, ![512, 1792]⟩
abbrev S2048x1792 : Shape := ⟨2, ![2048, 1792]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S2048x8x1792, .bf16⟩
  | .hbm, ⟨3, _⟩ => ⟨S8x2048x1792, .bf16⟩
  | .hbm, ⟨4, _⟩ => ⟨S4096x14336, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S512x1792, .bf16⟩
  | .local _ .vmem, ⟨5, _⟩ => ⟨S512x1792, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInProjIdeal.lean ====
abbrev S4096x2048 : Shape := ⟨2, ![4096, 2048]⟩
abbrev S2048x14336 : Shape := ⟨2, ![2048, 14336]⟩
abbrev S4096x14336 : Shape := ⟨2, ![4096, 14336]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S4096x2048, .f32⟩
  | .hbm, ⟨3, _⟩ => ⟨S2048x14336, .f32⟩
  | .hbm, ⟨4, _⟩ => ⟨S4096x14336, .f32⟩
  | .hbm, ⟨5, _⟩ => ⟨S4096x14336, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelGateProj.lean ====
abbrev S4096x2048 : Shape := ⟨2, ![4096, 2048]⟩
abbrev S2048x6144 : Shape := ⟨2, ![2048, 6144]⟩
abbrev S6144 : Shape := ⟨1, ![6144]⟩
abbrev S2048x8x768 : Shape := ⟨3, ![2048, 8, 768]⟩
abbrev S8x2048x768 : Shape := ⟨3, ![8, 2048, 768]⟩
abbrev S1x6144 : Shape := ⟨2, ![1, 6144]⟩
abbrev S4096x6144 : Shape := ⟨2, ![4096, 6144]⟩
abbrev S512x2048 : Shape := ⟨2, ![512, 2048]⟩
abbrev S1x2048x768 : Shape := ⟨3, ![1, 2048, 768]⟩
abbrev S1x768 : Shape := ⟨2, ![1, 768]⟩
abbrev S512x768 : Shape := ⟨2, ![512, 768]⟩
abbrev S2048x768 : Shape := ⟨2, ![2048, 768]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S6144, .f32⟩
  | .hbm, ⟨3, _⟩ => ⟨S2048x8x768, .bf16⟩
  | .hbm, ⟨4, _⟩ => ⟨S8x2048x768, .bf16⟩
  | .hbm, ⟨5, _⟩ => ⟨S1x6144, .f32⟩
  | .hbm, ⟨6, _⟩ => ⟨S4096x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x768, .f32⟩
  | .local _ .vmem, ⟨5, _⟩ => ⟨S1x768, .f32⟩
  | .local _ .vmem, ⟨6, _⟩ => ⟨S512x768, .bf16⟩
  | .local _ .vmem, ⟨7, _⟩ => ⟨S512x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGateProjIdeal.lean ====
abbrev S4096x2048 : Shape := ⟨2, ![4096, 2048]⟩
abbrev S2048x6144 : Shape := ⟨2, ![2048, 6144]⟩
abbrev S6144 : Shape := ⟨1, ![6144]⟩
abbrev S4096x6144 : Shape := ⟨2, ![4096, 6144]⟩
abbrev S1x6144 : Shape := ⟨2, ![1, 6144]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S6144, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S1x6144, .f32⟩
  | .hbm, ⟨7, _⟩ => ⟨S4096x6144, .f32⟩
  | .hbm, ⟨8, _⟩ => ⟨S4096x6144, .f32⟩
  | .hbm, ⟨9, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Attn.Offs.lean ====
/- Where the attention gradient's body reads and writes its key blocks: the offsets in closed form. -/
module

public import proofs.«01_k».proof.Proof.Gen.KernelIdeal
public import proofs.«01_k».proof.Proof.Gen.KernelIdeal.Loops
public import Idealize.ShloMosaic.Lib.Exec

@[expose] public section

set_option maxRecDepth 16384

noncomputable section

namespace Cert.KernelIdeal.Attn

open Cert.KernelIdeal Cert.KernelIdeal.Gen
open Idealize.ShloMosaic

theorem trips1 : ∀ i : grid0.Coords, (k0_t1_loop i).trips = (i 1).val / 2 := by decide +kernel
theorem trips2 : ∀ i : grid0.Coords, (k0_t2_loop i).trips = 0 := by decide +kernel

theorem off1_eq : ∀ (i : grid0.Coords) (t : Fin (k0_t1_loop i).trips), k0_off1 i t = ![1024 * t.val, 0] := by decide +kernel
theorem off2_eq : ∀ (i : grid0.Coords) (t : Fin (k0_t1_loop i).trips), k0_off2 i t = ![1024 * t.val, 128] := by decide +kernel
theorem off3_eq : ∀ (i : grid0.Coords) (t : Fin (k0_t1_loop i).trips), k0_off3 i t = ![1024 * t.val + 512, 0] := by decide +kernel
theorem off4_eq : ∀ (i : grid0.Coords) (t : Fin (k0_t1_loop i).trips), k0_off4 i t = ![1024 * t.val + 512, 128] := by decide +kernel
theorem off5_eq : ∀ (i : grid0.Coords) (t : Fin (k0_t2_loop i).trips), k0_off5 i t = ![1024 * t.val, 0] := by decide +kernel
theorem off6_eq : ∀ (i : grid0.Coords) (t : Fin (k0_t2_loop i).trips), k0_off6 i t = ![1024 * t.val, 128] := by decide +kernel
theorem off7_eq : ∀ (i : grid0.Coords) (t : Fin (k0_t2_loop i).trips), k0_off7 i t = ![1024 * t.val + 512, 0] := by decide +kernel
theorem off8_eq : ∀ (i : grid0.Coords) (t : Fin (k0_t2_loop i).trips), k0_off8 i t = ![1024 * t.val + 512, 128] := by decide +kernel
theorem off9_eq : ∀ i : grid0.Coords, k0_off9 i = ![k0_off9 i 0, 0] := by decide +kernel
theorem off10_eq : ∀ i : grid0.Coords, k0_off10 i = ![k0_off9 i 0, 128] := by decide +kernel
theorem off11_eq : ∀ i : grid0.Coords, k0_off11 i = ![512 * (i 1).val, 0] := by decide +kernel
theorem off12_eq : ∀ i : grid0.Coords, k0_off12 i = ![512 * (i 1).val, 0] := by decide +kernel
theorem off13_eq : ∀ i : grid0.Coords, k0_off13 i = ![512 * (i 1).val, 128] := by decide +kernel
theorem off14_eq : ∀ i : grid0.Coords, k0_off14 i = ![512 * (i 1).val, 128] := by decide +kernel

instance (i : grid0.Coords) (t : Fin (k0_t1_loop i).trips) : ClosedOff (k0_off1 i t) := ⟨_, off1_eq i t⟩
instance (i : grid0.Coords) (t : Fin (k0_t1_loop i).trips) : ClosedOff (k0_off2 i t) := ⟨_, off2_eq i t⟩
instance (i : grid0.Coords) (t : Fin (k0_t1_loop i).trips) : ClosedOff (k0_off3 i t) := ⟨_, off3_eq i t⟩
instance (i : grid0.Coords) (t : Fin (k0_t1_loop i).trips) : ClosedOff (k0_off4 i t) := ⟨_, off4_eq i t⟩
instance (i : grid0.Coords) (t : Fin (k0_t2_loop i).trips) : ClosedOff (k0_off5 i t) := ⟨_, off5_eq i t⟩
instance (i : grid0.Coords) (t : Fin (k0_t2_loop i).trips) : ClosedOff (k0_off6 i t) := ⟨_, off6_eq i t⟩
instance (i : grid0.Coords) (t : Fin (k0_t2_loop i).trips) : ClosedOff (k0_off7 i t) := ⟨_, off7_eq i t⟩
instance (i : grid0.Coords) (t : Fin (k0_t2_loop i).trips) : ClosedOff (k0_off8 i t) := ⟨_, off8_eq i t⟩
instance (i : grid0.Coords) : ClosedOff (k0_off9 i) := ⟨_, off9_eq i⟩
instance (i : grid0.Coords) : ClosedOff (k0_off10 i) := ⟨_, off10_eq i⟩
instance (i : grid0.Coords) : ClosedOff (k0_off11 i) := ⟨_, off11_eq i⟩
instance (i : grid0.Coords) : ClosedOff (k0_off12 i) := ⟨_, off12_eq i⟩
instance (i : grid0.Coords) : ClosedOff (k0_off13 i) := ⟨_, off13_eq i⟩
instance (i : grid0.Coords) : ClosedOff (k0_off14 i) := ⟨_, off14_eq i⟩

end Cert.KernelIdeal.Attn

end
-- ==== Proof.Attn.Res.lean ====
/- The buffers of the attention gradient's body, as they are owned. -/
module

public import proofs.«01_k».proof.Proof.Attn.Offs
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
/-- The buffer behind a whole view, owned in full at the contents `f`. -/
abbrev pt (c : Dev nD) {sp : Space} {S : Shape} {e : EltTy} (M : Memref sig .tc sp S e) (f : Bf (F := F) c M) : sProp 𝕄 :=
  M.view.loc (c : Thread nD τ) ↦{fullShare} f

abbrev Acc (F : FTy → Type) : Type :=
  FVec F S512x128 .f32 × FVec F S512x1 .f32 × FVec F S512x1 .f32 × FVec F S512x128 .f32 × FVec F S512x1 .f32 × FVec F S512x1 .f32

end Cert.KernelIdeal.Attn

end
-- ==== Proof.Attn.Trip.lean ====
/- One trip of its loops over key blocks. -/
module

public import proofs.«01_k».proof.Proof.Attn.Res

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem trip1 (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16) (v80 : FVec F S512x1 .f32) (v81 : FVec F S512x128 .f32) (v82 : BitVec 32) (v93 : BitVec 1) (c0_i32_51 : BitVec 32) (v115 : BitVec 32)
    (f3 : Bf (F := F) c arg3) (f4 : Bf (F := F) c arg4) (f13 : Bf (F := F) c arg13) (f14 : Bf (F := F) c arg14)
    (k : Fin (k0_t1_loop i).trips) (acc : Acc F) :
    iprop(pt c arg3 f3 ∗ pt c arg4 f4 ∗ pt c arg13 f13 ∗ pt c arg14 f14) ⊢
      wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 k acc)
        (fun _ => (iprop(pt c arg3 f3 ∗ pt c arg4 f4 ∗ (∃ f, pt c arg13 f) ∗ ∃ f, pt c arg14 f) : sProp 𝕄)) := by
  unfold k0_t1_body
  iintro ⟨H3, H4, H13, H14⟩
  sl_exec_parts!
  sl_step
  isplitl [H3]
  · iexact H3
  isplitl [H4]
  · iexact H4
  isplitl [H13]
  · iexists _
    iexact H13
  · iexists _
    iexact H14

@[sl_loop, reducible] def loopInv_k0_t1 (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16) (v80 : FVec F S512x1 .f32) (v81 : FVec F S512x128 .f32) (v82 : BitVec 32) (v93 : BitVec 1) (c0_i32_51 : BitVec 32) (v115 : BitVec 32)
    (f3 : Bf (F := F) c arg3) (f4 : Bf (F := F) c arg4) (init : Acc F) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 init where
  inv := fun k acc => iprop(pt c arg3 f3 ∗ pt c arg4 f4 ∗ (∃ f, pt c arg13 f) ∗ ∃ f, pt c arg14 f)
  step := fun k acc => by
    iintro ⟨H3, H4, ⟨%f13, H13⟩, ⟨%f14, H14⟩⟩
    iapply (trip1 c i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 f3 f4 f13 f14 k acc) $$ [H3 H4 H13 H14]
    isplitl [H3]
    · iexact H3
    isplitl [H4]
    · iexact H4
    isplitl [H13]
    · iexact H13
    · iexact H14

set_option maxHeartbeats 4000000 in
theorem trip2 (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16) (v80 : FVec F S512x1 .f32) (v81 : FVec F S512x128 .f32) (v82 : BitVec 32) (v93 : BitVec 1) (c0_i32_51 : BitVec 32) (v115 : BitVec 32)
    (f3 : Bf (F := F) c arg3) (f4 : Bf (F := F) c arg4) (f13 : Bf (F := F) c arg13) (f14 : Bf (F := F) c arg14)
    (k : Fin (k0_t2_loop i).trips) (acc : Acc F) :
    iprop(pt c arg3 f3 ∗ pt c arg4 f4 ∗ pt c arg13 f13 ∗ pt c arg14 f14) ⊢
      wp frame (wpE (defs₀ (F := F)) Variants.none (c : Thread nD τ) none) Set.univ
        (k0_t2_body (F := F) i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 k acc)
        (fun _ => (iprop(pt c arg3 f3 ∗ pt c arg4 f4 ∗ (∃ f, pt c arg13 f) ∗ ∃ f, pt c arg14 f) : sProp 𝕄)) := by
  unfold k0_t2_body
  iintro ⟨H3, H4, H13, H14⟩
  sl_exec_parts!
  sl_step
  isplitl [H3]
  · iexact H3
  isplitl [H4]
  · iexact H4
  isplitl [H13]
  · iexists _
    iexact H13
  · iexists _
    iexact H14

@[sl_loop, reducible] def loopInv_k0_t2 (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16) (v80 : FVec F S512x1 .f32) (v81 : FVec F S512x128 .f32) (v82 : BitVec 32) (v93 : BitVec 1) (c0_i32_51 : BitVec 32) (v115 : BitVec 32)
    (f3 : Bf (F := F) c arg3) (f4 : Bf (F := F) c arg4) (init : Acc F) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 init where
  inv := fun k acc => iprop(pt c arg3 f3 ∗ pt c arg4 f4 ∗ (∃ f, pt c arg13 f) ∗ ∃ f, pt c arg14 f)
  step := fun k acc => by
    iintro ⟨H3, H4, ⟨%f13, H13⟩, ⟨%f14, H14⟩⟩
    iapply (trip2 c i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 f3 f4 f13 f14 k acc) $$ [H3 H4 H13 H14]
    isplitl [H3]
    · iexact H3
    isplitl [H4]
    · iexact H4
    isplitl [H13]
    · iexact H13
    · iexact H14

end Cert.KernelIdeal.Attn

end
-- ==== Proof.Attn.Body.lean ====
/- The body of the attention gradient runs to its return. -/
module

public import proofs.«01_k».proof.Proof.Attn.Trip

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem body_first (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14)
    (h1 : (Scalar.cmpi .ne (Scalar.extui (Scalar.cmpi .eq (BitVec.ofNat 32 (i 1).val) 0#32) : BitVec 32) 0#32) = 1#1) (h2 : ¬ k0_cond2 i = 1#1) (h3 : ¬ k0_cond3 i = 1#1) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14) ⊢
      wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => (iprop(pt c arg2 f2 ∗ pt c arg3 f3 ∗ pt c arg4 f4 ∗ pt c arg5 f5 ∗ pt c arg6 f6 ∗ pt c arg7 f7 ∗ pt c arg8 f8 ∗ (∃ f, pt c arg9 f) ∗ (∃ f, pt c arg10 f) ∗ (∃ f, pt c arg11 f) ∗ (∃ f, pt c arg12 f) ∗ (∃ f, pt c arg13 f) ∗ (∃ f, pt c arg14 f)) : sProp 𝕄)) := by
  iintro ⟨H2, H3, H4, H5, H6, H7, H8, H9, H10, H11, H12, H13, H14⟩
  sl_exec_parts!
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _
    iexact H9
  isplitl [H10]
  · iexists _
    iexact H10
  isplitl [H11]
  · iexists _
    iexact H11
  isplitl [H12]
  · iexists _
    iexact H12
  isplitl [H13]
  · iexists _
    iexact H13
  · iexists _
    iexact H14

set_option maxHeartbeats 4000000 in
theorem body_even (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14)
    (h1 : ¬ (Scalar.cmpi .ne (Scalar.extui (Scalar.cmpi .eq (BitVec.ofNat 32 (i 1).val) 0#32) : BitVec 32) 0#32) = 1#1) (h2 : ¬ k0_cond2 i = 1#1) (h3 : ¬ k0_cond3 i = 1#1) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14) ⊢
      wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => (iprop(pt c arg2 f2 ∗ pt c arg3 f3 ∗ pt c arg4 f4 ∗ pt c arg5 f5 ∗ pt c arg6 f6 ∗ pt c arg7 f7 ∗ pt c arg8 f8 ∗ (∃ f, pt c arg9 f) ∗ (∃ f, pt c arg10 f) ∗ (∃ f, pt c arg11 f) ∗ (∃ f, pt c arg12 f) ∗ (∃ f, pt c arg13 f) ∗ (∃ f, pt c arg14 f)) : sProp 𝕄)) := by
  iintro ⟨H2, H3, H4, H5, H6, H7, H8, H9, H10, H11, H12, H13, H14⟩
  sl_exec_parts!
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _
    iexact H9
  isplitl [H10]
  · iexists _
    iexact H10
  isplitl [H11]
  · iexists _
    iexact H11
  isplitl [H12]
  · iexists _
    iexact H12
  isplitl [H13]
  · iexists _
    iexact H13
  · iexists _
    iexact H14

set_option maxHeartbeats 4000000 in
theorem body_odd (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14)
    (h1 : ¬ (Scalar.cmpi .ne (Scalar.extui (Scalar.cmpi .eq (BitVec.ofNat 32 (i 1).val) 0#32) : BitVec 32) 0#32) = 1#1) (h2 : k0_cond2 i = 1#1) (h3 : ¬ k0_cond3 i = 1#1) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14) ⊢
      wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => (iprop(pt c arg2 f2 ∗ pt c arg3 f3 ∗ pt c arg4 f4 ∗ pt c arg5 f5 ∗ pt c arg6 f6 ∗ pt c arg7 f7 ∗ pt c arg8 f8 ∗ (∃ f, pt c arg9 f) ∗ (∃ f, pt c arg10 f) ∗ (∃ f, pt c arg11 f) ∗ (∃ f, pt c arg12 f) ∗ (∃ f, pt c arg13 f) ∗ (∃ f, pt c arg14 f)) : sProp 𝕄)) := by
  iintro ⟨H2, H3, H4, H5, H6, H7, H8, H9, H10, H11, H12, H13, H14⟩
  sl_exec_parts!
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _
    iexact H9
  isplitl [H10]
  · iexists _
    iexact H10
  isplitl [H11]
  · iexists _
    iexact H11
  isplitl [H12]
  · iexists _
    iexact H12
  isplitl [H13]
  · iexists _
    iexact H13
  · iexists _
    iexact H14

set_option maxHeartbeats 4000000 in
theorem body_last (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14)
    (h1 : ¬ (Scalar.cmpi .ne (Scalar.extui (Scalar.cmpi .eq (BitVec.ofNat 32 (i 1).val) 0#32) : BitVec 32) 0#32) = 1#1) (h2 : k0_cond2 i = 1#1) (h3 : k0_cond3 i = 1#1) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14) ⊢
      wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => (iprop(pt c arg2 f2 ∗ pt c arg3 f3 ∗ pt c arg4 f4 ∗ pt c arg5 f5 ∗ pt c arg6 f6 ∗ pt c arg7 f7 ∗ pt c arg8 f8 ∗ (∃ f, pt c arg9 f) ∗ (∃ f, pt c arg10 f) ∗ (∃ f, pt c arg11 f) ∗ (∃ f, pt c arg12 f) ∗ (∃ f, pt c arg13 f) ∗ (∃ f, pt c arg14 f)) : sProp 𝕄)) := by
  iintro ⟨H2, H3, H4, H5, H6, H7, H8, H9, H10, H11, H12, H13, H14⟩
  sl_exec_parts!
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _
    iexact H9
  isplitl [H10]
  · iexists _
    iexact H10
  isplitl [H11]
  · iexists _
    iexact H11
  isplitl [H12]
  · iexists _
    iexact H12
  isplitl [H13]
  · iexists _
    iexact H13
  · iexists _
    iexact H14

end Cert.KernelIdeal.Attn

end
-- ==== Proof.Attn.Run.lean ====
/- The launch of the attention gradient: every run terminates and leaves the arguments as they were. -/
module

public import proofs.«01_k».proof.Proof.Attn.Body

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligationLoose)

variable (m : (ℓ : Loc nD τ sig) → Buf (Elt F) ℓ) (ρ : Dev nD → PrngReg)

/-- A point is the first of its row of tiles, or an even one, or an odd one, or the last. -/
theorem cases_row : ∀ i : grid0.Coords,
    ((Scalar.cmpi .ne (Scalar.extui (Scalar.cmpi .eq (BitVec.ofNat 32 (i 1).val) 0#32) : BitVec 32) 0#32) = 1#1 ∧ ¬ k0_cond2 i = 1#1 ∧ ¬ k0_cond3 i = 1#1)
    ∨ (¬ (Scalar.cmpi .ne (Scalar.extui (Scalar.cmpi .eq (BitVec.ofNat 32 (i 1).val) 0#32) : BitVec 32) 0#32) = 1#1 ∧ ¬ k0_cond2 i = 1#1 ∧ ¬ k0_cond3 i = 1#1)
    ∨ (¬ (Scalar.cmpi .ne (Scalar.extui (Scalar.cmpi .eq (BitVec.ofNat 32 (i 1).val) 0#32) : BitVec 32) 0#32) = 1#1 ∧ k0_cond2 i = 1#1 ∧ ¬ k0_cond3 i = 1#1)
    ∨ (¬ (Scalar.cmpi .ne (Scalar.extui (Scalar.cmpi .eq (BitVec.ofNat 32 (i 1).val) 0#32) : BitVec 32) 0#32) = 1#1 ∧ k0_cond2 i = 1#1 ∧ k0_cond3 i = 1#1) := by decide +kernel

/-- The body, at any point. -/
theorem body_run (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14) ⊢
      wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => (iprop(pt c arg2 f2 ∗ pt c arg3 f3 ∗ pt c arg4 f4 ∗ pt c arg5 f5 ∗ pt c arg6 f6 ∗ pt c arg7 f7 ∗ pt c arg8 f8 ∗ (∃ f, pt c arg9 f) ∗ (∃ f, pt c arg10 f) ∗ (∃ f, pt c arg11 f) ∗ (∃ f, pt c arg12 f) ∗ (∃ f, pt c arg13 f) ∗ (∃ f, pt c arg14 f)) : sProp 𝕄)) := by
  rcases cases_row i with ⟨h1, h2, h3⟩ | ⟨h1, h2, h3⟩ | ⟨h1, h2, h3⟩ | ⟨h1, h2, h3⟩
  · exact body_first c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 h1 h2 h3
  · exact body_even c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 h1 h2 h3
  · exact body_odd c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 h1 h2 h3
  · exact body_last c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 h1 h2 h3

theorem owns_of (c : Dev nD) {sp : Space} {S : Shape} {e : EltTy} (M : Memref sig .tc sp S e) (h : M.IsWhole) (x : S.Idx → Elt F e) :
    (owns (c : Thread nD τ) M fullShare x : sProp 𝕄) = iprop(∃ f : Bf (F := F) c M, ⌜M.view.read (Elt F) f = x⌝ ∗ pt c M f) := by
  unfold owns
  rw [h.set_eq_univ]

/-- The body at any point, as the pipeline calls it. -/
theorem sound_kernel (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (x2 : Vec F S512x256 .bf16) (x3 : Vec F S4096x256 .bf16) (x4 : Vec F S4096x256 .bf16) (x5 : Vec F S512x256 .bf16) (x6 : Vec F S512x256 .bf16) (x7 : Vec F S512x256 .f32) (x8 : Vec F S512x256 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X)
        ∗ (∃ f, pt c arg13 f) ∗ (∃ f, pt c arg14 f)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ f, pt c arg13 f) ∗ (∃ f, pt c arg14 f)) -∗ K ⟨⟩)) ⊢
      wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14) K := by
  simp only [owns_of c arg2 harg2, owns_of c arg3 harg3, owns_of c arg4 harg4, owns_of c arg5 harg5, owns_of c arg6 harg6, owns_of c arg7 harg7, owns_of c arg8 harg8, owns_of c arg9 harg9, owns_of c arg10 harg10, owns_of c arg11 harg11, owns_of c arg12 harg12]
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, H13⟩, ⟨%f14, H14⟩, Hk⟩
  iapply (wp_wand_r)
  isplitl [H2 H3 H4 H5 H6 H7 H8 H9 H10 H11 H12 H13 H14]
  · iapply (body_run c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_ ⟨H2, H3, H4, H5, H6, H7, H8, ⟨%e9, H9⟩, ⟨%e10, H10⟩, ⟨%e11, H11⟩, ⟨%e12, H12⟩, H13, H14⟩
    iapply Hk
    isplitl [H2]
    · iexists f2
      isplitr
      · ipureintro; exact hf2
      · iexact H2
    isplitl [H3]
    · iexists f3
      isplitr
      · ipureintro; exact hf3
      · iexact H3
    isplitl [H4]
    · iexists f4
      isplitr
      · ipureintro; exact hf4
      · iexact H4
    isplitl [H5]
    · iexists f5
      isplitr
      · ipureintro; exact hf5
      · iexact H5
    isplitl [H6]
    · iexists f6
      isplitr
      · ipureintro; exact hf6
      · iexact H6
    isplitl [H7]
    · iexists f7
      isplitr
      · ipureintro; exact hf7
      · iexact H7
    isplitl [H8]
    · iexists f8
      isplitr
      · ipureintro; exact hf8
      · iexact H8
    isplitl [H9]
    · iexists _, e9
      isplitr
      · ipureintro; rfl
      · iexact H9
    isplitl [H10]
    · iexists _, e10
      isplitr
      · ipureintro; rfl
      · iexact H10
    isplitl [H11]
    · iexists _, e11
      isplitr
      · ipureintro; rfl
      · iexact H11
    isplitl [H12]
    · iexists _, e12
      isplitr
      · ipureintro; rfl
      · iexact H12
    isplitl [H13]; · iexact H13
    iexact H14

/-- The proof data of the one pipeline on core `c`: every input's buffer holds its block; what the outputs' buffers hold is
    not named; the scratch is any; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed ⟨7, h⟩ t
    | ⟨8, h⟩ => Dat.unnamed ⟨8, h⟩ t
    | ⟨9, h⟩ => Dat.unnamed ⟨9, h⟩ t
    | ⟨10, h⟩ => Dat.unnamed ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

/-- The windows whose contents are not named: the four results. -/
def fgt : Fin cfg0.W → Bool := fun w => decide (7 ≤ w.val)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  iintro ⟨⟨⟨Hs0, Hs1⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hs0]; · iexact Hs0
  isplitl [Hs1]; · iexact Hs1
  iintro ⟨H0, H1, H2, H3, H4, H5, H6, H7, H8, H9, H10, Hs0, Hs1⟩
  isplitl [Hg Hs0 Hs1]
  · isplitl [Hs0 Hs1]
    · isplitl [Hs0]
      · iexact Hs0
      · iexact Hs1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m) (hΦ := fun _ _ => rfl)

/-- Every run terminates, with the two arguments as they were and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨(((dats m 0 c).toRForget_arrAt_iff (fgt := fgt) (w := 6) rfl _ _).mp ((h.1 c).1 6)).trans (((dats m 0 c).arrAt_in 6 rfl _).trans ((A_eq m c 6).trans (V_main_arg0 m c))),
     (((dats m 0 c).toRForget_arrAt_iff (fgt := fgt) (w := 3) rfl _ _).mp ((h.1 c).1 3)).trans (((dats m 0 c).arrAt_in 3 rfl _).trans ((A_eq m c 3).trans (V_main_arg1 m c)))⟩,
    h.2⟩) (run_main_quiescent m ρ)

end Cert.KernelIdeal.Attn

end
-- ==== Proof.Val.Trip.lean ====
/- What one trip of the loop over key blocks makes of the carried sums and of the two gradients, block by block. -/
module

public import proofs.«01_k».proof.Proof.Attn.Res

@[expose] public section

set_option maxRecDepth 16384

noncomputable section

namespace Cert.Val

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section block
variable (v7 v34 : FVec F S512x128 .bf16) (v37 : FVec F S512x512 .f32) (v79 : FVec F S256x256 .bf16) (dq : FVec F S512x128 .f32) (sp g : FVec F S512x1 .f32) (kb vb : Vec F S512x128 .bf16) (old : Vec F S512x128 .f32)

/-- The query gradient after a block of keys. -/
def bDq : FVec F S512x128 .f32 := k0_pay21 v79 dq g kb (k0_pay8 v7 kb) (k0_pay14 v7 v34 v37 v79 sp kb vb) (k0_pay15 v7 v34 v37 v79 sp kb vb) (k0_pay16 v7 v34 v37 v79 sp kb vb)
/-- The running sum of the masked softplus after a block. -/
def bSp : FVec F S512x1 .f32 := k0_pay12 v7 v79 sp kb
/-- The running sum of the weights' gradients after a block. -/
def bG : FVec F S512x1 .f32 := k0_pay19 v79 g (k0_pay14 v7 v34 v37 v79 sp kb vb) (k0_pay16 v7 v34 v37 v79 sp kb vb)
/-- The block's key gradient with this tile's rows added. -/
def bDk : FVec F S512x128 .f32 := k0_pay22 v7 v79 g (k0_pay8 v7 kb) (k0_pay14 v7 v34 v37 v79 sp kb vb) (k0_pay15 v7 v34 v37 v79 sp kb vb) (k0_pay16 v7 v34 v37 v79 sp kb vb) old
/-- The block's value gradient with this tile's rows added. -/
def bDv : FVec F S512x128 .f32 := k0_pay23 v34 (k0_pay13 v7 v37 v79 sp kb) old
end block

/-- The carried sums and the contents of the two gradients' buffers. -/
abbrev St (F : FTy → Type) [FloatOps F] (c : Dev nD) (arg13 arg14 : Memref sig .tc .vmem S4096x256 .f32) : Type :=
  Acc F × Bf (F := F) c arg13 × Bf (F := F) c arg14

/-- A block of a whole buffer. -/
abbrev ld (c : Dev nD) {e : EltTy} (M : Memref sig .tc .vmem S4096x256 e) (f : Bf (F := F) c M) (off : Fin 2 → ℕ) (inb : ∀ a, off a + S512x128.size a ≤ S4096x256.size a) : Vec F S512x128 e :=
  M.view.readAt (Elt F) (Rect.unit (s := S4096x256) off S512x128.size inb).toLoadRect f

/-- One trip: two blocks of 512 keys, each for both heads. -/
def step1 (c : Dev nD) (i : grid0.Coords) (arg3 : Memref sig .tc .vmem S4096x256 .bf16) (arg4 : Memref sig .tc .vmem S4096x256 .bf16) (arg13 : Memref sig .tc .vmem S4096x256 .f32) (arg14 : Memref sig .tc .vmem S4096x256 .f32) (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16)
    (f3 : Bf (F := F) c arg3) (f4 : Bf (F := F) c arg4) (k : Fin (k0_t1_loop i).trips) (s : St F c arg13 arg14) : St F c arg13 arg14 :=
  let K1 := ld c arg3 f3 (k0_off1 i k) (k0_off1_inb i k)
  let V1 := ld c arg4 f4 (k0_off1 i k) (k0_off1_inb i k)
  let K2 := ld c arg3 f3 (k0_off2 i k) (k0_off2_inb i k)
  let V2 := ld c arg4 f4 (k0_off2 i k) (k0_off2_inb i k)
  let K3 := ld c arg3 f3 (k0_off3 i k) (k0_off3_inb i k)
  let V3 := ld c arg4 f4 (k0_off3 i k) (k0_off3_inb i k)
  let K4 := ld c arg3 f3 (k0_off4 i k) (k0_off4_inb i k)
  let V4 := ld c arg4 f4 (k0_off4 i k) (k0_off4_inb i k)
  let a := s.1
  let sp0 := bSp v7 v79 a.2.1 K1
  let g0 := bG v7 v34 v37 v79 a.2.1 a.2.2.1 K1 V1
  let sp1 := bSp v42 v79 a.2.2.2.2.1 K2
  let g1 := bG v42 v69 v72 v79 a.2.2.2.2.1 a.2.2.2.2.2 K2 V2
  ((bDq v7 v34 v37 v79 (bDq v7 v34 v37 v79 a.1 a.2.1 a.2.2.1 K1 V1) sp0 g0 K3 V3, bSp v7 v79 sp0 K3, bG v7 v34 v37 v79 sp0 g0 K3 V3,
    bDq v42 v69 v72 v79 (bDq v42 v69 v72 v79 a.2.2.2.1 a.2.2.2.2.1 a.2.2.2.2.2 K2 V2) sp1 g1 K4 V4, bSp v42 v79 sp1 K4, bG v42 v69 v72 v79 sp1 g1 K4 V4),
   arg13.view.writes (Elt F) s.2.1
    [⟨Rect.unit (s := S4096x256) (k0_off4 i k) S512x128.size (k0_off4_inb i k), bDk v42 v69 v72 v79 sp1 g1 K4 V4 (ld c arg13 s.2.1 (k0_off4 i k) (k0_off4_inb i k))⟩,
     ⟨Rect.unit (s := S4096x256) (k0_off3 i k) S512x128.size (k0_off3_inb i k), bDk v7 v34 v37 v79 sp0 g0 K3 V3 (ld c arg13 s.2.1 (k0_off3 i k) (k0_off3_inb i k))⟩,
     ⟨Rect.unit (s := S4096x256) (k0_off2 i k) S512x128.size (k0_off2_inb i k), bDk v42 v69 v72 v79 a.2.2.2.2.1 a.2.2.2.2.2 K2 V2 (ld c arg13 s.2.1 (k0_off2 i k) (k0_off2_inb i k))⟩,
     ⟨Rect.unit (s := S4096x256) (k0_off1 i k) S512x128.size (k0_off1_inb i k), bDk v7 v34 v37 v79 a.2.1 a.2.2.1 K1 V1 (ld c arg13 s.2.1 (k0_off1 i k) (k0_off1_inb i k))⟩],
   arg14.view.writes (Elt F) s.2.2
    [⟨Rect.unit (s := S4096x256) (k0_off4 i k) S512x128.size (k0_off4_inb i k), bDv v42 v69 v72 v79 sp1 K4 (ld c arg14 s.2.2 (k0_off4 i k) (k0_off4_inb i k))⟩,
     ⟨Rect.unit (s := S4096x256) (k0_off3 i k) S512x128.size (k0_off3_inb i k), bDv v7 v34 v37 v79 sp0 K3 (ld c arg14 s.2.2 (k0_off3 i k) (k0_off3_inb i k))⟩,
     ⟨Rect.unit (s := S4096x256) (k0_off2 i k) S512x128.size (k0_off2_inb i k), bDv v42 v69 v72 v79 a.2.2.2.2.1 K2 (ld c arg14 s.2.2 (k0_off2 i k) (k0_off2_inb i k))⟩,
     ⟨Rect.unit (s := S4096x256) (k0_off1 i k) S512x128.size (k0_off1_inb i k), bDv v7 v34 v37 v79 a.2.1 K1 (ld c arg14 s.2.2 (k0_off1 i k) (k0_off1_inb i k))⟩])

set_option maxHeartbeats 4000000 in
theorem trip1 (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16) (v80 : FVec F S512x1 .f32) (v81 : FVec F S512x128 .f32) (v82 : BitVec 32) (v93 : BitVec 1) (c0_i32_51 : BitVec 32) (v115 : BitVec 32)
    (f3 : Bf (F := F) c arg3) (f4 : Bf (F := F) c arg4) (f13 : Bf (F := F) c arg13) (f14 : Bf (F := F) c arg14)
    (k : Fin (k0_t1_loop i).trips) (acc : Acc F) :
    iprop(pt c arg3 f3 ∗ pt c arg4 f4 ∗ pt c arg13 f13 ∗ pt c arg14 f14) ⊢
      wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 k acc)
        (fun r => (iprop(pt c arg3 f3 ∗ pt c arg4 f4
          ∗ pt c arg13 (step1 c i arg3 arg4 arg13 arg14 v7 v34 v37 v42 v69 v72 v79 f3 f4 k (acc, f13, f14)).2.1
          ∗ pt c arg14 (step1 c i arg3 arg4 arg13 arg14 v7 v34 v37 v42 v69 v72 v79 f3 f4 k (acc, f13, f14)).2.2
          ∗ ⌜r = (step1 c i arg3 arg4 arg13 arg14 v7 v34 v37 v42 v69 v72 v79 f3 f4 k (acc, f13, f14)).1⌝) : sProp 𝕄)) := by
  unfold k0_t1_body
  iintro ⟨H3, H4, H13, H14⟩
  sl_exec_parts!
  sl_step
  isplitl [H3]
  · iexact H3
  isplitl [H4]
  · iexact H4
  isplitl [H13]
  · iexact H13
  isplitl [H14]
  · iexact H14
  · ipureintro
    rfl

/-- The state before trip `k`. -/
def st1 (c : Dev nD) (i : grid0.Coords) (arg3 : Memref sig .tc .vmem S4096x256 .bf16) (arg4 : Memref sig .tc .vmem S4096x256 .bf16) (arg13 : Memref sig .tc .vmem S4096x256 .f32) (arg14 : Memref sig .tc .vmem S4096x256 .f32) (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16)
    (f3 : Bf (F := F) c arg3) (f4 : Bf (F := F) c arg4) (s : St F c arg13 arg14) : ℕ → St F c arg13 arg14
  | 0 => s
  | k + 1 => if h : k < (k0_t1_loop i).trips then step1 c i arg3 arg4 arg13 arg14 v7 v34 v37 v42 v69 v72 v79 f3 f4 ⟨k, h⟩ (st1 c i arg3 arg4 arg13 arg14 v7 v34 v37 v42 v69 v72 v79 f3 f4 s k)
      else st1 c i arg3 arg4 arg13 arg14 v7 v34 v37 v42 v69 v72 v79 f3 f4 s k

theorem st1_succ (c : Dev nD) (i : grid0.Coords) (arg3 : Memref sig .tc .vmem S4096x256 .bf16) (arg4 : Memref sig .tc .vmem S4096x256 .bf16) (arg13 : Memref sig .tc .vmem S4096x256 .f32) (arg14 : Memref sig .tc .vmem S4096x256 .f32) (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16)
    (f3 : Bf (F := F) c arg3) (f4 : Bf (F := F) c arg4) (s : St F c arg13 arg14) (k : Fin (k0_t1_loop i).trips) :
    st1 c i arg3 arg4 arg13 arg14 v7 v34 v37 v42 v69 v72 v79 f3 f4 s (k.val + 1)
      = step1 c i arg3 arg4 arg13 arg14 v7 v34 v37 v42 v69 v72 v79 f3 f4 k (st1 c i arg3 arg4 arg13 arg14 v7 v34 v37 v42 v69 v72 v79 f3 f4 s k.val) :=
  dif_pos k.isLt

@[sl_loop, reducible] def loopInv_k0_t1 (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16) (v80 : FVec F S512x1 .f32) (v81 : FVec F S512x128 .f32) (v82 : BitVec 32) (v93 : BitVec 1) (c0_i32_51 : BitVec 32) (v115 : BitVec 32)
    (f3 : Bf (F := F) c arg3) (f4 : Bf (F := F) c arg4) (f13 : Bf (F := F) c arg13) (f14 : Bf (F := F) c arg14) (init : Acc F) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 init where
  inv := fun k acc => iprop(pt c arg3 f3 ∗ pt c arg4 f4
    ∗ pt c arg13 (st1 c i arg3 arg4 arg13 arg14 v7 v34 v37 v42 v69 v72 v79 f3 f4 (init, f13, f14) k).2.1
    ∗ pt c arg14 (st1 c i arg3 arg4 arg13 arg14 v7 v34 v37 v42 v69 v72 v79 f3 f4 (init, f13, f14) k).2.2
    ∗ ⌜acc = (st1 c i arg3 arg4 arg13 arg14 v7 v34 v37 v42 v69 v72 v79 f3 f4 (init, f13, f14) k).1⌝)
  step := fun k acc => by
    rw [st1_succ]
    iintro ⟨H3, H4, H13, H14, %e⟩
    subst e
    iapply (trip1 c i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 f3 f4 _ _ k _) $$ [H3 H4 H13 H14]
    isplitl [H3]
    · iexact H3
    isplitl [H4]
    · iexact H4
    isplitl [H13]
    · iexact H13
    · iexact H14

@[sl_loop, reducible] def loopInv_k0_t2 (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16) (v80 : FVec F S512x1 .f32) (v81 : FVec F S512x128 .f32) (v82 : BitVec 32) (v93 : BitVec 1) (c0_i32_51 : BitVec 32) (v115 : BitVec 32)
    (f3 : Bf (F := F) c arg3) (f4 : Bf (F := F) c arg4) (f13 : Bf (F := F) c arg13) (f14 : Bf (F := F) c arg14) (init : Acc F) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 init where
  inv := fun k acc => iprop(pt c arg3 f3 ∗ pt c arg4 f4 ∗ pt c arg13 f13 ∗ pt c arg14 f14 ∗ ⌜acc = init⌝)
  step := fun k acc => absurd k.isLt (by have := trips2 i; change ¬ k.val < (k0_t2_loop i).trips; omega)

end Cert.Val

end
-- ==== Proof.Val.Rep.lean ====
/- Arrays at `Ideal` whose every element is a real number, given by a real function of the coordinates. -/
module

public import proofs.«01_k».proof.Proof.Gen.KernelIdeal
public import Idealize.ShloMosaic.Lib.Pointwise

@[expose] public section

set_option maxRecDepth 16384

noncomputable section

namespace Cert.Val

open Idealize.ShloMosaic

/-- Every element of the matrix `v` is the real number that `f` gives at its row and column. -/
def Rep {m n : ℕ} (v : (⟨2, ![m, n]⟩ : Shape).Idx → EReal) (f : ℕ → ℕ → ℝ) : Prop :=
  ∀ (a : Fin m) (b : Fin n), v (ix2 a b) = ((f a b : ℝ) : EReal)

/-- The bit matrix `v` is one exactly where `p` holds. -/
def RepP {m n : ℕ} (v : (⟨2, ![m, n]⟩ : Shape).Idx → BitVec 1) (p : ℕ → ℕ → Prop) : Prop :=
  ∀ (a : Fin m) (b : Fin n), v (ix2 a b) = 1#1 ↔ p a b

theorem sum_coe {K : ℕ} (f : ℕ → ℝ) : ∑ k : Fin K, ((f k : ℝ) : EReal) = ((∑ k ∈ Finset.range K, f k : ℝ) : EReal) := by
  induction K with
  | zero => simp
  | succ K ih => rw [Fin.sum_univ_castSucc, Finset.sum_range_succ, EReal.coe_add, ← ih]; simp

theorem exp_coe (x : ℝ) : Ideal.exp (x : EReal) = ((Real.exp x : ℝ) : EReal) := rfl

theorem log_coe {x : ℝ} (h : 0 < x) : Ideal.log (x : EReal) = ((Real.log x : ℝ) : EReal) := by
  change (if x ≤ 0 then (⊥ : EReal) else (Real.log x : EReal)) = _
  rw [if_neg (not_le.2 h)]

theorem div_coe {x y : ℝ} (h : 0 < y) : Ideal.div (x : EReal) (y : EReal) = ((x / y : ℝ) : EReal) := by
  have hy : (y : EReal) ≠ 0 := by exact_mod_cast h.ne'
  simp [Ideal.div, hy, div_eq_mul_inv, EReal.coe_mul, EReal.coe_inv]

section ops
variable {m n : ℕ} {φ : FTy}

theorem Rep.congr {v : FVec Ideal ⟨2, ![m, n]⟩ φ} {f g : ℕ → ℕ → ℝ} (h : Rep v f)
    (e : ∀ a b, a < m → b < n → f a b = g a b) : Rep v g :=
  fun a b => by rw [h a b, e a b a.2 b.2]

theorem rep_add {x y : FVec Ideal ⟨2, ![m, n]⟩ φ} {f g : ℕ → ℕ → ℝ} (hx : Rep x f) (hy : Rep y g) :
    Rep (addf x y) (fun a b => f a b + g a b) := fun a b => by
  change x (ix2 a b) + y (ix2 a b) = _
  rw [hx, hy, EReal.coe_add]

theorem rep_sub {x y : FVec Ideal ⟨2, ![m, n]⟩ φ} {f g : ℕ → ℕ → ℝ} (hx : Rep x f) (hy : Rep y g) :
    Rep (subf x y) (fun a b => f a b - g a b) := fun a b => by
  change x (ix2 a b) - y (ix2 a b) = _
  rw [hx, hy, EReal.coe_sub]

theorem rep_mul {x y : FVec Ideal ⟨2, ![m, n]⟩ φ} {f g : ℕ → ℕ → ℝ} (hx : Rep x f) (hy : Rep y g) :
    Rep (mulf x y) (fun a b => f a b * g a b) := fun a b => by
  change x (ix2 a b) * y (ix2 a b) = _
  rw [hx, hy, EReal.coe_mul]

theorem rep_div {x y : FVec Ideal ⟨2, ![m, n]⟩ φ} {f g : ℕ → ℕ → ℝ} (hx : Rep x f) (hy : Rep y g) (h : ∀ a b, 0 < g a b) :
    Rep (divf x y) (fun a b => f a b / g a b) := fun a b => by
  change Ideal.div (x (ix2 a b)) (y (ix2 a b)) = _
  rw [hx, hy, div_coe (h _ _)]

theorem rep_max {x y : FVec Ideal ⟨2, ![m, n]⟩ φ} {f g : ℕ → ℕ → ℝ} (hx : Rep x f) (hy : Rep y g) :
    Rep (maximumf x y) (fun a b => max (f a b) (g a b)) := fun a b => by
  change max (x (ix2 a b)) (y (ix2 a b)) = _
  rw [hx, hy]
  exact (EReal.coe_strictMono.monotone.map_max).symm

theorem rep_abs {x : FVec Ideal ⟨2, ![m, n]⟩ φ} {f : ℕ → ℕ → ℝ} (hx : Rep x f) :
    Rep (absf x) (fun a b => |f a b|) := fun a b => by
  change max (x (ix2 a b)) (-(x (ix2 a b))) = _
  rw [hx, ← EReal.coe_neg]
  exact (EReal.coe_strictMono.monotone.map_max).symm

theorem rep_exp {x : FVec Ideal ⟨2, ![m, n]⟩ φ} {f : ℕ → ℕ → ℝ} (hx : Rep x f) :
    Rep (exp x) (fun a b => Real.exp (f a b)) := fun a b => by
  change Ideal.exp (x (ix2 a b)) = _
  rw [hx, exp_coe]

theorem rep_log {x : FVec Ideal ⟨2, ![m, n]⟩ φ} {f : ℕ → ℕ → ℝ} (hx : Rep x f) (h : ∀ a b, 0 < f a b) :
    Rep (log x) (fun a b => Real.log (f a b)) := fun a b => by
  change Ideal.log (x (ix2 a b)) = _
  rw [hx, log_coe (h _ _)]

theorem rep_trunc {ψ : FTy} {x : FVec Ideal ⟨2, ![m, n]⟩ φ} {f : ℕ → ℕ → ℝ} (h : ψ.bits < φ.bits) (hx : Rep x f) :
    Rep (truncf ψ x h) f := hx

theorem rep_ext {ψ : FTy} {x : FVec Ideal ⟨2, ![m, n]⟩ φ} {f : ℕ → ℕ → ℝ} (h : φ.bits < ψ.bits) (hx : Rep x f) :
    Rep (extf ψ x h) f := hx

theorem rep_select {c : IVec ⟨2, ![m, n]⟩ 1} {x y : FVec Ideal ⟨2, ![m, n]⟩ φ} {p : ℕ → ℕ → Prop} [∀ a b, Decidable (p a b)]
    {f g : ℕ → ℕ → ℝ} (hc : RepP c p) (hx : Rep x f) (hy : Rep y g) :
    Rep (select c x y) (fun a b => if p a b then f a b else g a b) := fun a b => by
  change (if c (ix2 a b) = 1#1 then x (ix2 a b) else y (ix2 a b)) = _
  by_cases h : p a b
  · rw [if_pos ((hc a b).2 h), hx]; simp only [if_pos h]
  · rw [if_neg (fun e => h ((hc a b).1 e)), hy]; simp only [if_neg h]

theorem rep_slice {m' n' : ℕ} {x : FVec Ideal ⟨2, ![m, n]⟩ φ} {f : ℕ → ℕ → ℝ} {o : Fin 2 → ℕ}
    (h : (⟨2, ![m, n]⟩ : Shape).Slices o ⟨2, ![m', n']⟩) (hx : Rep x f) :
    Rep (extractStridedSlice ⟨2, ![m', n']⟩ o x h) (fun a b => f (o 0 + a) (o 1 + b)) := fun a b => by
  have h0 : o 0 + m' ≤ m := h.2 0
  have h1 : o 1 + n' ≤ n := h.2 1
  have e := extractStridedSlice_apply o x h (ix2 a b) (ix2 ⟨o 0 + a, by omega⟩ ⟨o 1 + b, by omega⟩) (fun c => by fin_cases c <;> rfl)
  rw [e, hx]

theorem rep_shapeCast {x : FVec Ideal ⟨2, ![m, n]⟩ φ} {f : ℕ → ℕ → ℝ}
    (h : (⟨2, ![m, n]⟩ : Shape).ShapeCasts ⟨2, ![m, n]⟩) (hx : Rep x f) :
    Rep (shapeCast ⟨2, ![m, n]⟩ x h) f := by
  rw [shapeCast_self]; exact hx

theorem rep_col {x : FVec Ideal ⟨2, ![m, 1]⟩ φ} {f : ℕ → ℕ → ℝ}
    (h : (⟨2, ![m, 1]⟩ : Shape).Broadcasts ⟨2, ![m, n]⟩) (hx : Rep x f) :
    Rep (broadcastTo ⟨2, ![m, n]⟩ x h) (fun a _ => f a 0) := fun a b => by
  have e := broadcastTo_apply x h (ix2 a b) (ix2 a 0) (fun c => by
    fin_cases c
    · change (a : ℕ) = if m = 1 then 0 else (a : ℕ)
      split <;> omega
    · rfl)
  rw [e, hx]; rfl

theorem rep_catCols {n' w : ℕ} {x : FVec Ideal ⟨2, ![m, n]⟩ φ} {y : FVec Ideal ⟨2, ![m, n']⟩ φ} {f g : ℕ → ℕ → ℝ}
    (h : Shape.Concatenates [⟨2, ![m, n]⟩, ⟨2, ![m, n']⟩] ⟨2, ![m, w]⟩ 1) (hx : Rep x f) (hy : Rep y g) :
    Rep (concatenate ⟨2, ![m, w]⟩ 1 [⟨_, x⟩, ⟨_, y⟩] h) (fun a b => if b < n then f a b else g a (b - n)) := fun a b => by
  have hw : n + n' = w := by simpa using h.2.2
  by_cases hb : (b : ℕ) < n
  · have e := concatenate_pair_apply_left (t := ⟨2, ![m, w]⟩) 1 x y h (ix2 a b) rfl (ix2 a ⟨b, hb⟩) (fun c => by fin_cases c <;> rfl)
    rw [e, hx]; simp only [if_pos hb]
  · have e := concatenate_pair_apply_right (t := ⟨2, ![m, w]⟩) 1 x y h (ix2 a b) rfl rfl (ix2 a ⟨b - n, by omega⟩)
      (fun c hc => by fin_cases c <;> first | rfl | exact absurd rfl hc) (by change (b : ℕ) - n + n = b; omega)
    rw [e, hy]; simp only [if_neg hb]

theorem rep_catRows {m' w : ℕ} {x : FVec Ideal ⟨2, ![m, n]⟩ φ} {y : FVec Ideal ⟨2, ![m', n]⟩ φ} {f g : ℕ → ℕ → ℝ}
    (h : Shape.Concatenates [⟨2, ![m, n]⟩, ⟨2, ![m', n]⟩] ⟨2, ![w, n]⟩ 0) (hx : Rep x f) (hy : Rep y g) :
    Rep (concatenate ⟨2, ![w, n]⟩ 0 [⟨_, x⟩, ⟨_, y⟩] h) (fun a b => if a < m then f a b else g (a - m) b) := fun a b => by
  have hw : m + m' = w := by simpa using h.2.2
  by_cases hb : (a : ℕ) < m
  · have e := concatenate_pair_apply_left (t := ⟨2, ![w, n]⟩) 0 x y h (ix2 a b) rfl (ix2 ⟨a, hb⟩ b) (fun c => by fin_cases c <;> rfl)
    rw [e, hx]; simp only [if_pos hb]
  · have e := concatenate_pair_apply_right (t := ⟨2, ![w, n]⟩) 0 x y h (ix2 a b) rfl rfl (ix2 ⟨a - m, by omega⟩ b)
      (fun c hc => by fin_cases c <;> first | rfl | exact absurd rfl hc) (by change (a : ℕ) - m + m = a; omega)
    rw [e, hy]; simp only [if_neg hb]

theorem rep_zero : Rep (broadcast ⟨2, ![m, n]⟩ (Scalar.ofBits (F := Ideal) .f32 0x00000000#32)) (fun _ _ => 0) := fun a b => by
  change Ideal.ofBits .f32 0x00000000#32 = _
  rw [Ideal.ofBits_zero_f32]; rfl

theorem rep_one : Rep (broadcast ⟨2, ![m, n]⟩ (Scalar.ofBits (F := Ideal) .f32 0x3F800000#32)) (fun _ _ => 1) := fun a b => by
  change Ideal.ofBits .f32 0x3F800000#32 = _
  rw [Ideal.ofBits_one_f32]; rfl

end ops

section products

theorem rep_dot_S512x128_S512x128_1_1_0_0 {φ₁ φ₂ : FTy} {x : FVec Ideal Cert.KernelIdeal.S512x128 φ₁} {y : FVec Ideal Cert.KernelIdeal.S512x128 φ₂} {f g : ℕ → ℕ → ℝ} (hx : Rep x f) (hy : Rep y g) :
    Rep (matmul Cert.KernelIdeal.dot_S512x128_S512x128_S512x512_1_1_0_0_n_n none x y (constant Cert.KernelIdeal.S512x512 .f32 0x00000000#32)) (fun a b => ∑ t ∈ Finset.range 128, f a t * g b t) := fun a b => by
  pointwise
  simp only [hx _ _, hy _ _, ← EReal.coe_mul]
  exact sum_coe (K := 128) fun t => f a t * g b t

theorem rep_dot_S512x256_S256x256_1_0_0_1 {φ₁ φ₂ : FTy} {x : FVec Ideal Cert.KernelIdeal.S512x256 φ₁} {y : FVec Ideal Cert.KernelIdeal.S256x256 φ₂} {f g : ℕ → ℕ → ℝ} (hx : Rep x f) (hy : Rep y g) :
    Rep (matmul Cert.KernelIdeal.dot_S512x256_S256x256_S512x256_1_0_0_1_n_n none x y (constant Cert.KernelIdeal.S512x256 .f32 0x00000000#32)) (fun a b => ∑ t ∈ Finset.range 256, f a t * g t b) := fun a b => by
  pointwise
  simp only [hx _ _, hy _ _, ← EReal.coe_mul]
  exact sum_coe (K := 256) fun t => f a t * g t b

theorem rep_dot_S512x512_S512x128_1_0_0_1 {φ₁ φ₂ : FTy} {x : FVec Ideal Cert.KernelIdeal.S512x512 φ₁} {y : FVec Ideal Cert.KernelIdeal.S512x128 φ₂} {f g : ℕ → ℕ → ℝ} (hx : Rep x f) (hy : Rep y g) :
    Rep (matmul Cert.KernelIdeal.dot_S512x512_S512x128_S512x128_1_0_0_1_n_n none x y (constant Cert.KernelIdeal.S512x128 .f32 0x00000000#32)) (fun a b => ∑ t ∈ Finset.range 512, f a t * g t b) := fun a b => by
  pointwise
  simp only [hx _ _, hy _ _, ← EReal.coe_mul]
  exact sum_coe (K := 512) fun t => f a t * g t b

theorem rep_dot_S512x512_S512x128_0_0_1_1 {φ₁ φ₂ : FTy} {x : FVec Ideal Cert.KernelIdeal.S512x512 φ₁} {y : FVec Ideal Cert.KernelIdeal.S512x128 φ₂} {f g : ℕ → ℕ → ℝ} (hx : Rep x f) (hy : Rep y g) :
    Rep (matmul Cert.KernelIdeal.dot_S512x512_S512x128_S512x128_0_0_1_1_n_n none x y (constant Cert.KernelIdeal.S512x128 .f32 0x00000000#32)) (fun a b => ∑ t ∈ Finset.range 512, f t a * g t b) := fun a b => by
  pointwise
  simp only [hx _ _, hy _ _, ← EReal.coe_mul]
  exact sum_coe (K := 512) fun t => f t a * g t b

theorem rep_dot_S256x128_S256x128_1_1_0_0 {φ₁ φ₂ : FTy} {x : FVec Ideal Cert.KernelIdeal.S256x128 φ₁} {y : FVec Ideal Cert.KernelIdeal.S256x128 φ₂} {f g : ℕ → ℕ → ℝ} (hx : Rep x f) (hy : Rep y g) :
    Rep (matmul Cert.KernelIdeal.dot_S256x128_S256x128_S256x256_1_1_0_0_n_n none x y (constant Cert.KernelIdeal.S256x256 .f32 0x00000000#32)) (fun a b => ∑ t ∈ Finset.range 128, f a t * g b t) := fun a b => by
  pointwise
  simp only [hx _ _, hy _ _, ← EReal.coe_mul]
  exact sum_coe (K := 128) fun t => f a t * g b t

theorem rep_dot_S256x256_S256x256_1_0_0_1 {φ₁ φ₂ : FTy} {x : FVec Ideal Cert.KernelIdeal.S256x256 φ₁} {y : FVec Ideal Cert.KernelIdeal.S256x256 φ₂} {f g : ℕ → ℕ → ℝ} (hx : Rep x f) (hy : Rep y g) :
    Rep (matmul Cert.KernelIdeal.dot_S256x256_S256x256_S256x256_1_0_0_1_n_n none x y (constant Cert.KernelIdeal.S256x256 .f32 0x00000000#32)) (fun a b => ∑ t ∈ Finset.range 256, f a t * g t b) := fun a b => by
  pointwise
  simp only [hx _ _, hy _ _, ← EReal.coe_mul]
  exact sum_coe (K := 256) fun t => f a t * g t b

theorem rep_dot_S256x256_S256x128_1_0_0_1 {φ₁ φ₂ : FTy} {x : FVec Ideal Cert.KernelIdeal.S256x256 φ₁} {y : FVec Ideal Cert.KernelIdeal.S256x128 φ₂} {f g : ℕ → ℕ → ℝ} (hx : Rep x f) (hy : Rep y g) :
    Rep (matmul Cert.KernelIdeal.dot_S256x256_S256x128_S256x128_1_0_0_1_n_n none x y (constant Cert.KernelIdeal.S256x128 .f32 0x00000000#32)) (fun a b => ∑ t ∈ Finset.range 256, f a t * g t b) := fun a b => by
  pointwise
  simp only [hx _ _, hy _ _, ← EReal.coe_mul]
  exact sum_coe (K := 256) fun t => f a t * g t b

theorem rep_dot_S256x256_S256x128_0_0_1_1 {φ₁ φ₂ : FTy} {x : FVec Ideal Cert.KernelIdeal.S256x256 φ₁} {y : FVec Ideal Cert.KernelIdeal.S256x128 φ₂} {f g : ℕ → ℕ → ℝ} (hx : Rep x f) (hy : Rep y g) :
    Rep (matmul Cert.KernelIdeal.dot_S256x256_S256x128_S256x128_0_0_1_1_n_n none x y (constant Cert.KernelIdeal.S256x128 .f32 0x00000000#32)) (fun a b => ∑ t ∈ Finset.range 256, f t a * g t b) := fun a b => by
  pointwise
  simp only [hx _ _, hy _ _, ← EReal.coe_mul]
  exact sum_coe (K := 256) fun t => f t a * g t b

theorem rep_dot_S256x128_S512x128_1_1_0_0 {φ₁ φ₂ : FTy} {x : FVec Ideal Cert.KernelIdeal.S256x128 φ₁} {y : FVec Ideal Cert.KernelIdeal.S512x128 φ₂} {f g : ℕ → ℕ → ℝ} (hx : Rep x f) (hy : Rep y g) :
    Rep (matmul Cert.KernelIdeal.dot_S256x128_S512x128_S256x512_1_1_0_0_n_n none x y (constant Cert.KernelIdeal.S256x512 .f32 0x00000000#32)) (fun a b => ∑ t ∈ Finset.range 128, f a t * g b t) := fun a b => by
  pointwise
  simp only [hx _ _, hy _ _, ← EReal.coe_mul]
  exact sum_coe (K := 128) fun t => f a t * g b t

theorem rep_dot_S256x512_S512x128_1_0_0_1 {φ₁ φ₂ : FTy} {x : FVec Ideal Cert.KernelIdeal.S256x512 φ₁} {y : FVec Ideal Cert.KernelIdeal.S512x128 φ₂} {f g : ℕ → ℕ → ℝ} (hx : Rep x f) (hy : Rep y g) :
    Rep (matmul Cert.KernelIdeal.dot_S256x512_S512x128_S256x128_1_0_0_1_n_n none x y (constant Cert.KernelIdeal.S256x128 .f32 0x00000000#32)) (fun a b => ∑ t ∈ Finset.range 512, f a t * g t b) := fun a b => by
  pointwise
  simp only [hx _ _, hy _ _, ← EReal.coe_mul]
  exact sum_coe (K := 512) fun t => f a t * g t b

theorem rep_dot_S256x512_S256x128_0_0_1_1 {φ₁ φ₂ : FTy} {x : FVec Ideal Cert.KernelIdeal.S256x512 φ₁} {y : FVec Ideal Cert.KernelIdeal.S256x128 φ₂} {f g : ℕ → ℕ → ℝ} (hx : Rep x f) (hy : Rep y g) :
    Rep (matmul Cert.KernelIdeal.dot_S256x512_S256x128_S512x128_0_0_1_1_n_n none x y (constant Cert.KernelIdeal.S512x128 .f32 0x00000000#32)) (fun a b => ∑ t ∈ Finset.range 256, f t a * g t b) := fun a b => by
  pointwise
  simp only [hx _ _, hy _ _, ← EReal.coe_mul]
  exact sum_coe (K := 256) fun t => f t a * g t b

end products

end Cert.Val
-- ==== Proof.Val.Head.lean ====
/- One attention head over the real numbers: what the gradient of its stick-breaking weights is, row by row. -/
module

public import Mathlib.Analysis.SpecialFunctions.Log.Basic
public import Mathlib.Algebra.BigOperators.Intervals

@[expose] public section

noncomputable section

namespace Cert.Val

open Finset

/-- `log (1 + exp z)`, spelt so that no exponential of a positive number is taken. -/
def softplus (z : ℝ) : ℝ := max z 0 + Real.log (1 + Real.exp (0 - |z|))

/-- A head: its scaled queries, keys, values, the gradient of its output, and each row's total `softplus`. -/
structure Head where
  Q : ℕ → ℕ → ℝ
  K : ℕ → ℕ → ℝ
  V : ℕ → ℕ → ℝ
  U : ℕ → ℕ → ℝ
  tot : ℕ → ℝ

namespace Head
variable (H : Head)

/-- The logit of row `i` and key `j`. -/
def Z (i j : ℕ) : ℝ := ∑ t ∈ range 128, H.Q i t * H.K j t
/-- What a key before the row takes off the stick, as minus a logarithm. -/
def S (i j : ℕ) : ℝ := if j < i then softplus (H.Z i j) else 0
/-- The logarithm of the fraction of the remaining stick that key `j` takes. -/
def L (i j : ℕ) : ℝ := H.Z i j - softplus (H.Z i j)
/-- The weight of key `j` in row `i`. -/
def A (i j : ℕ) : ℝ := if j < i then Real.exp (H.L i j - (H.tot i - ∑ l ∈ range (j + 1), H.S i l)) else 0
/-- The gradient of the weight's logarithm. -/
def G (i j : ℕ) : ℝ := H.A i j * ∑ t ∈ range 128, H.U i t * H.V j t
/-- The gradient of the logit. -/
def D (i j : ℕ) : ℝ := if j < i then H.G i j - Real.exp (H.L i j) * ∑ l ∈ range (j + 1), H.G i l else 0

theorem S_of_lt {i j : ℕ} (h : j < i) : H.S i j = softplus (H.Z i j) := if_pos h
theorem A_of_lt {i j : ℕ} (h : j < i) : H.A i j = Real.exp (H.L i j - (H.tot i - ∑ l ∈ range (j + 1), H.S i l)) := if_pos h
theorem D_of_lt {i j : ℕ} (h : j < i) : H.D i j = H.G i j - Real.exp (H.L i j) * ∑ l ∈ range (j + 1), H.G i l := if_pos h

end Head

/-- A product with a column of the triangle of ones is a prefix sum. -/
theorem tri_sum (f : ℕ → ℝ) {b : ℕ} (h : b < 256) : ∑ t ∈ range 256, f t * (if t ≤ b then 1 else 0) = ∑ t ∈ range (b + 1), f t := by
  simp only [mul_ite, mul_one, mul_zero]
  rw [← sum_filter]
  refine sum_congr ?_ fun _ _ => rfl
  ext t
  simp only [mem_filter, mem_range]
  omega

/-- A prefix sum, then the terms after it. -/
theorem sum_upto (f : ℕ → ℝ) (J n : ℕ) : ∑ j ∈ range J, f j + ∑ t ∈ range n, f (J + t) = ∑ j ∈ range (J + n), f j :=
  (sum_range_add f J n).symm

theorem sum_upto' (f : ℕ → ℝ) (J n : ℕ) : ∑ t ∈ range n, f (J + t) + ∑ j ∈ range J, f j = ∑ j ∈ range (J + n), f j := by
  rw [add_comm, sum_upto]

end Cert.Val
-- ==== Proof.Val.Block.lean ====
/- One whole block of keys, all before the tile's rows: what the body's values on it are. -/
module

public import proofs.«01_k».proof.Proof.Val.Rep
public import proofs.«01_k».proof.Proof.Val.Head
public import proofs.«01_k».proof.Proof.Gen.KernelIdeal.Skeleton

@[expose] public section

set_option maxRecDepth 16384

noncomputable section

namespace Cert.Val

open Idealize.ShloMosaic Cert.KernelIdeal Cert.KernelIdeal.Gen Finset

theorem rep_softplus {m n : ℕ} {z : FVec Ideal ⟨2, ![m, n]⟩ .f32} {f : ℕ → ℕ → ℝ} (h : Rep z f) :
    Rep (addf (maximumf z (broadcast ⟨2, ![m, n]⟩ (Scalar.ofBits (F := Ideal) .f32 0x00000000#32)))
      (log (addf (broadcast ⟨2, ![m, n]⟩ (Scalar.ofBits (F := Ideal) .f32 0x3F800000#32))
        (exp (subf (broadcast ⟨2, ![m, n]⟩ (Scalar.ofBits (F := Ideal) .f32 0x00000000#32)) (absf z))))))
      (fun a b => softplus (f a b)) :=
  rep_add (rep_max h rep_zero) (rep_log (rep_add rep_one (rep_exp (rep_sub rep_zero (rep_abs h)))) fun a b => by positivity)

section block
variable (H : Head) (R J : ℕ) (hJ : J + 512 ≤ R)
  {v7 v34 : FVec Ideal S512x128 .bf16} {v37 : FVec Ideal S512x512 .f32} {v79 : FVec Ideal S256x256 .bf16}
  {sp g : FVec Ideal S512x1 .f32} {dq : FVec Ideal S512x128 .f32} {kb vb : Vec Ideal S512x128 .bf16}
  (hq : Rep v7 fun r t => H.Q (R + r) t) (hu : Rep v34 fun r t => H.U (R + r) t) (ht : Rep v37 fun r _ => H.tot (R + r))
  (hm : Rep v79 fun r c => if r ≤ c then 1 else 0)
  (hsp : Rep sp fun r _ => ∑ j ∈ range J, H.S (R + r) j) (hg : Rep g fun r _ => ∑ j ∈ range J, H.G (R + r) j)
  (hk : Rep kb fun c t => H.K (J + c) t) (hv : Rep vb fun c t => H.V (J + c) t)

include hq hk

theorem rep6 : Rep (k0_pay6 v7 kb) fun r c => H.Z (R + r) (J + c) :=
  rep_dot_S512x128_S512x128_1_1_0_0 hq hk

include hJ

theorem rep7 : Rep (k0_pay7 v7 kb) fun r c => H.S (R + r) (J + c) :=
  (rep_softplus (rep6 H R J hq hk)).congr fun a b _ hb => (H.S_of_lt (by omega)).symm

theorem rep8 : Rep (k0_pay8 v7 kb) fun r c => H.L (R + r) (J + c) :=
  rep_sub (rep6 H R J hq hk) (rep_softplus (rep6 H R J hq hk))

include hm

theorem rep9 : Rep (k0_pay9 v7 v79 kb) fun r c => ∑ t ∈ range (c + 1), H.S (R + r) (J + t) :=
  (rep_dot_S512x256_S256x256_1_0_0_1 (rep_trunc bitsLt_bf16_f32 (rep_slice slices_S512x512_o0_0_S512x256 (rep7 H R J hJ hq hk))) hm).congr
    fun a b _ hb => by simpa using tri_sum (fun t => H.S (R + a) (J + t)) hb

theorem rep11 : Rep (k0_pay11 v7 v79 kb) fun r c => ∑ t ∈ range (c + 1), H.S (R + r) (J + 256 + t) :=
  (rep_dot_S512x256_S256x256_1_0_0_1 (rep_trunc bitsLt_bf16_f32 (rep_slice slices_S512x512_o0_256_S512x256 (rep7 H R J hJ hq hk))) hm).congr
    fun a b _ hb => by simpa [add_assoc] using tri_sum (fun t => H.S (R + a) (J + 256 + t)) hb

include hsp

theorem rep10 : Rep (k0_pay10 v7 v79 sp kb) fun r _ => ∑ j ∈ range (J + 256), H.S (R + r) j :=
  (rep_add hsp (rep_slice slices_S512x256_o0_255_S512x1 (rep9 H R J hJ hq hm hk))).congr fun a b _ hb => by
    obtain rfl : b = 0 := by omega
    simpa using sum_upto (H.S (R + a)) J 256

theorem rep12 : Rep (k0_pay12 v7 v79 sp kb) fun r _ => ∑ j ∈ range (J + 512), H.S (R + r) j :=
  (rep_add (rep10 H R J hJ hq hm hsp hk) (rep_slice slices_S512x256_o0_255_S512x1 (rep11 H R J hJ hq hm hk))).congr fun a b _ hb => by
    obtain rfl : b = 0 := by omega
    simpa [add_assoc] using sum_upto (H.S (R + a)) (J + 256) 256

include ht

theorem rep13 : Rep (k0_pay13 v7 v37 v79 sp kb) fun r c => H.A (R + r) (J + c) :=
  (rep_exp (rep_sub (rep8 H R J hJ hq hk) (rep_sub ht (rep_catCols concatenates_S512x256_S512x256_S512x512_d1
    (rep_add (rep9 H R J hJ hq hm hk) (rep_col broadcasts_S512x1_S512x256 hsp))
    (rep_add (rep11 H R J hJ hq hm hk) (rep_col broadcasts_S512x1_S512x256 (rep10 H R J hJ hq hm hsp hk))))))).congr fun a b _ hb => by
    rw [H.A_of_lt (by omega)]
    congr 3
    split
    · rw [sum_upto', add_assoc]
    · rw [sum_upto', show J + 256 + (b - 256 + 1) = J + b + 1 by omega]

include hu hv

theorem rep14 : Rep (k0_pay14 v7 v34 v37 v79 sp kb vb) fun r c => H.G (R + r) (J + c) :=
  rep_mul (rep13 H R J hJ hq ht hm hsp hk) (rep_dot_S512x128_S512x128_1_1_0_0 hu hv)

theorem rep15 : Rep (k0_pay15 v7 v34 v37 v79 sp kb vb) fun r c => ∑ t ∈ range (c + 1), H.G (R + r) (J + t) :=
  (rep_dot_S512x256_S256x256_1_0_0_1 (rep_trunc bitsLt_bf16_f32 (rep_slice slices_S512x512_o0_0_S512x256 (rep14 H R J hJ hq hu ht hm hsp hk hv))) hm).congr
    fun a b _ hb => by simpa using tri_sum (fun t => H.G (R + a) (J + t)) hb

theorem rep16 : Rep (k0_pay16 v7 v34 v37 v79 sp kb vb) fun r _ => ∑ t ∈ range 256, H.G (R + r) (J + t) :=
  Rep.congr (φ := .f32) (rep_slice slices_S512x256_o0_255_S512x1 (rep15 H R J hJ hq hu ht hm hsp hk hv)) fun a b _ hb => by
    obtain rfl : b = 0 := by omega
    simp

theorem rep18 : Rep (k0_pay18 v79 (k0_pay14 v7 v34 v37 v79 sp kb vb)) fun r c => ∑ t ∈ range (c + 1), H.G (R + r) (J + 256 + t) :=
  (rep_dot_S512x256_S256x256_1_0_0_1 (rep_trunc bitsLt_bf16_f32 (rep_slice slices_S512x512_o0_256_S512x256 (rep14 H R J hJ hq hu ht hm hsp hk hv))) hm).congr
    fun a b _ hb => by simpa [add_assoc] using tri_sum (fun t => H.G (R + a) (J + 256 + t)) hb

include hg

theorem rep17 : Rep (k0_pay17 g (k0_pay16 v7 v34 v37 v79 sp kb vb)) fun r _ => ∑ j ∈ range (J + 256), H.G (R + r) j :=
  (rep_add hg (rep16 H R J hJ hq hu ht hm hsp hk hv)).congr fun a b _ hb => sum_upto (H.G (R + a)) J 256

theorem rep19 : Rep (k0_pay19 v79 g (k0_pay14 v7 v34 v37 v79 sp kb vb) (k0_pay16 v7 v34 v37 v79 sp kb vb)) fun r _ => ∑ j ∈ range (J + 512), H.G (R + r) j :=
  (rep_add (rep17 H R J hJ hq hu ht hm hsp hg hk hv) (rep_slice slices_S512x256_o0_255_S512x1 (rep18 H R J hJ hq hu ht hm hsp hk hv))).congr fun a b _ hb => by
    obtain rfl : b = 0 := by omega
    simpa [add_assoc] using sum_upto (H.G (R + a)) (J + 256) 256

theorem rep20 : Rep (k0_pay20 v79 g (k0_pay8 v7 kb) (k0_pay14 v7 v34 v37 v79 sp kb vb) (k0_pay15 v7 v34 v37 v79 sp kb vb) (k0_pay16 v7 v34 v37 v79 sp kb vb))
    fun r c => H.D (R + r) (J + c) :=
  (rep_trunc bitsLt_bf16_f32 (rep_sub (rep14 H R J hJ hq hu ht hm hsp hk hv) (rep_mul (rep_exp (rep8 H R J hJ hq hk)) (rep_catCols concatenates_S512x256_S512x256_S512x512_d1
    (rep_add (rep15 H R J hJ hq hu ht hm hsp hk hv) (rep_col broadcasts_S512x1_S512x256 hg))
    (rep_add (rep18 H R J hJ hq hu ht hm hsp hk hv) (rep_col broadcasts_S512x1_S512x256 (rep17 H R J hJ hq hu ht hm hsp hg hk hv))))))).congr fun a b _ hb => by
    rw [H.D_of_lt (by omega)]
    congr 2
    split
    · rw [sum_upto', add_assoc]
    · rw [sum_upto', show J + 256 + (b - 256 + 1) = J + b + 1 by omega]

/-- The block's part of the query gradient. -/
theorem rep21 (hdq : Rep dq fun r t => ∑ j ∈ range J, H.D (R + r) j * H.K j t) :
    Rep (k0_pay21 v79 dq g kb (k0_pay8 v7 kb) (k0_pay14 v7 v34 v37 v79 sp kb vb) (k0_pay15 v7 v34 v37 v79 sp kb vb) (k0_pay16 v7 v34 v37 v79 sp kb vb))
      fun r t => ∑ j ∈ range (J + 512), H.D (R + r) j * H.K j t :=
  (rep_add hdq (rep_dot_S512x512_S512x128_1_0_0_1 (rep20 H R J hJ hq hu ht hm hsp hg hk hv) hk)).congr fun a b _ _ =>
    sum_upto (fun j => H.D (R + a) j * H.K j b) J 512

/-- The block's part of the key gradient. -/
theorem rep22 {old : Vec Ideal S512x128 .f32} {f : ℕ → ℕ → ℝ} (ho : Rep old f) :
    Rep (k0_pay22 v7 v79 g (k0_pay8 v7 kb) (k0_pay14 v7 v34 v37 v79 sp kb vb) (k0_pay15 v7 v34 v37 v79 sp kb vb) (k0_pay16 v7 v34 v37 v79 sp kb vb) old)
      fun c t => f c t + ∑ r ∈ range 512, H.D (R + r) (J + c) * H.Q (R + r) t :=
  rep_shapeCast shapeCasts_S512x128_S512x128 (rep_add ho (rep_dot_S512x512_S512x128_0_0_1_1 (rep20 H R J hJ hq hu ht hm hsp hg hk hv) hq))

omit hg hv in
/-- The block's part of the value gradient. -/
theorem rep23 {old : Vec Ideal S512x128 .f32} {f : ℕ → ℕ → ℝ} (ho : Rep old f) :
    Rep (k0_pay23 v34 (k0_pay13 v7 v37 v79 sp kb) old) fun c t => f c t + ∑ r ∈ range 512, H.A (R + r) (J + c) * H.U (R + r) t :=
  rep_shapeCast shapeCasts_S512x128_S512x128 (rep_add ho (rep_dot_S512x512_S512x128_0_0_1_1 (rep_trunc bitsLt_bf16_f32 (rep13 H R J hJ hq ht hm hsp hk)) hu))

end block

end Cert.Val
-- ==== Proof.Val.Diag.lean ====
/- The block of keys at the tile's own rows: what the body's values on it are. -/
module

public import proofs.«01_k».proof.Proof.Val.Block

@[expose] public section

set_option maxRecDepth 16384

noncomputable section

namespace Cert.Val

open Idealize.ShloMosaic Cert.KernelIdeal Cert.KernelIdeal.Gen Finset

theorem slt_ofNat {a b : ℕ} (ha : a < 2 ^ 31) (hb : b < 2 ^ 31) : (BitVec.ofNat 32 a).slt (BitVec.ofNat 32 b) = decide (a < b) := by
  rw [BitVec.slt, BitVec.toInt_eq_toNat_of_lt, BitVec.toInt_eq_toNat_of_lt]
  · simp only [BitVec.toNat_ofNat, Nat.mod_eq_of_lt (show a < 2 ^ 32 by omega), Nat.mod_eq_of_lt (show b < 2 ^ 32 by omega)]
    simp
  · simp only [BitVec.toNat_ofNat]; omega
  · simp only [BitVec.toNat_ofNat]; omega

theorem sle_ofNat {a b : ℕ} (ha : a < 2 ^ 31) (hb : b < 2 ^ 31) : (BitVec.ofNat 32 a).sle (BitVec.ofNat 32 b) = decide (a ≤ b) := by
  rw [BitVec.sle, BitVec.toInt_eq_toNat_of_lt, BitVec.toInt_eq_toNat_of_lt]
  · simp only [BitVec.toNat_ofNat, Nat.mod_eq_of_lt (show a < 2 ^ 32 by omega), Nat.mod_eq_of_lt (show b < 2 ^ 32 by omega)]
    simp
  · simp only [BitVec.toNat_ofNat]; omega
  · simp only [BitVec.toNat_ofNat]; omega

theorem ofBool_eq_one {p : Prop} [Decidable p] : BitVec.ofBool (decide p) = 1#1 ↔ p := by
  by_cases h : p <;> simp [h]

theorem repP197 : RepP k0_pay197 fun r c => r ≤ c := fun a b => by
  pointwise [k0_pay197]
  change BitVec.ofBool ((BitVec.ofNat 32 a).sle (BitVec.ofNat 32 b)) = 1#1 ↔ _
  rw [sle_ofNat (by omega) (by omega), ofBool_eq_one]

theorem repP212 : RepP (k0_pay212) fun r c => c < r := fun a b => by
  pointwise [k0_pay212]
  change BitVec.ofBool ((BitVec.ofNat 32 b).slt (0#32 + BitVec.ofNat 32 a)) = 1#1 ↔ _
  rw [BitVec.zero_add, slt_ofNat (by omega) (by omega), ofBool_eq_one]

theorem repP225 : RepP (k0_pay225 k0_pay224 (iota .tc S256x512 32 [1] iota_S256x512_d1_w32)) fun r c => c < 256 + r := fun a b => by
  pointwise [k0_pay225, k0_pay224]
  change BitVec.ofBool ((BitVec.ofNat 32 b).slt (BitVec.ofNat 32 256 + BitVec.ofNat 32 a)) = 1#1 ↔ _
  rw [← BitVec.ofNat_add, slt_ofNat (by omega) (by omega), ofBool_eq_one]

theorem rep198 : Rep (k0_pay198 (F := Ideal) k0_pay197 (Scalar.ofBits .f32 0x3F800000#32)) fun r c => if r ≤ c then 1 else 0 :=
  rep_select repP197 rep_one rep_zero

section diag
variable (H : Head) (R : ℕ)
  {v7 v34 : FVec Ideal S512x128 .bf16} {v37 : FVec Ideal S512x512 .f32} {v79 : FVec Ideal S256x256 .bf16}
  {sp g : FVec Ideal S512x1 .f32} {dq : FVec Ideal S512x128 .f32}
  (hq : Rep v7 fun r t => H.Q (R + r) t) (hu : Rep v34 fun r t => H.U (R + r) t) (ht : Rep v37 fun r _ => H.tot (R + r))
  (hm : Rep v79 fun r c => if r ≤ c then 1 else 0)
  (hsp : Rep sp fun r _ => ∑ j ∈ range R, H.S (R + r) j) (hg : Rep g fun r _ => ∑ j ∈ range R, H.G (R + r) j)
  (hdq : Rep dq fun r t => ∑ j ∈ range R, H.D (R + r) j * H.K j t)

section upper
variable {kb vb : Vec Ideal S256x128 .bf16} (hk : Rep kb fun c t => H.K (R + c) t) (hv : Rep vb fun c t => H.V (R + c) t)

include hq hk in
theorem rep213 : Rep (k0_pay213 v7 kb) fun r c => H.Z (R + r) (R + c) :=
  (rep_dot_S256x128_S256x128_1_1_0_0 (rep_slice slices_S512x128_o0_0_S256x128 hq) hk).congr fun a b _ _ => by simp [Head.Z]

include hq hk in
theorem rep215 : Rep (k0_pay215 v7 kb) fun r c => H.L (R + r) (R + c) :=
  rep_sub (rep213 H R hq hk) (rep_softplus (rep213 H R hq hk))

include hq hk ht hm hsp in
theorem rep216 : Rep (k0_pay216 v7 v37 v79 sp kb) fun r c => H.A (R + r) (R + c) :=
  Rep.congr (φ := .f32) (rep_select repP212 (rep_exp (rep_sub (rep215 H R hq hk) (rep_sub (rep_slice slices_S512x512_o0_0_S256x256 ht)
    (rep_add (rep_dot_S256x256_S256x256_1_0_0_1 (rep_trunc bitsLt_bf16_f32 (rep_select repP212 (rep_softplus (rep213 H R hq hk)) rep_zero)) hm)
      (rep_col (φ := .f32) broadcasts_S256x1_S256x256 (rep_slice (φ := .f32) slices_S512x1_o0_0_S256x1 hsp)))))) rep_zero) fun a b _ hb => by
    have e : ∀ t, (if t < a then softplus (H.Z (R + a) (R + t)) else 0) = H.S (R + a) (R + t) := fun t => by
      simp only [Head.S, Nat.add_lt_add_iff_left]
    simp only [e, tri_sum (fun t => H.S (R + a) (R + t)) hb, Head.A, Nat.add_lt_add_iff_left]
    simp [sum_upto', add_assoc]

variable {p : IVec S256x256 1} {l al : FVec Ideal S256x256 .f32} (hp : RepP p fun r c => c < r)
  (hl : Rep l fun r c => H.L (R + r) (R + c)) (ha : Rep al fun r c => H.A (R + r) (R + c))

include hu hm hg hv hp hl ha in
theorem rep217 : Rep (k0_pay217 v34 v79 (k0_pay211 g) vb p l al) fun r c => H.D (R + r) (R + c) := by
  have hG : Rep (mulf al (matmul (φ₂ := .bf16) dot_S256x128_S256x128_S256x256_1_1_0_0_n_n none (extractStridedSlice S256x128 ![0, 0] v34 slices_S512x128_o0_0_S256x128) vb (constant S256x256 .f32 0x00000000#32)))
      fun r c => H.G (R + r) (R + c) :=
    Rep.congr (φ := .f32) (rep_mul (φ := .f32) ha (rep_dot_S256x128_S256x128_1_1_0_0 (φ₂ := .bf16) (rep_slice slices_S512x128_o0_0_S256x128 hu) hv)) fun a b _ _ => by simp [Head.G]
  refine Rep.congr (φ := .bf16) (rep_trunc bitsLt_bf16_f32 (rep_select hp (rep_sub hG (rep_mul (rep_exp hl)
    (rep_add (rep_dot_S256x256_S256x256_1_0_0_1 (rep_trunc bitsLt_bf16_f32 hG) hm) (rep_col broadcasts_S256x1_S256x256 (rep_slice slices_S512x1_o0_0_S256x1 hg))))) rep_zero)) fun a b _ hb => ?_
  simp only [tri_sum (fun t => H.G (R + a) (R + t)) hb, Head.D, Nat.add_lt_add_iff_left]
  simp [sum_upto', add_assoc]

include hu hm hg hv hp hl ha hk hdq in
theorem rep218 : Rep (k0_pay218 v34 v79 (k0_pay210 dq) (k0_pay211 g) kb vb p l al) fun r t => ∑ j ∈ range (R + 256), H.D (R + r) j * H.K j t :=
  (rep_add (rep_slice slices_S512x128_o0_0_S256x128 hdq) (rep_dot_S256x256_S256x128_1_0_0_1 (rep217 H R hu hm hg hv hp hl ha) hk)).congr fun a b _ _ => by
    simpa using sum_upto (fun j => H.D (R + a) j * H.K j b) R 256

include hu hm hg hv hp hl ha hq in
theorem rep219 {old : Vec Ideal S256x128 .f32} {f : ℕ → ℕ → ℝ} (ho : Rep old f) :
    Rep (k0_pay219 v7 v34 v79 (k0_pay211 g) vb p l al old) fun c t => f c t + ∑ r ∈ range 256, H.D (R + r) (R + c) * H.Q (R + r) t :=
  Rep.congr (φ := .f32) (rep_shapeCast shapeCasts_S256x128_S256x128 (rep_add ho (rep_dot_S256x256_S256x128_0_0_1_1 (rep217 H R hu hm hg hv hp hl ha) (rep_slice slices_S512x128_o0_0_S256x128 hq))))
    fun a b _ _ => by simp

include hu ha in
theorem rep220 {old : Vec Ideal S256x128 .f32} {f : ℕ → ℕ → ℝ} (ho : Rep old f) :
    Rep (k0_pay220 v34 al old) fun c t => f c t + ∑ r ∈ range 256, H.A (R + r) (R + c) * H.U (R + r) t :=
  Rep.congr (φ := .f32) (rep_shapeCast shapeCasts_S256x128_S256x128 (rep_add ho (rep_dot_S256x256_S256x128_0_0_1_1 (rep_trunc bitsLt_bf16_f32 ha) (rep_slice slices_S512x128_o0_0_S256x128 hu))))
    fun a b _ _ => by simp

end upper

section lower
variable {kb vb : Vec Ideal S512x128 .bf16} (hk : Rep kb fun c t => H.K (R + c) t) (hv : Rep vb fun c t => H.V (R + c) t)
  {x y : IVec S256x512 32} (hp : RepP (k0_pay225 x y) fun r c => c < 256 + r)

include hq hk in
theorem rep226 : Rep (k0_pay226 v7 kb) fun r c => H.Z (R + 256 + r) (R + c) :=
  (rep_dot_S256x128_S512x128_1_1_0_0 (rep_slice slices_S512x128_o256_0_S256x128 hq) hk).congr fun a b _ _ => by simp [Head.Z, add_assoc]

include hq hk in
theorem rep228 : Rep (k0_pay228 v7 kb) fun r c => H.L (R + 256 + r) (R + c) :=
  rep_sub (rep226 H R hq hk) (rep_softplus (rep226 H R hq hk))

include hsp in
theorem rep222 : Rep (k0_pay222 sp) fun r _ => ∑ j ∈ range R, H.S (R + 256 + r) j :=
  Rep.congr (φ := .f32) (rep_slice slices_S512x1_o256_0_S256x1 hsp) fun a b _ _ => by simp [add_assoc]

include hg in
theorem rep223 : Rep (k0_pay223 g) fun r _ => ∑ j ∈ range R, H.G (R + 256 + r) j :=
  Rep.congr (φ := .f32) (rep_slice slices_S512x1_o256_0_S256x1 hg) fun a b _ _ => by simp [add_assoc]

include hq hk ht hm hsp hp in
theorem rep229 : Rep (k0_pay229 v7 v37 v79 (k0_pay222 sp) kb x y) fun r c => H.A (R + 256 + r) (R + c) := by
  have hS : Rep (select (k0_pay225 x y) (k0_pay227 v7 kb) (broadcast S256x512 (Scalar.ofBits (F := Ideal) .f32 0x00000000#32))) fun r c => H.S (R + 256 + r) (R + c) :=
    Rep.congr (φ := .f32) (rep_select hp (rep_softplus (rep226 H R hq hk)) rep_zero) fun a b _ _ => by
      simp only [Head.S, show R + b < R + 256 + a ↔ b < 256 + a by omega]
  have h1 := (rep_dot_S256x256_S256x256_1_0_0_1 (rep_trunc bitsLt_bf16_f32 (rep_slice (φ := .f32) slices_S256x512_o0_0_S256x256 hS)) hm).congr
    (g := fun r c => ∑ t ∈ range (c + 1), H.S (R + 256 + r) (R + t)) fun a b _ hb => by simpa using tri_sum (fun t => H.S (R + 256 + a) (R + t)) hb
  have h2 := (rep_dot_S256x256_S256x256_1_0_0_1 (rep_trunc bitsLt_bf16_f32 (rep_slice (φ := .f32) slices_S256x512_o0_256_S256x256 hS)) hm).congr
    (g := fun r c => ∑ t ∈ range (c + 1), H.S (R + 256 + r) (R + 256 + t)) fun a b _ hb => by simpa [add_assoc] using tri_sum (fun t => H.S (R + 256 + a) (R + 256 + t)) hb
  have h0 := rep222 H R hsp
  refine Rep.congr (φ := .f32) (rep_select hp (rep_exp (rep_sub (rep228 H R hq hk) (rep_sub (rep_slice slices_S512x512_o256_0_S256x512 ht) (rep_catCols concatenates_S256x256_S256x256_S256x512_d1
    (rep_add h1 (rep_col broadcasts_S256x1_S256x256 h0))
    (rep_add h2 (rep_col broadcasts_S256x1_S256x256 (rep_add h0 (rep_slice slices_S256x256_o0_255_S256x1 h1)))))))) rep_zero) fun a b _ hb => ?_
  simp only [Head.A, show R + b < R + 256 + a ↔ b < 256 + a by omega]
  congr 3
  congr 1
  · simp [add_assoc]
  · split
    · rw [sum_upto', ← add_assoc]
    · have e := sum_upto (H.S (R + 256 + a)) R 256
      simp only [Matrix.cons_val_zero, Matrix.cons_val_one, zero_add, add_zero] at *
      rw [e, sum_upto', show R + 256 + (b - 256 + 1) = R + b + 1 by omega]

include hq hk ht hm hsp hp hu hv in
theorem rep230 : Rep (k0_pay230 v7 v34 v37 v79 (k0_pay222 sp) kb vb x y) fun r c => H.G (R + 256 + r) (R + c) :=
  (rep_mul (rep229 H R hq ht hm hsp hk hp) (rep_dot_S256x128_S512x128_1_1_0_0 (rep_slice slices_S512x128_o256_0_S256x128 hu) hv)).congr fun a b _ _ => by
    simp [Head.G, add_assoc]

include hq hk ht hm hsp hp hu hv in
theorem rep231 : Rep (k0_pay231 v7 v34 v37 v79 (k0_pay222 sp) kb vb x y) fun r c => ∑ t ∈ range (c + 1), H.G (R + 256 + r) (R + t) :=
  (rep_dot_S256x256_S256x256_1_0_0_1 (rep_trunc bitsLt_bf16_f32 (rep_slice slices_S256x512_o0_0_S256x256 (rep230 H R hq hu ht hm hsp hk hv hp))) hm).congr
    fun a b _ hb => by simpa using tri_sum (fun t => H.G (R + 256 + a) (R + t)) hb

include hq hk ht hm hsp hp hu hv hg in
theorem rep232 : Rep (k0_pay232 v7 v34 v37 v79 (k0_pay222 sp) (k0_pay223 g) kb vb x y) fun r c => ∑ j ∈ range (R + c + 1), H.G (R + 256 + r) j :=
  (rep_add (rep231 H R hq hu ht hm hsp hk hv hp) (rep_col broadcasts_S256x1_S256x256 (rep223 H R hg))).congr fun a b _ _ => by
    rw [sum_upto', ← add_assoc]

include hq hk ht hm hsp hp hu hv in
theorem rep233 : Rep (k0_pay233 v7 v34 v37 v79 (k0_pay222 sp) kb vb x y) fun r c => ∑ t ∈ range (c + 1), H.G (R + 256 + r) (R + 256 + t) :=
  (rep_dot_S256x256_S256x256_1_0_0_1 (rep_trunc bitsLt_bf16_f32 (rep_slice slices_S256x512_o0_256_S256x256 (rep230 H R hq hu ht hm hsp hk hv hp))) hm).congr
    fun a b _ hb => by simpa [add_assoc] using tri_sum (fun t => H.G (R + 256 + a) (R + 256 + t)) hb

include hq hk ht hm hsp hp hu hv hg in
theorem rep234 : Rep (k0_pay234 v7 v34 v37 v79 (k0_pay222 sp) (k0_pay223 g) kb vb x y) fun r _ => ∑ j ∈ range (R + 256), H.G (R + 256 + r) j :=
  Rep.congr (φ := .f32) (rep_col broadcasts_S256x1_S256x256 (rep_add (rep223 H R hg) (rep_slice slices_S256x256_o0_255_S256x1 (rep231 H R hq hu ht hm hsp hk hv hp)))) fun a b _ _ => by
    simpa using sum_upto (H.G (R + 256 + a)) R 256

variable {p : IVec S256x512 1} {l gl : FVec Ideal S256x512 .f32} {u w s : FVec Ideal S256x256 .f32} (hp' : RepP p fun r c => c < 256 + r)
  (hl : Rep l fun r c => H.L (R + 256 + r) (R + c)) (hgl : Rep gl fun r c => H.G (R + 256 + r) (R + c))
  (h1 : Rep u fun r c => ∑ j ∈ range (R + c + 1), H.G (R + 256 + r) j)
  (h2 : Rep w fun r c => ∑ t ∈ range (c + 1), H.G (R + 256 + r) (R + 256 + t))
  (h3 : Rep s fun r _ => ∑ j ∈ range (R + 256), H.G (R + 256 + r) j)

include hp' hl hgl h1 h2 h3 in
theorem rep235 : Rep (k0_pay235 p l gl u w s) fun r c => H.D (R + 256 + r) (R + c) :=
  Rep.congr (φ := .bf16) (rep_trunc bitsLt_bf16_f32 (rep_select hp' (rep_sub hgl (rep_mul (rep_exp hl) (rep_catCols concatenates_S256x256_S256x256_S256x512_d1 h1 (rep_add h2 h3)))) rep_zero))
    fun a b _ hb => by
      simp only [Head.D, show R + b < R + 256 + a ↔ b < 256 + a by omega]
      congr 3
      split
      · rfl
      · rw [sum_upto', show R + 256 + (b - 256 + 1) = R + b + 1 by omega]

include hp' hl hgl h1 h2 h3 hq in
theorem rep236 {old : Vec Ideal S512x128 .f32} {f : ℕ → ℕ → ℝ} (ho : Rep old f) :
    Rep (k0_pay236 v7 p l gl u w s old) fun c t => f c t + ∑ r ∈ range 256, H.D (R + 256 + r) (R + c) * H.Q (R + 256 + r) t :=
  Rep.congr (φ := .f32) (rep_shapeCast shapeCasts_S512x128_S512x128 (rep_add ho (rep_dot_S256x512_S256x128_0_0_1_1 (rep235 H R hp' hl hgl h1 h2 h3) (rep_slice slices_S512x128_o256_0_S256x128 hq))))
    fun a b _ _ => by simp [add_assoc]

include hu in
theorem rep237 {al : FVec Ideal S256x512 .f32} (ha : Rep al fun r c => H.A (R + 256 + r) (R + c)) {old : Vec Ideal S512x128 .f32} {f : ℕ → ℕ → ℝ} (ho : Rep old f) :
    Rep (k0_pay237 v34 al old) fun c t => f c t + ∑ r ∈ range 256, H.A (R + 256 + r) (R + c) * H.U (R + 256 + r) t :=
  Rep.congr (φ := .f32) (rep_shapeCast shapeCasts_S512x128_S512x128 (rep_add ho (rep_dot_S256x512_S256x128_0_0_1_1 (rep_trunc bitsLt_bf16_f32 ha) (rep_slice slices_S512x128_o256_0_S256x128 hu))))
    fun a b _ _ => by simp [add_assoc]

include hp' hl hgl h1 h2 h3 hk hdq in
/-- The tile's query gradient: a row's terms stop at its own key, so the upper half needs the first half of the block only. -/
theorem rep238 {dq0 : FVec Ideal S256x128 .f32} (h0 : Rep dq0 fun r t => ∑ j ∈ range (R + 256), H.D (R + r) j * H.K j t) :
    Rep (k0_pay238 dq0 (k0_pay221 dq) kb p l gl u w s) fun r t => ∑ j ∈ range (R + 512), H.D (R + r) j * H.K j t :=
  Rep.congr (φ := .f32) (rep_catRows concatenates_S256x128_S256x128_S512x128_d0 h0
    (rep_add (rep_slice slices_S512x128_o256_0_S256x128 hdq) (rep_dot_S256x512_S512x128_1_0_0_1 (rep235 H R hp' hl hgl h1 h2 h3) hk))) fun a b _ _ => by
    split
    · rename_i ha
      rw [← sum_upto (fun j => H.D (R + a) j * H.K j b) (R + 256) 256, sum_eq_zero (s := range 256), add_zero]
      intro t _
      rw [Head.D, if_neg (by omega), zero_mul]
    · have e := sum_upto (fun j => H.D (R + a) j * H.K j b) R 512
      simp only [Matrix.cons_val_zero, Matrix.cons_val_one, zero_add, show 256 + (a - 256) = a by omega, show R + 256 + (a - 256) = R + a by omega]
      exact e

end lower
end diag

end Cert.Val
-- ==== Proof.Val.Pair.lean ====
/- A pair of heads side by side in 256 lanes, and what the body's running sums hold of its gradients. -/
module

public import proofs.«01_k».proof.Proof.Val.Diag
public import proofs.«01_k».proof.Proof.Attn.Res
public import Idealize.ShloMosaic.Lib.WritesUnit
public import Idealize.ShloMosaic.Lib.VecWindow

@[expose] public section

set_option maxRecDepth 16384

noncomputable section

namespace Cert.Val

open Idealize.ShloMosaic Cert.KernelIdeal Cert.KernelIdeal.Gen Finset

/-- Two heads, the second 128 lanes after the first. -/
structure Pair where
  Q : ℕ → ℕ → ℝ
  K : ℕ → ℕ → ℝ
  V : ℕ → ℕ → ℝ
  U : ℕ → ℕ → ℝ
  tot : ℕ → ℕ → ℝ

namespace Pair
variable (P : Pair)

/-- Head `s` of the pair. -/
def head (s : ℕ) : Head where
  Q i t := P.Q i (128 * s + t)
  K i t := P.K i (128 * s + t)
  V i t := P.V i (128 * s + t)
  U i t := P.U i (128 * s + t)
  tot i := P.tot s i

/-- The key gradient at key `j`, lane `l`, from the rows of `I`. -/
def dK (I : Finset ℕ) (j l : ℕ) : ℝ := ∑ i ∈ I, (P.head (l / 128)).D i j * (P.head (l / 128)).Q i (l % 128)
/-- The value gradient at key `j`, lane `l`, from the rows of `I`. -/
def dV (I : Finset ℕ) (j l : ℕ) : ℝ := ∑ i ∈ I, (P.head (l / 128)).A i j * (P.head (l / 128)).U i (l % 128)
/-- The query gradient of row `i`, lane `l`, before its scale, from the keys before `n`. -/
def dQ (n i l : ℕ) : ℝ := ∑ j ∈ range n, (P.head (l / 128)).D i j * (P.head (l / 128)).K j (l % 128)

/-- The 512 rows from `R` on. -/
def rows (R n : ℕ) : Finset ℕ := (range n).map ⟨fun r => R + r, fun _ _ h => Nat.add_left_cancel h⟩

/-- A sum that has the rows before `R` at every key, and the tile's rows at the keys before `b`. -/
def part (f : Finset ℕ → ℕ → ℕ → ℝ) (R b j l : ℕ) : ℝ := f (range R) j l + if j < b then f (rows R 512) j l else 0

theorem dK_rows (R n j l : ℕ) : P.dK (rows R n) j l = ∑ r ∈ range n, (P.head (l / 128)).D (R + r) j * (P.head (l / 128)).Q (R + r) (l % 128) := by
  rw [dK, rows, sum_map]; rfl
theorem dV_rows (R n j l : ℕ) : P.dV (rows R n) j l = ∑ r ∈ range n, (P.head (l / 128)).A (R + r) j * (P.head (l / 128)).U (R + r) (l % 128) := by
  rw [dV, rows, sum_map]; rfl

theorem dK_upto (R n j l : ℕ) : P.dK (range R) j l + P.dK (rows R n) j l = P.dK (range (R + n)) j l := by
  rw [dK_rows]; exact sum_upto (fun i => (P.head (l / 128)).D i j * (P.head (l / 128)).Q i (l % 128)) R n
theorem dV_upto (R n j l : ℕ) : P.dV (range R) j l + P.dV (rows R n) j l = P.dV (range (R + n)) j l := by
  rw [dV_rows]; exact sum_upto (fun i => (P.head (l / 128)).A i j * (P.head (l / 128)).U i (l % 128)) R n

/-- Rows up to the key itself give nothing. -/
theorem dK_eq_zero {I : Finset ℕ} {j : ℕ} (l : ℕ) (h : ∀ i ∈ I, i ≤ j) : P.dK I j l = 0 :=
  sum_eq_zero fun i hi => by rw [Head.D, if_neg (by have := h i hi; omega), zero_mul]
theorem dV_eq_zero {I : Finset ℕ} {j : ℕ} (l : ℕ) (h : ∀ i ∈ I, i ≤ j) : P.dV I j l = 0 :=
  sum_eq_zero fun i hi => by rw [Head.A, if_neg (by have := h i hi; omega), zero_mul]
theorem mem_rows {R n i : ℕ} : i ∈ rows R n ↔ R ≤ i ∧ i < R + n := by
  simp only [rows, mem_map, mem_range]
  constructor
  · rintro ⟨r, h, rfl⟩
    change R ≤ R + r ∧ R + r < R + n
    omega
  · intro h
    exact ⟨i - R, by omega, by change R + (i - R) = i; omega⟩

end Pair

section views
variable {sp : Space} {m n m' n' : ℕ}

/-- A load of a block reads that block. -/
theorem load_bf16 (v : View sig .tc sp ⟨2, ![m, n]⟩ .bf16) (x : v.ty.Contents (Elt Ideal)) {g : ℕ → ℕ → ℝ} {off : Fin 2 → ℕ} {o₀ o₁ : ℕ}
    (inb : ∀ a, off a + (![m', n'] : Fin 2 → ℕ) a ≤ (![m, n] : Fin 2 → ℕ) a) (h : Rep (v.read (Elt Ideal) x) g) (ho : off = ![o₀, o₁]) :
    Rep (m := m') (n := n') (v.readAt (Elt Ideal) (Rect.unit (s := ⟨2, ![m, n]⟩) off ![m', n'] inb).toLoadRect x) fun a b => g (o₀ + a) (o₁ + b) := by
  subst ho
  intro a b
  have e0 : o₀ + m' ≤ m := inb 0
  have e1 : o₁ + n' ≤ n := inb 1
  rw [← h ⟨o₀ + a, by omega⟩ ⟨o₁ + b, by omega⟩]
  change v.read (Elt Ideal) x _ = _
  congr 1
  funext c
  refine Fin.ext ?_
  fin_cases c
  · change o₀ + 1 * (a : ℕ) = o₀ + a; omega
  · change o₁ + 1 * (b : ℕ) = o₁ + b; omega

/-- A load of the whole buffer. -/
theorem loadAll_bf16 (v : View sig .tc sp ⟨2, ![m, n]⟩ .bf16) (x : v.ty.Contents (Elt Ideal)) {g : ℕ → ℕ → ℝ}
    (h : Rep (v.read (Elt Ideal) x) g) {off : Fin 2 → ℕ} (inb : ∀ a, off a + (⟨2, ![m, n]⟩ : Shape).size a ≤ (⟨2, ![m, n]⟩ : Shape).size a) :
    Rep (m := m) (n := n) (v.readAt (Elt Ideal) (Rect.unit off (⟨2, ![m, n]⟩ : Shape).size inb).toLoadRect x) g := by
  rw [View.readAt_full]
  exact h

/-- After a store of a block the block reads the stored values, the rest what it read before. -/
theorem store_bf16 (v : View sig .tc sp ⟨2, ![m, n]⟩ .bf16) (x : v.ty.Contents (Elt Ideal)) {g w : ℕ → ℕ → ℝ} {off : Fin 2 → ℕ} {o₀ o₁ : ℕ}
    (inb : ∀ a, off a + (![m', n'] : Fin 2 → ℕ) a ≤ (![m, n] : Fin 2 → ℕ) a)
    {y : (⟨2, ![m', n']⟩ : Shape).Idx → Elt Ideal .bf16} {L : List (View.Piece (Elt Ideal) (⟨2, ![m, n]⟩ : Shape) .bf16)}
    (h : Rep (v.read (Elt Ideal) (v.writes (Elt Ideal) x L)) g) (hw : Rep y fun a b => w (o₀ + a) (o₁ + b)) (ho : off = ![o₀, o₁]) :
    Rep (v.read (Elt Ideal) (v.writes (Elt Ideal) x (⟨Rect.unit (s := ⟨2, ![m, n]⟩) off ![m', n'] inb, y⟩ :: L)))
      fun a b => if (o₀ ≤ a ∧ a < o₀ + m') ∧ (o₁ ≤ b ∧ b < o₁ + n') then w a b else g a b := by
  intro a b
  by_cases hc : (o₀ ≤ (a : ℕ) ∧ (a : ℕ) < o₀ + m') ∧ (o₁ ≤ (b : ℕ) ∧ (b : ℕ) < o₁ + n')
  · rw [View.read_writes_cons_unit_of_mem (s := ⟨2, ![m, n]⟩) v x inb y L (ix2 a b) (ix2 ⟨a - o₀, by omega⟩ ⟨b - o₁, by omega⟩) ho
      (fun c => by fin_cases c <;> simp [ix2] <;> omega)]
    have e := hw ⟨a - o₀, by omega⟩ ⟨b - o₁, by omega⟩
    simp only [show o₀ + (a - o₀) = a by omega, show o₁ + (b - o₁) = b by omega] at e
    simp only [if_pos hc]
    exact e
  · simp only [if_neg hc]
    by_cases h0 : o₀ ≤ (a : ℕ) ∧ (a : ℕ) < o₀ + m'
    · rw [View.read_writes_cons_unit_of_not_mem (s := ⟨2, ![m, n]⟩) v x inb y L (ix2 a b) ho (1 : Fin 2)
        (by change (b : ℕ) < o₁ ∨ o₁ + n' ≤ b; omega)]
      exact h a b
    · rw [View.read_writes_cons_unit_of_not_mem (s := ⟨2, ![m, n]⟩) v x inb y L (ix2 a b) ho (0 : Fin 2)
        (by change (a : ℕ) < o₀ ∨ o₀ + m' ≤ a; omega)]
      exact h a b

/-- A load of a block reads that block. -/
theorem load_f32 (v : View sig .tc sp ⟨2, ![m, n]⟩ .f32) (x : v.ty.Contents (Elt Ideal)) {g : ℕ → ℕ → ℝ} {off : Fin 2 → ℕ} {o₀ o₁ : ℕ}
    (inb : ∀ a, off a + (![m', n'] : Fin 2 → ℕ) a ≤ (![m, n] : Fin 2 → ℕ) a) (h : Rep (v.read (Elt Ideal) x) g) (ho : off = ![o₀, o₁]) :
    Rep (m := m') (n := n') (v.readAt (Elt Ideal) (Rect.unit (s := ⟨2, ![m, n]⟩) off ![m', n'] inb).toLoadRect x) fun a b => g (o₀ + a) (o₁ + b) := by
  subst ho
  intro a b
  have e0 : o₀ + m' ≤ m := inb 0
  have e1 : o₁ + n' ≤ n := inb 1
  rw [← h ⟨o₀ + a, by omega⟩ ⟨o₁ + b, by omega⟩]
  change v.read (Elt Ideal) x _ = _
  congr 1
  funext c
  refine Fin.ext ?_
  fin_cases c
  · change o₀ + 1 * (a : ℕ) = o₀ + a; omega
  · change o₁ + 1 * (b : ℕ) = o₁ + b; omega

/-- A load of the whole buffer. -/
theorem loadAll_f32 (v : View sig .tc sp ⟨2, ![m, n]⟩ .f32) (x : v.ty.Contents (Elt Ideal)) {g : ℕ → ℕ → ℝ}
    (h : Rep (v.read (Elt Ideal) x) g) {off : Fin 2 → ℕ} (inb : ∀ a, off a + (⟨2, ![m, n]⟩ : Shape).size a ≤ (⟨2, ![m, n]⟩ : Shape).size a) :
    Rep (m := m) (n := n) (v.readAt (Elt Ideal) (Rect.unit off (⟨2, ![m, n]⟩ : Shape).size inb).toLoadRect x) g := by
  rw [View.readAt_full]
  exact h

/-- After a store of a block the block reads the stored values, the rest what it read before. -/
theorem store_f32 (v : View sig .tc sp ⟨2, ![m, n]⟩ .f32) (x : v.ty.Contents (Elt Ideal)) {g w : ℕ → ℕ → ℝ} {off : Fin 2 → ℕ} {o₀ o₁ : ℕ}
    (inb : ∀ a, off a + (![m', n'] : Fin 2 → ℕ) a ≤ (![m, n] : Fin 2 → ℕ) a)
    {y : (⟨2, ![m', n']⟩ : Shape).Idx → Elt Ideal .f32} {L : List (View.Piece (Elt Ideal) (⟨2, ![m, n]⟩ : Shape) .f32)}
    (h : Rep (v.read (Elt Ideal) (v.writes (Elt Ideal) x L)) g) (hw : Rep y fun a b => w (o₀ + a) (o₁ + b)) (ho : off = ![o₀, o₁]) :
    Rep (v.read (Elt Ideal) (v.writes (Elt Ideal) x (⟨Rect.unit (s := ⟨2, ![m, n]⟩) off ![m', n'] inb, y⟩ :: L)))
      fun a b => if (o₀ ≤ a ∧ a < o₀ + m') ∧ (o₁ ≤ b ∧ b < o₁ + n') then w a b else g a b := by
  intro a b
  by_cases hc : (o₀ ≤ (a : ℕ) ∧ (a : ℕ) < o₀ + m') ∧ (o₁ ≤ (b : ℕ) ∧ (b : ℕ) < o₁ + n')
  · rw [View.read_writes_cons_unit_of_mem (s := ⟨2, ![m, n]⟩) v x inb y L (ix2 a b) (ix2 ⟨a - o₀, by omega⟩ ⟨b - o₁, by omega⟩) ho
      (fun c => by fin_cases c <;> simp [ix2] <;> omega)]
    have e := hw ⟨a - o₀, by omega⟩ ⟨b - o₁, by omega⟩
    simp only [show o₀ + (a - o₀) = a by omega, show o₁ + (b - o₁) = b by omega] at e
    simp only [if_pos hc]
    exact e
  · simp only [if_neg hc]
    by_cases h0 : o₀ ≤ (a : ℕ) ∧ (a : ℕ) < o₀ + m'
    · rw [View.read_writes_cons_unit_of_not_mem (s := ⟨2, ![m, n]⟩) v x inb y L (ix2 a b) ho (1 : Fin 2)
        (by change (b : ℕ) < o₁ ∨ o₁ + n' ≤ b; omega)]
      exact h a b
    · rw [View.read_writes_cons_unit_of_not_mem (s := ⟨2, ![m, n]⟩) v x inb y L (ix2 a b) ho (0 : Fin 2)
        (by change (a : ℕ) < o₀ ∨ o₀ + m' ≤ a; omega)]
      exact h a b

end views

end Cert.Val
-- ==== Proof.Val.StepRep.lean ====
/- The loop over key blocks, over real numbers: before trip `k` the sums have the keys before `1024 k`. -/
module

public import proofs.«01_k».proof.Proof.Val.Trip
public import proofs.«01_k».proof.Proof.Val.Pair

@[expose] public section

set_option maxRecDepth 16384

noncomputable section

namespace Cert.Val

open Idealize.ShloMosaic Cert.KernelIdeal Cert.KernelIdeal.Gen Cert.KernelIdeal.Attn Finset

/-- What the body keeps of the tile of rows from `R` on, for both heads, and the triangle of ones. -/
structure Tile (P : Pair) (R : ℕ) (v7 v34 : FVec Ideal S512x128 .bf16) (v37 : FVec Ideal S512x512 .f32)
    (v42 v69 : FVec Ideal S512x128 .bf16) (v72 : FVec Ideal S512x512 .f32) (v79 : FVec Ideal S256x256 .bf16) : Prop where
  q0 : Rep v7 fun r t => (P.head 0).Q (R + r) t
  u0 : Rep v34 fun r t => (P.head 0).U (R + r) t
  t0 : Rep v37 fun r _ => (P.head 0).tot (R + r)
  q1 : Rep v42 fun r t => (P.head 1).Q (R + r) t
  u1 : Rep v69 fun r t => (P.head 1).U (R + r) t
  t1 : Rep v72 fun r _ => (P.head 1).tot (R + r)
  tri : Rep v79 fun r c => if r ≤ c then 1 else 0

/-- The three sums of a head have the keys before `J`. -/
structure Sums (H : Head) (R J : ℕ) (dq : FVec Ideal S512x128 .f32) (sp g : FVec Ideal S512x1 .f32) : Prop where
  dq : Rep dq fun r t => ∑ j ∈ range J, H.D (R + r) j * H.K j t
  sp : Rep sp fun r _ => ∑ j ∈ range J, H.S (R + r) j
  g : Rep g fun r _ => ∑ j ∈ range J, H.G (R + r) j

theorem Sums.block {H : Head} {R J : ℕ} (hJ : J + 512 ≤ R)
    {v7 v34 : FVec Ideal S512x128 .bf16} {v37 : FVec Ideal S512x512 .f32} {v79 : FVec Ideal S256x256 .bf16}
    {sp g : FVec Ideal S512x1 .f32} {dq : FVec Ideal S512x128 .f32} {kb vb : Vec Ideal S512x128 .bf16}
    (hq : Rep v7 fun r t => H.Q (R + r) t) (hu : Rep v34 fun r t => H.U (R + r) t) (ht : Rep v37 fun r _ => H.tot (R + r))
    (hm : Rep v79 fun r c => if r ≤ c then 1 else 0) (h : Sums H R J dq sp g)
    (hk : Rep kb fun c t => H.K (J + c) t) (hv : Rep vb fun c t => H.V (J + c) t) :
    Sums H R (J + 512) (bDq v7 v34 v37 v79 dq sp g kb vb) (bSp v7 v79 sp kb) (bG v7 v34 v37 v79 sp g kb vb) where
  dq := rep21 H R J hJ hq hu ht hm h.sp h.g hk hv h.dq
  sp := rep12 H R J hJ hq hm h.sp hk
  g := rep19 H R J hJ hq hu ht hm h.sp h.g hk hv

variable {P : Pair} {R : ℕ}

theorem bDk_rep {s J : ℕ} (hJ : J + 512 ≤ R)
    {v7 v34 : FVec Ideal S512x128 .bf16} {v37 : FVec Ideal S512x512 .f32} {v79 : FVec Ideal S256x256 .bf16}
    {sp g : FVec Ideal S512x1 .f32} {dq : FVec Ideal S512x128 .f32} {kb vb : Vec Ideal S512x128 .bf16}
    (hq : Rep v7 fun r t => (P.head s).Q (R + r) t) (hu : Rep v34 fun r t => (P.head s).U (R + r) t) (ht : Rep v37 fun r _ => (P.head s).tot (R + r))
    (hm : Rep v79 fun r c => if r ≤ c then 1 else 0) (h : Sums (P.head s) R J dq sp g)
    (hk : Rep kb fun c t => (P.head s).K (J + c) t) (hv : Rep vb fun c t => (P.head s).V (J + c) t)
    {old : Vec Ideal S512x128 .f32} {f : ℕ → ℕ → ℝ} (ho : Rep old fun c t => f (J + c) (128 * s + t)) :
    Rep (bDk v7 v34 v37 v79 sp g kb vb old) fun c t => f (J + c) (128 * s + t) + P.dK (Pair.rows R 512) (J + c) (128 * s + t) :=
  Rep.congr (φ := .f32) (rep22 (P.head s) R J hJ hq hu ht hm h.sp h.g hk hv ho) fun a b _ hb => by
    rw [P.dK_rows, show (128 * s + b) / 128 = s by omega, show (128 * s + b) % 128 = b by omega]

theorem bDv_rep {s J : ℕ} (hJ : J + 512 ≤ R)
    {v7 v34 : FVec Ideal S512x128 .bf16} {v37 : FVec Ideal S512x512 .f32} {v79 : FVec Ideal S256x256 .bf16}
    {sp g : FVec Ideal S512x1 .f32} {dq : FVec Ideal S512x128 .f32} {kb : Vec Ideal S512x128 .bf16}
    (hq : Rep v7 fun r t => (P.head s).Q (R + r) t) (hu : Rep v34 fun r t => (P.head s).U (R + r) t) (ht : Rep v37 fun r _ => (P.head s).tot (R + r))
    (hm : Rep v79 fun r c => if r ≤ c then 1 else 0) (h : Sums (P.head s) R J dq sp g)
    (hk : Rep kb fun c t => (P.head s).K (J + c) t)
    {old : Vec Ideal S512x128 .f32} {f : ℕ → ℕ → ℝ} (ho : Rep old fun c t => f (J + c) (128 * s + t)) :
    Rep (bDv v7 v34 v37 v79 sp kb old) fun c t => f (J + c) (128 * s + t) + P.dV (Pair.rows R 512) (J + c) (128 * s + t) :=
  Rep.congr (φ := .f32) (rep23 (P.head s) R J hJ hq hu ht hm h.sp hk ho) fun a b _ hb => by
    rw [P.dV_rows, show (128 * s + b) / 128 = s by omega, show (128 * s + b) % 128 = b by omega]

/-- Four stores over the blocks of 512 keys at `J` and `J + 512`, both heads. -/
theorem part_trip (f : Finset ℕ → ℕ → ℕ → ℝ) {J j l : ℕ} (hl : l < 256) :
    (if (J + 512 ≤ j ∧ j < J + 512 + 512) ∧ (128 ≤ l ∧ l < 128 + 128) then Pair.part f R J j l + f (Pair.rows R 512) j l
      else if (J + 512 ≤ j ∧ j < J + 512 + 512) ∧ (0 ≤ l ∧ l < 0 + 128) then Pair.part f R J j l + f (Pair.rows R 512) j l
      else if (J ≤ j ∧ j < J + 512) ∧ (128 ≤ l ∧ l < 128 + 128) then Pair.part f R J j l + f (Pair.rows R 512) j l
      else if (J ≤ j ∧ j < J + 512) ∧ (0 ≤ l ∧ l < 0 + 128) then Pair.part f R J j l + f (Pair.rows R 512) j l
      else Pair.part f R J j l) = Pair.part f R (J + 1024) j l := by
  simp only [Pair.part]
  split_ifs <;> first | omega | simp

variable {v7 v34 : FVec Ideal S512x128 .bf16} {v37 : FVec Ideal S512x512 .f32} {v42 v69 : FVec Ideal S512x128 .bf16}
  {v72 : FVec Ideal S512x512 .f32} {v79 : FVec Ideal S256x256 .bf16}

/-- The state when the keys before `J` are done. -/
structure Done (P : Pair) (R J : ℕ) (c : Dev nD) (arg13 arg14 : Memref sig .tc .vmem S4096x256 .f32) (s : St Ideal c arg13 arg14) : Prop where
  s0 : Sums (P.head 0) R J s.1.1 s.1.2.1 s.1.2.2.1
  s1 : Sums (P.head 1) R J s.1.2.2.2.1 s.1.2.2.2.2.1 s.1.2.2.2.2.2
  dk : Rep (arg13.view.read (Elt Ideal) s.2.1) (Pair.part P.dK R J)
  dv : Rep (arg14.view.read (Elt Ideal) s.2.2) (Pair.part P.dV R J)

theorem ld_bf16 (c : Dev nD) (M : Memref sig .tc .vmem S4096x256 .bf16) (f : Bf (F := Ideal) c M) {off : Fin 2 → ℕ} (inb : ∀ a, off a + S512x128.size a ≤ S4096x256.size a)
    {g : ℕ → ℕ → ℝ} {o₀ o₁ : ℕ} (h : Rep (M.view.read (Elt Ideal) f) g) (ho : off = ![o₀, o₁]) :
    Rep (ld c M f off inb) fun a b => g (o₀ + a) (o₁ + b) :=
  load_bf16 (m' := 512) (n' := 128) M.view f inb h ho

theorem ld_f32 (c : Dev nD) (M : Memref sig .tc .vmem S4096x256 .f32) (f : Bf (F := Ideal) c M) {off : Fin 2 → ℕ} (inb : ∀ a, off a + S512x128.size a ≤ S4096x256.size a)
    {g : ℕ → ℕ → ℝ} {o₀ o₁ : ℕ} (h : Rep (M.view.read (Elt Ideal) f) g) (ho : off = ![o₀, o₁]) :
    Rep (ld c M f off inb) fun a b => g (o₀ + a) (o₁ + b) :=
  load_f32 (m' := 512) (n' := 128) M.view f inb h ho

set_option maxHeartbeats 2000000 in
theorem step1_done (T : Tile P R v7 v34 v37 v42 v69 v72 v79) (c : Dev nD) (i : grid0.Coords)
    (arg3 arg4 : Memref sig .tc .vmem S4096x256 .bf16) (arg13 arg14 : Memref sig .tc .vmem S4096x256 .f32)
    (f3 : Bf (F := Ideal) c arg3) (f4 : Bf (F := Ideal) c arg4) (h3 : Rep (arg3.view.read (Elt Ideal) f3) P.K) (h4 : Rep (arg4.view.read (Elt Ideal) f4) P.V)
    (k : Fin (k0_t1_loop i).trips) (hR : 1024 * k.val + 1024 ≤ R) (s : St Ideal c arg13 arg14) (h : Done P R (1024 * k.val) c arg13 arg14 s) :
    Done P R (1024 * k.val + 1024) c arg13 arg14 (step1 c i arg3 arg4 arg13 arg14 v7 v34 v37 v42 v69 v72 v79 f3 f4 k s) := by
  have o1 := off1_eq i k
  have o2 := off2_eq i k
  have o3 := off3_eq i k
  have o4 := off4_eq i k
  have K1 : Rep (ld c arg3 f3 (k0_off1 i k) (k0_off1_inb i k)) fun a t => (P.head 0).K (1024 * k.val + a) t := ld_bf16 c arg3 f3 _ h3 o1
  have V1 : Rep (ld c arg4 f4 (k0_off1 i k) (k0_off1_inb i k)) fun a t => (P.head 0).V (1024 * k.val + a) t := ld_bf16 c arg4 f4 _ h4 o1
  have K2 : Rep (ld c arg3 f3 (k0_off2 i k) (k0_off2_inb i k)) fun a t => (P.head 1).K (1024 * k.val + a) t := ld_bf16 c arg3 f3 _ h3 o2
  have V2 : Rep (ld c arg4 f4 (k0_off2 i k) (k0_off2_inb i k)) fun a t => (P.head 1).V (1024 * k.val + a) t := ld_bf16 c arg4 f4 _ h4 o2
  have K3 : Rep (ld c arg3 f3 (k0_off3 i k) (k0_off3_inb i k)) fun a t => (P.head 0).K (1024 * k.val + 512 + a) t := ld_bf16 c arg3 f3 _ h3 o3
  have V3 : Rep (ld c arg4 f4 (k0_off3 i k) (k0_off3_inb i k)) fun a t => (P.head 0).V (1024 * k.val + 512 + a) t := ld_bf16 c arg4 f4 _ h4 o3
  have K4 : Rep (ld c arg3 f3 (k0_off4 i k) (k0_off4_inb i k)) fun a t => (P.head 1).K (1024 * k.val + 512 + a) t := ld_bf16 c arg3 f3 _ h3 o4
  have V4 : Rep (ld c arg4 f4 (k0_off4 i k) (k0_off4_inb i k)) fun a t => (P.head 1).V (1024 * k.val + 512 + a) t := ld_bf16 c arg4 f4 _ h4 o4
  have a0 := h.s0.block (by omega) T.q0 T.u0 T.t0 T.tri K1 V1
  have a1 := h.s1.block (by omega) T.q1 T.u1 T.t1 T.tri K2 V2
  refine ⟨a0.block (by omega) T.q0 T.u0 T.t0 T.tri K3 V3, a1.block (by omega) T.q1 T.u1 T.t1 T.tri K4 V4, ?_, ?_⟩
  · have old := h.dk
    have L1 := ld_f32 c arg13 s.2.1 (k0_off1_inb i k) old o1
    have L2 := ld_f32 c arg13 s.2.1 (k0_off2_inb i k) old o2
    have L3 := ld_f32 c arg13 s.2.1 (k0_off3_inb i k) old o3
    have L4 := ld_f32 c arg13 s.2.1 (k0_off4_inb i k) old o4
    have W1 := bDk_rep (s := 0) (by omega) T.q0 T.u0 T.t0 T.tri h.s0 K1 V1 L1
    have W2 := bDk_rep (s := 1) (by omega) T.q1 T.u1 T.t1 T.tri h.s1 K2 V2 L2
    have W3 := bDk_rep (s := 0) (by omega) T.q0 T.u0 T.t0 T.tri a0 K3 V3 L3
    have W4 := bDk_rep (s := 1) (by omega) T.q1 T.u1 T.t1 T.tri a1 K4 V4 L4
    let w : ℕ → ℕ → ℝ := fun j l => Pair.part P.dK R (1024 * k.val) j l + P.dK (Pair.rows R 512) j l
    have S1 := store_f32 (m' := 512) (n' := 128) (w := w) arg13.view s.2.1 (L := []) (k0_off1_inb i k) old W1 o1
    have S2 := store_f32 (m' := 512) (n' := 128) (w := w) arg13.view s.2.1 (k0_off2_inb i k) S1 W2 o2
    have S3 := store_f32 (m' := 512) (n' := 128) (w := w) arg13.view s.2.1 (k0_off3_inb i k) S2 W3 o3
    have S4 := store_f32 (m' := 512) (n' := 128) (w := w) arg13.view s.2.1 (k0_off4_inb i k) S3 W4 o4
    exact Rep.congr (φ := .f32) S4 fun a b _ hb => part_trip P.dK hb
  · have old := h.dv
    have L1 := ld_f32 c arg14 s.2.2 (k0_off1_inb i k) old o1
    have L2 := ld_f32 c arg14 s.2.2 (k0_off2_inb i k) old o2
    have L3 := ld_f32 c arg14 s.2.2 (k0_off3_inb i k) old o3
    have L4 := ld_f32 c arg14 s.2.2 (k0_off4_inb i k) old o4
    have W1 := bDv_rep (s := 0) (by omega) T.q0 T.u0 T.t0 T.tri h.s0 K1 L1
    have W2 := bDv_rep (s := 1) (by omega) T.q1 T.u1 T.t1 T.tri h.s1 K2 L2
    have W3 := bDv_rep (s := 0) (by omega) T.q0 T.u0 T.t0 T.tri a0 K3 L3
    have W4 := bDv_rep (s := 1) (by omega) T.q1 T.u1 T.t1 T.tri a1 K4 L4
    let w : ℕ → ℕ → ℝ := fun j l => Pair.part P.dV R (1024 * k.val) j l + P.dV (Pair.rows R 512) j l
    have S1 := store_f32 (m' := 512) (n' := 128) (w := w) arg14.view s.2.2 (L := []) (k0_off1_inb i k) old W1 o1
    have S2 := store_f32 (m' := 512) (n' := 128) (w := w) arg14.view s.2.2 (k0_off2_inb i k) S1 W2 o2
    have S3 := store_f32 (m' := 512) (n' := 128) (w := w) arg14.view s.2.2 (k0_off3_inb i k) S2 W3 o3
    have S4 := store_f32 (m' := 512) (n' := 128) (w := w) arg14.view s.2.2 (k0_off4_inb i k) S3 W4 o4
    exact Rep.congr (φ := .f32) S4 fun a b _ hb => part_trip P.dV hb

theorem st1_done (T : Tile P R v7 v34 v37 v42 v69 v72 v79) (c : Dev nD) (i : grid0.Coords)
    (arg3 arg4 : Memref sig .tc .vmem S4096x256 .bf16) (arg13 arg14 : Memref sig .tc .vmem S4096x256 .f32)
    (f3 : Bf (F := Ideal) c arg3) (f4 : Bf (F := Ideal) c arg4) (h3 : Rep (arg3.view.read (Elt Ideal) f3) P.K) (h4 : Rep (arg4.view.read (Elt Ideal) f4) P.V)
    (s : St Ideal c arg13 arg14) (h : Done P R 0 c arg13 arg14 s) (k : ℕ) (hk : k ≤ (k0_t1_loop i).trips) (hR : 1024 * k ≤ R) :
    Done P R (1024 * k) c arg13 arg14 (st1 c i arg3 arg4 arg13 arg14 v7 v34 v37 v42 v69 v72 v79 f3 f4 s k) := by
  induction k with
  | zero => exact h
  | succ k ih =>
    have e := st1_succ c i arg3 arg4 arg13 arg14 v7 v34 v37 v42 v69 v72 v79 f3 f4 s ⟨k, hk⟩
    change st1 c i arg3 arg4 arg13 arg14 v7 v34 v37 v42 v69 v72 v79 f3 f4 s (k + 1) = _ at e
    rw [e]
    exact step1_done T c i arg3 arg4 arg13 arg14 f3 f4 h3 h4 ⟨k, hk⟩ (by change 1024 * k + 1024 ≤ R; omega) _ (ih (by omega) (by omega))

end Cert.Val
-- ==== Proof.Val.Fin.lean ====
/- What one grid point of the attention gradient leaves behind, as functions of what it finds. -/
module

public import proofs.«01_k».proof.Proof.Val.Trip

@[expose] public section

set_option maxRecDepth 16384

noncomputable section

namespace Cert.Val

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The diagonal block of one head, rows 0 to 255 of the tile, keys 0 to 255 of the block. -/
abbrev loUp (v7 : FVec F S512x128 .bf16) (ka : Vec F S256x128 .bf16) : FVec F S256x256 .f32 := k0_pay215 v7 ka
abbrev alUp (v7 : FVec F S512x128 .bf16) (v37 : FVec F S512x512 .f32) (v79 : FVec F S256x256 .bf16) (sp : FVec F S512x1 .f32) (ka : Vec F S256x128 .bf16) : FVec F S256x256 .f32 := k0_pay216 v7 v37 v79 sp ka

section blocks
variable (v7 v34 : FVec F S512x128 .bf16) (v37 : FVec F S512x512 .f32) (v79 : FVec F S256x256 .bf16)
  (dq : FVec F S512x128 .f32) (sp g : FVec F S512x1 .f32)
  (ka va : Vec F S256x128 .bf16) (kb vb : Vec F S512x128 .bf16)

/-- Rows 0 to 255 of the gradient of q. -/
def uDq : FVec F S256x128 .f32 :=
  k0_pay218 v34 v79 (k0_pay210 dq) (k0_pay211 g) ka va k0_pay212 (loUp v7 ka) (alUp v7 v37 v79 sp ka)
/-- The gradient of k after rows 0 to 255. -/
def uDk (old : Vec F S256x128 .f32) : FVec F S256x128 .f32 :=
  k0_pay219 v7 v34 v79 (k0_pay211 g) va k0_pay212 (loUp v7 ka) (alUp v7 v37 v79 sp ka) old
/-- The gradient of v after rows 0 to 255. -/
def uDv (old : Vec F S256x128 .f32) : FVec F S256x128 .f32 :=
  k0_pay220 v34 (alUp v7 v37 v79 sp ka) old

abbrev col : IVec S256x512 32 := iota .tc S256x512 32 [1] iota_S256x512_d1_w32
abbrev below : IVec S256x512 1 := k0_pay225 k0_pay224 col

/-- The gradient of k after rows 256 to 511. -/
def lDk (old : Vec F S512x128 .f32) : FVec F S512x128 .f32 :=
  k0_pay236 v7 below (k0_pay228 v7 kb) (k0_pay230 v7 v34 v37 v79 (k0_pay222 sp) kb vb k0_pay224 col)
    (k0_pay232 v7 v34 v37 v79 (k0_pay222 sp) (k0_pay223 g) kb vb k0_pay224 col) (k0_pay233 v7 v34 v37 v79 (k0_pay222 sp) kb vb k0_pay224 col)
    (k0_pay234 v7 v34 v37 v79 (k0_pay222 sp) (k0_pay223 g) kb vb k0_pay224 col) old
/-- The gradient of v after rows 256 to 511. -/
def lDv (old : Vec F S512x128 .f32) : FVec F S512x128 .f32 :=
  k0_pay237 v34 (k0_pay229 v7 v37 v79 (k0_pay222 sp) kb k0_pay224 col) old
/-- The gradient of q of the whole tile. -/
def tDq : FVec F S512x128 .f32 :=
  k0_pay238 (uDq v7 v34 v37 v79 dq sp g ka va) (k0_pay221 dq) kb below (k0_pay228 v7 kb) (k0_pay230 v7 v34 v37 v79 (k0_pay222 sp) kb vb k0_pay224 col)
    (k0_pay232 v7 v34 v37 v79 (k0_pay222 sp) (k0_pay223 g) kb vb k0_pay224 col) (k0_pay233 v7 v34 v37 v79 (k0_pay222 sp) kb vb k0_pay224 col)
    (k0_pay234 v7 v34 v37 v79 (k0_pay222 sp) (k0_pay223 g) kb vb k0_pay224 col)
end blocks

/-- What a grid point reads: its place, its blocks and what they hold. -/
structure Env (F : FTy → Type) (c : Dev nD) where
  i : grid0.Coords
  a2 : Memref sig .tc .vmem S512x256 .bf16
  a3 : Memref sig .tc .vmem S4096x256 .bf16
  a4 : Memref sig .tc .vmem S4096x256 .bf16
  a5 : Memref sig .tc .vmem S512x256 .bf16
  a6 : Memref sig .tc .vmem S512x256 .bf16
  a7 : Memref sig .tc .vmem S512x256 .f32
  a8 : Memref sig .tc .vmem S512x256 .bf16
  a9 : Memref sig .tc .vmem S512x256 .bf16
  a10 : Memref sig .tc .vmem S4096x256 .bf16
  a11 : Memref sig .tc .vmem S4096x256 .bf16
  a12 : Memref sig .tc .vmem S512x256 .bf16
  a13 : Memref sig .tc .vmem S4096x256 .f32
  a14 : Memref sig .tc .vmem S4096x256 .f32
  f2 : Bf (F := F) c a2
  f3 : Bf (F := F) c a3
  f4 : Bf (F := F) c a4
  f5 : Bf (F := F) c a5
  f6 : Bf (F := F) c a6
  f7 : Bf (F := F) c a7
  f8 : Bf (F := F) c a8

/-- The columns of one head in a tile of rows. -/
abbrev lt (c : Dev nD) {e : EltTy} (M : Memref sig .tc .vmem S512x256 e) (f : Bf (F := F) c M) (off : Fin 2 → ℕ) (inb : ∀ a, off a + S512x128.size a ≤ S512x256.size a) : Vec F S512x128 e :=
  M.view.readAt (Elt F) (Rect.unit (s := S512x256) off S512x128.size inb).toLoadRect f

namespace Env
variable {c : Dev nD} (e : Env F c)

def v7 : FVec F S512x128 .bf16 := k0_pay183 (lt c e.a2 e.f2 ![0, 0] inb_S512x256_S512x128_0_0)
def v34 : FVec F S512x128 .bf16 := k0_pay188 (lt c e.a5 e.f5 ![0, 0] inb_S512x256_S512x128_0_0) (lt c e.a8 e.f8 ![0, 0] inb_S512x256_S512x128_0_0)
def v37 : FVec F S512x512 .f32 := k0_pay189 (lt c e.a7 e.f7 ![0, 0] inb_S512x256_S512x128_0_0)
def v42 : FVec F S512x128 .bf16 := k0_pay190 (lt c e.a2 e.f2 ![0, 128] inb_S512x256_S512x128_0_128)
def v69 : FVec F S512x128 .bf16 := k0_pay195 (lt c e.a5 e.f5 ![0, 128] inb_S512x256_S512x128_0_128) (lt c e.a8 e.f8 ![0, 128] inb_S512x256_S512x128_0_128)
def v72 : FVec F S512x512 .f32 := k0_pay196 (lt c e.a7 e.f7 ![0, 128] inb_S512x256_S512x128_0_128)
def v79 (_e : Env F c) : FVec F S256x256 .bf16 := k0_pay198 k0_pay197 (Scalar.ofBits .f32 0x3F800000#32)

def zeros : Acc F := (k0_pay200, k0_pay199, k0_pay199, k0_pay200, k0_pay199, k0_pay199)

/-- At the first tile of a pair of heads both sums over rows are set to zero. -/
def zero13 : List (View.Piece (Elt F) S4096x256 .f32) := [⟨Rect.unit (s := S4096x256) ![0, 0] S4096x256.size inb_S4096x256_S4096x256_0_0, k0_pay181 (F := F)⟩]
def zero14 : List (View.Piece (Elt F) S4096x256 .f32) := [⟨Rect.unit (s := S4096x256) ![0, 0] S4096x256.size inb_S4096x256_S4096x256_0_0, k0_pay182 (F := F)⟩]

/-- After the loop over pairs of blocks. -/
def loop (s : St F c e.a13 e.a14) : St F c e.a13 e.a14 :=
  st1 c e.i e.a3 e.a4 e.a13 e.a14 e.v7 e.v34 e.v37 e.v42 e.v69 e.v72 e.v79 e.f3 e.f4 s (k0_t1_loop e.i).trips

/-- The sums after the one block left over at an odd tile, and what it stores. -/
def oddAcc (h : k0_cond2 e.i = 1#1) (s : St F c e.a13 e.a14) : Acc F :=
  (bDq e.v7 e.v34 e.v37 e.v79 s.1.1 s.1.2.1 s.1.2.2.1 (e.a3.view.readAt (Elt F) (Rect.unit (s := S4096x256) (k0_off9 e.i) S512x128.size (k0_off9_inb e.i h)).toLoadRect e.f3) (e.a4.view.readAt (Elt F) (Rect.unit (s := S4096x256) (k0_off9 e.i) S512x128.size (k0_off9_inb e.i h)).toLoadRect e.f4), bSp e.v7 e.v79 s.1.2.1 (e.a3.view.readAt (Elt F) (Rect.unit (s := S4096x256) (k0_off9 e.i) S512x128.size (k0_off9_inb e.i h)).toLoadRect e.f3), bG e.v7 e.v34 e.v37 e.v79 s.1.2.1 s.1.2.2.1 (e.a3.view.readAt (Elt F) (Rect.unit (s := S4096x256) (k0_off9 e.i) S512x128.size (k0_off9_inb e.i h)).toLoadRect e.f3) (e.a4.view.readAt (Elt F) (Rect.unit (s := S4096x256) (k0_off9 e.i) S512x128.size (k0_off9_inb e.i h)).toLoadRect e.f4), bDq e.v42 e.v69 e.v72 e.v79 s.1.2.2.2.1 s.1.2.2.2.2.1 s.1.2.2.2.2.2 (e.a3.view.readAt (Elt F) (Rect.unit (s := S4096x256) (k0_off10 e.i) S512x128.size (k0_off10_inb e.i h)).toLoadRect e.f3) (e.a4.view.readAt (Elt F) (Rect.unit (s := S4096x256) (k0_off10 e.i) S512x128.size (k0_off10_inb e.i h)).toLoadRect e.f4), bSp e.v42 e.v79 s.1.2.2.2.2.1 (e.a3.view.readAt (Elt F) (Rect.unit (s := S4096x256) (k0_off10 e.i) S512x128.size (k0_off10_inb e.i h)).toLoadRect e.f3), bG e.v42 e.v69 e.v72 e.v79 s.1.2.2.2.2.1 s.1.2.2.2.2.2 (e.a3.view.readAt (Elt F) (Rect.unit (s := S4096x256) (k0_off10 e.i) S512x128.size (k0_off10_inb e.i h)).toLoadRect e.f3) (e.a4.view.readAt (Elt F) (Rect.unit (s := S4096x256) (k0_off10 e.i) S512x128.size (k0_off10_inb e.i h)).toLoadRect e.f4))
def odd13 (h : k0_cond2 e.i = 1#1) (s : St F c e.a13 e.a14) : List (View.Piece (Elt F) S4096x256 .f32) :=
  [⟨Rect.unit (s := S4096x256) (k0_off10 e.i) S512x128.size (k0_off10_inb e.i h), bDk e.v42 e.v69 e.v72 e.v79 s.1.2.2.2.2.1 s.1.2.2.2.2.2 (e.a3.view.readAt (Elt F) (Rect.unit (s := S4096x256) (k0_off10 e.i) S512x128.size (k0_off10_inb e.i h)).toLoadRect e.f3) (e.a4.view.readAt (Elt F) (Rect.unit (s := S4096x256) (k0_off10 e.i) S512x128.size (k0_off10_inb e.i h)).toLoadRect e.f4) (e.a13.view.readAt (Elt F) (Rect.unit (s := S4096x256) (k0_off10 e.i) S512x128.size (k0_off10_inb e.i h)).toLoadRect s.2.1)⟩, ⟨Rect.unit (s := S4096x256) (k0_off9 e.i) S512x128.size (k0_off9_inb e.i h), bDk e.v7 e.v34 e.v37 e.v79 s.1.2.1 s.1.2.2.1 (e.a3.view.readAt (Elt F) (Rect.unit (s := S4096x256) (k0_off9 e.i) S512x128.size (k0_off9_inb e.i h)).toLoadRect e.f3) (e.a4.view.readAt (Elt F) (Rect.unit (s := S4096x256) (k0_off9 e.i) S512x128.size (k0_off9_inb e.i h)).toLoadRect e.f4) (e.a13.view.readAt (Elt F) (Rect.unit (s := S4096x256) (k0_off9 e.i) S512x128.size (k0_off9_inb e.i h)).toLoadRect s.2.1)⟩]
def odd14 (h : k0_cond2 e.i = 1#1) (s : St F c e.a13 e.a14) : List (View.Piece (Elt F) S4096x256 .f32) :=
  [⟨Rect.unit (s := S4096x256) (k0_off10 e.i) S512x128.size (k0_off10_inb e.i h), bDv e.v42 e.v69 e.v72 e.v79 s.1.2.2.2.2.1 (e.a3.view.readAt (Elt F) (Rect.unit (s := S4096x256) (k0_off10 e.i) S512x128.size (k0_off10_inb e.i h)).toLoadRect e.f3) (e.a14.view.readAt (Elt F) (Rect.unit (s := S4096x256) (k0_off10 e.i) S512x128.size (k0_off10_inb e.i h)).toLoadRect s.2.2)⟩, ⟨Rect.unit (s := S4096x256) (k0_off9 e.i) S512x128.size (k0_off9_inb e.i h), bDv e.v7 e.v34 e.v37 e.v79 s.1.2.1 (e.a3.view.readAt (Elt F) (Rect.unit (s := S4096x256) (k0_off9 e.i) S512x128.size (k0_off9_inb e.i h)).toLoadRect e.f3) (e.a14.view.readAt (Elt F) (Rect.unit (s := S4096x256) (k0_off9 e.i) S512x128.size (k0_off9_inb e.i h)).toLoadRect s.2.2)⟩]

/-- The diagonal block of head 0 of the pair. -/
def dq0 (a : Acc F) : FVec F S512x128 .f32 :=
  tDq e.v7 e.v34 e.v37 e.v79 a.1 a.2.1 a.2.2.1 (e.a3.view.readAt (Elt F) (Rect.unit (s := S4096x256) (k0_off11 e.i) S256x128.size (k0_off11_inb e.i)).toLoadRect e.f3) (e.a4.view.readAt (Elt F) (Rect.unit (s := S4096x256) (k0_off11 e.i) S256x128.size (k0_off11_inb e.i)).toLoadRect e.f4) (e.a3.view.readAt (Elt F) (Rect.unit (s := S4096x256) (k0_off12 e.i) S512x128.size (k0_off12_inb e.i)).toLoadRect e.f3) (e.a4.view.readAt (Elt F) (Rect.unit (s := S4096x256) (k0_off12 e.i) S512x128.size (k0_off12_inb e.i)).toLoadRect e.f4)
def up13_0 (a : Acc F) (x : Bf (F := F) c e.a13) : View.Piece (Elt F) S4096x256 .f32 :=
  ⟨Rect.unit (s := S4096x256) (k0_off11 e.i) S256x128.size (k0_off11_inb e.i), uDk e.v7 e.v34 e.v37 e.v79 a.2.1 a.2.2.1 (e.a3.view.readAt (Elt F) (Rect.unit (s := S4096x256) (k0_off11 e.i) S256x128.size (k0_off11_inb e.i)).toLoadRect e.f3) (e.a4.view.readAt (Elt F) (Rect.unit (s := S4096x256) (k0_off11 e.i) S256x128.size (k0_off11_inb e.i)).toLoadRect e.f4) (e.a13.view.readAt (Elt F) (Rect.unit (s := S4096x256) (k0_off11 e.i) S256x128.size (k0_off11_inb e.i)).toLoadRect x)⟩
def up14_0 (a : Acc F) (x : Bf (F := F) c e.a14) : View.Piece (Elt F) S4096x256 .f32 :=
  ⟨Rect.unit (s := S4096x256) (k0_off11 e.i) S256x128.size (k0_off11_inb e.i), uDv e.v7 e.v34 e.v37 e.v79 a.2.1 (e.a3.view.readAt (Elt F) (Rect.unit (s := S4096x256) (k0_off11 e.i) S256x128.size (k0_off11_inb e.i)).toLoadRect e.f3) (e.a14.view.readAt (Elt F) (Rect.unit (s := S4096x256) (k0_off11 e.i) S256x128.size (k0_off11_inb e.i)).toLoadRect x)⟩
def low13_0 (a : Acc F) (x : Bf (F := F) c e.a13) : View.Piece (Elt F) S4096x256 .f32 :=
  ⟨Rect.unit (s := S4096x256) (k0_off12 e.i) S512x128.size (k0_off12_inb e.i), lDk e.v7 e.v34 e.v37 e.v79 a.2.1 a.2.2.1 (e.a3.view.readAt (Elt F) (Rect.unit (s := S4096x256) (k0_off12 e.i) S512x128.size (k0_off12_inb e.i)).toLoadRect e.f3) (e.a4.view.readAt (Elt F) (Rect.unit (s := S4096x256) (k0_off12 e.i) S512x128.size (k0_off12_inb e.i)).toLoadRect e.f4) (e.a13.view.readAt (Elt F) (Rect.unit (s := S4096x256) (k0_off12 e.i) S512x128.size (k0_off12_inb e.i)).toLoadRect x)⟩
def low14_0 (a : Acc F) (x : Bf (F := F) c e.a14) : View.Piece (Elt F) S4096x256 .f32 :=
  ⟨Rect.unit (s := S4096x256) (k0_off12 e.i) S512x128.size (k0_off12_inb e.i), lDv e.v7 e.v34 e.v37 e.v79 a.2.1 (e.a3.view.readAt (Elt F) (Rect.unit (s := S4096x256) (k0_off12 e.i) S512x128.size (k0_off12_inb e.i)).toLoadRect e.f3) (e.a14.view.readAt (Elt F) (Rect.unit (s := S4096x256) (k0_off12 e.i) S512x128.size (k0_off12_inb e.i)).toLoadRect x)⟩

/-- The diagonal block of head 1 of the pair. -/
def dq1 (a : Acc F) : FVec F S512x128 .f32 :=
  tDq e.v42 e.v69 e.v72 e.v79 a.2.2.2.1 a.2.2.2.2.1 a.2.2.2.2.2 (e.a3.view.readAt (Elt F) (Rect.unit (s := S4096x256) (k0_off13 e.i) S256x128.size (k0_off13_inb e.i)).toLoadRect e.f3) (e.a4.view.readAt (Elt F) (Rect.unit (s := S4096x256) (k0_off13 e.i) S256x128.size (k0_off13_inb e.i)).toLoadRect e.f4) (e.a3.view.readAt (Elt F) (Rect.unit (s := S4096x256) (k0_off14 e.i) S512x128.size (k0_off14_inb e.i)).toLoadRect e.f3) (e.a4.view.readAt (Elt F) (Rect.unit (s := S4096x256) (k0_off14 e.i) S512x128.size (k0_off14_inb e.i)).toLoadRect e.f4)
def up13_1 (a : Acc F) (x : Bf (F := F) c e.a13) : View.Piece (Elt F) S4096x256 .f32 :=
  ⟨Rect.unit (s := S4096x256) (k0_off13 e.i) S256x128.size (k0_off13_inb e.i), uDk e.v42 e.v69 e.v72 e.v79 a.2.2.2.2.1 a.2.2.2.2.2 (e.a3.view.readAt (Elt F) (Rect.unit (s := S4096x256) (k0_off13 e.i) S256x128.size (k0_off13_inb e.i)).toLoadRect e.f3) (e.a4.view.readAt (Elt F) (Rect.unit (s := S4096x256) (k0_off13 e.i) S256x128.size (k0_off13_inb e.i)).toLoadRect e.f4) (e.a13.view.readAt (Elt F) (Rect.unit (s := S4096x256) (k0_off13 e.i) S256x128.size (k0_off13_inb e.i)).toLoadRect x)⟩
def up14_1 (a : Acc F) (x : Bf (F := F) c e.a14) : View.Piece (Elt F) S4096x256 .f32 :=
  ⟨Rect.unit (s := S4096x256) (k0_off13 e.i) S256x128.size (k0_off13_inb e.i), uDv e.v42 e.v69 e.v72 e.v79 a.2.2.2.2.1 (e.a3.view.readAt (Elt F) (Rect.unit (s := S4096x256) (k0_off13 e.i) S256x128.size (k0_off13_inb e.i)).toLoadRect e.f3) (e.a14.view.readAt (Elt F) (Rect.unit (s := S4096x256) (k0_off13 e.i) S256x128.size (k0_off13_inb e.i)).toLoadRect x)⟩
def low13_1 (a : Acc F) (x : Bf (F := F) c e.a13) : View.Piece (Elt F) S4096x256 .f32 :=
  ⟨Rect.unit (s := S4096x256) (k0_off14 e.i) S512x128.size (k0_off14_inb e.i), lDk e.v42 e.v69 e.v72 e.v79 a.2.2.2.2.1 a.2.2.2.2.2 (e.a3.view.readAt (Elt F) (Rect.unit (s := S4096x256) (k0_off14 e.i) S512x128.size (k0_off14_inb e.i)).toLoadRect e.f3) (e.a4.view.readAt (Elt F) (Rect.unit (s := S4096x256) (k0_off14 e.i) S512x128.size (k0_off14_inb e.i)).toLoadRect e.f4) (e.a13.view.readAt (Elt F) (Rect.unit (s := S4096x256) (k0_off14 e.i) S512x128.size (k0_off14_inb e.i)).toLoadRect x)⟩
def low14_1 (a : Acc F) (x : Bf (F := F) c e.a14) : View.Piece (Elt F) S4096x256 .f32 :=
  ⟨Rect.unit (s := S4096x256) (k0_off14 e.i) S512x128.size (k0_off14_inb e.i), lDv e.v42 e.v69 e.v72 e.v79 a.2.2.2.2.1 (e.a3.view.readAt (Elt F) (Rect.unit (s := S4096x256) (k0_off14 e.i) S512x128.size (k0_off14_inb e.i)).toLoadRect e.f3) (e.a14.view.readAt (Elt F) (Rect.unit (s := S4096x256) (k0_off14 e.i) S512x128.size (k0_off14_inb e.i)).toLoadRect x)⟩

/-- The sum over rows for the gradient of k, after the diagonal block: `L` was stored to `b` before it. -/
def a13_1 (a : Acc F) (b : Bf (F := F) c e.a13) (L : List (View.Piece (Elt F) S4096x256 .f32)) : Bf (F := F) c e.a13 := e.a13.view.writes (Elt F) b (e.up13_0 a (e.a13.view.writes (Elt F) b L) :: L)
def a13_2 (a : Acc F) (b : Bf (F := F) c e.a13) (L : List (View.Piece (Elt F) S4096x256 .f32)) : Bf (F := F) c e.a13 := e.a13.view.writes (Elt F) b (e.low13_0 a (e.a13_1 a b L) :: e.up13_0 a (e.a13.view.writes (Elt F) b L) :: L)
def a13_3 (a : Acc F) (b : Bf (F := F) c e.a13) (L : List (View.Piece (Elt F) S4096x256 .f32)) (x : Bf (F := F) c e.a13) : Bf (F := F) c e.a13 := e.a13.view.writes (Elt F) b (e.up13_1 a x :: e.low13_0 a (e.a13_1 a b L) :: e.up13_0 a (e.a13.view.writes (Elt F) b L) :: L)
def end13 (a : Acc F) (b : Bf (F := F) c e.a13) (L : List (View.Piece (Elt F) S4096x256 .f32)) (x : Bf (F := F) c e.a13) : Bf (F := F) c e.a13 := e.a13.view.writes (Elt F) b (e.low13_1 a (e.a13_3 a b L x) :: e.up13_1 a x :: e.low13_0 a (e.a13_1 a b L) :: e.up13_0 a (e.a13.view.writes (Elt F) b L) :: L)

/-- The sum over rows for the gradient of v, after the diagonal block: `L` was stored to `b` before it. -/
def a14_1 (a : Acc F) (b : Bf (F := F) c e.a14) (L : List (View.Piece (Elt F) S4096x256 .f32)) : Bf (F := F) c e.a14 := e.a14.view.writes (Elt F) b (e.up14_0 a (e.a14.view.writes (Elt F) b L) :: L)
def a14_2 (a : Acc F) (b : Bf (F := F) c e.a14) (L : List (View.Piece (Elt F) S4096x256 .f32)) : Bf (F := F) c e.a14 := e.a14.view.writes (Elt F) b (e.low14_0 a (e.a14_1 a b L) :: e.up14_0 a (e.a14.view.writes (Elt F) b L) :: L)
def a14_3 (a : Acc F) (b : Bf (F := F) c e.a14) (L : List (View.Piece (Elt F) S4096x256 .f32)) (x : Bf (F := F) c e.a14) : Bf (F := F) c e.a14 := e.a14.view.writes (Elt F) b (e.up14_1 a x :: e.low14_0 a (e.a14_1 a b L) :: e.up14_0 a (e.a14.view.writes (Elt F) b L) :: L)
def end14 (a : Acc F) (b : Bf (F := F) c e.a14) (L : List (View.Piece (Elt F) S4096x256 .f32)) (x : Bf (F := F) c e.a14) : Bf (F := F) c e.a14 := e.a14.view.writes (Elt F) b (e.low14_1 a (e.a14_3 a b L x) :: e.up14_1 a x :: e.low14_0 a (e.a14_1 a b L) :: e.up14_0 a (e.a14.view.writes (Elt F) b L) :: L)

/-- The tile of the gradient of q. -/
def end9 (a : Acc F) : Bf (F := F) c e.a9 := e.a9.view.writes (Elt F) e.a9.view.junk [⟨Rect.unit (s := S512x256) ![0, 128] S512x128.size inb_S512x256_S512x128_0_128, k0_pay2 (e.dq1 a)⟩, ⟨Rect.unit (s := S512x256) ![0, 0] S512x128.size inb_S512x256_S512x128_0_0, k0_pay2 (e.dq0 a)⟩]
/-- The tile of the gradient of the gate. -/
def end12 : Bf (F := F) c e.a12 := e.a12.view.writes (Elt F) e.a12.view.junk [⟨Rect.unit (s := S512x256) ![0, 128] S512x128.size inb_S512x256_S512x128_0_128, k0_pay194 (lt c e.a5 e.f5 ![0, 128] inb_S512x256_S512x128_0_128) (lt c e.a8 e.f8 ![0, 128] inb_S512x256_S512x128_0_128) (lt c e.a6 e.f6 ![0, 128] inb_S512x256_S512x128_0_128)⟩, ⟨Rect.unit (s := S512x256) ![0, 0] S512x128.size inb_S512x256_S512x128_0_0, k0_pay187 (lt c e.a5 e.f5 ![0, 0] inb_S512x256_S512x128_0_0) (lt c e.a8 e.f8 ![0, 0] inb_S512x256_S512x128_0_0) (lt c e.a6 e.f6 ![0, 0] inb_S512x256_S512x128_0_0)⟩]
/-- The whole gradients of k and of v, at the last tile of a pair of heads. -/
def end10 (x : Bf (F := F) c e.a13) : Bf (F := F) c e.a10 := e.a10.view.writes (Elt F) e.a10.view.junk [⟨Rect.unit (s := S4096x256) ![0, 0] S4096x256.size inb_S4096x256_S4096x256_0_0, k0_pay4 (e.a13.view.readAt (Elt F) (Rect.unit (s := S4096x256) ![0, 0] S4096x256.size inb_S4096x256_S4096x256_0_0).toLoadRect x)⟩]
def end11 (x : Bf (F := F) c e.a14) : Bf (F := F) c e.a11 := e.a11.view.writes (Elt F) e.a11.view.junk [⟨Rect.unit (s := S4096x256) ![0, 0] S4096x256.size inb_S4096x256_S4096x256_0_0, k0_pay5 (e.a14.view.readAt (Elt F) (Rect.unit (s := S4096x256) ![0, 0] S4096x256.size inb_S4096x256_S4096x256_0_0).toLoadRect x)⟩]

end Env

end Cert.Val
-- ==== Proof.Val.Tile.lean ====
/- What a grid point keeps of its tile of rows, over real numbers. -/
module

public import proofs.«01_k».proof.Proof.Val.StepRep
public import proofs.«01_k».proof.Proof.Val.Fin

@[expose] public section

set_option maxRecDepth 16384

noncomputable section

namespace Cert.Val

open Idealize.ShloMosaic Cert.KernelIdeal Cert.KernelIdeal.Gen Cert.KernelIdeal.Attn Finset

/-- The scale of the queries, as it is written. -/
def κ : ℝ := (Ideal.ofBits .f32 0x3DB504F3#32 : EReal).toReal

theorem κ_eq : (Ideal.ofBits .f32 0x3DB504F3#32 : EReal) = ((κ : ℝ) : EReal) := by
  have h : ∃ x : ℝ, (Ideal.ofBits .f32 0x3DB504F3#32 : EReal) = (x : EReal) := by
    simp [Ideal.ofBits, Ideal.ieee, -EReal.coe_mul]
  obtain ⟨x, hx⟩ := h
  rw [κ, hx, EReal.toReal_coe]

/-- The logistic function. -/
def sg (x : ℝ) : ℝ := 1 / (1 + Real.exp (0 - x))

section payloads
variable {m n : ℕ}

theorem rep_κ : Rep (broadcast ⟨2, ![m, n]⟩ (Scalar.ofBits (F := Ideal) .f32 0x3DB504F3#32)) (fun _ _ => κ) := fun a b => by
  change Ideal.ofBits .f32 0x3DB504F3#32 = _
  exact κ_eq

variable {x z dy o : Vec Ideal S512x128 .bf16} {f fz fd fo : ℕ → ℕ → ℝ}

theorem rep183 (h : Rep x f) : Rep (k0_pay183 x) fun a b => f a b * κ := rep_mul (φ := .f32) h rep_κ
theorem rep190 (h : Rep x f) : Rep (k0_pay190 x) fun a b => f a b * κ := rep_mul (φ := .f32) h rep_κ
theorem rep2 {x : FVec Ideal S512x128 .f32} (h : Rep x f) : Rep (k0_pay2 x) fun a b => f a b * κ := rep_mul (φ := .f32) h rep_κ
theorem rep185 (h : Rep x f) : Rep (k0_pay185 x) fun a b => sg (f a b) :=
  rep_div (φ := .f32) rep_one (rep_add rep_one (rep_exp (rep_sub rep_zero (rep_ext (φ := .bf16) (ψ := .f32) bitsLt_bf16_f32 h)))) fun a b => by positivity
theorem rep192 (h : Rep x f) : Rep (k0_pay192 x) fun a b => sg (f a b) :=
  rep_div (φ := .f32) rep_one (rep_add rep_one (rep_exp (rep_sub rep_zero (rep_ext (φ := .bf16) (ψ := .f32) bitsLt_bf16_f32 h)))) fun a b => by positivity
theorem rep188 (hz : Rep z fz) (hd : Rep dy fd) : Rep (k0_pay188 z dy) fun a b => fd a b * (fz a b * sg (fz a b)) :=
  rep_mul (φ := .f32) hd (rep_mul (φ := .f32) hz (rep185 hz))
theorem rep195 (hz : Rep z fz) (hd : Rep dy fd) : Rep (k0_pay195 z dy) fun a b => fd a b * (fz a b * sg (fz a b)) :=
  rep_mul (φ := .f32) hd (rep_mul (φ := .f32) hz (rep192 hz))
theorem rep187 (hz : Rep z fz) (hd : Rep dy fd) (ho : Rep o fo) :
    Rep (k0_pay187 z dy o) fun a b => fd a b * fo a b * (sg (fz a b) * (1 + fz a b * (1 - sg (fz a b)))) :=
  rep_mul (φ := .f32) (rep_mul (φ := .f32) hd (rep_shapeCast (φ := .bf16) shapeCasts_S512x128_S512x128 ho))
    (rep_mul (φ := .f32) (rep185 hz) (rep_add rep_one (rep_mul (φ := .f32) hz (rep_sub rep_one (rep185 hz)))))
theorem rep194 (hz : Rep z fz) (hd : Rep dy fd) (ho : Rep o fo) :
    Rep (k0_pay194 z dy o) fun a b => fd a b * fo a b * (sg (fz a b) * (1 + fz a b * (1 - sg (fz a b)))) :=
  rep_mul (φ := .f32) (rep_mul (φ := .f32) hd (rep_shapeCast (φ := .bf16) shapeCasts_S512x128_S512x128 ho))
    (rep_mul (φ := .f32) (rep192 hz) (rep_add rep_one (rep_mul (φ := .f32) hz (rep_sub rep_one (rep192 hz)))))

/-- Four copies side by side of a row total that is the same in every lane. -/
theorem rep_cat4 {x : FVec Ideal S512x128 .f32} {f : ℕ → ℝ} (h : Rep x fun a _ => f a) :
    Rep (concatenate S512x512 1 [⟨S512x128, x⟩, ⟨S512x128, x⟩, ⟨S512x128, x⟩, ⟨S512x128, x⟩] concatenates_S512x128_S512x128_S512x128_S512x128_S512x512_d1) fun a _ => f a := fun a b => by
  pointwise
  split_ifs <;> first | exact h _ _ | skip

theorem rep189 {x : Vec Ideal S512x128 .f32} {f : ℕ → ℝ} (h : Rep x fun a _ => f a) : Rep (k0_pay189 x) fun a _ => f a :=
  rep_cat4 (rep_shapeCast (φ := .f32) shapeCasts_S512x128_S512x128 h)
theorem rep196 {x : Vec Ideal S512x128 .f32} {f : ℕ → ℝ} (h : Rep x fun a _ => f a) : Rep (k0_pay196 x) fun a _ => f a :=
  rep_cat4 (rep_shapeCast (φ := .f32) shapeCasts_S512x128_S512x128 h)

theorem rep181 : Rep (k0_pay181 (F := Ideal)) fun _ _ => 0 := rep_shapeCast (φ := .f32) shapeCasts_S4096x256_S4096x256 rep_zero
theorem rep182 : Rep (k0_pay182 (F := Ideal)) fun _ _ => 0 := rep_shapeCast (φ := .f32) shapeCasts_S4096x256_S4096x256 rep_zero
theorem rep199 : Rep (k0_pay199 (F := Ideal)) fun _ _ => 0 := rep_zero
theorem rep200 : Rep (k0_pay200 (F := Ideal)) fun _ _ => 0 := rep_zero

end payloads

/-- What the blocks of a grid point hold: the tile's queries, gates, outputs, totals and gradients from row `R` on, and all keys and values. -/
structure Reads (P : Pair) (R : ℕ) (q z dy o : ℕ → ℕ → ℝ) {c : Dev nD} (e : Env Ideal c) : Prop where
  hq : Rep (e.a2.view.read (Elt Ideal) e.f2) fun r l => q (R + r) l
  hk : Rep (e.a3.view.read (Elt Ideal) e.f3) P.K
  hv : Rep (e.a4.view.read (Elt Ideal) e.f4) P.V
  hz : Rep (e.a5.view.read (Elt Ideal) e.f5) fun r l => z (R + r) l
  ho : Rep (e.a6.view.read (Elt Ideal) e.f6) fun r l => o (R + r) l
  ht : Rep (e.a7.view.read (Elt Ideal) e.f7) fun r l => P.tot (l / 128) (R + r)
  hdy : Rep (e.a8.view.read (Elt Ideal) e.f8) fun r l => dy (R + r) l
  hQ : ∀ i l, P.Q i l = q i l * κ
  hU : ∀ i l, P.U i l = dy i l * (z i l * sg (z i l))

section tile
variable {P : Pair} {R : ℕ} {q z dy o : ℕ → ℕ → ℝ} {c : Dev nD} {e : Env Ideal c}

theorem lt_bf16 (M : Memref sig .tc .vmem S512x256 .bf16) (f : Bf (F := Ideal) c M) {off : Fin 2 → ℕ} (inb : ∀ a, off a + S512x128.size a ≤ S512x256.size a)
    {g : ℕ → ℕ → ℝ} {o₀ o₁ : ℕ} (h : Rep (M.view.read (Elt Ideal) f) g) (ho : off = ![o₀, o₁]) :
    Rep (lt c M f off inb) fun a b => g (o₀ + a) (o₁ + b) :=
  load_bf16 (m' := 512) (n' := 128) M.view f inb h ho
theorem lt_f32 (M : Memref sig .tc .vmem S512x256 .f32) (f : Bf (F := Ideal) c M) {off : Fin 2 → ℕ} (inb : ∀ a, off a + S512x128.size a ≤ S512x256.size a)
    {g : ℕ → ℕ → ℝ} {o₀ o₁ : ℕ} (h : Rep (M.view.read (Elt Ideal) f) g) (ho : off = ![o₀, o₁]) :
    Rep (lt c M f off inb) fun a b => g (o₀ + a) (o₁ + b) :=
  load_f32 (m' := 512) (n' := 128) M.view f inb h ho

theorem Reads.tile (h : Reads P R q z dy o e) : Tile P R e.v7 e.v34 e.v37 e.v42 e.v69 e.v72 e.v79 where
  q0 := Rep.congr (φ := .bf16) (rep183 (lt_bf16 e.a2 e.f2 inb_S512x256_S512x128_0_0 h.hq rfl)) fun a b _ _ => by simp [Pair.head, h.hQ]
  u0 := Rep.congr (φ := .bf16) (rep188 (lt_bf16 e.a5 e.f5 inb_S512x256_S512x128_0_0 h.hz rfl) (lt_bf16 e.a8 e.f8 inb_S512x256_S512x128_0_0 h.hdy rfl)) fun a b _ _ => by simp [Pair.head, h.hU]
  t0 := rep189 (Rep.congr (φ := .f32) (lt_f32 e.a7 e.f7 inb_S512x256_S512x128_0_0 h.ht rfl) fun a b _ hb => by
    simp only [Pair.head]; rw [Nat.zero_add, Nat.zero_add, Nat.div_eq_of_lt hb])
  q1 := Rep.congr (φ := .bf16) (rep190 (lt_bf16 e.a2 e.f2 inb_S512x256_S512x128_0_128 h.hq rfl)) fun a b _ _ => by simp [Pair.head, h.hQ]
  u1 := Rep.congr (φ := .bf16) (rep195 (lt_bf16 e.a5 e.f5 inb_S512x256_S512x128_0_128 h.hz rfl) (lt_bf16 e.a8 e.f8 inb_S512x256_S512x128_0_128 h.hdy rfl)) fun a b _ _ => by simp [Pair.head, h.hU]
  t1 := rep196 (Rep.congr (φ := .f32) (lt_f32 e.a7 e.f7 inb_S512x256_S512x128_0_128 h.ht rfl) fun a b _ hb => by
    simp only [Pair.head]; rw [Nat.zero_add, show (128 + b) / 128 = 1 by omega])
  tri := rep198

/-- Two stores side by side fill a tile, whatever it held. -/
theorem store_two (M : Memref sig .tc .vmem S512x256 .bf16) (x : M.view.ty.Contents (Elt Ideal)) {w : ℕ → ℕ → ℝ} {y0 y1 : S512x128.Idx → Elt Ideal .bf16}
    (h0 : Rep (m := 512) (n := 128) y0 w) (h1 : Rep (m := 512) (n := 128) y1 fun a b => w a (128 + b)) :
    Rep (m := 512) (n := 256) (M.view.read (Elt Ideal) (M.view.writes (Elt Ideal) x [⟨Rect.unit (s := S512x256) ![0, 128] S512x128.size inb_S512x256_S512x128_0_128, y1⟩, ⟨Rect.unit (s := S512x256) ![0, 0] S512x128.size inb_S512x256_S512x128_0_0, y0⟩])) w := by
  intro a b
  by_cases hc : (b : ℕ) < 128
  · rw [View.read_writes_cons_unit_of_not_mem (s := S512x256) M.view x inb_S512x256_S512x128_0_128 y1 _ (ix2 a b) (off' := ![0, 128]) rfl (1 : Fin 2)
      (by change (b : ℕ) < 128 ∨ 128 + 128 ≤ (b : ℕ); omega)]
    rw [View.read_writes_cons_unit_of_mem (s := S512x256) M.view x inb_S512x256_S512x128_0_0 y0 _ (ix2 a b) (ix2 a ⟨b, hc⟩) (off' := ![0, 0]) rfl
      (fun c => by fin_cases c <;> simp [ix2])]
    exact h0 a ⟨b, hc⟩
  · rw [View.read_writes_cons_unit_of_mem (s := S512x256) M.view x inb_S512x256_S512x128_0_128 y1 _ (ix2 a b) (ix2 a ⟨b - 128, by omega⟩) (off' := ![0, 128]) rfl
      (fun c => by fin_cases c <;> simp [ix2] <;> omega)]
    have := h1 a ⟨b - 128, by omega⟩
    simpa only [show 128 + ((b : ℕ) - 128) = b by omega] using this

/-- The gradient of the gate. -/
theorem Reads.end12 (h : Reads P R q z dy o e) : Rep (m := 512) (n := 256) (e.a12.view.read (Elt Ideal) e.end12)
    fun r l => dy (R + r) l * o (R + r) l * (sg (z (R + r) l) * (1 + z (R + r) l * (1 - sg (z (R + r) l)))) :=
  store_two e.a12 _
    (Rep.congr (φ := .bf16) (rep187 (lt_bf16 e.a5 e.f5 inb_S512x256_S512x128_0_0 h.hz rfl) (lt_bf16 e.a8 e.f8 inb_S512x256_S512x128_0_0 h.hdy rfl) (lt_bf16 e.a6 e.f6 inb_S512x256_S512x128_0_0 h.ho rfl)) fun a b _ _ => by simp)
    (Rep.congr (φ := .bf16) (rep194 (lt_bf16 e.a5 e.f5 inb_S512x256_S512x128_0_128 h.hz rfl) (lt_bf16 e.a8 e.f8 inb_S512x256_S512x128_0_128 h.hdy rfl) (lt_bf16 e.a6 e.f6 inb_S512x256_S512x128_0_128 h.ho rfl)) fun a b _ _ => by simp)

end tile

end Cert.Val
-- ==== Proof.Val.DiagRep.lean ====
/- The diagonal block of a grid point, over real numbers, and what the point leaves behind. -/
module

public import proofs.«01_k».proof.Proof.Val.Tile

@[expose] public section

set_option maxRecDepth 16384

noncomputable section

namespace Cert.Val

open Idealize.ShloMosaic Cert.KernelIdeal Cert.KernelIdeal.Gen Cert.KernelIdeal.Attn Finset

theorem ld256_bf16 {c : Dev nD} (M : Memref sig .tc .vmem S4096x256 .bf16) (f : Bf (F := Ideal) c M) {off : Fin 2 → ℕ} (inb : ∀ a, off a + S256x128.size a ≤ S4096x256.size a)
    {g : ℕ → ℕ → ℝ} {o₀ o₁ : ℕ} (h : Rep (M.view.read (Elt Ideal) f) g) (ho : off = ![o₀, o₁]) :
    Rep (m := 256) (n := 128) (M.view.readAt (Elt Ideal) (Rect.unit (s := S4096x256) off S256x128.size inb).toLoadRect f) fun a b => g (o₀ + a) (o₁ + b) :=
  load_bf16 (m' := 256) (n' := 128) M.view f inb h ho
theorem ld256_f32 {c : Dev nD} (M : Memref sig .tc .vmem S4096x256 .f32) (f : Bf (F := Ideal) c M) {off : Fin 2 → ℕ} (inb : ∀ a, off a + S256x128.size a ≤ S4096x256.size a)
    {g : ℕ → ℕ → ℝ} {o₀ o₁ : ℕ} (h : Rep (M.view.read (Elt Ideal) f) g) (ho : off = ![o₀, o₁]) :
    Rep (m := 256) (n := 128) (M.view.readAt (Elt Ideal) (Rect.unit (s := S4096x256) off S256x128.size inb).toLoadRect f) fun a b => g (o₀ + a) (o₁ + b) :=
  load_f32 (m' := 256) (n' := 128) M.view f inb h ho

section head
variable {P : Pair} {R : ℕ} {s : ℕ} {v7 v34 : FVec Ideal S512x128 .bf16} {v37 : FVec Ideal S512x512 .f32} {v79 : FVec Ideal S256x256 .bf16}
  {sp g : FVec Ideal S512x1 .f32} {dq : FVec Ideal S512x128 .f32} {ka va : Vec Ideal S256x128 .bf16} {kb vb : Vec Ideal S512x128 .bf16}
  (hq : Rep v7 fun r t => (P.head s).Q (R + r) t) (hu : Rep v34 fun r t => (P.head s).U (R + r) t) (ht : Rep v37 fun r _ => (P.head s).tot (R + r))
  (hm : Rep v79 fun r c => if r ≤ c then 1 else 0) (h : Sums (P.head s) R R dq sp g)
  (hka : Rep ka fun c t => (P.head s).K (R + c) t) (hva : Rep va fun c t => (P.head s).V (R + c) t)
  (hkb : Rep kb fun c t => (P.head s).K (R + c) t) (hvb : Rep vb fun c t => (P.head s).V (R + c) t)

include hq hu ht hm h hka hva in
theorem uDq_rep : Rep (uDq v7 v34 v37 v79 dq sp g ka va) fun r t => ∑ j ∈ range (R + 256), (P.head s).D (R + r) j * (P.head s).K j t :=
  rep218 (P.head s) R hu hm h.g h.dq hka hva repP212 (rep215 (P.head s) R hq hka) (rep216 (P.head s) R hq ht hm h.sp hka)

include hq hu ht hm h hka hva in
theorem uDk_rep {old : Vec Ideal S256x128 .f32} {f : ℕ → ℕ → ℝ} (ho : Rep old fun c t => f (R + c) (128 * s + t)) :
    Rep (uDk v7 v34 v37 v79 sp g ka va old) fun c t => f (R + c) (128 * s + t) + P.dK (Pair.rows R 256) (R + c) (128 * s + t) :=
  Rep.congr (φ := .f32) (rep219 (P.head s) R hq hu hm h.g hva repP212 (rep215 (P.head s) R hq hka) (rep216 (P.head s) R hq ht hm h.sp hka) ho) fun a b _ hb => by
    rw [P.dK_rows, show (128 * s + b) / 128 = s by omega, show (128 * s + b) % 128 = b by omega]

include hq hu ht hm h hka in
theorem uDv_rep {old : Vec Ideal S256x128 .f32} {f : ℕ → ℕ → ℝ} (ho : Rep old fun c t => f (R + c) (128 * s + t)) :
    Rep (uDv v7 v34 v37 v79 sp ka old) fun c t => f (R + c) (128 * s + t) + P.dV (Pair.rows R 256) (R + c) (128 * s + t) :=
  Rep.congr (φ := .f32) (rep220 (P.head s) R hu (rep216 (P.head s) R hq ht hm h.sp hka) ho) fun a b _ hb => by
    rw [P.dV_rows, show (128 * s + b) / 128 = s by omega, show (128 * s + b) % 128 = b by omega]

include hq hu ht hm h hkb hvb in
theorem lDk_rep {old : Vec Ideal S512x128 .f32} {f : ℕ → ℕ → ℝ} (ho : Rep old fun c t => f (R + c) (128 * s + t)) :
    Rep (lDk v7 v34 v37 v79 sp g kb vb old) fun c t => f (R + c) (128 * s + t) + P.dK (Pair.rows (R + 256) 256) (R + c) (128 * s + t) :=
  Rep.congr (φ := .f32) (rep236 (P.head s) R hq repP225 (rep228 (P.head s) R hq hkb) (rep230 (P.head s) R hq hu ht hm h.sp hkb hvb repP225)
    (rep232 (P.head s) R hq hu ht hm h.sp h.g hkb hvb repP225) (rep233 (P.head s) R hq hu ht hm h.sp hkb hvb repP225)
    (rep234 (P.head s) R hq hu ht hm h.sp h.g hkb hvb repP225) ho) fun a b _ hb => by
    rw [P.dK_rows, show (128 * s + b) / 128 = s by omega, show (128 * s + b) % 128 = b by omega]

include hq hu ht hm h hkb in
theorem lDv_rep {old : Vec Ideal S512x128 .f32} {f : ℕ → ℕ → ℝ} (ho : Rep old fun c t => f (R + c) (128 * s + t)) :
    Rep (lDv v7 v34 v37 v79 sp kb old) fun c t => f (R + c) (128 * s + t) + P.dV (Pair.rows (R + 256) 256) (R + c) (128 * s + t) :=
  Rep.congr (φ := .f32) (rep237 (P.head s) R hu (rep229 (P.head s) R hq ht hm h.sp hkb repP225) ho) fun a b _ hb => by
    rw [P.dV_rows, show (128 * s + b) / 128 = s by omega, show (128 * s + b) % 128 = b by omega]

include hq hu ht hm h hka hva hkb hvb in
theorem tDq_rep : Rep (tDq v7 v34 v37 v79 dq sp g ka va kb vb) fun r t => ∑ j ∈ range (R + 512), (P.head s).D (R + r) j * (P.head s).K j t :=
  rep238 (P.head s) R h.dq hkb repP225 (rep228 (P.head s) R hq hkb) (rep230 (P.head s) R hq hu ht hm h.sp hkb hvb repP225)
    (rep232 (P.head s) R hq hu ht hm h.sp h.g hkb hvb repP225) (rep233 (P.head s) R hq hu ht hm h.sp hkb hvb repP225)
    (rep234 (P.head s) R hq hu ht hm h.sp h.g hkb hvb repP225) (uDq_rep hq hu ht hm h hka hva)
end head

/-- The sums a grid point has before its diagonal block: the sums of both heads over the keys before `R`, and the running sums over rows. -/
structure Mid (P : Pair) (R : ℕ) {c : Dev nD} (e : Env Ideal c) (a : Acc Ideal)
    (b13 : Bf (F := Ideal) c e.a13) (L13 : List (View.Piece (Elt Ideal) S4096x256 .f32)) (b14 : Bf (F := Ideal) c e.a14) (L14 : List (View.Piece (Elt Ideal) S4096x256 .f32)) : Prop where
  s0 : Sums (P.head 0) R R a.1 a.2.1 a.2.2.1
  s1 : Sums (P.head 1) R R a.2.2.2.1 a.2.2.2.2.1 a.2.2.2.2.2
  dk : Rep (e.a13.view.read (Elt Ideal) (e.a13.view.writes (Elt Ideal) b13 L13)) (Pair.part P.dK R R)
  dv : Rep (e.a14.view.read (Elt Ideal) (e.a14.view.writes (Elt Ideal) b14 L14)) (Pair.part P.dV R R)

/-- The four stores of the diagonal block. -/
def diag0 (f : Finset ℕ → ℕ → ℕ → ℝ) (R : ℕ) (g : ℕ → ℕ → ℝ) (j l : ℕ) : ℝ :=
  if (R ≤ j ∧ j < R + 256) ∧ (0 ≤ l ∧ l < 0 + 128) then g j l + f (Pair.rows R 256) j l else g j l
def diag1 (f : Finset ℕ → ℕ → ℕ → ℝ) (R : ℕ) (g : ℕ → ℕ → ℝ) (j l : ℕ) : ℝ :=
  if (R ≤ j ∧ j < R + 512) ∧ (0 ≤ l ∧ l < 0 + 128) then g j l + f (Pair.rows (R + 256) 256) j l else g j l
def diag2 (f : Finset ℕ → ℕ → ℕ → ℝ) (R : ℕ) (x g : ℕ → ℕ → ℝ) (j l : ℕ) : ℝ :=
  if (R ≤ j ∧ j < R + 256) ∧ (128 ≤ l ∧ l < 128 + 128) then x j l + f (Pair.rows R 256) j l else g j l
def diag3 (f : Finset ℕ → ℕ → ℕ → ℝ) (R : ℕ) (g : ℕ → ℕ → ℝ) (j l : ℕ) : ℝ :=
  if (R ≤ j ∧ j < R + 512) ∧ (128 ≤ l ∧ l < 128 + 128) then g j l + f (Pair.rows (R + 256) 256) j l else g j l

theorem diag_total (f : Finset ℕ → ℕ → ℕ → ℝ) (R : ℕ) (hup : ∀ R n j l, f (range R) j l + f (Pair.rows R n) j l = f (range (R + n)) j l)
    (h0 : ∀ (I : Finset ℕ) (j l : ℕ), (∀ i ∈ I, i ≤ j) → f I j l = 0) (x : ℕ → ℕ → ℝ) (hx : ∀ j l, 128 ≤ l → x j l = Pair.part f R R j l) {j l : ℕ} (hl : l < 256) :
    diag3 f R (diag2 f R x (diag1 f R (diag0 f R (Pair.part f R R)))) j l = f (range (R + 512)) j l := by
  have e1 : f (range R) j l + f (Pair.rows R 512) j l = f (range (R + 512)) j l := hup R 512 j l
  have e2 : f (range R) j l + f (Pair.rows R 256) j l = f (range (R + 256)) j l := hup R 256 j l
  have e3 : f (range (R + 256)) j l + f (Pair.rows (R + 256) 256) j l = f (range (R + 512)) j l := hup (R + 256) 256 j l
  have z1 : R + 512 ≤ j → f (range (R + 512)) j l = 0 := fun h => h0 _ _ _ fun i hi => by have := mem_range.1 hi; omega
  have z2 : R ≤ j → f (range R) j l = 0 := fun h => h0 _ _ _ fun i hi => by have := mem_range.1 hi; omega
  have z3 : R + 256 ≤ j → f (Pair.rows R 256) j l = 0 := fun h => h0 _ _ _ fun i hi => by have := Pair.mem_rows.1 hi; omega
  by_cases c1 : j < R
  · by_cases c : l < 128
    · simp [diag0, diag1, diag2, diag3, Pair.part, show ¬ R ≤ j by omega, c1, e1]
    · simp [diag0, diag1, diag2, diag3, Pair.part, show ¬ R ≤ j by omega, c1, e1]
  · have a1 := z2 (by omega)
    by_cases c2 : j < R + 256
    · by_cases c : l < 128
      · simp [diag0, diag1, diag2, diag3, Pair.part, show R ≤ j by omega, c1, c2, c, show ¬ 128 ≤ l by omega, show j < R + 512 by omega]
        linarith
      · have := hx j l (by omega)
        simp [diag0, diag1, diag2, diag3, Pair.part, show R ≤ j by omega, c1, c2, c, show 128 ≤ l by omega, show j < R + 512 by omega, hl, this]
        linarith
    · have a3 := z3 (by omega)
      by_cases c3 : j < R + 512
      · by_cases c : l < 128
        · simp [diag0, diag1, diag2, diag3, Pair.part, show R ≤ j by omega, c1, c2, c3, c, show ¬ 128 ≤ l by omega]
          linarith
        · simp [diag0, diag1, diag2, diag3, Pair.part, show R ≤ j by omega, c1, c2, c3, c, show 128 ≤ l by omega, hl]
          linarith
      · have a4 := z1 (by omega)
        simp [diag0, diag1, diag2, diag3, Pair.part, c1, c2, c3]
        linarith

section point
variable {P : Pair} {R : ℕ} {q z dy o : ℕ → ℕ → ℝ} {c : Dev nD} {e : Env Ideal c} {a : Acc Ideal}
  {b13 : Bf (F := Ideal) c e.a13} {L13 : List (View.Piece (Elt Ideal) S4096x256 .f32)} {b14 : Bf (F := Ideal) c e.a14} {L14 : List (View.Piece (Elt Ideal) S4096x256 .f32)}

/-- The tile of the gradient of q. -/
theorem Reads.end9 (h : Reads P R q z dy o e) (m : Mid P R e a b13 L13 b14 L14) (hR : R = 512 * (e.i 1).val) :
    Rep (m := 512) (n := 256) (e.a9.view.read (Elt Ideal) (e.end9 a)) fun r l => P.dQ (R + 512) (R + r) l * κ := by
  subst hR
  have T := h.tile
  have o11 := off11_eq e.i
  have o12 := off12_eq e.i
  have o13 := off13_eq e.i
  have o14 := off14_eq e.i
  have K1 : Rep _ fun a t => (P.head 0).K (512 * (e.i 1).val + a) t := ld256_bf16 (c := c) e.a3 e.f3 (k0_off11_inb e.i) h.hk o11
  have V1 : Rep _ fun a t => (P.head 0).V (512 * (e.i 1).val + a) t := ld256_bf16 (c := c) e.a4 e.f4 (k0_off11_inb e.i) h.hv o11
  have K2 : Rep _ fun a t => (P.head 0).K (512 * (e.i 1).val + a) t := ld_bf16 c e.a3 e.f3 (k0_off12_inb e.i) h.hk o12
  have V2 : Rep _ fun a t => (P.head 0).V (512 * (e.i 1).val + a) t := ld_bf16 c e.a4 e.f4 (k0_off12_inb e.i) h.hv o12
  have K3 : Rep _ fun a t => (P.head 1).K (512 * (e.i 1).val + a) t := ld256_bf16 (c := c) e.a3 e.f3 (k0_off13_inb e.i) h.hk o13
  have V3 : Rep _ fun a t => (P.head 1).V (512 * (e.i 1).val + a) t := ld256_bf16 (c := c) e.a4 e.f4 (k0_off13_inb e.i) h.hv o13
  have K4 : Rep _ fun a t => (P.head 1).K (512 * (e.i 1).val + a) t := ld_bf16 c e.a3 e.f3 (k0_off14_inb e.i) h.hk o14
  have V4 : Rep _ fun a t => (P.head 1).V (512 * (e.i 1).val + a) t := ld_bf16 c e.a4 e.f4 (k0_off14_inb e.i) h.hv o14
  exact store_two e.a9 _
    (Rep.congr (φ := .bf16) (rep2 (tDq_rep (s := 0) T.q0 T.u0 T.t0 T.tri m.s0 K1 V1 K2 V2)) fun a b _ hb => by
      rw [Pair.dQ, Nat.div_eq_of_lt hb, Nat.mod_eq_of_lt hb])
    (Rep.congr (φ := .bf16) (rep2 (tDq_rep (s := 1) T.q1 T.u1 T.t1 T.tri m.s1 K3 V3 K4 V4)) fun a b _ hb => by
      rw [Pair.dQ, show (128 + b) / 128 = 1 by omega, show (128 + b) % 128 = b by omega])

/-- The rows before `R + 512` of the gradient of k. -/
theorem Reads.end13 (h : Reads P R q z dy o e) (m : Mid P R e a b13 L13 b14 L14) (hR : R = 512 * (e.i 1).val)
    (x : Bf (F := Ideal) c e.a13) (hx : (L13 = [] ∧ x = b13) ∨ x = e.a13_2 a b13 L13) :
    Rep (m := 4096) (n := 256) (e.a13.view.read (Elt Ideal) (e.end13 a b13 L13 x)) (P.dK (range (R + 512))) := by
  subst hR
  have T := h.tile
  have o11 := off11_eq e.i
  have o12 := off12_eq e.i
  have o13 := off13_eq e.i
  have o14 := off14_eq e.i
  have K1 : Rep _ fun a t => (P.head 0).K (512 * (e.i 1).val + a) t := ld256_bf16 (c := c) e.a3 e.f3 (k0_off11_inb e.i) h.hk o11
  have K2 : Rep _ fun a t => (P.head 0).K (512 * (e.i 1).val + a) t := ld_bf16 c e.a3 e.f3 (k0_off12_inb e.i) h.hk o12
  have K3 : Rep _ fun a t => (P.head 1).K (512 * (e.i 1).val + a) t := ld256_bf16 (c := c) e.a3 e.f3 (k0_off13_inb e.i) h.hk o13
  have K4 : Rep _ fun a t => (P.head 1).K (512 * (e.i 1).val + a) t := ld_bf16 c e.a3 e.f3 (k0_off14_inb e.i) h.hk o14
  have V1 : Rep _ fun a t => (P.head 0).V (512 * (e.i 1).val + a) t := ld256_bf16 (c := c) e.a4 e.f4 (k0_off11_inb e.i) h.hv o11
  have V2 : Rep _ fun a t => (P.head 0).V (512 * (e.i 1).val + a) t := ld_bf16 c e.a4 e.f4 (k0_off12_inb e.i) h.hv o12
  have V3 : Rep _ fun a t => (P.head 1).V (512 * (e.i 1).val + a) t := ld256_bf16 (c := c) e.a4 e.f4 (k0_off13_inb e.i) h.hv o13
  have V4 : Rep _ fun a t => (P.head 1).V (512 * (e.i 1).val + a) t := ld_bf16 c e.a4 e.f4 (k0_off14_inb e.i) h.hv o14
  let g0 := Pair.part P.dK (512 * (e.i 1).val) (512 * (e.i 1).val)
  let g1 := diag0 P.dK (512 * (e.i 1).val) g0
  let g2 := diag1 P.dK (512 * (e.i 1).val) g1
  have S0 : Rep _ g0 := m.dk
  have L1 := ld256_f32 (c := c) e.a13 _ (k0_off11_inb e.i) S0 o11
  have W1 := uDk_rep (s := 0) T.q0 T.u0 T.t0 T.tri m.s0 K1 V1 L1
  have S1 : Rep (e.a13.view.read (Elt Ideal) (e.a13_1 a b13 L13)) g1 := store_f32 (m' := 256) (n' := 128) (w := fun j l => g0 j l + P.dK (Pair.rows (512 * (e.i 1).val) 256) j l) e.a13.view b13 (k0_off11_inb e.i) S0 W1 o11
  have L2 := ld_f32 c e.a13 _ (k0_off12_inb e.i) S1 o12
  have W2 := lDk_rep (s := 0) T.q0 T.u0 T.t0 T.tri m.s0 K2 V2 L2
  have S2 : Rep (e.a13.view.read (Elt Ideal) (e.a13_2 a b13 L13)) g2 := store_f32 (m' := 512) (n' := 128) (w := fun j l => g1 j l + P.dK (Pair.rows (512 * (e.i 1).val + 256) 256) j l) e.a13.view b13 (k0_off12_inb e.i) S1 W2 o12
  obtain ⟨gx, Sx, hgx⟩ : ∃ gx, Rep (e.a13.view.read (Elt Ideal) x) gx ∧ ∀ j l, 128 ≤ l → gx j l = g0 j l := by
    rcases hx with ⟨rfl, rfl⟩ | rfl
    · exact ⟨g0, S0, fun _ _ _ => rfl⟩
    · exact ⟨g2, S2, fun j l hl => by simp [g2, g1, diag0, diag1, show ¬ l < 128 by omega]⟩
  let g3 := diag2 P.dK (512 * (e.i 1).val) gx g2
  have L3 := ld256_f32 (c := c) e.a13 x (k0_off13_inb e.i) Sx o13
  have W3 := uDk_rep (s := 1) T.q1 T.u1 T.t1 T.tri m.s1 K3 V3 L3
  have S3 : Rep (e.a13.view.read (Elt Ideal) (e.a13_3 a b13 L13 x)) g3 := store_f32 (m' := 256) (n' := 128) (w := fun j l => gx j l + P.dK (Pair.rows (512 * (e.i 1).val) 256) j l) e.a13.view b13 (k0_off13_inb e.i) S2 W3 o13
  have L4 := ld_f32 c e.a13 _ (k0_off14_inb e.i) S3 o14
  have W4 := lDk_rep (s := 1) T.q1 T.u1 T.t1 T.tri m.s1 K4 V4 L4
  have S4 := store_f32 (m' := 512) (n' := 128) (w := fun j l => g3 j l + P.dK (Pair.rows (512 * (e.i 1).val + 256) 256) j l) e.a13.view b13 (k0_off14_inb e.i) S3 W4 o14
  exact Rep.congr (φ := .f32) S4 fun j l _ hl =>
    diag_total P.dK (512 * (e.i 1).val) (fun R n j l => P.dK_upto R n j l) (fun I j l h => P.dK_eq_zero l h) gx hgx hl

/-- The rows before `R + 512` of the gradient of v. -/
theorem Reads.end14 (h : Reads P R q z dy o e) (m : Mid P R e a b13 L13 b14 L14) (hR : R = 512 * (e.i 1).val)
    (x : Bf (F := Ideal) c e.a14) (hx : (L14 = [] ∧ x = b14) ∨ x = e.a14_2 a b14 L14) :
    Rep (m := 4096) (n := 256) (e.a14.view.read (Elt Ideal) (e.end14 a b14 L14 x)) (P.dV (range (R + 512))) := by
  subst hR
  have T := h.tile
  have o11 := off11_eq e.i
  have o12 := off12_eq e.i
  have o13 := off13_eq e.i
  have o14 := off14_eq e.i
  have K1 : Rep _ fun a t => (P.head 0).K (512 * (e.i 1).val + a) t := ld256_bf16 (c := c) e.a3 e.f3 (k0_off11_inb e.i) h.hk o11
  have K2 : Rep _ fun a t => (P.head 0).K (512 * (e.i 1).val + a) t := ld_bf16 c e.a3 e.f3 (k0_off12_inb e.i) h.hk o12
  have K3 : Rep _ fun a t => (P.head 1).K (512 * (e.i 1).val + a) t := ld256_bf16 (c := c) e.a3 e.f3 (k0_off13_inb e.i) h.hk o13
  have K4 : Rep _ fun a t => (P.head 1).K (512 * (e.i 1).val + a) t := ld_bf16 c e.a3 e.f3 (k0_off14_inb e.i) h.hk o14
  let g0 := Pair.part P.dV (512 * (e.i 1).val) (512 * (e.i 1).val)
  let g1 := diag0 P.dV (512 * (e.i 1).val) g0
  let g2 := diag1 P.dV (512 * (e.i 1).val) g1
  have S0 : Rep _ g0 := m.dv
  have L1 := ld256_f32 (c := c) e.a14 _ (k0_off11_inb e.i) S0 o11
  have W1 := uDv_rep (s := 0) T.q0 T.u0 T.t0 T.tri m.s0 K1 L1
  have S1 : Rep (e.a14.view.read (Elt Ideal) (e.a14_1 a b14 L14)) g1 := store_f32 (m' := 256) (n' := 128) (w := fun j l => g0 j l + P.dV (Pair.rows (512 * (e.i 1).val) 256) j l) e.a14.view b14 (k0_off11_inb e.i) S0 W1 o11
  have L2 := ld_f32 c e.a14 _ (k0_off12_inb e.i) S1 o12
  have W2 := lDv_rep (s := 0) T.q0 T.u0 T.t0 T.tri m.s0 K2 L2
  have S2 : Rep (e.a14.view.read (Elt Ideal) (e.a14_2 a b14 L14)) g2 := store_f32 (m' := 512) (n' := 128) (w := fun j l => g1 j l + P.dV (Pair.rows (512 * (e.i 1).val + 256) 256) j l) e.a14.view b14 (k0_off12_inb e.i) S1 W2 o12
  obtain ⟨gx, Sx, hgx⟩ : ∃ gx, Rep (e.a14.view.read (Elt Ideal) x) gx ∧ ∀ j l, 128 ≤ l → gx j l = g0 j l := by
    rcases hx with ⟨rfl, rfl⟩ | rfl
    · exact ⟨g0, S0, fun _ _ _ => rfl⟩
    · exact ⟨g2, S2, fun j l hl => by simp [g2, g1, diag0, diag1, show ¬ l < 128 by omega]⟩
  let g3 := diag2 P.dV (512 * (e.i 1).val) gx g2
  have L3 := ld256_f32 (c := c) e.a14 x (k0_off13_inb e.i) Sx o13
  have W3 := uDv_rep (s := 1) T.q1 T.u1 T.t1 T.tri m.s1 K3 L3
  have S3 : Rep (e.a14.view.read (Elt Ideal) (e.a14_3 a b14 L14 x)) g3 := store_f32 (m' := 256) (n' := 128) (w := fun j l => gx j l + P.dV (Pair.rows (512 * (e.i 1).val) 256) j l) e.a14.view b14 (k0_off13_inb e.i) S2 W3 o13
  have L4 := ld_f32 c e.a14 _ (k0_off14_inb e.i) S3 o14
  have W4 := lDv_rep (s := 1) T.q1 T.u1 T.t1 T.tri m.s1 K4 L4
  have S4 := store_f32 (m' := 512) (n' := 128) (w := fun j l => g3 j l + P.dV (Pair.rows (512 * (e.i 1).val + 256) 256) j l) e.a14.view b14 (k0_off14_inb e.i) S3 W4 o14
  exact Rep.congr (φ := .f32) S4 fun j l _ hl =>
    diag_total P.dV (512 * (e.i 1).val) (fun R n j l => P.dV_upto R n j l) (fun I j l h => P.dV_eq_zero l h) gx hgx hl

end point

end Cert.Val
-- ==== Proof.Val.MidRep.lean ====
/- What a grid point has before its diagonal block: at the first tile of a pair of heads, at an even one, at an odd one. -/
module

public import proofs.«01_k».proof.Proof.Val.DiagRep

@[expose] public section

set_option maxRecDepth 16384

noncomputable section

namespace Cert.Val

open Idealize.ShloMosaic Cert.KernelIdeal Cert.KernelIdeal.Gen Cert.KernelIdeal.Attn Finset

theorem even_of : ∀ i : grid0.Coords, ¬ k0_cond2 i = 1#1 → (i 1).val % 2 = 0 := by decide +kernel
theorem odd_of : ∀ i : grid0.Coords, k0_cond2 i = 1#1 → (i 1).val % 2 = 1 := by decide +kernel
theorem off9_odd : ∀ i : grid0.Coords, k0_cond2 i = 1#1 → k0_off9 i = ![512 * (i 1).val - 512, 0] := by decide +kernel
theorem off10_odd : ∀ i : grid0.Coords, k0_cond2 i = 1#1 → k0_off10 i = ![512 * (i 1).val - 512, 128] := by decide +kernel

theorem sums_zero (H : Head) (R : ℕ) : Sums H R 0 (k0_pay200 (F := Ideal)) (k0_pay199 (F := Ideal)) (k0_pay199 (F := Ideal)) where
  dq := Rep.congr (φ := .f32) rep200 fun _ _ _ _ => by simp
  sp := Rep.congr (φ := .f32) rep199 fun _ _ _ _ => by simp
  g := Rep.congr (φ := .f32) rep199 fun _ _ _ _ => by simp

section
variable {P : Pair} {R : ℕ} {q z dy o : ℕ → ℕ → ℝ} {c : Dev nD} {e : Env Ideal c}
  {f13 : Bf (F := Ideal) c e.a13} {f14 : Bf (F := Ideal) c e.a14}

/-- The state before the loop. -/
theorem done_zero (h13 : Rep (e.a13.view.read (Elt Ideal) f13) (P.dK (range R))) (h14 : Rep (e.a14.view.read (Elt Ideal) f14) (P.dV (range R))) :
    Done P R 0 c e.a13 e.a14 (Env.zeros, f13, f14) where
  s0 := sums_zero _ _
  s1 := sums_zero _ _
  dk := Rep.congr (φ := .f32) h13 fun _ _ _ _ => by simp [Pair.part]
  dv := Rep.congr (φ := .f32) h14 fun _ _ _ _ => by simp [Pair.part]

/-- The state after the loop. -/
theorem Reads.done (h : Reads P R q z dy o e) (hR : R = 512 * (e.i 1).val)
    (h13 : Rep (e.a13.view.read (Elt Ideal) f13) (P.dK (range R))) (h14 : Rep (e.a14.view.read (Elt Ideal) f14) (P.dV (range R))) :
    Done P R (1024 * ((e.i 1).val / 2)) c e.a13 e.a14 (e.loop (Env.zeros, f13, f14)) := by
  have := st1_done h.tile c e.i e.a3 e.a4 e.a13 e.a14 e.f3 e.f4 h.hk h.hv (Env.zeros, f13, f14) (done_zero h13 h14) (k0_t1_loop e.i).trips le_rfl
    (by rw [trips1]; omega)
  rw [trips1 e.i] at this
  unfold Env.loop
  rw [trips1 e.i]
  exact this

theorem Reads.mid_even (h : Reads P R q z dy o e) (hR : R = 512 * (e.i 1).val) (h2 : ¬ k0_cond2 e.i = 1#1)
    (h13 : Rep (e.a13.view.read (Elt Ideal) f13) (P.dK (range R))) (h14 : Rep (e.a14.view.read (Elt Ideal) f14) (P.dV (range R))) :
    Mid P R e (e.loop (Env.zeros, f13, f14)).1 (e.loop (Env.zeros, f13, f14)).2.1 [] (e.loop (Env.zeros, f13, f14)).2.2 [] := by
  have d := h.done hR h13 h14
  rw [show 1024 * ((e.i 1).val / 2) = R by have := even_of _ h2; omega] at d
  exact ⟨d.s0, d.s1, d.dk, d.dv⟩

theorem part_odd (f : Finset ℕ → ℕ → ℕ → ℝ) {R J j l : ℕ} (hR : R = J + 512) (hl : l < 256) :
    (if (J ≤ j ∧ j < J + 512) ∧ (128 ≤ l ∧ l < 128 + 128) then Pair.part f R J j l + f (Pair.rows R 512) j l
      else if (J ≤ j ∧ j < J + 512) ∧ (0 ≤ l ∧ l < 0 + 128) then Pair.part f R J j l + f (Pair.rows R 512) j l
      else Pair.part f R J j l) = Pair.part f R R j l := by
  simp only [Pair.part]
  split_ifs <;> first | omega | simp

theorem Reads.mid_odd (h : Reads P R q z dy o e) (hR : R = 512 * (e.i 1).val) (h2 : k0_cond2 e.i = 1#1)
    (h13 : Rep (e.a13.view.read (Elt Ideal) f13) (P.dK (range R))) (h14 : Rep (e.a14.view.read (Elt Ideal) f14) (P.dV (range R))) :
    Mid P R e (e.oddAcc h2 (e.loop (Env.zeros, f13, f14))) (e.loop (Env.zeros, f13, f14)).2.1 (e.odd13 h2 (e.loop (Env.zeros, f13, f14)))
      (e.loop (Env.zeros, f13, f14)).2.2 (e.odd14 h2 (e.loop (Env.zeros, f13, f14))) := by
  have d := h.done hR h13 h14
  generalize e.loop (Env.zeros, f13, f14) = s at d ⊢
  have T := h.tile
  have o9 := off9_odd _ h2
  have o10 := off10_odd _ h2
  obtain ⟨J, hJ, hJ'⟩ : ∃ J, R = J + 512 ∧ J = 1024 * ((e.i 1).val / 2) := ⟨R - 512, by have := odd_of _ h2; omega, by have := odd_of _ h2; omega⟩
  rw [← hJ'] at d
  rw [show 512 * (e.i 1).val - 512 = J by omega] at o9 o10
  have K1 : Rep _ fun a t => (P.head 0).K (J + a) t := ld_bf16 c e.a3 e.f3 (k0_off9_inb e.i h2) h.hk o9
  have V1 : Rep _ fun a t => (P.head 0).V (J + a) t := ld_bf16 c e.a4 e.f4 (k0_off9_inb e.i h2) h.hv o9
  have K2 : Rep _ fun a t => (P.head 1).K (J + a) t := ld_bf16 c e.a3 e.f3 (k0_off10_inb e.i h2) h.hk o10
  have V2 : Rep _ fun a t => (P.head 1).V (J + a) t := ld_bf16 c e.a4 e.f4 (k0_off10_inb e.i h2) h.hv o10
  have a0 := d.s0.block (by omega) T.q0 T.u0 T.t0 T.tri K1 V1
  have a1 := d.s1.block (by omega) T.q1 T.u1 T.t1 T.tri K2 V2
  rw [← hJ] at a0 a1
  refine ⟨a0, a1, ?_, ?_⟩
  · have old := d.dk
    have L1 := ld_f32 c e.a13 s.2.1 (k0_off9_inb e.i h2) old o9
    have L2 := ld_f32 c e.a13 s.2.1 (k0_off10_inb e.i h2) old o10
    have W1 := bDk_rep (s := 0) (by omega) T.q0 T.u0 T.t0 T.tri d.s0 K1 V1 L1
    have W2 := bDk_rep (s := 1) (by omega) T.q1 T.u1 T.t1 T.tri d.s1 K2 V2 L2
    let w : ℕ → ℕ → ℝ := fun j l => Pair.part P.dK R J j l + P.dK (Pair.rows R 512) j l
    have S1 := store_f32 (m' := 512) (n' := 128) (w := w) e.a13.view s.2.1 (L := []) (k0_off9_inb e.i h2) old W1 o9
    have S2 := store_f32 (m' := 512) (n' := 128) (w := w) e.a13.view s.2.1 (k0_off10_inb e.i h2) S1 W2 o10
    exact Rep.congr (φ := .f32) S2 fun a b _ hb => part_odd P.dK hJ hb
  · have old := d.dv
    have L1 := ld_f32 c e.a14 s.2.2 (k0_off9_inb e.i h2) old o9
    have L2 := ld_f32 c e.a14 s.2.2 (k0_off10_inb e.i h2) old o10
    have W1 := bDv_rep (s := 0) (by omega) T.q0 T.u0 T.t0 T.tri d.s0 K1 L1
    have W2 := bDv_rep (s := 1) (by omega) T.q1 T.u1 T.t1 T.tri d.s1 K2 L2
    let w : ℕ → ℕ → ℝ := fun j l => Pair.part P.dV R J j l + P.dV (Pair.rows R 512) j l
    have S1 := store_f32 (m' := 512) (n' := 128) (w := w) e.a14.view s.2.2 (L := []) (k0_off9_inb e.i h2) old W1 o9
    have S2 := store_f32 (m' := 512) (n' := 128) (w := w) e.a14.view s.2.2 (k0_off10_inb e.i h2) S1 W2 o10
    exact Rep.congr (φ := .f32) S2 fun a b _ hb => part_odd P.dV hJ hb

theorem Reads.mid_first (h : Reads P R q z dy o e) (hR : R = 512 * (e.i 1).val) (h0 : (e.i 1).val = 0) :
    Mid P R e Env.zeros e.a13.view.junk Env.zero13 e.a14.view.junk Env.zero14 := by
  have hR0 : R = 0 := by omega
  subst hR0
  refine ⟨sums_zero _ _, sums_zero _ _, ?_, ?_⟩
  · rw [Env.zero13, View.read_writes_full]
    exact Rep.congr (φ := .f32) rep181 fun _ _ _ _ => by simp [Pair.part, Pair.dK]
  · rw [Env.zero14, View.read_writes_full]
    exact Rep.congr (φ := .f32) rep182 fun _ _ _ _ => by simp [Pair.part, Pair.dV]

/-- The whole gradient, rounded. -/
theorem end10_rep {x : Bf (F := Ideal) c e.a13} {f : ℕ → ℕ → ℝ} (h : Rep (m := 4096) (n := 256) (e.a13.view.read (Elt Ideal) x) f) :
    Rep (m := 4096) (n := 256) (e.a10.view.read (Elt Ideal) (e.end10 x)) f := by
  rw [Env.end10, View.read_writes_full]
  exact rep_trunc (φ := .f32) (ψ := .bf16) bitsLt_bf16_f32 (loadAll_f32 e.a13.view x h inb_S4096x256_S4096x256_0_0)
theorem end11_rep {x : Bf (F := Ideal) c e.a14} {f : ℕ → ℕ → ℝ} (h : Rep (m := 4096) (n := 256) (e.a14.view.read (Elt Ideal) x) f) :
    Rep (m := 4096) (n := 256) (e.a11.view.read (Elt Ideal) (e.end11 x)) f := by
  rw [Env.end11, View.read_writes_full]
  exact rep_trunc (φ := .f32) (ψ := .bf16) bitsLt_bf16_f32 (loadAll_f32 e.a14.view x h inb_S4096x256_S4096x256_0_0)
end

end Cert.Val
-- ==== Proof.Val.None.lean ====
/- The loop over key blocks at the first tile of rows makes no trip. -/
module

public import proofs.«01_k».proof.Proof.Val.Fin

@[expose] public section

set_option maxRecDepth 16384

noncomputable section

namespace Cert.Val

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

@[sl_loop, reducible] def loopInv_none (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (v7 : FVec F S512x128 .bf16) (v34 : FVec F S512x128 .bf16) (v37 : FVec F S512x512 .f32) (v42 : FVec F S512x128 .bf16) (v69 : FVec F S512x128 .bf16) (v72 : FVec F S512x512 .f32) (v79 : FVec F S256x256 .bf16) (v80 : FVec F S512x1 .f32) (v81 : FVec F S512x128 .f32) (v82 : BitVec 32) (v93 : BitVec 1) (c0_i32_51 : BitVec 32) (v115 : BitVec 32)
    (f3 : Bf (F := F) c arg3) (f4 : Bf (F := F) c arg4) (f13 : Bf (F := F) c arg13) (f14 : Bf (F := F) c arg14) (init : Acc F) (h0 : (k0_t1_loop i).trips = 0) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 init where
  inv := fun k acc => iprop(pt c arg3 f3 ∗ pt c arg4 f4 ∗ pt c arg13 f13 ∗ pt c arg14 f14 ∗ ⌜acc = init⌝)
  step := fun k acc => absurd k.isLt (by change ¬ k.val < (k0_t1_loop i).trips; omega)

end Cert.Val

end
-- ==== Proof.Val.BodyFirst.lean ====
/- The body of the attention gradient, with what it leaves: the first tile of rows. -/
module

public import proofs.«01_k».proof.Proof.Val.None

@[expose] public section

set_option maxRecDepth 16384

noncomputable section

namespace Cert.Val

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem body_first (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14)
    (h1 : (Scalar.cmpi .ne (Scalar.extui (Scalar.cmpi .eq (BitVec.ofNat 32 (i 1).val) 0#32) : BitVec 32) 0#32) = 1#1) (h2 : ¬ k0_cond2 i = 1#1) (h3 : ¬ k0_cond3 i = 1#1)
    (h0 : (k0_t1_loop i).trips = 0) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14) ⊢
      wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => (iprop(pt c arg2 f2 ∗ pt c arg3 f3 ∗ pt c arg4 f4 ∗ pt c arg5 f5 ∗ pt c arg6 f6 ∗ pt c arg7 f7 ∗ pt c arg8 f8 ∗ pt c arg9 (Env.end9 (⟨i, arg2, arg3, arg4, arg5, arg6, arg7, arg8, arg9, arg10, arg11, arg12, arg13, arg14, f2, f3, f4, f5, f6, f7, f8⟩ : Env F c) Env.zeros) ∗ pt c arg10 f10 ∗ pt c arg11 f11 ∗ pt c arg12 (Env.end12 (⟨i, arg2, arg3, arg4, arg5, arg6, arg7, arg8, arg9, arg10, arg11, arg12, arg13, arg14, f2, f3, f4, f5, f6, f7, f8⟩ : Env F c)) ∗ pt c arg13 (Env.end13 (⟨i, arg2, arg3, arg4, arg5, arg6, arg7, arg8, arg9, arg10, arg11, arg12, arg13, arg14, f2, f3, f4, f5, f6, f7, f8⟩ : Env F c) Env.zeros arg13.view.junk Env.zero13 (Env.a13_2 (⟨i, arg2, arg3, arg4, arg5, arg6, arg7, arg8, arg9, arg10, arg11, arg12, arg13, arg14, f2, f3, f4, f5, f6, f7, f8⟩ : Env F c) Env.zeros arg13.view.junk Env.zero13)) ∗ pt c arg14 (Env.end14 (⟨i, arg2, arg3, arg4, arg5, arg6, arg7, arg8, arg9, arg10, arg11, arg12, arg13, arg14, f2, f3, f4, f5, f6, f7, f8⟩ : Env F c) Env.zeros arg14.view.junk Env.zero14 (Env.a14_2 (⟨i, arg2, arg3, arg4, arg5, arg6, arg7, arg8, arg9, arg10, arg11, arg12, arg13, arg14, f2, f3, f4, f5, f6, f7, f8⟩ : Env F c) Env.zeros arg14.view.junk Env.zero14))) : sProp 𝕄)) := by
  iintro ⟨H2, H3, H4, H5, H6, H7, H8, H9, H10, H11, H12, H13, H14⟩
  sl_exec_parts!
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  · iexact H14

end Cert.Val

end
-- ==== Proof.Val.BodyEven.lean ====
/- The body of the attention gradient, with what it leaves: an even tile of rows. -/
module

public import proofs.«01_k».proof.Proof.Val.Fin

@[expose] public section

set_option maxRecDepth 16384

noncomputable section

namespace Cert.Val

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem body_even (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14)
    (h1 : ¬ (Scalar.cmpi .ne (Scalar.extui (Scalar.cmpi .eq (BitVec.ofNat 32 (i 1).val) 0#32) : BitVec 32) 0#32) = 1#1) (h2 : ¬ k0_cond2 i = 1#1) (h3 : ¬ k0_cond3 i = 1#1) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14) ⊢
      wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => (iprop(pt c arg2 f2 ∗ pt c arg3 f3 ∗ pt c arg4 f4 ∗ pt c arg5 f5 ∗ pt c arg6 f6 ∗ pt c arg7 f7 ∗ pt c arg8 f8 ∗ pt c arg9 (Env.end9 (⟨i, arg2, arg3, arg4, arg5, arg6, arg7, arg8, arg9, arg10, arg11, arg12, arg13, arg14, f2, f3, f4, f5, f6, f7, f8⟩ : Env F c) (Env.loop (⟨i, arg2, arg3, arg4, arg5, arg6, arg7, arg8, arg9, arg10, arg11, arg12, arg13, arg14, f2, f3, f4, f5, f6, f7, f8⟩ : Env F c) ((Env.zeros, f13, f14) : St F c arg13 arg14)).1) ∗ pt c arg10 f10 ∗ pt c arg11 f11 ∗ pt c arg12 (Env.end12 (⟨i, arg2, arg3, arg4, arg5, arg6, arg7, arg8, arg9, arg10, arg11, arg12, arg13, arg14, f2, f3, f4, f5, f6, f7, f8⟩ : Env F c)) ∗ pt c arg13 (Env.end13 (⟨i, arg2, arg3, arg4, arg5, arg6, arg7, arg8, arg9, arg10, arg11, arg12, arg13, arg14, f2, f3, f4, f5, f6, f7, f8⟩ : Env F c) (Env.loop (⟨i, arg2, arg3, arg4, arg5, arg6, arg7, arg8, arg9, arg10, arg11, arg12, arg13, arg14, f2, f3, f4, f5, f6, f7, f8⟩ : Env F c) ((Env.zeros, f13, f14) : St F c arg13 arg14)).1 (Env.loop (⟨i, arg2, arg3, arg4, arg5, arg6, arg7, arg8, arg9, arg10, arg11, arg12, arg13, arg14, f2, f3, f4, f5, f6, f7, f8⟩ : Env F c) ((Env.zeros, f13, f14) : St F c arg13 arg14)).2.1 [] (Env.loop (⟨i, arg2, arg3, arg4, arg5, arg6, arg7, arg8, arg9, arg10, arg11, arg12, arg13, arg14, f2, f3, f4, f5, f6, f7, f8⟩ : Env F c) ((Env.zeros, f13, f14) : St F c arg13 arg14)).2.1) ∗ pt c arg14 (Env.end14 (⟨i, arg2, arg3, arg4, arg5, arg6, arg7, arg8, arg9, arg10, arg11, arg12, arg13, arg14, f2, f3, f4, f5, f6, f7, f8⟩ : Env F c) (Env.loop (⟨i, arg2, arg3, arg4, arg5, arg6, arg7, arg8, arg9, arg10, arg11, arg12, arg13, arg14, f2, f3, f4, f5, f6, f7, f8⟩ : Env F c) ((Env.zeros, f13, f14) : St F c arg13 arg14)).1 (Env.loop (⟨i, arg2, arg3, arg4, arg5, arg6, arg7, arg8, arg9, arg10, arg11, arg12, arg13, arg14, f2, f3, f4, f5, f6, f7, f8⟩ : Env F c) ((Env.zeros, f13, f14) : St F c arg13 arg14)).2.2 [] (Env.loop (⟨i, arg2, arg3, arg4, arg5, arg6, arg7, arg8, arg9, arg10, arg11, arg12, arg13, arg14, f2, f3, f4, f5, f6, f7, f8⟩ : Env F c) ((Env.zeros, f13, f14) : St F c arg13 arg14)).2.2)) : sProp 𝕄)) := by
  iintro ⟨H2, H3, H4, H5, H6, H7, H8, H9, H10, H11, H12, H13, H14⟩
  sl_exec_parts!
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  · iexact H14

end Cert.Val

end
-- ==== Proof.Val.BodyOdd.lean ====
/- The body of the attention gradient, with what it leaves: an odd tile of rows. -/
module

public import proofs.«01_k».proof.Proof.Val.Fin

@[expose] public section

set_option maxRecDepth 16384

noncomputable section

namespace Cert.Val

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem body_odd (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14)
    (h1 : ¬ (Scalar.cmpi .ne (Scalar.extui (Scalar.cmpi .eq (BitVec.ofNat 32 (i 1).val) 0#32) : BitVec 32) 0#32) = 1#1) (h2 : k0_cond2 i = 1#1) (h3 : ¬ k0_cond3 i = 1#1) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14) ⊢
      wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => (iprop(pt c arg2 f2 ∗ pt c arg3 f3 ∗ pt c arg4 f4 ∗ pt c arg5 f5 ∗ pt c arg6 f6 ∗ pt c arg7 f7 ∗ pt c arg8 f8 ∗ pt c arg9 (Env.end9 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14)))) ∗ pt c arg10 f10 ∗ pt c arg11 f11 ∗ pt c arg12 (Env.end12 (⟨i, arg2, arg3, arg4, arg5, arg6, arg7, arg8, arg9, arg10, arg11, arg12, arg13, arg14, f2, f3, f4, f5, f6, f7, f8⟩ : Env F c)) ∗ pt c arg13 (Env.end13 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.1 (Env.odd13 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.a13_2 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.1 (Env.odd13 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))))) ∗ pt c arg14 (Env.end14 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.2 (Env.odd14 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.a14_2 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.2 (Env.odd14 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14)))))) : sProp 𝕄)) := by
  iintro ⟨H2, H3, H4, H5, H6, H7, H8, H9, H10, H11, H12, H13, H14⟩
  sl_exec_parts!
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  · iexact H14

end Cert.Val

end
-- ==== Proof.Val.BodyLast.lean ====
/- The body of the attention gradient, with what it leaves: the last tile of rows. -/
module

public import proofs.«01_k».proof.Proof.Val.Fin

@[expose] public section

set_option maxRecDepth 16384

noncomputable section

namespace Cert.Val

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem body_last (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14)
    (h1 : ¬ (Scalar.cmpi .ne (Scalar.extui (Scalar.cmpi .eq (BitVec.ofNat 32 (i 1).val) 0#32) : BitVec 32) 0#32) = 1#1) (h2 : k0_cond2 i = 1#1) (h3 : k0_cond3 i = 1#1) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14) ⊢
      wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => (iprop(pt c arg2 f2 ∗ pt c arg3 f3 ∗ pt c arg4 f4 ∗ pt c arg5 f5 ∗ pt c arg6 f6 ∗ pt c arg7 f7 ∗ pt c arg8 f8 ∗ pt c arg9 (Env.end9 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14)))) ∗ pt c arg10 (Env.end10 (⟨i, arg2, arg3, arg4, arg5, arg6, arg7, arg8, arg9, arg10, arg11, arg12, arg13, arg14, f2, f3, f4, f5, f6, f7, f8⟩ : Env F c) (Env.end13 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.1 (Env.odd13 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.a13_2 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.1 (Env.odd13 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14)))))) ∗ pt c arg11 (Env.end11 (⟨i, arg2, arg3, arg4, arg5, arg6, arg7, arg8, arg9, arg10, arg11, arg12, arg13, arg14, f2, f3, f4, f5, f6, f7, f8⟩ : Env F c) (Env.end14 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.2 (Env.odd14 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.a14_2 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.2 (Env.odd14 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14)))))) ∗ pt c arg12 (Env.end12 (⟨i, arg2, arg3, arg4, arg5, arg6, arg7, arg8, arg9, arg10, arg11, arg12, arg13, arg14, f2, f3, f4, f5, f6, f7, f8⟩ : Env F c)) ∗ pt c arg13 (Env.end13 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.1 (Env.odd13 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.a13_2 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.1 (Env.odd13 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))))) ∗ pt c arg14 (Env.end14 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.2 (Env.odd14 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.a14_2 (⟨i, arg2, arg3, arg4, arg5, arg6, arg7, arg8, arg9, arg10, arg11, arg12, arg13, arg14, f2, f3, f4, f5, f6, f7, f8⟩ : Env F c) (Env.oddAcc (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14))) (Env.loop (⟨i, arg2, arg3, arg4, arg5, arg6, arg7, arg8, arg9, arg10, arg11, arg12, arg13, arg14, f2, f3, f4, f5, f6, f7, f8⟩ : Env F c) ((Env.zeros, f13, f14) : St F c arg13 arg14)).2.2 (Env.odd14 (⟨i, arg2, arg3, arg4, arg5, arg6, arg7, arg8, arg9, arg10, arg11, arg12, arg13, arg14, f2, f3, f4, f5, f6, f7, f8⟩ : Env F c) h2 (Env.loop (⟨i, arg2, arg3, arg4, arg5, arg6, arg7, arg8, arg9, arg10, arg11, arg12, arg13, arg14, f2, f3, f4, f5, f6, f7, f8⟩ : Env F c) ((Env.zeros, f13, f14) : St F c arg13 arg14)))))) : sProp 𝕄)) := by
  iintro ⟨H2, H3, H4, H5, H6, H7, H8, H9, H10, H11, H12, H13, H14⟩
  sl_exec_parts!
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  · iexact H14

end Cert.Val

end
-- ==== Proof.Val.Point.lean ====
/- One grid point over real numbers: what it leaves in its blocks and in the two running sums. -/
module

public import proofs.«01_k».proof.Proof.Val.MidRep
public import proofs.«01_k».proof.Proof.Val.BodyFirst
public import proofs.«01_k».proof.Proof.Val.BodyEven
public import proofs.«01_k».proof.Proof.Val.BodyOdd
public import proofs.«01_k».proof.Proof.Val.BodyLast
public import proofs.«01_k».proof.Proof.Attn.Run

@[expose] public section

set_option maxRecDepth 16384

noncomputable section

namespace Cert.Val

open Cert.KernelIdeal Cert.KernelIdeal.Gen Cert.KernelIdeal.Attn Finset
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem zero_of : ∀ i : grid0.Coords, (Scalar.cmpi .ne (Scalar.extui (Scalar.cmpi .eq (BitVec.ofNat 32 (i 1).val) 0#32) : BitVec 32) 0#32) = 1#1 → (i 1).val = 0 := by decide +kernel
theorem ne_of : ∀ i : grid0.Coords, ¬ (Scalar.cmpi .ne (Scalar.extui (Scalar.cmpi .eq (BitVec.ofNat 32 (i 1).val) 0#32) : BitVec 32) 0#32) = 1#1 → (i 1).val ≠ 0 := by decide +kernel

set_option maxHeartbeats 2000000 in
theorem point_run (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14)
    {P : Pair} {q z dy o : ℕ → ℕ → ℝ} (h : Reads P (512 * (i 1).val) q z dy o (⟨i, arg2, arg3, arg4, arg5, arg6, arg7, arg8, arg9, arg10, arg11, arg12, arg13, arg14, f2, f3, f4, f5, f6, f7, f8⟩ : Env Ideal c))
    (hp : (i 1).val ≠ 0 → Rep (arg13.view.read (Elt Ideal) f13) (P.dK (range (512 * (i 1).val))) ∧ Rep (arg14.view.read (Elt Ideal) f14) (P.dV (range (512 * (i 1).val)))) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ) ⊢
      wp frame (wpE (defs₀ (F := Ideal)) Variants.none (c : Thread nD τ) none) Set.univ
        (cc0_attn_bwd (F := Ideal) i arg2 harg2 arg3 harg3 arg4 harg4 arg5 harg5 arg6 harg6 arg7 harg7 arg8 harg8 arg9 harg9 arg10 harg10 arg11 harg11 arg12 harg12 arg13 harg13 arg14 harg14)
        (fun _ => (iprop(pt c arg2 f2 ∗ pt c arg3 f3 ∗ pt c arg4 f4 ∗ pt c arg5 f5 ∗ pt c arg6 f6 ∗ pt c arg7 f7 ∗ pt c arg8 f8 ∗ (∃ f : Bf (F := Ideal) c arg9, ⌜Rep (arg9.view.read (Elt Ideal) f) fun r l => P.dQ (512 * (i 1).val + 512) (512 * (i 1).val + r) l * κ⌝ ∗ pt c arg9 f)
          ∗ (∃ f : Bf (F := Ideal) c arg10, ⌜(k0_cond3 i = 1#1 → Rep (arg10.view.read (Elt Ideal) f) (P.dK (range (512 * (i 1).val + 512)))) ∧ (¬ k0_cond3 i = 1#1 → f = f10)⌝ ∗ pt c arg10 f)
          ∗ (∃ f : Bf (F := Ideal) c arg11, ⌜(k0_cond3 i = 1#1 → Rep (arg11.view.read (Elt Ideal) f) (P.dV (range (512 * (i 1).val + 512)))) ∧ (¬ k0_cond3 i = 1#1 → f = f11)⌝ ∗ pt c arg11 f)
          ∗ (∃ f : Bf (F := Ideal) c arg12, ⌜Rep (arg12.view.read (Elt Ideal) f) fun r l => dy (512 * (i 1).val + r) l * o (512 * (i 1).val + r) l * (sg (z (512 * (i 1).val + r) l) * (1 + z (512 * (i 1).val + r) l * (1 - sg (z (512 * (i 1).val + r) l))))⌝ ∗ pt c arg12 f)
          ∗ (∃ f : Bf (F := Ideal) c arg13, ⌜Rep (arg13.view.read (Elt Ideal) f) (P.dK (range (512 * (i 1).val + 512)))⌝ ∗ pt c arg13 f)
          ∗ (∃ f : Bf (F := Ideal) c arg14, ⌜Rep (arg14.view.read (Elt Ideal) f) (P.dV (range (512 * (i 1).val + 512)))⌝ ∗ pt c arg14 f)) : sProp 𝕄)) := by
  rcases cases_row i with ⟨h1, h2, h3⟩ | ⟨h1, h2, h3⟩ | ⟨h1, h2, h3⟩ | ⟨h1, h2, h3⟩
  · have hm := h.mid_first rfl (zero_of _ h1)
    iintro ⟨H2, H3, H4, H5, H6, H7, H8, H9, H10, H11, H12, H13, H14⟩
    iapply (wp_wand_r)
    isplitl [H2 H3 H4 H5 H6 H7 H8 H9 H10 H11 H12 H13 H14]
    · iapply (body_first c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 h1 h2 h3 (by rw [trips1, zero_of _ h1]))
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro %_ ⟨H2, H3, H4, H5, H6, H7, H8, H9, H10, H11, H12, H13, H14⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists _
        isplitr [H9]
        · ipureintro; exact h.end9 hm rfl
        · iexact H9
      isplitl [H10]
      · iexists _
        isplitr [H10]
        · ipureintro; exact ⟨fun hh => absurd hh h3, fun _ => rfl⟩
        · iexact H10
      isplitl [H11]
      · iexists _
        isplitr [H11]
        · ipureintro; exact ⟨fun hh => absurd hh h3, fun _ => rfl⟩
        · iexact H11
      isplitl [H12]
      · iexists _
        isplitr [H12]
        · ipureintro; exact h.end12
        · iexact H12
      isplitl [H13]
      · iexists _
        isplitr [H13]
        · ipureintro; exact (h.end13 hm rfl _ (Or.inr rfl))
        · iexact H13
      iexists _
      isplitr [H14]
      · ipureintro; exact (h.end14 hm rfl _ (Or.inr rfl))
      · iexact H14
  · obtain ⟨h13, h14⟩ := hp (ne_of _ h1)
    have hm := h.mid_even rfl h2 h13 h14
    iintro ⟨H2, H3, H4, H5, H6, H7, H8, H9, H10, H11, H12, H13, H14⟩
    iapply (wp_wand_r)
    isplitl [H2 H3 H4 H5 H6 H7 H8 H9 H10 H11 H12 H13 H14]
    · iapply (body_even c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 h1 h2 h3)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro %_ ⟨H2, H3, H4, H5, H6, H7, H8, H9, H10, H11, H12, H13, H14⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists _
        isplitr [H9]
        · ipureintro; exact h.end9 hm rfl
        · iexact H9
      isplitl [H10]
      · iexists _
        isplitr [H10]
        · ipureintro; exact ⟨fun hh => absurd hh h3, fun _ => rfl⟩
        · iexact H10
      isplitl [H11]
      · iexists _
        isplitr [H11]
        · ipureintro; exact ⟨fun hh => absurd hh h3, fun _ => rfl⟩
        · iexact H11
      isplitl [H12]
      · iexists _
        isplitr [H12]
        · ipureintro; exact h.end12
        · iexact H12
      isplitl [H13]
      · iexists _
        isplitr [H13]
        · ipureintro; exact (h.end13 hm rfl _ (Or.inl ⟨rfl, rfl⟩))
        · iexact H13
      iexists _
      isplitr [H14]
      · ipureintro; exact (h.end14 hm rfl _ (Or.inl ⟨rfl, rfl⟩))
      · iexact H14
  · obtain ⟨h13, h14⟩ := hp (ne_of _ h1)
    have hm := h.mid_odd rfl h2 h13 h14
    iintro ⟨H2, H3, H4, H5, H6, H7, H8, H9, H10, H11, H12, H13, H14⟩
    iapply (wp_wand_r)
    isplitl [H2 H3 H4 H5 H6 H7 H8 H9 H10 H11 H12 H13 H14]
    · iapply (body_odd c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 h1 h2 h3)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro %_ ⟨H2, H3, H4, H5, H6, H7, H8, H9, H10, H11, H12, H13, H14⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists _
        isplitr [H9]
        · ipureintro; exact h.end9 hm rfl
        · iexact H9
      isplitl [H10]
      · iexists _
        isplitr [H10]
        · ipureintro; exact ⟨fun hh => absurd hh h3, fun _ => rfl⟩
        · iexact H10
      isplitl [H11]
      · iexists _
        isplitr [H11]
        · ipureintro; exact ⟨fun hh => absurd hh h3, fun _ => rfl⟩
        · iexact H11
      isplitl [H12]
      · iexists _
        isplitr [H12]
        · ipureintro; exact h.end12
        · iexact H12
      isplitl [H13]
      · iexists _
        isplitr [H13]
        · ipureintro; exact (h.end13 hm rfl _ (Or.inr rfl))
        · iexact H13
      iexists _
      isplitr [H14]
      · ipureintro; exact (h.end14 hm rfl _ (Or.inr rfl))
      · iexact H14
  · obtain ⟨h13, h14⟩ := hp (ne_of _ h1)
    have hm := h.mid_odd rfl h2 h13 h14
    iintro ⟨H2, H3, H4, H5, H6, H7, H8, H9, H10, H11, H12, H13, H14⟩
    iapply (wp_wand_r)
    isplitl [H2 H3 H4 H5 H6 H7 H8 H9 H10 H11 H12 H13 H14]
    · iapply (body_last c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 h1 h2 h3)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro %_ ⟨H2, H3, H4, H5, H6, H7, H8, H9, H10, H11, H12, H13, H14⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists _
        isplitr [H9]
        · ipureintro; exact h.end9 hm rfl
        · iexact H9
      isplitl [H10]
      · iexists _
        isplitr [H10]
        · ipureintro; exact ⟨fun _ => end10_rep (h.end13 hm rfl _ (Or.inr rfl)), fun hh => absurd h3 hh⟩
        · iexact H10
      isplitl [H11]
      · iexists _
        isplitr [H11]
        · ipureintro; exact ⟨fun _ => end11_rep (h.end14 hm rfl _ (Or.inr rfl)), fun hh => absurd h3 hh⟩
        · iexact H11
      isplitl [H12]
      · iexists _
        isplitr [H12]
        · ipureintro; exact h.end12
        · iexact H12
      isplitl [H13]
      · iexists _
        isplitr [H13]
        · ipureintro; exact (h.end13 hm rfl _ (Or.inr rfl))
        · iexact H13
      iexists _
      isplitr [H14]
      · ipureintro; exact (h.end14 hm rfl _ (Or.inr rfl))
      · iexact H14

end Cert.Val

end
-- ==== Proof.Val.Global.lean ====
/- The whole arrays over real numbers: what the launch reads, what it leaves, and the blocks of both. -/
module

public import proofs.«01_k».proof.Proof.Val.Point
public import Idealize.ShloMosaic.Lib.Pipeline.ValueKit.Geometry

@[expose] public section

set_option maxRecDepth 16384

noncomputable section

namespace Cert.Val

open Cert.KernelIdeal Cert.KernelIdeal.Gen Finset
open Idealize.ShloMosaic Idealize.ShloMosaic.TcCoe Idealize.ShloMosaic.Tactic

/-- The arrays the launch reads, over the real numbers: the projections, the attention's output, the incoming gradient, and each
    head's total `softplus` of each row. -/
structure Data where
  pr : ℕ → ℕ → ℝ
  o : ℕ → ℕ → ℝ
  dy : ℕ → ℕ → ℝ
  tot : ℕ → ℕ → ℝ

namespace Data
variable (D : Data)

/-- The two heads of a column block. -/
def pair (h : ℕ) : Pair where
  Q i l := D.pr i (2048 + 256 * h + l) * κ
  K j l := D.pr j (4096 + 256 * h + l)
  V j l := D.pr j (6144 + 256 * h + l)
  U i l := D.dy i (256 * h + l) * (D.pr i (8192 + 256 * h + l) * sg (D.pr i (8192 + 256 * h + l)))
  tot s i := D.tot (2 * h + s) i

def dq (i l : ℕ) : ℝ := (D.pair (l / 256)).dQ 4096 i (l % 256) * κ
def dk (j l : ℕ) : ℝ := (D.pair (l / 256)).dK (range 4096) j (l % 256)
def dv (j l : ℕ) : ℝ := (D.pair (l / 256)).dV (range 4096) j (l % 256)
def dz (i l : ℕ) : ℝ := D.dy i l * D.o i l * (sg (D.pr i (8192 + l)) * (1 + D.pr i (8192 + l) * (1 - sg (D.pr i (8192 + l)))))

end Data

/-- A real matrix as an array. -/
def of2 {m n : ℕ} (g : ℕ → ℕ → ℝ) : (⟨2, ![m, n]⟩ : Shape).Idx → EReal := fun x => ((g (x 0).val (x 1).val : ℝ) : EReal)

theorem Rep.eq_of2 {m n : ℕ} {v : (⟨2, ![m, n]⟩ : Shape).Idx → EReal} {g : ℕ → ℕ → ℝ} (h : Rep v g) : v = of2 g := by
  funext x
  rw [eq_ix2 x]
  exact h _ _

theorem rep_of2 {m n : ℕ} (g : ℕ → ℕ → ℝ) : Rep (of2 g : (⟨2, ![m, n]⟩ : Shape).Idx → EReal) g := fun _ _ => rfl

variable (m : (ℓ : Loc nD τ sig) → Buf (Elt Ideal) ℓ)

/-- The launch's input arrays are the given ones. -/
structure Holds (D : Data) (c : Dev nD) : Prop where
  pr : Rep (m := 4096) (n := 14336) (V m c main_arg1) D.pr
  o : Rep (m := 4096) (n := 2048) (V m c main_v38) D.o
  dy : Rep (m := 4096) (n := 2048) (V m c main_arg0) D.dy
  tot : Rep (m := 4096) (n := 2048) (V m c main_v37) fun i l => D.tot (l / 128) i

theorem ix0 : ∀ t : Fin cfg0.N, win0_0.index t = ![(grid0.coords t 1).val, 8 + (grid0.coords t 0).val] := (by decide +kernel : ∀ t : Fin grid0.N, _)
theorem ix1 : ∀ t : Fin cfg0.N, win0_1.index t = ![0, 16 + (grid0.coords t 0).val] := (by decide +kernel : ∀ t : Fin grid0.N, _)
theorem ix2' : ∀ t : Fin cfg0.N, win0_2.index t = ![0, 24 + (grid0.coords t 0).val] := (by decide +kernel : ∀ t : Fin grid0.N, _)
theorem ix3 : ∀ t : Fin cfg0.N, win0_3.index t = ![(grid0.coords t 1).val, 32 + (grid0.coords t 0).val] := (by decide +kernel : ∀ t : Fin grid0.N, _)
theorem ix4 : ∀ t : Fin cfg0.N, win0_4.index t = ![(grid0.coords t 1).val, (grid0.coords t 0).val] := (by decide +kernel : ∀ t : Fin grid0.N, _)
theorem ix5 : ∀ t : Fin cfg0.N, win0_5.index t = ![(grid0.coords t 1).val, (grid0.coords t 0).val] := (by decide +kernel : ∀ t : Fin grid0.N, _)
theorem ix6 : ∀ t : Fin cfg0.N, win0_6.index t = ![(grid0.coords t 1).val, (grid0.coords t 0).val] := (by decide +kernel : ∀ t : Fin grid0.N, _)
theorem ix7 : ∀ t : Fin cfg0.N, win0_7.index t = ![(grid0.coords t 1).val, (grid0.coords t 0).val] := (by decide +kernel : ∀ t : Fin grid0.N, _)
theorem ix8 : ∀ t : Fin cfg0.N, win0_8.index t = ![0, (grid0.coords t 0).val] := (by decide +kernel : ∀ t : Fin grid0.N, _)
theorem ix9 : ∀ t : Fin cfg0.N, win0_9.index t = ![0, (grid0.coords t 0).val] := (by decide +kernel : ∀ t : Fin grid0.N, _)
theorem ix10 : ∀ t : Fin cfg0.N, win0_10.index t = ![(grid0.coords t 1).val, (grid0.coords t 0).val] := (by decide +kernel : ∀ t : Fin grid0.N, _)

theorem Rep.at {m n : ℕ} {v : (⟨2, ![m, n]⟩ : Shape).Idx → EReal} {g : ℕ → ℕ → ℝ} (h : Rep v g) (x : (⟨2, ![m, n]⟩ : Shape).Idx) {a b : ℕ}
    (ha : (x 0).val = a) (hb : (x 1).val = b) : v x = ((g a b : ℝ) : EReal) := by
  rw [h.eq_of2]; subst ha hb; rfl

variable {D : Data} {c : Dev nD} (H : Holds m D c) (t : Fin cfg0.N)
include H

theorem blk0 : Rep (m := 512) (n := 256) (iblk m c 0 t) fun r l => D.pr (512 * (grid0.coords t 1).val + r) (2048 + 256 * (grid0.coords t 0).val + l) := fun a b => by
  blk_simp [iblk]
  exact H.pr.at _ (by blk_simp [ix0, ix2_0]; omega) (by blk_simp [ix0, ix2_1]; omega)
theorem blk1 : Rep (m := 4096) (n := 256) (iblk m c 1 t) (D.pair (grid0.coords t 0).val).K := fun a b => by
  blk_simp [iblk]
  exact H.pr.at _ (by blk_simp [ix1, ix2_0]) (by blk_simp [ix1, ix2_1]; omega)
theorem blk2 : Rep (m := 4096) (n := 256) (iblk m c 2 t) (D.pair (grid0.coords t 0).val).V := fun a b => by
  blk_simp [iblk]
  exact H.pr.at _ (by blk_simp [ix2', ix2_0]) (by blk_simp [ix2', ix2_1]; omega)
theorem blk3 : Rep (m := 512) (n := 256) (iblk m c 3 t) fun r l => D.pr (512 * (grid0.coords t 1).val + r) (8192 + 256 * (grid0.coords t 0).val + l) := fun a b => by
  blk_simp [iblk]
  exact H.pr.at _ (by blk_simp [ix3, ix2_0]; omega) (by blk_simp [ix3, ix2_1]; omega)
theorem blk4 : Rep (m := 512) (n := 256) (iblk m c 4 t) fun r l => D.o (512 * (grid0.coords t 1).val + r) (256 * (grid0.coords t 0).val + l) := fun a b => by
  blk_simp [iblk]
  exact H.o.at _ (by blk_simp [ix4, ix2_0]; omega) (by blk_simp [ix4, ix2_1]; omega)
theorem blk5 : Rep (m := 512) (n := 256) (iblk m c 5 t) fun r l => (D.pair (grid0.coords t 0).val).tot (l / 128) (512 * (grid0.coords t 1).val + r) := fun a b => by
  blk_simp [iblk]
  refine (H.tot.at _ (a := 512 * (grid0.coords t 1).val + a.val) (b := 256 * (grid0.coords t 0).val + b.val) (by blk_simp [ix5, ix2_0]; omega) (by blk_simp [ix5, ix2_1]; omega)).trans ?_
  show ((D.tot _ _ : ℝ) : EReal) = ((D.tot _ _ : ℝ) : EReal)
  rw [show (256 * (grid0.coords t 0).val + b.val) / 128 = 2 * (grid0.coords t 0).val + b.val / 128 by omega]
theorem blk6 : Rep (m := 512) (n := 256) (iblk m c 6 t) fun r l => D.dy (512 * (grid0.coords t 1).val + r) (256 * (grid0.coords t 0).val + l) := fun a b => by
  blk_simp [iblk]
  exact H.dy.at _ (by blk_simp [ix6, ix2_0]; omega) (by blk_simp [ix6, ix2_1]; omega)

end Cert.Val

end
-- ==== Proof.Val.Sound.lean ====
/- One grid point as the pipeline calls it, over real numbers. -/
module

public import proofs.«01_k».proof.Proof.Val.Global

@[expose] public section

set_option maxRecDepth 16384

noncomputable section

namespace Cert.Val

open Cert.KernelIdeal Cert.KernelIdeal.Gen Cert.KernelIdeal.Attn Finset
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem owns_intro (c : Dev nD) {sp : Space} {S : Shape} {e : EltTy} (M : Memref sig .tc sp S e) (h : M.IsWhole) (x : S.Idx → Elt Ideal e) (f : Bf (F := Ideal) c M)
    (hf : M.view.read (Elt Ideal) f = x) : (pt c M f : sProp 𝕄) ⊢ owns (c : Thread nD τ) M fullShare x := by
  rw [owns_of c M h]
  iintro H
  iexists f
  isplitr
  · ipureintro; exact hf
  · iexact H

set_option maxHeartbeats 2000000 in
/-- The body at a point: from the blocks of the inputs, the tile of the query gradient and of the gate gradient; and the
    running sums of the key and value gradients taken one row of tiles further, written out at the last. -/
theorem sound_point (c : Dev nD) (i : grid0.Coords)
    (arg2 : Memref sig .tc .vmem S512x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S512x256 .bf16) (harg5 : arg5.IsWhole)
    (arg6 : Memref sig .tc .vmem S512x256 .bf16) (harg6 : arg6.IsWhole)
    (arg7 : Memref sig .tc .vmem S512x256 .f32) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S4096x256 .bf16) (harg10 : arg10.IsWhole)
    (arg11 : Memref sig .tc .vmem S4096x256 .bf16) (harg11 : arg11.IsWhole)
    (arg12 : Memref sig .tc .vmem S512x256 .bf16) (harg12 : arg12.IsWhole)
    (arg13 : Memref sig .tc .vmem S4096x256 .f32) (harg13 : arg13.IsWhole)
    (arg14 : Memref sig .tc .vmem S4096x256 .f32) (harg14 : arg14.IsWhole)
    (x2 : Vec Ideal S512x256 .bf16) (x3 : Vec Ideal S4096x256 .bf16) (x4 : Vec Ideal S4096x256 .bf16) (x5 : Vec Ideal S512x256 .bf16) (x6 : Vec Ideal S512x256 .bf16) (x7 : Vec Ideal S512x256 .f32) (x8 : Vec Ideal S512x256 .bf16) (x10 : Vec Ideal S4096x256 .bf16) (x11 : Vec Ideal S4096x256 .bf16)
    {P : Pair} {q z dy o : ℕ → ℕ → ℝ}
    (h2 : Rep x2 fun r l => q (512 * (i 1).val + r) l) (h3 : Rep x3 P.K) (h4 : Rep x4 P.V) (h5 : Rep x5 fun r l => z (512 * (i 1).val + r) l)
    (h6 : Rep x6 fun r l => o (512 * (i 1).val + r) l) (h7 : Rep x7 fun r l => P.tot (l / 128) (512 * (i 1).val + r)) (h8 : Rep x8 fun r l => dy (512 * (i 1).val + r) l)
    (hQ : ∀ i l, P.Q i l = q i l * κ) (hU : ∀ i l, P.U i l = dy i l * (z i l * sg (z i l))) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ x, owns (c : Thread nD τ) arg9 fullShare x) ∗ owns (c : Thread nD τ) arg10 fullShare x10 ∗ owns (c : Thread nD τ) arg11 fullShare x11 ∗ (∃ x, owns (c : Thread nD τ) arg12 fullShare x)
        ∗ (∃ f : Bf (F := Ideal) c arg13, ⌜(i 1).val ≠ 0 → Rep (arg13.view.read (Elt Ideal) f) (P.dK (range (512 * (i 1).val)))⌝ ∗ pt c arg13 f) ∗ (∃ f : Bf (F := Ideal) c arg14, ⌜(i 1).val ≠ 0 → Rep (arg14.view.read (Elt Ideal) f) (P.dV (range (512 * (i 1).val)))⌝ ∗ pt c arg14 f)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (of2 (fun r l => P.dQ (512 * (i 1).val + 512) (512 * (i 1).val + r) l * κ))
          ∗ (∃ x, ⌜(k0_cond3 i = 1#1 → x = of2 (P.dK (range (512 * (i 1).val + 512)))) ∧ (¬ k0_cond3 i = 1#1 → x = x10)⌝ ∗ owns (c : Thread nD τ) arg10 fullShare x)
          ∗ (∃ x, ⌜(k0_cond3 i = 1#1 → x = of2 (P.dV (range (512 * (i 1).val + 512)))) ∧ (¬ k0_cond3 i = 1#1 → x = x11)⌝ ∗ owns (c : Thread nD τ) arg11 fullShare x)
          ∗ owns (c : Thread nD τ) arg12 fullShare (of2 (fun r l => dy (512 * (i 1).val + r) l * o (512 * (i 1).val + r) l * (sg (z (512 * (i 1).val + r) l) * (1 + z (512 * (i 1).val + r) l * (1 - sg (z (512 * (i 1).val + r) l))))))
          ∗ (∃ f : Bf (F := Ideal) c arg13, ⌜Rep (arg13.view.read (Elt Ideal) f) (P.dK (range (512 * (i 1).val + 512)))⌝ ∗ pt c arg13 f) ∗ (∃ f : Bf (F := Ideal) c arg14, ⌜Rep (arg14.view.read (Elt Ideal) f) (P.dV (range (512 * (i 1).val + 512)))⌝ ∗ pt c arg14 f)) -∗ K PUnit.unit)) ⊢
      wp frame (wpE (defs₀ (F := Ideal)) Variants.none (c : Thread nD τ) none) Set.univ (cc0_attn_bwd (F := Ideal) i arg2 harg2 arg3 harg3 arg4 harg4 arg5 harg5 arg6 harg6 arg7 harg7 arg8 harg8 arg9 harg9 arg10 harg10 arg11 harg11 arg12 harg12 arg13 harg13 arg14 harg14) K := by
  simp only [owns_of c arg2 harg2, owns_of c arg3 harg3, owns_of c arg4 harg4, owns_of c arg5 harg5, owns_of c arg6 harg6, owns_of c arg7 harg7, owns_of c arg8 harg8, owns_of c arg9 harg9, owns_of c arg10 harg10, owns_of c arg11 harg11, owns_of c arg12 harg12]
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%f13, %hf13, H13⟩, ⟨%f14, %hf14, H14⟩, Hk⟩
  have h : Reads P (512 * (i 1).val) q z dy o (⟨i, arg2, arg3, arg4, arg5, arg6, arg7, arg8, arg9, arg10, arg11, arg12, arg13, arg14, f2, f3, f4, f5, f6, f7, f8⟩ : Env Ideal c) :=
    ⟨hf2 ▸ h2, hf3 ▸ h3, hf4 ▸ h4, hf5 ▸ h5, hf6 ▸ h6, hf7 ▸ h7, hf8 ▸ h8, hQ, hU⟩
  clear h2 h3 h4 h5 h6 h7 h8 hQ hU
  iapply (wp_wand_r)
  isplitl [H2 H3 H4 H5 H6 H7 H8 H9 H10 H11 H12 H13 H14]
  · iapply (point_run c i arg2 harg2 arg3 harg3 arg4 harg4 arg5 harg5 arg6 harg6 arg7 harg7 arg8 harg8 arg9 harg9 arg10 harg10 arg11 harg11 arg12 harg12 arg13 harg13 arg14 harg14 (f2 := f2) (f3 := f3) (f4 := f4) (f5 := f5) (f6 := f6) (f7 := f7) (f8 := f8) (f9 := f9) (f10 := f10) (f11 := f11) (f12 := f12) (f13 := f13) (f14 := f14) (P := P) (q := q) (z := z) (dy := dy) (o := o) h fun hh => ⟨hf13 hh, hf14 hh⟩)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_ ⟨H2, H3, H4, H5, H6, H7, H8, ⟨%e9, %he9, H9⟩, ⟨%e10, %he10, H10⟩, ⟨%e11, %he11, H11⟩, ⟨%e12, %he12, H12⟩, H13, H14⟩
    iapply Hk
    isplitl [H2]
    · iexists f2
      isplitr
      · ipureintro; exact hf2
      · iexact H2
    isplitl [H3]
    · iexists f3
      isplitr
      · ipureintro; exact hf3
      · iexact H3
    isplitl [H4]
    · iexists f4
      isplitr
      · ipureintro; exact hf4
      · iexact H4
    isplitl [H5]
    · iexists f5
      isplitr
      · ipureintro; exact hf5
      · iexact H5
    isplitl [H6]
    · iexists f6
      isplitr
      · ipureintro; exact hf6
      · iexact H6
    isplitl [H7]
    · iexists f7
      isplitr
      · ipureintro; exact hf7
      · iexact H7
    isplitl [H8]
    · iexists f8
      isplitr
      · ipureintro; exact hf8
      · iexact H8
    isplitl [H9]
    · iapply (owns_intro c arg9 harg9 _ e9 he9.eq_of2)
      iexact H9
    isplitl [H10]
    · iexists (arg10.view.read (Elt Ideal) e10)
      isplitr
      · ipureintro; exact ⟨fun hh => (he10.1 hh).eq_of2, fun hh => by rw [he10.2 hh, hf10]⟩
      · iapply (owns_intro c arg10 harg10 _ e10 rfl)
        iexact H10
    isplitl [H11]
    · iexists (arg11.view.read (Elt Ideal) e11)
      isplitr
      · ipureintro; exact ⟨fun hh => (he11.1 hh).eq_of2, fun hh => by rw [he11.2 hh, hf11]⟩
      · iapply (owns_intro c arg11 harg11 _ e11 rfl)
        iexact H11
    isplitl [H12]
    · iapply (owns_intro c arg12 harg12 _ e12 he12.eq_of2)
      iexact H12
    isplitl [H13]; · iexact H13
    iexact H14

end Cert.Val

end
-- ==== Proof.Val.Run.lean ====
/- The whole launch over real numbers: what every run leaves in the four result arrays. -/
module

public import proofs.«01_k».proof.Proof.Val.Sound

@[expose] public section

set_option maxRecDepth 16384

noncomputable section

namespace Cert.Val

open Cert.KernelIdeal Cert.KernelIdeal.Gen Cert.KernelIdeal.Attn Finset
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg) (D : Dev nD → Data)

theorem cond3_iff : ∀ t : Fin cfg0.N, k0_cond3 (grid0.coords t) = 1#1 ↔ (grid0.coords t 1).val = 7 := (by decide +kernel : ∀ t : Fin grid0.N, _)
theorem row_eq : ∀ t : Fin cfg0.N, (grid0.coords t 1).val = t.val % 8 := (by decide +kernel : ∀ t : Fin grid0.N, _)
theorem col_eq : ∀ t : Fin cfg0.N, (grid0.coords t 0).val = t.val / 8 := (by decide +kernel : ∀ t : Fin grid0.N, _)

/-- The running sums before point `n`: within a row of tiles, the sums over the tiles done. -/
def Mem (c : Dev nD) (n : ℕ) : sProp 𝕄 :=
  iprop((∃ f : Bf (F := Ideal) c (Memref.whole cc0_scratch0), ⌜n % 8 ≠ 0 → Rep (m := 4096) (n := 256) ((Memref.whole cc0_scratch0).view.read (Elt Ideal) f) (((D c).pair (n / 8)).dK (range (512 * (n % 8))))⌝ ∗ pt c (Memref.whole cc0_scratch0) f)
    ∗ (∃ f : Bf (F := Ideal) c (Memref.whole cc0_scratch1), ⌜n % 8 ≠ 0 → Rep (m := 4096) (n := 256) ((Memref.whole cc0_scratch1).view.read (Elt Ideal) f) (((D c).pair (n / 8)).dV (range (512 * (n % 8))))⌝ ∗ pt c (Memref.whole cc0_scratch1) f))

theorem mem_def (c : Dev nD) (n : ℕ) : Mem D c n =
  iprop((∃ f : Bf (F := Ideal) c (Memref.whole cc0_scratch0), ⌜n % 8 ≠ 0 → Rep (m := 4096) (n := 256) ((Memref.whole cc0_scratch0).view.read (Elt Ideal) f) (((D c).pair (n / 8)).dK (range (512 * (n % 8))))⌝ ∗ pt c (Memref.whole cc0_scratch0) f)
    ∗ (∃ f : Bf (F := Ideal) c (Memref.whole cc0_scratch1), ⌜n % 8 ≠ 0 → Rep (m := 4096) (n := 256) ((Memref.whole cc0_scratch1).view.read (Elt Ideal) f) (((D c).pair (n / 8)).dV (range (512 * (n % 8))))⌝ ∗ pt c (Memref.whole cc0_scratch1) f)) := rfl

/-- The rest of the launch's state: it is not touched. -/
def Rest (c : Dev nD) : sProp 𝕄 := iprop(∃ r, prngReg c r)

/-- The proof data of the launch on core `c`: every input's buffer holds its block, every result's buffer the block of the real
    matrix, the scratch the running sums. -/
def rdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => of2 (m := 512) (n := 256) fun r l => (D c).dq (512 * (grid0.coords t 1).val + r) (256 * (grid0.coords t 0).val + l)
    | ⟨8, h⟩ => of2 (m := 4096) (n := 256) fun r l => (D c).dk r (256 * (grid0.coords t 0).val + l)
    | ⟨9, h⟩ => of2 (m := 4096) (n := 256) fun r l => (D c).dv r (256 * (grid0.coords t 0).val + l)
    | ⟨10, h⟩ => of2 (m := 512) (n := 256) fun r l => (D c).dz (512 * (grid0.coords t 1).val + r) (256 * (grid0.coords t 0).val + l)
  Φ t := iprop(Mem D c t.val ∗ Rest c)
  q w := Pipeline.shareOf spec0 w
  owed _ := 0

theorem rA_eq (c : Dev nD) (w : Fin cfg0.W) : (rdats m D 0 c).A w = V m c (Pipeline.arrRef spec0 w) := by
  dsimp only [rdats]
theorem rafter0_0 (c : Dev nD) (t : Fin cfg0.N) : (rdats m D 0 c).after 0 t = iblk m c 0 t := by dsimp only [rdats]
theorem rbefore0_0 (c : Dev nD) (t : Fin cfg0.N) (d) : (rdats m D 0 c).before 0 t d = iblk m c 0 t :=
  before0_0_of m (rdats m D 0 c) (rA_eq m D c 0) (rafter0_0 m D c) t d
theorem rafter0_1 (c : Dev nD) (t : Fin cfg0.N) : (rdats m D 0 c).after 1 t = iblk m c 1 t := by dsimp only [rdats]
theorem rbefore0_1 (c : Dev nD) (t : Fin cfg0.N) (d) : (rdats m D 0 c).before 1 t d = iblk m c 1 t :=
  before0_1_of m (rdats m D 0 c) (rA_eq m D c 1) (rafter0_1 m D c) t d
theorem rafter0_2 (c : Dev nD) (t : Fin cfg0.N) : (rdats m D 0 c).after 2 t = iblk m c 2 t := by dsimp only [rdats]
theorem rbefore0_2 (c : Dev nD) (t : Fin cfg0.N) (d) : (rdats m D 0 c).before 2 t d = iblk m c 2 t :=
  before0_2_of m (rdats m D 0 c) (rA_eq m D c 2) (rafter0_2 m D c) t d
theorem rafter0_3 (c : Dev nD) (t : Fin cfg0.N) : (rdats m D 0 c).after 3 t = iblk m c 3 t := by dsimp only [rdats]
theorem rbefore0_3 (c : Dev nD) (t : Fin cfg0.N) (d) : (rdats m D 0 c).before 3 t d = iblk m c 3 t :=
  before0_3_of m (rdats m D 0 c) (rA_eq m D c 3) (rafter0_3 m D c) t d
theorem rafter0_4 (c : Dev nD) (t : Fin cfg0.N) : (rdats m D 0 c).after 4 t = iblk m c 4 t := by dsimp only [rdats]
theorem rbefore0_4 (c : Dev nD) (t : Fin cfg0.N) (d) : (rdats m D 0 c).before 4 t d = iblk m c 4 t :=
  before0_4_of m (rdats m D 0 c) (rA_eq m D c 4) (rafter0_4 m D c) t d
theorem rafter0_5 (c : Dev nD) (t : Fin cfg0.N) : (rdats m D 0 c).after 5 t = iblk m c 5 t := by dsimp only [rdats]
theorem rbefore0_5 (c : Dev nD) (t : Fin cfg0.N) (d) : (rdats m D 0 c).before 5 t d = iblk m c 5 t :=
  before0_5_of m (rdats m D 0 c) (rA_eq m D c 5) (rafter0_5 m D c) t d
theorem rafter0_6 (c : Dev nD) (t : Fin cfg0.N) : (rdats m D 0 c).after 6 t = iblk m c 6 t := by dsimp only [rdats]
theorem rbefore0_6 (c : Dev nD) (t : Fin cfg0.N) (d) : (rdats m D 0 c).before 6 t d = iblk m c 6 t :=
  before0_6_of m (rdats m D 0 c) (rA_eq m D c 6) (rafter0_6 m D c) t d
theorem rafter0_7 (c : Dev nD) (t : Fin cfg0.N) : (rdats m D 0 c).after 7 t = of2 (m := 512) (n := 256) fun r l => (D c).dq (512 * (grid0.coords t 1).val + r) (256 * (grid0.coords t 0).val + l) := by dsimp only [rdats]
theorem rafter0_8 (c : Dev nD) (t : Fin cfg0.N) : (rdats m D 0 c).after 8 t = of2 (m := 4096) (n := 256) fun r l => (D c).dk r (256 * (grid0.coords t 0).val + l) := by dsimp only [rdats]
theorem rafter0_9 (c : Dev nD) (t : Fin cfg0.N) : (rdats m D 0 c).after 9 t = of2 (m := 4096) (n := 256) fun r l => (D c).dv r (256 * (grid0.coords t 0).val + l) := by dsimp only [rdats]
theorem rafter0_10 (c : Dev nD) (t : Fin cfg0.N) : (rdats m D 0 c).after 10 t = of2 (m := 512) (n := 256) fun r l => (D c).dz (512 * (grid0.coords t 1).val + r) (256 * (grid0.coords t 0).val + l) := by dsimp only [rdats]

/-- What is handed back of result 1's buffer: at the last of a row of tiles the block, before it what was found. -/
def post8 (c : Dev nD) (t : Fin cfg0.N) : sProp 𝕄 :=
  match idle0 8 (grid0.coords t) with
  | true =>
    match (cfg0.win 8).flush t with
    | false => iprop(∃ d, owns (c : Thread nD τ) (st0_8 t) fullShare ((rdats m D 0 c).before 8 t d))
    | true => owns (c : Thread nD τ) (st0_8 t) fullShare ((rdats m D 0 c).after 8 t)
  | false => owns (c : Thread nD τ) (st0_8 t) fullShare ((rdats m D 0 c).after 8 t)

theorem post8_of (c : Dev nD) (t : Fin cfg0.N) (x : Vec Ideal S4096x256 .bf16) (d)
    (h : (k0_cond3 (grid0.coords t) = 1#1 → x = (rdats m D 0 c).after 8 t) ∧ (¬ k0_cond3 (grid0.coords t) = 1#1 → x = (rdats m D 0 c).before 8 t d)) :
    (owns (c : Thread nD τ) (st0_8 t) fullShare x : sProp 𝕄) ⊢ post8 m D c t := by
  unfold post8
  by_cases h3 : k0_cond3 (grid0.coords t) = 1#1
  · have e : idle0 8 (grid0.coords t) = false := by simp [idle0, h3]
    rw [e, h.1 h3]
  · have e : idle0 8 (grid0.coords t) = true := by simp [idle0, h3]
    have e2 : (cfg0.win 8).flush t = false := by
      rw [Bool.eq_false_iff]
      intro hf
      exact h3 ((cond3_iff t).2 ((row_eq t).trans ((flush0_8 t).1 hf)))
    rw [e, e2, h.2 h3]
    iintro H
    iexists d
    iexact H

/-- What is handed back of result 2's buffer: at the last of a row of tiles the block, before it what was found. -/
def post9 (c : Dev nD) (t : Fin cfg0.N) : sProp 𝕄 :=
  match idle0 9 (grid0.coords t) with
  | true =>
    match (cfg0.win 9).flush t with
    | false => iprop(∃ d, owns (c : Thread nD τ) (st0_9 t) fullShare ((rdats m D 0 c).before 9 t d))
    | true => owns (c : Thread nD τ) (st0_9 t) fullShare ((rdats m D 0 c).after 9 t)
  | false => owns (c : Thread nD τ) (st0_9 t) fullShare ((rdats m D 0 c).after 9 t)

theorem post9_of (c : Dev nD) (t : Fin cfg0.N) (x : Vec Ideal S4096x256 .bf16) (d)
    (h : (k0_cond3 (grid0.coords t) = 1#1 → x = (rdats m D 0 c).after 9 t) ∧ (¬ k0_cond3 (grid0.coords t) = 1#1 → x = (rdats m D 0 c).before 9 t d)) :
    (owns (c : Thread nD τ) (st0_9 t) fullShare x : sProp 𝕄) ⊢ post9 m D c t := by
  unfold post9
  by_cases h3 : k0_cond3 (grid0.coords t) = 1#1
  · have e : idle0 9 (grid0.coords t) = false := by simp [idle0, h3]
    rw [e, h.1 h3]
  · have e : idle0 9 (grid0.coords t) = true := by simp [idle0, h3]
    have e2 : (cfg0.win 9).flush t = false := by
      rw [Bool.eq_false_iff]
      intro hf
      exact h3 ((cond3_iff t).2 ((row_eq t).trans ((flush0_9 t).1 hf)))
    rw [e, e2, h.2 h3]
    iintro H
    iexists d
    iexact H

def rbodyPre (c : Dev nD) (t : Fin cfg0.N) : sProp 𝕄 :=
  iprop((rdats m D 0 c).Φ t.castSucc ∗ (rdats m D 0 c).owesAt () t.castSucc
    ∗ (∃ d, owns (c : Thread nD τ) (st0_0 t) fullShare ((rdats m D 0 c).before 0 t d))
    ∗ (∃ d, owns (c : Thread nD τ) (st0_1 t) fullShare ((rdats m D 0 c).before 1 t d))
    ∗ (∃ d, owns (c : Thread nD τ) (st0_2 t) fullShare ((rdats m D 0 c).before 2 t d))
    ∗ (∃ d, owns (c : Thread nD τ) (st0_3 t) fullShare ((rdats m D 0 c).before 3 t d))
    ∗ (∃ d, owns (c : Thread nD τ) (st0_4 t) fullShare ((rdats m D 0 c).before 4 t d))
    ∗ (∃ d, owns (c : Thread nD τ) (st0_5 t) fullShare ((rdats m D 0 c).before 5 t d))
    ∗ (∃ d, owns (c : Thread nD τ) (st0_6 t) fullShare ((rdats m D 0 c).before 6 t d))
    ∗ (∃ d, owns (c : Thread nD τ) (st0_7 t) fullShare ((rdats m D 0 c).before 7 t d))
    ∗ (∃ d, owns (c : Thread nD τ) (st0_8 t) fullShare ((rdats m D 0 c).before 8 t d))
    ∗ (∃ d, owns (c : Thread nD τ) (st0_9 t) fullShare ((rdats m D 0 c).before 9 t d))
    ∗ (∃ d, owns (c : Thread nD τ) (st0_10 t) fullShare ((rdats m D 0 c).before 10 t d)))

def rbodyPost (c : Dev nD) (t : Fin cfg0.N) : sProp 𝕄 :=
  iprop((rdats m D 0 c).Φ t.succ ∗ (rdats m D 0 c).owesAt () t.succ
    ∗ owns (c : Thread nD τ) (st0_0 t) fullShare ((rdats m D 0 c).after 0 t)
    ∗ owns (c : Thread nD τ) (st0_1 t) fullShare ((rdats m D 0 c).after 1 t)
    ∗ owns (c : Thread nD τ) (st0_2 t) fullShare ((rdats m D 0 c).after 2 t)
    ∗ owns (c : Thread nD τ) (st0_3 t) fullShare ((rdats m D 0 c).after 3 t)
    ∗ owns (c : Thread nD τ) (st0_4 t) fullShare ((rdats m D 0 c).after 4 t)
    ∗ owns (c : Thread nD τ) (st0_5 t) fullShare ((rdats m D 0 c).after 5 t)
    ∗ owns (c : Thread nD τ) (st0_6 t) fullShare ((rdats m D 0 c).after 6 t)
    ∗ owns (c : Thread nD τ) (st0_7 t) fullShare ((rdats m D 0 c).after 7 t)
    ∗ post8 m D c t
    ∗ post9 m D c t
    ∗ owns (c : Thread nD τ) (st0_10 t) fullShare ((rdats m D 0 c).after 10 t))

/-- The sum over the keys before a row is the sum over all keys. -/
theorem dQ_all (P : Pair) {n i : ℕ} (l : ℕ) (h : i < n) (hn : n ≤ 4096) : P.dQ n i l = P.dQ 4096 i l := by
  unfold Pair.dQ
  refine sum_subset (fun x hx => mem_range.2 (lt_of_lt_of_le (mem_range.1 hx) hn)) fun x _ hx => ?_
  have hx' : ¬ x < i := by rw [mem_range] at hx; omega
  rw [Head.D, if_neg hx', zero_mul]

theorem tile_dq (D : Data) (a h : ℕ) (ha : a < 8) :
    (of2 (m := 512) (n := 256) fun r l => (D.pair h).dQ (512 * a + 512) (512 * a + r) l * κ) = of2 (m := 512) (n := 256) fun r l => D.dq (512 * a + r) (256 * h + l) := by
  refine Rep.eq_of2 fun r l => ?_
  have hr : r.val < 512 := r.isLt
  simp only [of2, ix2_0, ix2_1]
  unfold Data.dq
  rw [show (256 * h + l.val) / 256 = h by omega, show (256 * h + l.val) % 256 = l.val by omega, dQ_all _ _ (by have := hr; omega) (by omega)]
theorem tile_dk (D : Data) (a h : ℕ) (ha : a = 7) :
    of2 (m := 4096) (n := 256) ((D.pair h).dK (range (512 * a + 512))) = of2 (m := 4096) (n := 256) fun r l => D.dk r (256 * h + l) := by
  subst ha
  refine Rep.eq_of2 fun r l => ?_
  simp only [of2, ix2_0, ix2_1]
  unfold Data.dk
  rw [show (256 * h + l.val) / 256 = h by omega, show (256 * h + l.val) % 256 = l.val by omega]
theorem tile_dv (D : Data) (a h : ℕ) (ha : a = 7) :
    of2 (m := 4096) (n := 256) ((D.pair h).dV (range (512 * a + 512))) = of2 (m := 4096) (n := 256) fun r l => D.dv r (256 * h + l) := by
  subst ha
  refine Rep.eq_of2 fun r l => ?_
  simp only [of2, ix2_0, ix2_1]
  unfold Data.dv
  rw [show (256 * h + l.val) / 256 = h by omega, show (256 * h + l.val) % 256 = l.val by omega]
theorem tile_dz (D : Data) (a h : ℕ) :
    (of2 (m := 512) (n := 256) fun r l => D.dy (512 * a + r) (256 * h + l) * D.o (512 * a + r) (256 * h + l)
        * (sg (D.pr (512 * a + r) (8192 + 256 * h + l)) * (1 + D.pr (512 * a + r) (8192 + 256 * h + l) * (1 - sg (D.pr (512 * a + r) (8192 + 256 * h + l))))))
      = of2 (m := 512) (n := 256) fun r l => D.dz (512 * a + r) (256 * h + l) := by
  refine Rep.eq_of2 fun r l => ?_
  simp only [of2, ix2_0, ix2_1]
  unfold Data.dz
  rw [Nat.add_assoc 8192]

theorem row_lt : ∀ t : Fin cfg0.N, (grid0.coords t 1).val < 8 := (by decide +kernel : ∀ t : Fin grid0.N, _)

/-- The running sums after a point, as those before the next. -/
theorem mem_succ (c : Dev nD) (t : Fin cfg0.N) :
    (iprop((∃ f : Bf (F := Ideal) c (Memref.whole cc0_scratch0), ⌜Rep (m := 4096) (n := 256) ((Memref.whole cc0_scratch0).view.read (Elt Ideal) f) (((D c).pair (grid0.coords t 0).val).dK (range (512 * (grid0.coords t 1).val + 512)))⌝ ∗ pt c (Memref.whole cc0_scratch0) f)
      ∗ (∃ f : Bf (F := Ideal) c (Memref.whole cc0_scratch1), ⌜Rep (m := 4096) (n := 256) ((Memref.whole cc0_scratch1).view.read (Elt Ideal) f) (((D c).pair (grid0.coords t 0).val).dV (range (512 * (grid0.coords t 1).val + 512)))⌝ ∗ pt c (Memref.whole cc0_scratch1) f)) : sProp 𝕄)
      ⊢ Mem D c (t.val + 1) := by
  unfold Mem
  rw [row_eq, col_eq]
  have e : (t.val + 1) % 8 ≠ 0 → (t.val + 1) / 8 = t.val / 8 ∧ 512 * ((t.val + 1) % 8) = 512 * (t.val % 8) + 512 := fun h => by omega
  iintro ⟨⟨%f, %hf, H⟩, ⟨%f', %hf', H'⟩⟩
  isplitl [H]
  · iexists f
    isplitr
    · ipureintro; intro h; rw [(e h).1, (e h).2]; exact hf
    · iexact H
  · iexists f'
    isplitr
    · ipureintro; intro h; rw [(e h).1, (e h).2]; exact hf'
    · iexact H'

variable (H : ∀ c, Holds m (D c) c)
include H

set_option maxHeartbeats 2000000 in
theorem rsound_body (c : Dev nD) (t : Fin cfg0.N) :
    rbodyPre m D c t ⊢ wp frame (wpE (defs₀ (F := Ideal)) Variants.none c none) Set.univ (bodyAt0 t) (fun _ => rbodyPost m D c t) := by
  unfold rbodyPre rbodyPost bodyAt0
  simp only [rbefore0_0, rbefore0_1, rbefore0_2, rbefore0_3, rbefore0_4, rbefore0_5, rbefore0_6]
  rw [show (rdats m D 0 c).Φ t.castSucc = iprop(Mem D c t.val ∗ Rest c) from rfl, show (rdats m D 0 c).Φ t.succ = iprop(Mem D c (t.val + 1) ∗ Rest c) from rfl,
    show (rdats m D 0 c).owesAt () t.succ = (rdats m D 0 c).owesAt () t.castSucc from rfl,
    rafter0_0, rafter0_1, rafter0_2, rafter0_3, rafter0_4, rafter0_5, rafter0_6]
  rw [mem_def D c t.val]
  iintro ⟨⟨⟨⟨%s0, %hs0, Hs0⟩, ⟨%s1, %hs1, Hs1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_point c (grid0.coords t) _ _ _ _ _ _ _ _ _ _ _ _ _ _ _ _ _ _ _ _ _ _ _ _ _ _
    (x2 := iblk m c 0 t) (x3 := iblk m c 1 t) (x4 := iblk m c 2 t) (x5 := iblk m c 3 t) (x6 := iblk m c 4 t) (x7 := iblk m c 5 t) (x8 := iblk m c 6 t)
    ((rdats m D 0 c).before 8 t d8) ((rdats m D 0 c).before 9 t d9)
    (P := (D c).pair (grid0.coords t 0).val)
    (q := fun i l => (D c).pr i (2048 + 256 * (grid0.coords t 0).val + l)) (z := fun i l => (D c).pr i (8192 + 256 * (grid0.coords t 0).val + l))
    (dy := fun i l => (D c).dy i (256 * (grid0.coords t 0).val + l)) (o := fun i l => (D c).o i (256 * (grid0.coords t 0).val + l))
    (blk0 m (H c) t) (blk1 m (H c) t) (blk2 m (H c) t) (blk3 m (H c) t) (blk4 m (H c) t) (blk5 m (H c) t) (blk6 m (H c) t)
    (fun _ _ => rfl) (fun _ _ => rfl) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _
    iexact H7
  isplitl [H8]; · iexact H8
  isplitl [H9]; · iexact H9
  isplitl [H10]
  · iexists _
    iexact H10
  isplitl [Hs0]
  · iexists s0
    isplitr
    · ipureintro; rw [row_eq, col_eq]; exact hs0
    · iexact Hs0
  isplitl [Hs1]
  · iexists s1
    isplitr
    · ipureintro; rw [row_eq, col_eq]; exact hs1
    · iexact Hs1
  iintro ⟨H0, H1, H2, H3, H4, H5, H6, H7, ⟨%x8, %hx8, H8⟩, ⟨%x9, %hx9, H9⟩, H10, Hs0, Hs1⟩
  isplitl [Hg Hs0 Hs1]
  · isplitl [Hs0 Hs1]
    · iapply (mem_succ D c t)
      isplitl [Hs0]
      · iexact Hs0
      · iexact Hs1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [rafter0_7, ← tile_dq _ _ _ (row_lt t)]
    iexact H7
  isplitl [H8]
  · iapply (post8_of m D c t x8 d8 ⟨fun h => by rw [hx8.1 h, rafter0_8, tile_dk _ _ _ ((cond3_iff t).1 h)], hx8.2⟩)
    iexact H8
  isplitl [H9]
  · iapply (post9_of m D c t x9 d9 ⟨fun h => by rw [hx9.1 h, rafter0_9, tile_dv _ _ _ ((cond3_iff t).1 h)], hx9.2⟩)
    iexact H9
  rw [rafter0_10, ← tile_dz]
  iexact H10

theorem rbody_obligation (c : Dev nD) : BodyObligationLoose (rdats m D 0 c) (defs₀ (F := Ideal)) Variants.none () Set.univ := fun t => by
  rw [bigSep_W0, bigSep_W0, defs₀_row]
  exact triple_restated (rsound_body m D H c t) rfl .rfl fun _ => .rfl

theorem hin (c : Dev nD) : (Pipeline.ΦA spec0 c : sProp 𝕄) ⊢ (rdats m D 0 c).Φ 0 := by
  show _ ⊢ iprop(Mem D c 0 ∗ Rest c)
  unfold Pipeline.ΦA Mem Rest
  rw [scopedRest0_eq]
  iintro ⟨⟨⟨%f, H⟩, ⟨%f', H'⟩⟩, Hg⟩
  isplitl [H H']
  · isplitl [H]
    · iexists f
      isplitr
      · ipureintro; intro h; exact absurd rfl h
      · iexact H
    · iexists f'
      isplitr
      · ipureintro; intro h; exact absurd rfl h
      · iexact H'
  · iexact Hg

theorem hout (c : Dev nD) : (rdats m D 0 c).Φ (Fin.last cfg0.N) ⊢ (Pipeline.ΦA spec0 c : sProp 𝕄) := by
  show iprop(Mem D c _ ∗ Rest c) ⊢ _
  unfold Pipeline.ΦA Mem Rest
  rw [scopedRest0_eq]
  iintro ⟨⟨⟨%f, -, H⟩, ⟨%f', -, H'⟩⟩, Hg⟩
  isplitl [H H']
  · isplitl [H]
    · iexists f; iexact H
    · iexists f'; iexact H'
  · iexact Hg

set_option backward.isDefEq.respectTransparency.types false in
theorem run_value : θ_run defs (onTc (τ := τ) (main (F := Ideal))) (s₀ m ρ) (Pipeline.FramePost cfgs (rdats m D) (0 : Fin 1) (V m)) :=
  Pipeline.θ_run_frame_track_shared cfgs (rdats m D) (0 : Fin 1) launch₀0 defs₀ Variants.none m ρ main
    (hbody := fun c => rbody_obligation m D H c) (hq := fun _ _ _ => rfl)
    (howed := fun _ _ => rfl) (V := V m) (hmain := hmain m Variants.none) (hA := rA_eq m D) (hin := hin m D H) (hout := hout m D H)

omit H in
theorem final_dq (c : Dev nD) : (rdats m D 0 c).arrAt 7 cfg0.N = of2 (m := 4096) (n := 2048) (D c).dq := by
  refine (rdats m D 0 c).arrAt_eq_of_covers 7 _ (by decide +kernel) fun t hf y => ?_
  blk_simp
  rw [rafter0_7]
  exact ((rep_of2 (m := 4096) (n := 2048) (D c).dq).at _ (by blk_simp [ix7]; omega) (by blk_simp [ix7]; omega)).symm

omit H in
theorem final_dk (c : Dev nD) : (rdats m D 0 c).arrAt 8 cfg0.N = of2 (m := 4096) (n := 2048) (D c).dk := by
  refine (rdats m D 0 c).arrAt_eq_of_covers 8 _ (by decide +kernel) fun t hf y => ?_
  blk_simp
  rw [rafter0_8]
  exact ((rep_of2 (m := 4096) (n := 2048) (D c).dk).at _ (by blk_simp [ix8]) (by blk_simp [ix8]; omega)).symm

omit H in
theorem final_dv (c : Dev nD) : (rdats m D 0 c).arrAt 9 cfg0.N = of2 (m := 4096) (n := 2048) (D c).dv := by
  refine (rdats m D 0 c).arrAt_eq_of_covers 9 _ (by decide +kernel) fun t hf y => ?_
  blk_simp
  rw [rafter0_9]
  exact ((rep_of2 (m := 4096) (n := 2048) (D c).dv).at _ (by blk_simp [ix9]) (by blk_simp [ix9]; omega)).symm

omit H in
theorem final_dz (c : Dev nD) : (rdats m D 0 c).arrAt 10 cfg0.N = of2 (m := 4096) (n := 2048) (D c).dz := by
  refine (rdats m D 0 c).arrAt_eq_of_covers 10 _ (by decide +kernel) fun t hf y => ?_
  blk_simp
  rw [rafter0_10]
  exact ((rep_of2 (m := 4096) (n := 2048) (D c).dz).at _ (by blk_simp [ix10]; omega) (by blk_simp [ix10]; omega)).symm

end Cert.Val

end
-- ==== Proof.Val.Sem.lean ====
/- The heads of the stick-breaking attention as functions of the projections and the cotangent, over the reals, and the forms in which plain
   differentiation of the forward formula leaves their weights and gradients. -/
module

public import proofs.«01_k».proof.Proof.Val.Global

@[expose] public section

noncomputable section

namespace Cert.Val

open Finset (range)

/-! ## The softplus function -/

theorem softplus_neg (z : ℝ) : softplus (-z) = softplus z - z := by
  unfold softplus
  rw [abs_neg]
  rcases le_total 0 z with h | h
  · rw [max_eq_right (by linarith), max_eq_left h]; ring
  · rw [max_eq_left (by linarith), max_eq_right h]; ring

theorem exp_softplus (z : ℝ) : Real.exp (softplus z) = 1 + Real.exp z := by
  unfold softplus
  rw [Real.exp_add, Real.exp_log (by positivity)]
  rcases le_total 0 z with h | h
  · rw [max_eq_left h, abs_of_nonneg h, mul_add, ← Real.exp_add]
    simp [add_comm]
  · rw [max_eq_right h, abs_of_nonpos h]
    simp

theorem exp_split (z : ℝ) : Real.exp (-softplus z) + Real.exp (z - softplus z) = 1 := by
  have h := exp_softplus z
  have hp := Real.exp_pos (softplus z)
  rw [Real.exp_sub, Real.exp_neg, h]
  rw [h] at hp
  field_simp

/-! ## The heads -/

section heads
variable (pr dy : ℕ → ℕ → ℝ)

/-- Head `n`, its rows' totals left out. -/
def hd0 (n : ℕ) : Head where
  Q i t := pr i (2048 + (128 * n + t)) * κ
  K j t := pr j (4096 + (128 * n + t))
  V j t := pr j (6144 + (128 * n + t))
  U i t := dy i (128 * n + t) * (pr i (8192 + (128 * n + t)) * sg (pr i (8192 + (128 * n + t))))
  tot _ := 0

/-- The total over all keys of row `i` of head `n`. -/
def total (n i : ℕ) : ℝ := ∑ j ∈ range 4096, (hd0 pr dy n).S i j

/-- Head `n`. -/
def hd (n : ℕ) : Head := { hd0 pr dy n with tot := total pr dy n }

/-- The attention's output. -/
def out (i l : ℕ) : ℝ := ∑ j ∈ range 4096, (hd pr dy (l / 128)).V j (l % 128) * (hd pr dy (l / 128)).A i j

/-- What the gradient call works from. -/
def data : Data where
  pr := pr
  o := out pr dy
  dy := dy
  tot := total pr dy

theorem total_eq (n i : ℕ) : total pr dy n i = ∑ j ∈ range 4096, (hd pr dy n).S i j := rfl

theorem head_eq (h s : ℕ) : ((data pr dy).pair h).head s = hd pr dy (2 * h + s) := by
  have e (c t : ℕ) : c + 256 * h + (128 * s + t) = c + (128 * (2 * h + s) + t) := by ring
  have e' (t : ℕ) : 256 * h + (128 * s + t) = 128 * (2 * h + s) + t := by ring
  unfold Pair.head Data.pair hd hd0
  simp only [e, e', data]

theorem head_at (l : ℕ) : ((data pr dy).pair (l / 256)).head (l % 256 / 128) = hd pr dy (l / 128) := by
  rw [head_eq]; congr 1; omega

theorem dq_eq (i l : ℕ) : (data pr dy).dq i l = (∑ j ∈ range 4096, (hd pr dy (l / 128)).D i j * (hd pr dy (l / 128)).K j (l % 128)) * κ := by
  unfold Data.dq Pair.dQ
  rw [head_at, show l % 256 % 128 = l % 128 by omega]

theorem dk_eq (j l : ℕ) : (data pr dy).dk j l = ∑ i ∈ range 4096, (hd pr dy (l / 128)).D i j * (hd pr dy (l / 128)).Q i (l % 128) := by
  unfold Data.dk Pair.dK
  rw [head_at, show l % 256 % 128 = l % 128 by omega]

theorem dv_eq (j l : ℕ) : (data pr dy).dv j l = ∑ i ∈ range 4096, (hd pr dy (l / 128)).A i j * (hd pr dy (l / 128)).U i (l % 128) := by
  unfold Data.dv Pair.dV
  rw [head_at, show l % 256 % 128 = l % 128 by omega]

end heads

/-! ## The forms of the forward formula and of its derivative -/

namespace Head
variable (H : Head)

/-- The logarithm of the kept stick, as the forward formula masks it. -/
def keep (i j : ℕ) : ℝ := if j < i then -softplus (H.Z i j) else 0

theorem keep_eq (i j : ℕ) : H.keep i j = - H.S i j := by
  unfold keep S; split <;> simp

/-- The weight of a key before its mask. -/
def W (i j : ℕ) : ℝ :=
  Real.exp (-softplus (-H.Z i j) + ((∑ t ∈ range 4096, H.keep i t - ∑ t ∈ range j, H.keep i t) - H.keep i j))

theorem W_eq (ht : ∀ i, H.tot i = ∑ j ∈ range 4096, H.S i j) (i j : ℕ) : (if j < i then H.W i j else 0) = H.A i j := by
  unfold A W
  split
  · simp only [keep_eq, Finset.sum_neg_distrib, softplus_neg, L, ht, Finset.sum_range_succ _ j]
    congr 1; ring
  · rfl

theorem G_eq (ht : ∀ i, H.tot i = ∑ j ∈ range 4096, H.S i j) (i j : ℕ) :
    (if j < i then ∑ t ∈ range 128, H.U i t * H.V j t else 0) * H.W i j = H.G i j := by
  unfold G
  rw [← H.W_eq ht]
  split <;> ring

theorem G_of_le {i j : ℕ} (h : ¬ j < i) : H.G i j = 0 := by
  unfold G A; rw [if_neg h, zero_mul]

theorem D_eq (i j : ℕ) :
    -(-H.G i j * Real.exp (-H.Z i j - softplus (-H.Z i j)))
      + -(if j < i then -H.G i j + ∑ t ∈ range (j + 1), H.G i t else 0) * Real.exp (H.Z i j - softplus (H.Z i j)) = H.D i j := by
  have e := exp_split (H.Z i j)
  rw [softplus_neg, show -H.Z i j - (softplus (H.Z i j) - H.Z i j) = -softplus (H.Z i j) by ring]
  unfold D L
  by_cases h : j < i
  · rw [if_pos h, if_pos h]
    linear_combination (H.G i j) * e
  · rw [if_neg h, if_neg h, H.G_of_le h]; ring

end Head

end Cert.Val
-- ==== Proof.Val.Host.lean ====
/- Host arrays of three axes at `Ideal` whose every element is a real number, and the running sums along the last axis. -/
module

public import proofs.«01_k».proof.Proof.Val.Head
public import proofs.«01_k».proof.Proof.Val.Rep

@[expose] public section

set_option maxRecDepth 16384

noncomputable section

namespace Cert.Val

open Idealize.ShloMosaic

/-- Every element of the array `v` of three axes is the real number that `f` gives at its coordinates. -/
def Rep3 {m n k : ℕ} (v : (⟨3, ![m, n, k]⟩ : Shape).Idx → EReal) (f : ℕ → ℕ → ℕ → ℝ) : Prop :=
  ∀ (a : Fin m) (b : Fin n) (c : Fin k), v (ix3 a b c) = ((f a b c : ℝ) : EReal)

/-- The bit array `v` is one exactly where `p` holds. -/
def RepP3 {m n k : ℕ} (v : (⟨3, ![m, n, k]⟩ : Shape).Idx → BitVec 1) (p : ℕ → ℕ → ℕ → Prop) : Prop :=
  ∀ (a : Fin m) (b : Fin n) (c : Fin k), v (ix3 a b c) = 1#1 ↔ p a b c

theorem inf_bits : Ideal.ofBits .f32 0x7F800000#32 = ⊤ := by simp [Ideal.ofBits, Ideal.ieee]

theorem une_self (x : EReal) : FloatOps.cmpf (F := Ideal) (φ := .f32) .une x x = 0#1 := by
  change Ideal.cmp .une x x = 0#1
  simp [Ideal.cmp]

theorem oeq_top (x : ℝ) : FloatOps.cmpf (F := Ideal) (φ := .f32) .oeq (x : EReal) (Ideal.ofBits .f32 0x7F800000#32) = 0#1 := by
  change Ideal.cmp .oeq _ _ = 0#1
  rw [inf_bits]
  simp [Ideal.cmp]

section two
variable {m n : ℕ} {x y : FVec Ideal ⟨2, ![m, n]⟩ .f32} {f g : ℕ → ℕ → ℝ}

theorem rep_hneg (hx : Rep x f) : Rep (Host.negf x) fun a b => - f a b := fun a b => by
  change -(x (ix2 a b)) = _
  rw [hx, EReal.coe_neg]

theorem rep_hexp (hx : Rep x f) : Rep (Host.exp x) fun a b => Real.exp (f a b) := fun a b => by
  change Ideal.exp (x (ix2 a b)) = _
  rw [hx, exp_coe]

theorem rep_hdiv (hx : Rep x f) (hy : Rep y g) (h : ∀ a b, 0 < g a b) : Rep (Host.divf x y) fun a b => f a b / g a b := fun a b => by
  change Ideal.div (x (ix2 a b)) (y (ix2 a b)) = _
  rw [hx, hy, div_coe (h _ _)]

theorem rep_hconst {w : BitVec 32} {r : ℝ} (e : Ideal.ofBits .f32 w = (r : EReal)) (h) :
    Rep (broadcastInDim (⟨2, ![m, n]⟩ : Shape) ![] h (constant (F := Ideal) ⟨0, ![]⟩ .f32 w)) fun _ _ => r := fun a b => e

end two

section three
variable {m n k : ℕ} {x y : FVec Ideal ⟨3, ![m, n, k]⟩ .f32} {f g : ℕ → ℕ → ℕ → ℝ}

theorem Rep3.congr {v : FVec Ideal ⟨3, ![m, n, k]⟩ .f32} (h : Rep3 v f) (e : ∀ a b c, a < m → b < n → c < k → f a b c = g a b c) : Rep3 v g :=
  fun a b c => by rw [h a b c, e a b c a.2 b.2 c.2]

theorem rep3_add (hx : Rep3 x f) (hy : Rep3 y g) : Rep3 (addf x y) fun a b c => f a b c + g a b c := fun a b c => by
  change x (ix3 a b c) + y (ix3 a b c) = _
  rw [hx, hy, EReal.coe_add]

theorem rep3_sub (hx : Rep3 x f) (hy : Rep3 y g) : Rep3 (subf x y) fun a b c => f a b c - g a b c := fun a b c => by
  change x (ix3 a b c) - y (ix3 a b c) = _
  rw [hx, hy, EReal.coe_sub]

theorem rep3_mul (hx : Rep3 x f) (hy : Rep3 y g) : Rep3 (mulf x y) fun a b c => f a b c * g a b c := fun a b c => by
  change x (ix3 a b c) * y (ix3 a b c) = _
  rw [hx, hy, EReal.coe_mul]

theorem rep3_max (hx : Rep3 x f) (hy : Rep3 y g) : Rep3 (maximumf x y) fun a b c => max (f a b c) (g a b c) := fun a b c => by
  change max (x (ix3 a b c)) (y (ix3 a b c)) = _
  rw [hx, hy]
  exact (EReal.coe_strictMono.monotone.map_max).symm

theorem rep3_hneg (hx : Rep3 x f) : Rep3 (Host.negf x) fun a b c => - f a b c := fun a b c => by
  change -(x (ix3 a b c)) = _
  rw [hx, EReal.coe_neg]

theorem rep3_habs (hx : Rep3 x f) : Rep3 (Host.absf x) fun a b c => |f a b c| := fun a b c => by
  change max (x (ix3 a b c)) (-(x (ix3 a b c))) = _
  rw [hx, ← EReal.coe_neg]
  exact (EReal.coe_strictMono.monotone.map_max).symm

theorem rep3_hexp (hx : Rep3 x f) : Rep3 (Host.exp x) fun a b c => Real.exp (f a b c) := fun a b c => by
  change Ideal.exp (x (ix3 a b c)) = _
  rw [hx, exp_coe]

theorem rep3_hlog1p (hx : Rep3 x f) (h : ∀ a b c, 0 < 1 + f a b c) : Rep3 (Host.log1p x) fun a b c => Real.log (1 + f a b c) := fun a b c => by
  change Ideal.log (1 + x (ix3 a b c)) = _
  rw [hx, ← EReal.coe_one, ← EReal.coe_add, log_coe (h _ _ _)]

theorem rep3_select {c : IVec ⟨3, ![m, n, k]⟩ 1} {p : ℕ → ℕ → ℕ → Prop} [∀ a b c, Decidable (p a b c)]
    (hc : RepP3 c p) (hx : Rep3 x f) (hy : Rep3 y g) : Rep3 (select c x y) fun a b c => if p a b c then f a b c else g a b c := fun a b d => by
  change (if c (ix3 a b d) = 1#1 then x (ix3 a b d) else y (ix3 a b d)) = _
  by_cases h : p a b d
  · simp only [if_pos ((hc a b d).2 h), if_pos h, hx a b d]
  · simp only [if_neg (mt (hc a b d).1 h), if_neg h, hy a b d]

theorem rep3_const {w : BitVec 32} {r : ℝ} (e : Ideal.ofBits .f32 w = (r : EReal)) (h) :
    Rep3 (broadcastInDim (⟨3, ![m, n, k]⟩ : Shape) ![] h (constant (F := Ideal) ⟨0, ![]⟩ .f32 w)) fun _ _ _ => r := fun a b c => e

theorem zero_bits : Ideal.ofBits .f32 0x00000000#32 = ((0 : ℝ) : EReal) := by rw [Ideal.ofBits_zero_f32]; rfl

theorem one_bits : Ideal.ofBits .f32 0x3F800000#32 = ((1 : ℝ) : EReal) := by rw [Ideal.ofBits_one_f32]; rfl

end three

section soft
variable {m n k : ℕ} {x d o : FVec Ideal ⟨3, ![m, n, k]⟩ .f32} {f : ℕ → ℕ → ℕ → ℝ}

/-- The host's `softplus`: it guards against a value that differs from itself, which no extended real does. -/
theorem rep3_softplus (hx : Rep3 x f) (h0 : Rep3 o fun _ _ _ => 0) (hd : Rep3 d f) :
    Rep3 (select (cmpf .une d d) (addf x o) (addf (maximumf x o) (Host.log1p (Host.exp (Host.negf (Host.absf d))))))
      fun a b c => softplus (f a b c) := by
  have h := rep3_add (rep3_max hx h0) (rep3_hlog1p (rep3_hexp (rep3_hneg (rep3_habs hd))) fun a b c => by positivity)
  intro a b c
  change (if FloatOps.cmpf (F := Ideal) (φ := .f32) .une (d (ix3 a b c)) (d (ix3 a b c)) = 1#1 then _ else _) = _
  rw [une_self, if_neg (by decide)]
  refine (h a b c).trans ?_
  simp only [softplus, zero_sub]

/-- A guard against `+∞` lets every real through. -/
theorem rep3_finite {h} (hx : Rep3 x f) :
    Rep3 (select (cmpf .oeq x (broadcastInDim (⟨3, ![m, n, k]⟩ : Shape) ![] h (constant (F := Ideal) ⟨0, ![]⟩ .f32 0x7F800000#32))) o x) f := fun a b c => by
  change (if FloatOps.cmpf (F := Ideal) (φ := .f32) .oeq (x (ix3 a b c)) (Ideal.ofBits .f32 0x7F800000#32) = 1#1 then _ else x (ix3 a b c)) = _
  rw [hx, oeq_top, if_neg (by decide)]

end soft

/-! ## Running sums along the last axis -/

theorem foldl_coe {α : Type} (t : α → EReal) (g : α → ℝ) (e : ∀ n, t n = ((g n : ℝ) : EReal)) (l : List α) (r : ℝ) :
    l.foldl (fun s n => s + t n) (r : EReal) = ((r + (l.map g).sum : ℝ) : EReal) := by
  induction l generalizing r with
  | nil => simp
  | cons a l ih => rw [List.foldl_cons, e, ← EReal.coe_add, ih, List.map_cons, List.sum_cons, add_assoc]

theorem row_numel (N : ℕ) : (⟨3, ![1, 1, N]⟩ : Shape).numel = N := by
  simp [Shape.numel, Fin.prod_univ_succ]

theorem row_symm (N : ℕ) (n : Fin (⟨3, ![1, 1, N]⟩ : Shape).numel) :
    ((⟨3, ![1, 1, N]⟩ : Shape).rowMajor.symm n 0).val = 0 ∧ ((⟨3, ![1, 1, N]⟩ : Shape).rowMajor.symm n 1).val = 0
      ∧ ((⟨3, ![1, 1, N]⟩ : Shape).rowMajor.symm n 2).val = n.val := by
  have h0 : ((⟨3, ![1, 1, N]⟩ : Shape).rowMajor.symm n 0).val < 1 := ((⟨3, ![1, 1, N]⟩ : Shape).rowMajor.symm n 0).isLt
  have h1 : ((⟨3, ![1, 1, N]⟩ : Shape).rowMajor.symm n 1).val < 1 := ((⟨3, ![1, 1, N]⟩ : Shape).rowMajor.symm n 1).isLt
  have e := Shape.rowMajor_val_three (d := ![1, 1, N]) ((⟨3, ![1, 1, N]⟩ : Shape).rowMajor.symm n)
  rw [Equiv.apply_symm_apply] at e
  have h0' := Nat.lt_one_iff.1 h0
  have h1' := Nat.lt_one_iff.1 h1
  refine ⟨h0', h1', ?_⟩
  rw [h0', h1'] at e
  simpa using e.symm

section window
variable {A B N : ℕ} {x : FVec Ideal ⟨3, ![A, B, N]⟩ .f32} {f : ℕ → ℕ → ℕ → ℝ}

theorem rep3_window (lo : ℕ) (hi : Fin 3 → ℕ) (hx : Rep3 x f) (init : FVec Ideal ⟨0, ![]⟩ .f32) (h0 : ∀ y, init y = 0) (h hu) :
    Rep3 (Host.reduceWindowAdd (F := Ideal) (t := ⟨3, ![A, B, N]⟩) ![1, 1, N] ![1, 1, 1] ![0, 0, lo] hi x init h hu)
      fun a b c => ∑ t ∈ Finset.range N, if lo ≤ c + t ∧ c + t - lo < N then f a b (c + t - lo) else 0 := fun a b c => by
  change Ideal.hostReduceWindowAdd ![1, 1, N] ![1, 1, 1] ![0, 0, lo] hi h x (init (Shape.Idx.first hu)) (ix3 a b c) = _
  unfold Ideal.hostReduceWindowAdd Host.reduceWindow
  dsimp only
  rw [h0]
  have hz : (0 : EReal) = ((0 : ℝ) : EReal) := rfl
  rw [hz]
  refine (foldl_coe _ (fun n => (fun t : ℕ => if lo ≤ c + t ∧ c + t - lo < N then f a b (c + t - lo) else 0) n.val) ?_ _ 0).trans ?_
  · intro n
    obtain ⟨e0, e1, e2⟩ := row_symm N n
    dsimp only
    split
    · next hin =>
      have h2 := hin 2
      change lo ≤ c.val * 1 + ((⟨3, ![1, 1, N]⟩ : Shape).rowMajor.symm n 2).val
        ∧ c.val * 1 + ((⟨3, ![1, 1, N]⟩ : Shape).rowMajor.symm n 2).val - lo < N at h2
      rw [e2, Nat.mul_one] at h2
      rw [if_pos h2]
      refine (congrArg x (funext fun q => Fin.ext ?_)).trans (hx a b ⟨c.val + n.val - lo, h2.2⟩)
      match q with
      | ⟨0, _⟩ =>
        change a.val * 1 + ((⟨3, ![1, 1, N]⟩ : Shape).rowMajor.symm n 0).val - 0 = a.val
        omega
      | ⟨1, _⟩ =>
        change b.val * 1 + ((⟨3, ![1, 1, N]⟩ : Shape).rowMajor.symm n 1).val - 0 = b.val
        omega
      | ⟨2, _⟩ =>
        change c.val * 1 + ((⟨3, ![1, 1, N]⟩ : Shape).rowMajor.symm n 2).val - lo = c.val + n.val - lo
        omega
    · next hin =>
      rw [if_neg]
      · intro hc
        refine hin fun q => ?_
        match q with
        | ⟨0, _⟩ =>
          change 0 ≤ a.val * 1 + ((⟨3, ![1, 1, N]⟩ : Shape).rowMajor.symm n 0).val ∧ a.val * 1 + ((⟨3, ![1, 1, N]⟩ : Shape).rowMajor.symm n 0).val - 0 < A
          have := a.isLt
          omega
        | ⟨1, _⟩ =>
          change 0 ≤ b.val * 1 + ((⟨3, ![1, 1, N]⟩ : Shape).rowMajor.symm n 1).val ∧ b.val * 1 + ((⟨3, ![1, 1, N]⟩ : Shape).rowMajor.symm n 1).val - 0 < B
          have := b.isLt
          omega
        | ⟨2, _⟩ =>
          change lo ≤ c.val * 1 + ((⟨3, ![1, 1, N]⟩ : Shape).rowMajor.symm n 2).val
            ∧ c.val * 1 + ((⟨3, ![1, 1, N]⟩ : Shape).rowMajor.symm n 2).val - lo < N
          omega
  · rw [zero_add, ← Fin.sum_univ_def,
      Fin.sum_univ_eq_sum_range (fun t : ℕ => if lo ≤ c + t ∧ c + t - lo < N then f a b (c + t - lo) else 0) _, row_numel]

/-- The sums from each element to the end of its row. -/
theorem rep3_suffix (hi : Fin 3 → ℕ) (hx : Rep3 x f) (init : FVec Ideal ⟨0, ![]⟩ .f32) (h0 : ∀ y, init y = 0) (h hu) :
    Rep3 (Host.reduceWindowAdd (F := Ideal) (t := ⟨3, ![A, B, N]⟩) ![1, 1, N] ![1, 1, 1] ![0, 0, 0] hi x init h hu)
      fun a b c => ∑ t ∈ Finset.range N, f a b t - ∑ t ∈ Finset.range c, f a b t := by
  refine (rep3_window 0 hi hx init h0 h hu).congr fun a b c _ _ hc => ?_
  rw [eq_sub_iff_add_eq']
  have e : N = c + (N - c) := by omega
  conv_rhs => rw [e, Finset.sum_range_add]
  congr 1
  have e' : N = (N - c) + c := by omega
  conv_lhs => rw [e', Finset.sum_range_add]
  rw [Finset.sum_eq_zero (s := Finset.range c), add_zero]
  · refine Finset.sum_congr rfl fun t ht => ?_
    have := Finset.mem_range.1 ht
    rw [if_pos (by omega)]; rfl
  · intro t ht
    rw [if_neg (by omega)]

/-- The sums from the start of each row up to and with each element. -/
theorem rep3_prefix (lo : ℕ) (hlo : lo + 1 = N) (hi : Fin 3 → ℕ) (hx : Rep3 x f) (init : FVec Ideal ⟨0, ![]⟩ .f32) (h0 : ∀ y, init y = 0) (h hu) :
    Rep3 (Host.reduceWindowAdd (F := Ideal) (t := ⟨3, ![A, B, N]⟩) ![1, 1, N] ![1, 1, 1] ![0, 0, lo] hi x init h hu)
      fun a b c => ∑ t ∈ Finset.range (c + 1), f a b t := by
  refine (rep3_window lo hi hx init h0 h hu).congr fun a b c _ _ hc => ?_
  have e' : N = (lo - c) + (c + 1) := by omega
  conv_lhs => rw [e', Finset.sum_range_add]
  rw [Finset.sum_eq_zero (s := Finset.range (lo - c)), zero_add]
  · refine Finset.sum_congr rfl fun t ht => ?_
    have := Finset.mem_range.1 ht
    rw [if_pos (by omega)]
    congr 1; omega
  · intro t ht
    have := Finset.mem_range.1 ht
    rw [if_neg (by omega)]

end window

end Cert.Val
-- ==== Proof.Val.HostOps.lean ====
/- How the host's layout changes and products act on arrays of reals. -/
module

public import proofs.«01_k».proof.Proof.Val.Host
public import proofs.«01_k».proof.Proof.Val.Diag
public import proofs.«01_k».proof.Proof.Gen.ReferenceIdeal

@[expose] public section

set_option maxRecDepth 16384

noncomputable section

namespace Cert.Val

open Idealize.ShloMosaic
open Finset (range)

/-- The lanes of a row, split into the heads. -/
theorem rep3_split {x : FVec Ideal ⟨2, ![4096, 2048]⟩ .f32} {f : ℕ → ℕ → ℝ} (h) (hx : Rep x f) :
    Rep3 (shapeCast (⟨3, ![4096, 16, 128]⟩ : Shape) x h) fun i n t => f i (128 * n + t) := fun a b c => by
  pointwise
  refine (congrArg x ?_).trans ((hx a ⟨128 * b + c, by omega⟩))
  congr 1
  exact Fin.ext (by simp only []; omega)

/-- The heads' lanes, laid side by side. -/
theorem rep_merge {x : FVec Ideal ⟨3, ![4096, 16, 128]⟩ .f32} {f : ℕ → ℕ → ℕ → ℝ} (h) (hx : Rep3 x f) :
    Rep (shapeCast (⟨2, ![4096, 2048]⟩ : Shape) x h) fun i l => f i (l / 128) (l % 128) := fun a b => by
  pointwise
  exact hx a ⟨b / 128, by omega⟩ ⟨b % 128, by omega⟩

theorem repP3_mask {c : IVec ⟨2, ![4096, 4096]⟩ 1} {p : ℕ → ℕ → Prop} (h) (hc : RepP c p) :
    RepP3 (broadcastInDim (⟨3, ![16, 4096, 4096]⟩ : Shape) ![1, 2] h c) fun _ i j => p i j := fun a b d => by
  pointwise
  exact hc b d

/-- The mask of the keys strictly before a row. -/
theorem repP_mask (h1 h2 h3 h4) :
    RepP (cmpi .slt (broadcastInDim (⟨2, ![4096, 4096]⟩ : Shape) ![0, 1] h1 (broadcastInDim (⟨2, ![1, 4096]⟩ : Shape) ![1] h2 (iotaInDim ⟨1, ![4096]⟩ 32 0)))
      (broadcastInDim (⟨2, ![4096, 4096]⟩ : Shape) ![0, 1] h3 (broadcastInDim (⟨2, ![4096, 1]⟩ : Shape) ![0] h4 (iotaInDim ⟨1, ![4096]⟩ 32 0))))
      fun i j => j < i := fun a b => by
  change IntOp.cmpi .slt _ _ = 1#1 ↔ _
  pointwise
  change BitVec.ofBool ((BitVec.ofNat 32 b).slt (BitVec.ofNat 32 a)) = 1#1 ↔ _
  rw [slt_ofNat (by omega) (by omega), ofBool_eq_one]

theorem rep3_transpose_201 {x : FVec Ideal ⟨3, ![16, 128, 4096]⟩ .f32} {f : ℕ → ℕ → ℕ → ℝ} (h) (hx : Rep3 x f) :
    Rep3 (transpose (⟨3, ![4096, 16, 128]⟩ : Shape) [2, 0, 1] x h) fun a b c => f b c a := fun a b c => by
  pointwise
  exact hx b c a

theorem rep3_transpose_102 {x : FVec Ideal ⟨3, ![16, 4096, 128]⟩ .f32} {f : ℕ → ℕ → ℕ → ℝ} (h) (hx : Rep3 x f) :
    Rep3 (transpose (⟨3, ![4096, 16, 128]⟩ : Shape) [1, 0, 2] x h) fun a b c => f b a c := fun a b c => by
  pointwise
  exact hx b a c

theorem rep3_transpose_120 {x : FVec Ideal ⟨3, ![4096, 16, 128]⟩ .f32} {f : ℕ → ℕ → ℕ → ℝ} (h) (hx : Rep3 x f) :
    Rep3 (transpose (⟨3, ![16, 128, 4096]⟩ : Shape) [1, 2, 0] x h) fun a b c => f c a b := fun a b c => by
  pointwise
  exact hx c a b

theorem rep3_dot_k0 {x : FVec Ideal ⟨3, ![4096, 16, 128]⟩ .f32} {y : FVec Ideal ⟨3, ![4096, 16, 128]⟩ .f32} {f g : ℕ → ℕ → ℕ → ℝ} (hx : Rep3 x f) (hy : Rep3 y g) :
    Rep3 (Host.dotGeneral Cert.KernelIdeal.dot_S4096x16x128_S4096x16x128_S16x4096x4096_2_2_0_0_1_1 none x y) fun a b c => ∑ t ∈ range 128, f b a t * g c a t := fun a b c => by
  pointwise
  simp only [hx _ _ _, hy _ _ _, ← EReal.coe_mul]
  exact sum_coe (K := 128) fun t => f b a t * g c a t

theorem rep3_dot_r0 {x : FVec Ideal ⟨3, ![4096, 16, 128]⟩ .f32} {y : FVec Ideal ⟨3, ![4096, 16, 128]⟩ .f32} {f g : ℕ → ℕ → ℕ → ℝ} (hx : Rep3 x f) (hy : Rep3 y g) :
    Rep3 (Host.dotGeneral Cert.ReferenceIdeal.dot_S4096x16x128_S4096x16x128_S16x4096x4096_2_2_0_0_1_1 none x y) fun a b c => ∑ t ∈ range 128, f b a t * g c a t := fun a b c => by
  pointwise
  simp only [hx _ _ _, hy _ _ _, ← EReal.coe_mul]
  exact sum_coe (K := 128) fun t => f b a t * g c a t

theorem rep3_dot_k1 {x : FVec Ideal ⟨3, ![4096, 16, 128]⟩ .f32} {y : FVec Ideal ⟨3, ![16, 4096, 4096]⟩ .f32} {f g : ℕ → ℕ → ℕ → ℝ} (hx : Rep3 x f) (hy : Rep3 y g) :
    Rep3 (Host.dotGeneral Cert.KernelIdeal.dot_S4096x16x128_S16x4096x4096_S16x128x4096_0_2_2_1_1_0 none x y) fun a b c => ∑ t ∈ range 4096, f t a b * g a c t := fun a b c => by
  pointwise
  simp only [hx _ _ _, hy _ _ _, ← EReal.coe_mul]
  exact sum_coe (K := 4096) fun t => f t a b * g a c t

theorem rep3_dot_r1 {x : FVec Ideal ⟨3, ![4096, 16, 128]⟩ .f32} {y : FVec Ideal ⟨3, ![16, 4096, 4096]⟩ .f32} {f g : ℕ → ℕ → ℕ → ℝ} (hx : Rep3 x f) (hy : Rep3 y g) :
    Rep3 (Host.dotGeneral Cert.ReferenceIdeal.dot_S4096x16x128_S16x4096x4096_S16x128x4096_0_2_2_1_1_0 none x y) fun a b c => ∑ t ∈ range 4096, f t a b * g a c t := fun a b c => by
  pointwise
  simp only [hx _ _ _, hy _ _ _, ← EReal.coe_mul]
  exact sum_coe (K := 4096) fun t => f t a b * g a c t

theorem rep3_dot_r2 {x : FVec Ideal ⟨3, ![16, 128, 4096]⟩ .f32} {y : FVec Ideal ⟨3, ![4096, 16, 128]⟩ .f32} {f g : ℕ → ℕ → ℕ → ℝ} (hx : Rep3 x f) (hy : Rep3 y g) :
    Rep3 (Host.dotGeneral Cert.ReferenceIdeal.dot_S16x128x4096_S4096x16x128_S16x4096x4096_1_2_2_0_0_1 none x y) fun a b c => ∑ t ∈ range 128, f a t b * g c a t := fun a b c => by
  pointwise
  simp only [hx _ _ _, hy _ _ _, ← EReal.coe_mul]
  exact sum_coe (K := 128) fun t => f a t b * g c a t

theorem rep3_dot_r3 {x : FVec Ideal ⟨3, ![16, 4096, 4096]⟩ .f32} {y : FVec Ideal ⟨3, ![4096, 16, 128]⟩ .f32} {f g : ℕ → ℕ → ℕ → ℝ} (hx : Rep3 x f) (hy : Rep3 y g) :
    Rep3 (Host.dotGeneral Cert.ReferenceIdeal.dot_S16x4096x4096_S4096x16x128_S16x4096x128_1_0_2_2_0_1 none x y) fun a b c => ∑ t ∈ range 4096, f a t b * g t a c := fun a b c => by
  pointwise
  simp only [hx _ _ _, hy _ _ _, ← EReal.coe_mul]
  exact sum_coe (K := 4096) fun t => f a t b * g t a c

theorem rep3_dot_r4 {x : FVec Ideal ⟨3, ![16, 4096, 4096]⟩ .f32} {y : FVec Ideal ⟨3, ![4096, 16, 128]⟩ .f32} {f g : ℕ → ℕ → ℕ → ℝ} (hx : Rep3 x f) (hy : Rep3 y g) :
    Rep3 (Host.dotGeneral Cert.ReferenceIdeal.dot_S16x4096x4096_S4096x16x128_S16x4096x128_2_0_1_2_0_1 none x y) fun a b c => ∑ t ∈ range 4096, f a b t * g t a c := fun a b c => by
  pointwise
  simp only [hx _ _ _, hy _ _ _, ← EReal.coe_mul]
  exact sum_coe (K := 4096) fun t => f a b t * g t a c

theorem rep3_dot_r5 {x : FVec Ideal ⟨3, ![16, 128, 4096]⟩ .f32} {y : FVec Ideal ⟨3, ![16, 4096, 4096]⟩ .f32} {f g : ℕ → ℕ → ℕ → ℝ} (hx : Rep3 x f) (hy : Rep3 y g) :
    Rep3 (Host.dotGeneral Cert.ReferenceIdeal.dot_S16x128x4096_S16x4096x4096_S16x128x4096_2_1_1_2_0_0 none x y) fun a b c => ∑ t ∈ range 4096, f a b t * g a t c := fun a b c => by
  pointwise
  simp only [hx _ _ _, hy _ _ _, ← EReal.coe_mul]
  exact sum_coe (K := 4096) fun t => f a b t * g a t c

/-- The sum of each row. -/
theorem rep_rowSum {x : FVec Ideal ⟨3, ![16, 4096, 4096]⟩ .f32} {f : ℕ → ℕ → ℕ → ℝ} (init : FVec Ideal ⟨0, ![]⟩ .f32) (h0 : ∀ y, init y = 0) (h : (⟨3, ![16, 4096, 4096]⟩ : Shape).ReducesTo [2] ⟨2, ![16, 4096]⟩) (hu)
    (hx : Rep3 x f) : Rep (Host.reduceAdd x init h hu) fun a b => ∑ t ∈ range 4096, f a b t := fun a b => by
  pointwise
  simp only [hx _ _ _, h0]
  rw [zero_add]
  exact sum_coe (K := 4096) fun t => f a b t

theorem rep_transpose {x : FVec Ideal ⟨2, ![16, 4096]⟩ .f32} {f : ℕ → ℕ → ℝ} (h) (hx : Rep x f) :
    Rep (transpose (⟨2, ![4096, 16]⟩ : Shape) [1, 0] x h) fun a b => f b a := fun a b => by
  pointwise
  exact hx b a

theorem rep3_lanes {x : FVec Ideal ⟨2, ![4096, 16]⟩ .f32} {f : ℕ → ℕ → ℝ} (h h') (hx : Rep x f) :
    Rep3 (broadcastInDim (⟨3, ![4096, 16, 128]⟩ : Shape) ![0, 1, 2] h' (broadcastInDim (⟨3, ![4096, 16, 1]⟩ : Shape) ![0, 1] h x)) fun a b _ => f a b := fun a b c => by
  pointwise
  exact hx a b

end Cert.Val
-- ==== Proof.Val.Entry.lean ====
/- What the host's lines hand to the gradient call: the attention's output and the rows' totals, over the reals. -/
module

public import proofs.«01_k».proof.Proof.Val.Sem
public import proofs.«01_k».proof.Proof.Val.HostOps
public import Idealize.ShloMosaic.Lib.StableHlo.RunRead

@[expose] public section

set_option maxRecDepth 16384
set_option maxHeartbeats 2000000

noncomputable section

namespace Cert.Val

open Idealize.ShloMosaic Cert.KernelIdeal Cert.KernelIdeal.Gen
open Finset (range)

section forward
variable {x : FVec Ideal S4096x14336 .bf16} {pr dy : ℕ → ℕ → ℝ} (hpr : Rep x pr)

variable (x) in
/-- The host's scaled queries, keys and values, one head after another. -/
def hostQ : FVec Ideal S4096x16x128 .f32 :=
  mulf (shapeCast _ (extf .f32 (extractStridedSlice S4096x2048 ![0, 2048] x slices_S4096x14336_S4096x2048_0_2048) bitsLt_bf16_f32) shapeCasts_S4096x2048_S4096x16x128)
    (broadcastInDim S4096x16x128 ![] bcast_S_S4096x16x128 (constant S_ .f32 0x3DB504F3#32))
variable (x) in
@[inherit_doc hostQ] def hostK : FVec Ideal S4096x16x128 .f32 :=
  shapeCast _ (extf .f32 (extractStridedSlice S4096x2048 ![0, 4096] x slices_S4096x14336_S4096x2048_0_4096) bitsLt_bf16_f32) shapeCasts_S4096x2048_S4096x16x128
variable (x) in
@[inherit_doc hostQ] def hostV : FVec Ideal S4096x16x128 .f32 :=
  shapeCast _ (extf .f32 (extractStridedSlice S4096x2048 ![0, 6144] x slices_S4096x14336_S4096x2048_0_6144) bitsLt_bf16_f32) shapeCasts_S4096x2048_S4096x16x128
variable (x) in
/-- The host's logits. -/
def hostZ : FVec Ideal S16x4096x4096 .f32 := Host.dotGeneral dot_S4096x16x128_S4096x16x128_S16x4096x4096_2_2_0_0_1_1 none (hostQ x) (hostK x)
/-- The host's zeros. -/
def host0 : FVec Ideal S16x4096x4096 .f32 := broadcastInDim S16x4096x4096 ![] bcast_S_S16x4096x4096 (constant S_ .f32 0x00000000#32)
/-- The host's softplus. -/
def hostSoft (z : FVec Ideal S16x4096x4096 .f32) : FVec Ideal S16x4096x4096 .f32 :=
  select (cmpf .une (subf z host0) (subf z host0)) (addf z host0) (addf (maximumf z host0) (Host.log1p (Host.exp (Host.negf (Host.absf (subf z host0))))))
/-- The host's mask. -/
def hostMask : IVec S16x4096x4096 1 := broadcastInDim S16x4096x4096 ![1, 2] bcast_S4096x4096_S16x4096x4096_1_2
  (cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))
variable (x) in
/-- The host's masked logarithm of the kept stick. -/
def hostKeep : FVec Ideal S16x4096x4096 .f32 := select hostMask (Host.negf (hostSoft (hostZ x))) host0
variable (x) in
/-- The host's masked weights. -/
def hostA : FVec Ideal S16x4096x4096 .f32 :=
  select hostMask (Host.exp (addf (Host.negf (hostSoft (Host.negf (hostZ x)))) (subf
    (Host.reduceWindowAdd ![1, 1, 4096] ![1, 1, 1] ![0, 0, 0] ![0, 0, 4095] (hostKeep x) (broadcastInDim S_ ![] bcast_S_S_ (constant S_ .f32 0x00000000#32)) reduceWindows_S16x4096x4096_S16x4096x4096_w1s1p0_0_w1s1p0_0_w4096s1p0_4095 h_S_)
    (hostKeep x)))) host0

theorem host0_rep : Rep3 host0 fun _ _ _ => 0 := rep3_const zero_bits _

theorem hostSoft_rep {z : FVec Ideal S16x4096x4096 .f32} {f : ℕ → ℕ → ℕ → ℝ} (hz : Rep3 z f) : Rep3 (hostSoft z) fun a b c => softplus (f a b c) :=
  rep3_softplus hz host0_rep ((rep3_sub hz host0_rep).congr fun _ _ _ _ _ _ => sub_zero _)

theorem hostMask_rep : RepP3 hostMask fun n i j => j < i := repP3_mask _ (repP_mask _ _ _ _)

include hpr

theorem hostQ_rep : Rep3 (hostQ x) fun i n t => (hd pr dy n).Q i t :=
  (rep3_mul (rep3_split _ (rep_ext _ (rep_slice (φ := .bf16) _ hpr))) (rep3_const κ_eq _)).congr fun i n t _ _ _ => by simp [hd, hd0]

theorem hostK_rep : Rep3 (hostK x) fun i n t => (hd pr dy n).K i t :=
  (rep3_split _ (rep_ext _ (rep_slice (φ := .bf16) _ hpr))).congr fun i n t _ _ _ => by simp [hd, hd0]

theorem hostV_rep : Rep3 (hostV x) fun i n t => (hd pr dy n).V i t :=
  (rep3_split _ (rep_ext _ (rep_slice (φ := .bf16) _ hpr))).congr fun i n t _ _ _ => by simp [hd, hd0]

theorem hostZ_rep : Rep3 (hostZ x) fun n i j => (hd pr dy n).Z i j := rep3_dot_k0 (hostQ_rep hpr) (hostK_rep hpr)

theorem hostKeep_rep : Rep3 (hostKeep x) fun n i j => (hd pr dy n).keep i j :=
  rep3_select hostMask_rep (rep3_hneg (hostSoft_rep (hostZ_rep hpr))) host0_rep

theorem hostA_rep : Rep3 (hostA x) fun n i j => (hd pr dy n).A i j :=
  (rep3_select hostMask_rep (rep3_hexp (rep3_add (rep3_hneg (hostSoft_rep (rep3_hneg (hostZ_rep hpr))))
    (rep3_sub (rep3_suffix _ (hostKeep_rep hpr) _ (fun _ => zero_bits) _ _) (hostKeep_rep hpr)))) host0_rep).congr
    fun n i j _ _ _ => (hd pr dy n).W_eq (total_eq pr dy n) i j

theorem hostO_rep (h1 h2 h3) : Rep (truncf .bf16 (shapeCast S4096x2048 (transpose S4096x16x128 [2, 0, 1]
    (Host.dotGeneral (φ₁ := .f32) (φ₂ := .f32) dot_S4096x16x128_S16x4096x4096_S16x128x4096_0_2_2_1_1_0 none (hostV x) (hostA x)) h1) h2) h3 : FVec Ideal S4096x2048 .bf16)
    (out pr dy) :=
  rep_trunc _ (rep_merge _ (rep3_transpose_201 _ (rep3_dot_k1 (hostV_rep hpr) (hostA_rep hpr))))

theorem hostTot_rep (h1 h2) (h3 : S16x4096x4096.ReducesTo [2] S16x4096) (h4 h5 h6) : Rep (shapeCast S4096x2048 (broadcastInDim S4096x16x128 ![0, 1, 2] h1 (broadcastInDim S4096x16x1 ![0, 1] h2
    (transpose S4096x16 [1, 0] (Host.negf (Host.reduceAdd (hostKeep x) (constant S_ .f32 0x00000000#32) h3 h4 : FVec Ideal S16x4096 .f32)) h5))) h6 : FVec Ideal S4096x2048 .f32)
    fun i l => total pr dy (l / 128) i :=
  Rep.congr (φ := .f32) (rep_merge _ (rep3_lanes _ _ (rep_transpose _ (rep_hneg (rep_rowSum _ (fun _ => zero_bits) _ _ (hostKeep_rep (dy := dy) hpr))))))
    fun i l _ _ => by simp only [total_eq, Head.keep_eq, Finset.sum_neg_distrib, neg_neg]

end forward

/-! ## The values at the call -/

section entry
variable (m : (ℓ : Loc nD τ sig) → Buf (Elt Ideal) ℓ) (c : Dev nD) {pr dy : ℕ → ℕ → ℝ}
  (hpr : Rep (m := 4096) (n := 14336) (m (c, Proc.devRef .tc main_arg1)) pr)

include hpr

theorem v37_rep : Rep (m := 4096) (n := 2048) (V m c main_v37) fun i l => total pr dy (l / 128) i := by
  unfold V
  simp only [List.flatten_cons, List.flatten_nil, hostOps0, hostOps0_1, hostOps0_2, hostOps0_3, hostOps0_4, hostOps0_5, hostOps0_6, hostOps0_7, hostOps0_8, hostOps0_9, List.cons_append, List.nil_append, List.append_nil]
  after_reads_simp
  simp only [StableHlo.TRef.toBuf, StableHlo.TRef.ofBuf, cast_eq]
  exact hostTot_rep hpr bcast_S4096x16x1_S4096x16x128_0_1_2 bcast_S4096x16_S4096x16x1_0_1 reducesTo_S16x4096x4096_S16x4096_d2 h_S_ transposes_S16x4096_S4096x16_1_0 shapeCasts_S4096x16x128_S4096x2048

theorem v38_rep : Rep (m := 4096) (n := 2048) (V m c main_v38) (out pr dy) := by
  unfold V
  simp only [List.flatten_cons, List.flatten_nil, hostOps0, hostOps0_1, hostOps0_2, hostOps0_3, hostOps0_4, hostOps0_5, hostOps0_6, hostOps0_7, hostOps0_8, hostOps0_9, List.cons_append, List.nil_append, List.append_nil]
  after_reads_simp
  simp only [StableHlo.TRef.toBuf, StableHlo.TRef.ofBuf, cast_eq]
  exact hostO_rep hpr transposes_S16x128x4096_S4096x16x128_2_0_1 shapeCasts_S4096x16x128_S4096x2048 bitsLt_bf16_f32

theorem holds (hdy : Rep (m := 4096) (n := 2048) (m (c, Proc.devRef .tc main_arg0)) dy) : Holds m (data pr dy) c where
  pr := by rw [V_main_arg1]; exact hpr
  o := v38_rep m c hpr
  dy := by rw [V_main_arg0]; exact hdy
  tot := v37_rep m c hpr

end entry

end Cert.Val
-- ==== Proof.Val.Ref.lean ====
/- What the reference's program computes, over the reals: the gradients of the two-head column blocks. -/
module

public import proofs.«01_k».proof.Proof.Val.Sem
public import proofs.«01_k».proof.Proof.Val.HostOps
public import proofs.«01_k».proof.Proof.Gen.ReferenceIdeal.Run

@[expose] public section

set_option maxRecDepth 16384
set_option maxHeartbeats 1000000

noncomputable section

namespace Cert.Val.Ref

open Idealize.ShloMosaic Cert.ReferenceIdeal Cert.ReferenceIdeal.Gen Cert.ReferenceIdeal.Value
open Finset (range)

variable {V0 : Valuation τ sig (Elt Ideal)} {pr dy : ℕ → ℕ → ℝ}
  (hpr : Rep (m := 4096) (n := 14336) (V0 (Proc.devRef .tc main_arg1)) pr) (hdy : Rep (m := 4096) (n := 2048) (V0 (Proc.devRef .tc main_arg0)) dy)

include hpr

theorem r7 : Rep (res_main_v7 V0) fun i l => pr i (8192 + l) :=
  (rep_ext _ (rep_slice (φ := .bf16) _ hpr)).congr fun i l _ _ => by simp

theorem r10 : Rep3 (res_main_v10 V0) fun i n t => (hd pr dy n).Q i t :=
  (rep3_mul (rep3_split _ (rep_ext _ (rep_slice (φ := .bf16) _ hpr))) (rep3_const κ_eq _)).congr fun i n t _ _ _ => by simp [hd, hd0]

theorem r11 : Rep3 (res_main_v11 V0) fun i n t => (hd pr dy n).K i t :=
  (rep3_split _ (rep_ext _ (rep_slice (φ := .bf16) _ hpr))).congr fun i n t _ _ _ => by simp [hd, hd0]

theorem r12 : Rep3 (res_main_v12 V0) fun i n t => (hd pr dy n).V i t :=
  (rep3_split _ (rep_ext _ (rep_slice (φ := .bf16) _ hpr))).congr fun i n t _ _ _ => by simp [hd, hd0]

theorem r13 : Rep3 (res_main_v13 V0) fun n i j => (hd pr dy n).Z i j :=
  rep3_dot_r0 (r10 hpr) (r11 hpr)

omit hpr in
theorem rmask : RepP3 (res_main_v23_1 V0) fun n i j => j < i := repP3_mask _ (repP_mask _ _ _ _)

omit hpr in
theorem rmask' : RepP3 (res_main_v29_1 V0) fun n i j => j < i := repP3_mask _ (repP_mask _ _ _ _)

theorem r21 : Rep3 (res_main_v21_0 V0) fun n i j => softplus ((hd pr dy n).Z i j) :=
  rep3_softplus (r13 hpr) (rep3_const zero_bits _)
    ((rep3_sub (r13 hpr) (rep3_const zero_bits _)).congr fun _ _ _ _ _ _ => sub_zero _)

theorem r23 : Rep3 (res_main_v23_0 V0) fun n i j => (hd pr dy n).keep i j :=
  rep3_select rmask (rep3_hneg (r21 hpr)) (rep3_const zero_bits _)

theorem rneg : Rep3 (res_main_call3_v0 V0) fun n i j => -(hd pr dy n).Z i j := rep3_hneg (r13 hpr)

theorem rsoft : Rep3 (res_main_call3_v1_0 V0) fun n i j => softplus (-(hd pr dy n).Z i j) :=
  rep3_softplus (rneg hpr) (rep3_const zero_bits _)
    ((rep3_sub (rneg hpr) (rep3_const zero_bits _)).congr fun _ _ _ _ _ _ => sub_zero _)

theorem r28 : Rep3 (res_main_v28 V0) fun n i j => (hd pr dy n).W i j :=
  rep3_hexp (rep3_add (rep3_hneg (rsoft hpr)) (rep3_sub (rep3_suffix _ (r23 hpr) _ (fun _ => zero_bits) _ _) (r23 hpr)))

theorem r29 : Rep3 (res_main_v29_0 V0) fun n i j => (hd pr dy n).A i j :=
  (rep3_select rmask' (r28 hpr) (rep3_const zero_bits _)).congr fun n i j _ _ _ => (hd pr dy n).W_eq (total_eq pr dy n) i j

theorem r32 : Rep (res_main_v32 V0) (out pr dy) :=
  rep_merge _ (rep3_transpose_201 _ (rep3_dot_r1 (r12 hpr) (r29 hpr)))

theorem r33 : Rep (res_main_v33_2 V0) fun i l => sg (pr i (8192 + l)) :=
  (rep_hdiv (rep_hconst one_bits _) (rep_add (rep_hconst one_bits _) (rep_hexp (rep_hneg (r7 hpr)))) fun _ _ => by positivity).congr
    fun i l _ _ => by simp [sg]

theorem r33' : Rep (res_main_v33_0 V0) fun i l => pr i (8192 + l) * sg (pr i (8192 + l)) := rep_mul (r7 hpr) (r33 hpr)

include hdy

omit hpr in
theorem r35 : Rep (res_main_v35 V0) dy := rep_ext _ hdy

theorem r36 : Rep (res_main_v36 V0) fun i l => out pr dy i l * dy i l := rep_mul (r32 hpr) (r35 hdy)

theorem r40 : Rep3 (res_main_v40 V0) fun n t i => (hd pr dy n).U i t :=
  rep3_transpose_120 _ (rep3_split _ (rep_mul (r35 hdy) (r33' hpr)))

theorem r45 : Rep3 (res_main_v45 V0) fun n i j => (hd pr dy n).G i j :=
  (rep3_mul (rep3_select rmask' (rep3_dot_r2 (r40 hpr hdy) (r12 hpr)) (rep3_const zero_bits _)) (r28 hpr)).congr
    fun n i j _ _ _ => (hd pr dy n).G_eq (total_eq pr dy n) i j

theorem r53 : Rep3 (res_main_v53 V0) fun n i j => (hd pr dy n).D i j :=
  (rep3_add
    (rep3_hneg (rep3_mul (rep3_hneg (r45 hpr hdy)) (rep3_hexp (rep3_sub (rep3_finite (rneg hpr)) (rep3_finite (rsoft hpr))))))
    (rep3_mul
      (rep3_hneg (rep3_select rmask (rep3_add (rep3_hneg (r45 hpr hdy)) (rep3_prefix 4095 rfl _ (r45 hpr hdy) _ (fun _ => zero_bits) _ _))
        (rep3_const zero_bits _)))
      (rep3_hexp (rep3_sub (rep3_finite (r13 hpr)) (rep3_finite (r21 hpr)))))).congr
    fun n i j _ _ _ => (hd pr dy n).D_eq i j

/-! ## The results -/

theorem dq_rep (h1 h2 h3 h4) : Rep (truncf .bf16 (shapeCast S4096x2048 (mulf (transpose S4096x16x128 [1, 0, 2]
    (Host.dotGeneral (φ₁ := .f32) (φ₂ := .f32) dot_S16x4096x4096_S4096x16x128_S16x4096x128_2_0_1_2_0_1 none (res_main_v53 V0) (res_main_v11 V0)) h1)
    (broadcastInDim S4096x16x128 ![] h2 (constant S_ .f32 0x3DB504F3#32))) h3) h4 : FVec Ideal S4096x2048 .bf16) (data pr dy).dq :=
  (rep_trunc _ (rep_merge _ (rep3_mul (rep3_transpose_102 _ (rep3_dot_r4 (r53 hpr hdy) (r11 hpr))) (rep3_const κ_eq _)))).congr
    fun i l _ _ => (dq_eq pr dy i l).symm

theorem dk_rep (h1 h3 h4) : Rep (truncf .bf16 (shapeCast S4096x2048 (transpose S4096x16x128 [1, 0, 2]
    (Host.dotGeneral (φ₁ := .f32) (φ₂ := .f32) dot_S16x4096x4096_S4096x16x128_S16x4096x128_1_0_2_2_0_1 none (res_main_v53 V0) (res_main_v10 V0)) h1) h3) h4 : FVec Ideal S4096x2048 .bf16)
    (data pr dy).dk :=
  (rep_trunc _ (rep_merge _ (rep3_transpose_102 _ (rep3_dot_r3 (r53 hpr hdy) (r10 hpr))))).congr
    fun i l _ _ => (dk_eq pr dy i l).symm

theorem dv_rep (h1 h3 h4) : Rep (truncf .bf16 (shapeCast S4096x2048 (transpose S4096x16x128 [2, 0, 1]
    (Host.dotGeneral (φ₁ := .f32) (φ₂ := .f32) dot_S16x128x4096_S16x4096x4096_S16x128x4096_2_1_1_2_0_0 none (res_main_v40 V0) (res_main_v29_0 V0)) h1) h3) h4 : FVec Ideal S4096x2048 .bf16)
    (data pr dy).dv :=
  (rep_trunc _ (rep_merge _ (rep3_transpose_201 _ (rep3_dot_r5 (r40 hpr hdy) (r29 hpr))))).congr
    fun i l _ _ => ((dv_eq pr dy i l).trans (Finset.sum_congr rfl fun _ _ => mul_comm _ _)).symm

theorem dz_rep (h2 h4) : Rep (truncf .bf16 (addf (mulf (res_main_v36 V0) (res_main_v33_2 V0)) (mulf (mulf (res_main_v7 V0) (res_main_v36 V0))
    (mulf (res_main_v33_2 V0) (subf (broadcastInDim S4096x2048 ![] h2 (constant S_ .f32 0x3F800000#32)) (res_main_v33_2 V0))))) h4 : FVec Ideal S4096x2048 .bf16)
    (data pr dy).dz :=
  (rep_trunc _ (rep_add (rep_mul (r36 hpr hdy) (r33 hpr)) (rep_mul (rep_mul (r7 hpr) (r36 hpr hdy))
    (rep_mul (r33 hpr) (rep_sub (rep_hconst one_bits _) (r33 hpr)))))).congr
    fun i l _ _ => by simp only [Data.dz, data]; ring

end Cert.Val.Ref
-- ==== Proof.Val.Claim.lean ====
/- The kernel's four gradients are the reference's, on finite arguments. -/
module

public import proofs.«01_k».proof.Defs
public import proofs.«01_k».proof.Proof.Val.Run
public import proofs.«01_k».proof.Proof.Val.Entry
public import proofs.«01_k».proof.Proof.Val.Ref

@[expose] public section

set_option maxRecDepth 16384

noncomputable section

namespace Cert.Val

open Idealize.ShloMosaic Idealize.SL.Sem

theorem facts_finite : Cert.Pre_finite.Facts where
  bitsLt_bf16_f32 := by decide
  bcast_S_S4096x2048 := by decide
  bcast_S_S4096x14336 := by decide

/-- The real numbers that a finite array holds. -/
def reals {m n : ℕ} (v : (⟨2, ![m, n]⟩ : Shape).Idx → EReal) (a b : ℕ) : ℝ :=
  if h : a < m ∧ b < n then (v (ix2 ⟨a, h.1⟩ ⟨b, h.2⟩)).toReal else 0

theorem finite_of_abs {x : EReal} (h : max x (-x) < ⊤) : x = ((x.toReal : ℝ) : EReal) := by
  refine (EReal.coe_toReal ?_ ?_).symm
  · rintro rfl; simp at h
  · rintro rfl; simp at h

theorem reals_rep {m n : ℕ} {v : FVec Ideal ⟨2, ![m, n]⟩ .bf16} (h h')
    (e : cmpf .olt (Host.absf (extf .f32 v h')) (broadcastInDim (⟨2, ![m, n]⟩ : Shape) ![] h (constant (F := Ideal) ⟨0, ![]⟩ .f32 0x7F800000#32)) = fun _ => 1#1) :
    Rep v (reals v) := fun a b => by
  have h1 : Ideal.cmp .olt (max (v (ix2 a b)) (-(v (ix2 a b)))) (Ideal.ofBits .f32 0x7F800000#32) = 1#1 := congrFun e (ix2 a b)
  rw [inf_bits] at h1
  have h2 : max (v (ix2 a b)) (-(v (ix2 a b))) < ⊤ := by
    change BitVec.ofBool (decide (max (v (ix2 a b)) (-(v (ix2 a b))) < ⊤)) = 1#1 at h1
    exact ofBool_eq_one.1 h1
  have h3 : reals v a b = (v (ix2 a b)).toReal := dif_pos ⟨a.2, b.2⟩
  rw [h3]
  exact finite_of_abs h2

section kernel
open Cert.KernelIdeal Cert.KernelIdeal.Gen

variable (m : (ℓ : Loc nD τ sig) → Buf (Elt Ideal) ℓ) (ρ : Dev nD → PrngReg)

/-- The data of each device. -/
def devData (c : Dev nD) : Data :=
  data (reals (m := 4096) (n := 14336) (m ((c.tc : Thread nD τ).loc main_arg1))) (reals (m := 4096) (n := 2048) (m ((c.tc : Thread nD τ).loc main_arg0)))

theorem kernel_value (H : ∀ c, Holds m (devData m c) c) : θ_run defs (onTc (τ := τ) (main (F := Ideal))) ⟨m, fun _ => 0, ρ⟩ (fun r => ∀ c : Dev nD,
      r.2.mem ((c.tc : Thread nD τ).loc main_v39_0) = of2 (m := 4096) (n := 2048) (devData m c).dq
      ∧ r.2.mem ((c.tc : Thread nD τ).loc main_v39_1) = of2 (m := 4096) (n := 2048) (devData m c).dk
      ∧ r.2.mem ((c.tc : Thread nD τ).loc main_v39_2) = of2 (m := 4096) (n := 2048) (devData m c).dv
      ∧ r.2.mem ((c.tc : Thread nD τ).loc main_v39_3) = of2 (m := 4096) (n := 2048) (devData m c).dz
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 7).trans (final_dq m (devData m) c), ((h c).1 8).trans (final_dk m (devData m) c), ((h c).1 9).trans (final_dv m (devData m) c),
     ((h c).1 10).trans (final_dz m (devData m) c),
     ((h c).1 6).trans (((rdats m (devData m) 0 c).arrAt_in 6 rfl _).trans ((rA_eq m (devData m) c 6).trans (V_main_arg0 m c))),
     ((h c).1 3).trans (((rdats m (devData m) 0 c).arrAt_in 3 rfl _).trans ((rA_eq m (devData m) c 3).trans (V_main_arg1 m c)))⟩)
    (run_value m ρ (devData m) H)

end kernel

theorem algebraic : Cert.algebraic_KernelIdeal_ReferenceIdeal_pre_finite (hKernelIdeal := Cert.KernelIdeal.Gen.facts)
    (hReferenceIdeal := Cert.ReferenceIdeal.Gen.facts) (hPre_finite := facts_finite) := by
  intro m g m' g' hpre hargs
  have hpr : ∀ c : Dev Cert.KernelIdeal.nD, Rep (m := 4096) (n := 14336) (m ((c.tc : Thread Cert.KernelIdeal.nD Cert.KernelIdeal.τ).loc Cert.KernelIdeal.main_arg1)) (devData m c).pr :=
    fun c => reals_rep _ _ (hpre c).2
  have hdy : ∀ c : Dev Cert.KernelIdeal.nD, Rep (m := 4096) (n := 2048) (m ((c.tc : Thread Cert.KernelIdeal.nD Cert.KernelIdeal.τ).loc Cert.KernelIdeal.main_arg0)) (devData m c).dy :=
    fun c => reals_rep _ _ (hpre c).1
  refine ⟨fun c => of2 (m := 4096) (n := 2048) (devData m c).dq, fun c => of2 (m := 4096) (n := 2048) (devData m c).dk,
    fun c => of2 (m := 4096) (n := 2048) (devData m c).dv, fun c => of2 (m := 4096) (n := 2048) (devData m c).dz,
    kernel_value m g fun c => holds m c (hpr c) (hdy c), ?_⟩
  refine (θ_run Cert.ReferenceIdeal.defs _ _).mono (fun r h c => ?_) (Cert.ReferenceIdeal.Value.run (F := Ideal) m' g')
  have hpr' : Rep (m := 4096) (n := 14336) (StableHlo.launchContents m' c (Proc.devRef .tc Cert.ReferenceIdeal.main_arg1)) (devData m c).pr := by
    change Rep (m := 4096) (n := 14336) (m' ((c.tc : Thread Cert.ReferenceIdeal.nD Cert.ReferenceIdeal.τ).loc Cert.ReferenceIdeal.main_arg1)) _
    rw [(hargs c).2]; exact hpr c
  have hdy' : Rep (m := 4096) (n := 2048) (StableHlo.launchContents m' c (Proc.devRef .tc Cert.ReferenceIdeal.main_arg0)) (devData m c).dy := by
    change Rep (m := 4096) (n := 2048) (m' ((c.tc : Thread Cert.ReferenceIdeal.nD Cert.ReferenceIdeal.τ).loc Cert.ReferenceIdeal.main_arg0)) _
    rw [(hargs c).1]; exact hdy c
  exact ⟨(h c).1.trans (Ref.dq_rep hpr' hdy' _ _ _ _).eq_of2, (h c).2.1.trans (Ref.dk_rep hpr' hdy' _ _ _).eq_of2,
    (h c).2.2.1.trans (Ref.dv_rep hpr' hdy' _ _ _).eq_of2, (h c).2.2.2.1.trans (Ref.dz_rep hpr' hdy' _ _).eq_of2,
    (h c).2.2.2.2.1, (h c).2.2.2.2.2⟩

end Cert.Val
-- ==== Proof.Grad.Dh.lean ====
module

public import proofs.«01_k».proof.Defs
public import proofs.«01_k».proof.Proof.Gen.KernelDhIdeal.Value
public import proofs.«01_k».proof.Proof.Gen.ReferenceDhIdeal.Run
public import Idealize.ShloMosaic.Lib.Pipeline.ValueKit
public import Idealize.ShloMosaic.Lib.Pipeline.ReadBack

@[expose] public section

set_option maxRecDepth 16384

noncomputable section

namespace Cert.Grad.Dh

open Cert.KernelDhIdeal Cert.KernelDhIdeal.Gen Idealize.ShloMosaic Idealize.ShloMosaic.TcCoe Idealize.SL.Sem

variable (m : (ℓ : Loc nD τ sig) → Buf (Elt Ideal) ℓ)

/-- The gradient of the normalised input: the two gradients against their weights. -/
def grad (dproj : Vec Ideal S4096x14336 .bf16) (dgl : Vec Ideal S4096x6144 .bf16) (wIn : Vec Ideal S2048x14336 .bf16)
    (wGate : Vec Ideal S2048x6144 .bf16) : Vec Ideal S4096x2048 .f32 := fun i =>
  ((∑ n : Fin 14336, dproj (ix2 (i 0) n) * wIn (ix2 (i 1) n)) + ∑ n : Fin 6144, dgl (ix2 (i 0) n) * wGate (ix2 (i 1) n) : EReal)

/-- The product over one block of columns of the input projection. -/
def part₁ (A : Vec Ideal S512x1792 .bf16) (B : Vec Ideal S1x2048x1792 .bf16) (y : S512x2048.Idx) : EReal :=
  ∑ n : Fin 1792, A (ix2 (y 0) n) * B (ix3 0 (y 1) n)

/-- The product over one block of columns of the gate projection. -/
def part₂ (A : Vec Ideal S512x768 .bf16) (B : Vec Ideal S1x2048x768 .bf16) (y : S512x2048.Idx) : EReal :=
  ∑ n : Fin 768, A (ix2 (y 0) n) * B (ix3 0 (y 1) n)

theorem pay1_apply (A : Vec Ideal S512x1792 .bf16) (B : Vec Ideal S1x2048x1792 .bf16) (y : S512x2048.Idx) :
    k0_pay1 A B y = part₁ A B y := by
  unfold k0_pay1 part₁
  pointwise

theorem pay2_apply (X : Vec Ideal S512x2048 .f32) (A : Vec Ideal S512x1792 .bf16) (B : Vec Ideal S1x2048x1792 .bf16) (y : S512x2048.Idx) :
    k0_pay2 X A B y = (X y + part₁ A B y : EReal) := by
  unfold k0_pay2 part₁
  pointwise

theorem pay3_apply (X : Vec Ideal S512x2048 .f32) (A : Vec Ideal S512x768 .bf16) (B : Vec Ideal S1x2048x768 .bf16) (y : S512x2048.Idx) :
    k0_pay3 X A B y = (X y + part₂ A B y : EReal) := by
  unfold k0_pay3 part₂
  pointwise

/-- What grid point `t` adds. -/
def term (c : Dev nD) (t : Fin cfg0.N) (y : S512x2048.Idx) : EReal :=
  if t.val % 16 < 8 then part₁ (iblk m c 0 t) (iblk m c 1 t) y else part₂ (iblk m c 2 t) (iblk m c 3 t) y

theorem out_eq (c : Dev nD) (t : Fin cfg0.N) (ht : t.val % 16 = 15) (y : S512x2048.Idx) :
    outsAt0 m c t.val t.isLt y = (0 : EReal) + ∑ s : Fin 16, term m c ⟨16 * (t.val / 16) + s.val, Pipeline.run_point_lt_of_flush t ht s⟩ y := by
  refine Pipeline.eq_sum_fin_of_reset_step_apply_of_flush (M := EReal) (fun n h => outsAt0 m c n h) 16 (fun _ => (0 : EReal))
    (fun t y => term m c t y) ?_ ?_ t ht y
  · intro t h j
    beta_reduce
    rw [outsAt0_A m c t h (by omega) (by omega), zero_add]
    frame_out
    rw [pay1_apply, term, if_pos (by omega)]
  · intro t h j
    beta_reduce
    by_cases h3 : 8 ≤ t.val % 16
    · rw [outsAt0_C m c t h (by omega) h3]
      frame_out
      rw [pay3_apply, term, if_neg (by omega)]
    · rw [outsAt0_B m c t h (by omega) h3]
      frame_out
      rw [pay2_apply, term, if_pos (by omega)]

theorem idx (t : Fin grid0.N) : win0_0.index t = ![t.val / 16, min (t.val % 16) 7] ∧ win0_1.index t = ![min (t.val % 16) 7, 0, 0]
    ∧ win0_2.index t = ![t.val / 16, t.val % 16 - 8] ∧ win0_3.index t = ![t.val % 16 - 8, 0, 0] ∧ win0_4.index t = ![t.val / 16, 0] :=
  (by decide +kernel : ∀ t : Fin grid0.N, win0_0.index t = ![t.val / 16, min (t.val % 16) 7] ∧ win0_1.index t = ![min (t.val % 16) 7, 0, 0]
    ∧ win0_2.index t = ![t.val / 16, t.val % 16 - 8] ∧ win0_3.index t = ![t.val % 16 - 8, 0, 0] ∧ win0_4.index t = ![t.val / 16, 0]) t

theorem wIn_lt (i : S8x2048x1792.Idx) : (i 0).val * 1792 + (i 2).val < 14336 := by
  have h0 : (i 0).val < 8 := (i 0).isLt
  have h2 : (i 2).val < 1792 := (i 2).isLt
  omega

theorem wGate_lt (i : S8x2048x768.Idx) : (i 0).val * 768 + (i 2).val < 6144 := by
  have h0 : (i 0).val < 8 := (i 0).isLt
  have h2 : (i 2).val < 768 := (i 2).isLt
  omega

/-- The host's layout of the projection's weights: column `n` of block `b` is column `b * 1792 + n`. -/
theorem wIn_eq (c : Dev nD) (i : S8x2048x1792.Idx) (h : (i 0).val * 1792 + (i 2).val < 14336) :
    V m c main_v1 i = m ((c : Thread nD τ).loc main_arg2) (ix2 (i 1) ⟨(i 0).val * 1792 + (i 2).val, h⟩) := by
  entry_read
  pointwise
  blk_ext

/-- The host's layout of the gates' weights: column `n` of block `b` is column `b * 768 + n`. -/
theorem wGate_eq (c : Dev nD) (i : S8x2048x768.Idx) (h : (i 0).val * 768 + (i 2).val < 6144) :
    V m c main_v3 i = m ((c : Thread nD τ).loc main_arg3) (ix2 (i 1) ⟨(i 0).val * 768 + (i 2).val, h⟩) := by
  entry_read
  pointwise
  blk_ext

theorem arr_eq (c : Dev nD) : (dats m 0 c).arrAt 4 cfg0.N
    = grad (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  have ht := (flush0_4 t).mp hf
  refine (out_eq m c t ht y).trans ?_
  rw [zero_add]
  have hp : ∀ n, n < 16 → 16 * (t.val / 16) + n < cfg0.N := fun n hn => Pipeline.run_point_lt_of_flush t ht ⟨n, hn⟩
  refine (Fin.sum_univ_add (a := 8) (b := 8) (fun s : Fin (8 + 8) => term m c ⟨16 * (t.val / 16) + s.val, hp _ s.isLt⟩ y)).trans ?_
  unfold grad
  refine congrArg₂ (fun a b : EReal => a + b) ?_ ?_
  · refine (Finset.sum_congr rfl fun s _ => (if_pos ?_ : term m c _ y = part₁ _ _ y)).trans ?_
    · have := s.isLt
      simp only [Fin.val_castAdd]
      omega
    · unfold part₁
      refine Fin.sum_mul_add_congr fun s k hl => ?_
      have hs := s.isLt
      congr 1
      · blk_ext [iblk, V, idx t, idx ⟨16 * (t.val / 16) + (Fin.castAdd 8 s).val, hp _ (Fin.castAdd 8 s).isLt⟩]
        simp only [Fin.val_castAdd]
        omega
      · refine (wIn_eq m c _ (wIn_lt _)).trans ?_
        blk_ext [idx t, idx ⟨16 * (t.val / 16) + (Fin.castAdd 8 s).val, hp _ (Fin.castAdd 8 s).isLt⟩]
        all_goals simp only [Fin.val_castAdd]
        all_goals omega
  · refine (Finset.sum_congr rfl fun s _ => (if_neg ?_ : term m c _ y = part₂ _ _ y)).trans ?_
    · have := s.isLt
      simp only [Fin.val_natAdd]
      omega
    · unfold part₂
      refine Fin.sum_mul_add_congr fun s k hl => ?_
      have hs := s.isLt
      congr 1
      · blk_ext [iblk, V, idx t, idx ⟨16 * (t.val / 16) + (Fin.natAdd 8 s).val, hp _ (Fin.natAdd 8 s).isLt⟩]
        simp only [Fin.val_natAdd]
        omega
      · refine (wGate_eq m c _ (wGate_lt _)).trans ?_
        blk_ext [idx t, idx ⟨16 * (t.val / 16) + (Fin.natAdd 8 s).val, hp _ (Fin.natAdd 8 s).isLt⟩]
        all_goals simp only [Fin.val_natAdd]
        all_goals omega

/-- The reference's composed term is the gradient. -/
theorem ref_eq (dproj : Vec Ideal S4096x14336 .bf16) (dgl : Vec Ideal S4096x6144 .bf16) (wIn : Vec Ideal S2048x14336 .bf16)
    (wGate : Vec Ideal S2048x6144 .bf16) (h₁ : FTy.bf16.bits < FTy.f32.bits) :
    addf (F := Ideal) (Host.dotGeneral Cert.ReferenceDhIdeal.dot_S4096x6144_S2048x6144_S4096x2048_1_1_0_0_n_n none (extf (φ := .bf16) .f32 dgl h₁) (extf (φ := .bf16) .f32 wGate h₁))
      (Host.dotGeneral Cert.ReferenceDhIdeal.dot_S4096x14336_S2048x14336_S4096x2048_1_1_0_0_n_n none (extf (φ := .bf16) .f32 dproj h₁) (extf (φ := .bf16) .f32 wIn h₁))
      = grad dproj dgl wIn wGate := by
  funext i
  unfold grad
  pointwise
  rw [add_comm]

theorem algebraic : Cert.algebraic_KernelDhIdeal_ReferenceDhIdeal (hKernelDhIdeal := Cert.KernelDhIdeal.Gen.facts)
    (hReferenceDhIdeal := Cert.ReferenceDhIdeal.Gen.facts) := by
  intro m g m' g' _ hargs
  refine ⟨fun c => grad (m ((c : Thread nD τ).loc main_arg0)) (m ((c : Thread nD τ).loc main_arg1))
      (m ((c : Thread nD τ).loc main_arg2)) (m ((c : Thread nD τ).loc main_arg3)), ?_, ?_⟩
  · exact (θ_run defs _ _).mono (fun r h c => ⟨(h c).1.trans (arr_eq m c), (h c).2⟩) (Value.run_blocks m g)
  · refine (θ_run Cert.ReferenceDhIdeal.defs _ _).mono (fun r h c => ⟨(h c).1.trans ?_, (h c).2⟩)
      (Cert.ReferenceDhIdeal.Value.run (F := Ideal) m' g')
    rw [(hargs c).1, (hargs c).2.1, (hargs c).2.2.1, (hargs c).2.2.2]
    exact ref_eq _ _ _ _ _

end Cert.Grad.Dh
-- ==== Proof.Grad.DwIn.lean ====
module

public import proofs.«01_k».proof.Defs
public import proofs.«01_k».proof.Proof.Gen.KernelDwInIdeal.Value
public import proofs.«01_k».proof.Proof.Gen.ReferenceDwInIdeal.Run
public import Idealize.ShloMosaic.Lib.Pipeline.ValueKit
public import Idealize.ShloMosaic.Lib.Pipeline.ReadBack

@[expose] public section

set_option maxRecDepth 16384

noncomputable section

namespace Cert.Grad.DwIn

open Cert.KernelDwInIdeal Cert.KernelDwInIdeal.Gen Idealize.ShloMosaic Idealize.ShloMosaic.TcCoe Idealize.SL.Sem

variable (m : (ℓ : Loc nD τ sig) → Buf (Elt Ideal) ℓ)

/-- The gradient of the weights: column `n` of block `b` is column `b * 1792 + n`. -/
def grad (h : Vec Ideal S4096x2048 .bf16) (dproj : Vec Ideal S4096x14336 .bf16) : Vec Ideal S8x2048x1792 .bf16 := fun i =>
  (∑ r : Fin 4096, (h (ix2 r (i 1)) : EReal) * dproj (ix2 r ⟨(i 0).val * 1792 + (i 2).val, by have := (i 0).isLt; have := (i 2).isLt; simp at *; omega⟩) : EReal)

/-- The product of one block of rows: what one grid point adds. -/
def part (A : Vec Ideal S1024x1024 .bf16) (B : Vec Ideal S1024x1792 .bf16) (y : S1024x1792.Idx) : EReal :=
  ∑ r : Fin 1024, A (ix2 r (y 0)) * B (ix2 r (y 1))

theorem pay1_apply (A : Vec Ideal S1024x1024 .bf16) (B : Vec Ideal S1024x1792 .bf16) (y : S1024x1792.Idx) :
    k0_pay1 A B y = part A B y := by
  unfold k0_pay1 part
  pointwise

theorem scratch_eq (c : Dev nD) (t : Fin cfg0.N) (ht : t.val % 4 = 3) (y : S1024x1792.Idx) :
    (outsAt0 m c t.val t.isLt).2 y = (0 : EReal) + ∑ s : Fin 4,
      part (iblk m c 0 ⟨4 * (t.val / 4) + s.val, Pipeline.run_point_lt_of_flush t ht s⟩) (iblk m c 1 ⟨4 * (t.val / 4) + s.val, Pipeline.run_point_lt_of_flush t ht s⟩) y := by
  refine Pipeline.eq_sum_fin_of_reset_step_apply_of_flush (M := EReal) (fun n h => (outsAt0 m c n h).2) 4 (fun _ => (0 : EReal))
    (fun t y => part (iblk m c 0 t) (iblk m c 1 t) y) ?_ ?_ t ht y
  · intro t h j
    beta_reduce
    rw [outsAt0_A m c t h (by omega) (by omega), zero_add, ← pay1_apply]
    frame_out
    unfold k0_pay2
    pointwise
  · intro t h j
    beta_reduce
    by_cases h3 : t.val % 4 = 3
    · rw [outsAt0_C m c t h (by omega) h3, ← pay1_apply]
      frame_out
      simp only [read_unread_whole]
      unfold k0_pay3
      pointwise
    · rw [outsAt0_B m c t h (by omega) h3, ← pay1_apply]
      frame_out
      simp only [read_unread_whole]
      unfold k0_pay3
      pointwise

theorem out_eq (c : Dev nD) (t : Fin cfg0.N) (ht : t.val % 4 = 3) (y : S1x1024x1792.Idx) :
    (outsAt0 m c t.val t.isLt).1 y = (outsAt0 m c t.val t.isLt).2 (ix2 (y 1) (y 2)) := by
  rw [outsAt0_C m c t (by omega) (by omega) ht]
  frame_out
  unfold k0_pay4
  pointwise

theorem idx (t : Fin grid0.N) : win0_0.index t = ![t.val % 4, t.val / 4 % 2] ∧ win0_1.index t = ![t.val % 4, t.val / 8]
    ∧ win0_2.index t = ![t.val / 8, t.val / 4 % 2, 0] :=
  (by decide +kernel : ∀ t : Fin grid0.N, win0_0.index t = ![t.val % 4, t.val / 4 % 2] ∧ win0_1.index t = ![t.val % 4, t.val / 8]
    ∧ win0_2.index t = ![t.val / 8, t.val / 4 % 2, 0]) t

theorem arr_eq (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht := (flush0_2 t).mp hf
  refine (out_eq m c t ht y).trans ((scratch_eq m c t ht _).trans ?_)
  rw [zero_add]
  unfold part grad
  refine Fin.sum_mul_add_congr fun s k hl => ?_
  congr 1
  · blk_ext [iblk, V, idx t, idx ⟨4 * (t.val / 4) + s.val, Pipeline.run_point_lt_of_flush t ht s⟩]
  · blk_ext [iblk, V, idx t, idx ⟨4 * (t.val / 4) + s.val, Pipeline.run_point_lt_of_flush t ht s⟩]

/-- The reference's composed term is the gradient. -/
theorem ref_eq (h : Vec Ideal S4096x2048 .bf16) (dproj : Vec Ideal S4096x14336 .bf16) (h₁ : FTy.bf16.bits < FTy.f32.bits) (h₂ h₃ h₄ h₅) :
    transpose S8x2048x1792 [1, 0, 2] (shapeCast Cert.ReferenceDwInIdeal.S2048x8x1792 (truncf (F := Ideal) .bf16 (transpose Cert.ReferenceDwInIdeal.S2048x14336 [1, 0]
      (Host.dotGeneral Cert.ReferenceDwInIdeal.dot_S4096x14336_S4096x2048_S14336x2048_0_0_1_1_n_n none (extf (φ := .bf16) .f32 dproj h₁) (extf (φ := .bf16) .f32 h h₁)) h₂) h₃) h₄) h₅
      = grad h dproj := by
  funext i
  unfold grad
  pointwise
  refine Finset.sum_congr rfl fun k _ => ?_
  rw [mul_comm]

theorem algebraic : Cert.algebraic_KernelDwInIdeal_ReferenceDwInIdeal (hKernelDwInIdeal := Cert.KernelDwInIdeal.Gen.facts)
    (hReferenceDwInIdeal := Cert.ReferenceDwInIdeal.Gen.facts) := by
  intro m g m' g' _ hargs
  refine ⟨fun c => grad (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceDwInIdeal.defs _ _).mono (fun r h c => ⟨(h c).1.trans ?_, (h c).2⟩)
      (Cert.ReferenceDwInIdeal.Value.run (F := Ideal) m' g')
    rw [(hargs c).1, (hargs c).2]
    exact ref_eq _ _ _ _ _ _ _

end Cert.Grad.DwIn
-- ==== Proof.Grad.DwGate.lean ====
module

public import proofs.«01_k».proof.Defs
public import proofs.«01_k».proof.Proof.Gen.KernelDwGateIdeal.Value
public import proofs.«01_k».proof.Proof.Gen.ReferenceDwGateIdeal.Run
public import Idealize.ShloMosaic.Lib.Pipeline.ValueKit
public import Idealize.ShloMosaic.Lib.Pipeline.ReadBack

@[expose] public section

set_option maxRecDepth 16384

noncomputable section

namespace Cert.Grad.DwGate

open Cert.KernelDwGateIdeal Cert.KernelDwGateIdeal.Gen Idealize.ShloMosaic Idealize.ShloMosaic.TcCoe Idealize.SL.Sem

variable (m : (ℓ : Loc nD τ sig) → Buf (Elt Ideal) ℓ)

/-- The gradient of the weights: column `n` of block `b` is column `b * 768 + n`. -/
def grad (h : Vec Ideal S4096x2048 .bf16) (dgl : Vec Ideal S4096x6144 .bf16) : Vec Ideal S8x2048x768 .bf16 := fun i =>
  (∑ r : Fin 4096, (h (ix2 r (i 1)) : EReal) * dgl (ix2 r ⟨(i 0).val * 768 + (i 2).val, by have := (i 0).isLt; have := (i 2).isLt; simp at *; omega⟩) : EReal)

/-- The product of one block of rows: what one grid point adds. -/
def part (A : Vec Ideal S1024x1024 .bf16) (B : Vec Ideal S1024x768 .bf16) (y : S1024x768.Idx) : EReal :=
  ∑ r : Fin 1024, A (ix2 r (y 0)) * B (ix2 r (y 1))

theorem pay1_apply (A : Vec Ideal S1024x1024 .bf16) (B : Vec Ideal S1024x768 .bf16) (y : S1024x768.Idx) :
    k0_pay1 A B y = part A B y := by
  unfold k0_pay1 part
  pointwise

theorem scratch_eq (c : Dev nD) (t : Fin cfg0.N) (ht : t.val % 4 = 3) (y : S1024x768.Idx) :
    (outsAt0 m c t.val t.isLt).2 y = (0 : EReal) + ∑ s : Fin 4,
      part (iblk m c 0 ⟨4 * (t.val / 4) + s.val, Pipeline.run_point_lt_of_flush t ht s⟩) (iblk m c 1 ⟨4 * (t.val / 4) + s.val, Pipeline.run_point_lt_of_flush t ht s⟩) y := by
  refine Pipeline.eq_sum_fin_of_reset_step_apply_of_flush (M := EReal) (fun n h => (outsAt0 m c n h).2) 4 (fun _ => (0 : EReal))
    (fun t y => part (iblk m c 0 t) (iblk m c 1 t) y) ?_ ?_ t ht y
  · intro t h j
    beta_reduce
    rw [outsAt0_A m c t h (by omega) (by omega), zero_add, ← pay1_apply]
    frame_out
    unfold k0_pay2
    pointwise
  · intro t h j
    beta_reduce
    by_cases h3 : t.val % 4 = 3
    · rw [outsAt0_C m c t h (by omega) h3, ← pay1_apply]
      frame_out
      simp only [read_unread_whole]
      unfold k0_pay3
      pointwise
    · rw [outsAt0_B m c t h (by omega) h3, ← pay1_apply]
      frame_out
      simp only [read_unread_whole]
      unfold k0_pay3
      pointwise

theorem out_eq (c : Dev nD) (t : Fin cfg0.N) (ht : t.val % 4 = 3) (y : S1x1024x768.Idx) :
    (outsAt0 m c t.val t.isLt).1 y = (outsAt0 m c t.val t.isLt).2 (ix2 (y 1) (y 2)) := by
  rw [outsAt0_C m c t (by omega) (by omega) ht]
  frame_out
  unfold k0_pay4
  pointwise

theorem idx (t : Fin grid0.N) : win0_0.index t = ![t.val % 4, t.val / 4 % 2] ∧ win0_1.index t = ![t.val % 4, t.val / 8]
    ∧ win0_2.index t = ![t.val / 8, t.val / 4 % 2, 0] :=
  (by decide +kernel : ∀ t : Fin grid0.N, win0_0.index t = ![t.val % 4, t.val / 4 % 2] ∧ win0_1.index t = ![t.val % 4, t.val / 8]
    ∧ win0_2.index t = ![t.val / 8, t.val / 4 % 2, 0]) t

theorem arr_eq (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht := (flush0_2 t).mp hf
  refine (out_eq m c t ht y).trans ((scratch_eq m c t ht _).trans ?_)
  rw [zero_add]
  unfold part grad
  refine Fin.sum_mul_add_congr fun s k hl => ?_
  congr 1
  · blk_ext [iblk, V, idx t, idx ⟨4 * (t.val / 4) + s.val, Pipeline.run_point_lt_of_flush t ht s⟩]
  · blk_ext [iblk, V, idx t, idx ⟨4 * (t.val / 4) + s.val, Pipeline.run_point_lt_of_flush t ht s⟩]

/-- The reference's composed term is the gradient. -/
theorem ref_eq (h : Vec Ideal S4096x2048 .bf16) (dgl : Vec Ideal S4096x6144 .bf16) (h₁ : FTy.bf16.bits < FTy.f32.bits) (h₂ h₃ h₄ h₅) :
    transpose S8x2048x768 [1, 0, 2] (shapeCast Cert.ReferenceDwGateIdeal.S2048x8x768 (truncf (F := Ideal) .bf16 (transpose Cert.ReferenceDwGateIdeal.S2048x6144 [1, 0]
      (Host.dotGeneral Cert.ReferenceDwGateIdeal.dot_S4096x6144_S4096x2048_S6144x2048_0_0_1_1_n_n none (extf (φ := .bf16) .f32 dgl h₁) (extf (φ := .bf16) .f32 h h₁)) h₂) h₃) h₄) h₅
      = grad h dgl := by
  funext i
  unfold grad
  pointwise
  refine Finset.sum_congr rfl fun k _ => ?_
  rw [mul_comm]

theorem algebraic : Cert.algebraic_KernelDwGateIdeal_ReferenceDwGateIdeal (hKernelDwGateIdeal := Cert.KernelDwGateIdeal.Gen.facts)
    (hReferenceDwGateIdeal := Cert.ReferenceDwGateIdeal.Gen.facts) := by
  intro m g m' g' _ hargs
  refine ⟨fun c => grad (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceDwGateIdeal.defs _ _).mono (fun r h c => ⟨(h c).1.trans ?_, (h c).2⟩)
      (Cert.ReferenceDwGateIdeal.Value.run (F := Ideal) m' g')
    rw [(hargs c).1, (hargs c).2]
    exact ref_eq _ _ _ _ _ _ _

end Cert.Grad.DwGate
-- ==== Proof.Grad.DwOut.lean ====
module

public import proofs.«01_k».proof.Defs
public import proofs.«01_k».proof.Proof.Gen.KernelDwOutIdeal.Value
public import proofs.«01_k».proof.Proof.Gen.ReferenceDwOutIdeal.Run
public import Idealize.ShloMosaic.Lib.Pipeline.ValueKit
public import Idealize.ShloMosaic.Lib.Pipeline.ReadBack

@[expose] public section

set_option maxRecDepth 16384

noncomputable section

namespace Cert.Grad.DwOut

open Cert.KernelDwOutIdeal Cert.KernelDwOutIdeal.Gen Idealize.ShloMosaic Idealize.ShloMosaic.TcCoe Idealize.SL.Sem

variable (m : (ℓ : Loc nD τ sig) → Buf (Elt Ideal) ℓ)

/-- The gradient of the weights: column `n` of block `b` is column `b * 2048 + n` of the cotangents. -/
def grad (h : Vec Ideal S4096x2048 .bf16) (dmo : Vec Ideal S4096x2048 .bf16) : Vec Ideal S1x2048x2048 .bf16 := fun i =>
  (∑ r : Fin 4096, (h (ix2 r (i 1)) : EReal) * dmo (ix2 r ⟨(i 0).val * 2048 + (i 2).val, by have := (i 0).isLt; have := (i 2).isLt; simp at *; omega⟩) : EReal)

/-- The product of one block of rows: what one grid point adds. -/
def part (A : Vec Ideal S1024x512 .bf16) (B : Vec Ideal S1024x2048 .bf16) (y : S512x2048.Idx) : EReal :=
  ∑ r : Fin 1024, A (ix2 r (y 0)) * B (ix2 r (y 1))

theorem pay1_apply (A : Vec Ideal S1024x512 .bf16) (B : Vec Ideal S1024x2048 .bf16) (y : S512x2048.Idx) :
    k0_pay1 A B y = part A B y := by
  unfold k0_pay1 part
  pointwise

theorem scratch_eq (c : Dev nD) (t : Fin cfg0.N) (ht : t.val % 4 = 3) (y : S512x2048.Idx) :
    (outsAt0 m c t.val t.isLt).2 y = (0 : EReal) + ∑ s : Fin 4,
      part (iblk m c 0 ⟨4 * (t.val / 4) + s.val, Pipeline.run_point_lt_of_flush t ht s⟩) (iblk m c 1 ⟨4 * (t.val / 4) + s.val, Pipeline.run_point_lt_of_flush t ht s⟩) y := by
  refine Pipeline.eq_sum_fin_of_reset_step_apply_of_flush (M := EReal) (fun n h => (outsAt0 m c n h).2) 4 (fun _ => (0 : EReal))
    (fun t y => part (iblk m c 0 t) (iblk m c 1 t) y) ?_ ?_ t ht y
  · intro t h j
    beta_reduce
    rw [outsAt0_A m c t h (by omega) (by omega), zero_add, ← pay1_apply]
    frame_out
    unfold k0_pay2
    pointwise
  · intro t h j
    beta_reduce
    by_cases h3 : t.val % 4 = 3
    · rw [outsAt0_C m c t h (by omega) h3, ← pay1_apply]
      frame_out
      simp only [read_unread_whole]
      unfold k0_pay3
      pointwise
    · rw [outsAt0_B m c t h (by omega) h3, ← pay1_apply]
      frame_out
      simp only [read_unread_whole]
      unfold k0_pay3
      pointwise

theorem out_eq (c : Dev nD) (t : Fin cfg0.N) (ht : t.val % 4 = 3) (y : S1x512x2048.Idx) :
    (outsAt0 m c t.val t.isLt).1 y = (outsAt0 m c t.val t.isLt).2 (ix2 (y 1) (y 2)) := by
  rw [outsAt0_C m c t (by omega) (by omega) ht]
  frame_out
  unfold k0_pay4
  pointwise

theorem idx (t : Fin grid0.N) : win0_0.index t = ![t.val % 4, t.val / 4 % 4] ∧ win0_1.index t = ![t.val % 4, t.val / 16]
    ∧ win0_2.index t = ![t.val / 16, t.val / 4 % 4, 0] :=
  (by decide +kernel : ∀ t : Fin grid0.N, win0_0.index t = ![t.val % 4, t.val / 4 % 4] ∧ win0_1.index t = ![t.val % 4, t.val / 16]
    ∧ win0_2.index t = ![t.val / 16, t.val / 4 % 4, 0]) t

theorem arr_eq (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht := (flush0_2 t).mp hf
  refine (out_eq m c t ht y).trans ((scratch_eq m c t ht _).trans ?_)
  rw [zero_add]
  unfold part grad
  refine Fin.sum_mul_add_congr fun s k hl => ?_
  congr 1
  · blk_ext [iblk, V, idx t, idx ⟨4 * (t.val / 4) + s.val, Pipeline.run_point_lt_of_flush t ht s⟩]
  · blk_ext [iblk, V, idx t, idx ⟨4 * (t.val / 4) + s.val, Pipeline.run_point_lt_of_flush t ht s⟩]

/-- The reference's composed term is the gradient. -/
theorem ref_eq (h : Vec Ideal S4096x2048 .bf16) (dmo : Vec Ideal S4096x2048 .bf16) (h₁ : FTy.bf16.bits < FTy.f32.bits) (h₂ h₃ h₄) :
    broadcastInDim S1x2048x2048 ![1, 2] h₄ (truncf (F := Ideal) .bf16 (transpose Cert.ReferenceDwOutIdeal.S2048x2048 [1, 0]
      (Host.dotGeneral Cert.ReferenceDwOutIdeal.dot_S4096x2048_S4096x2048_S2048x2048_0_0_1_1_n_n none (extf (φ := .bf16) .f32 dmo h₁) (extf (φ := .bf16) .f32 h h₁)) h₂) h₃)
      = grad h dmo := by
  funext i
  unfold grad
  pointwise
  refine Finset.sum_congr rfl fun k _ => ?_
  rw [mul_comm]

theorem algebraic : Cert.algebraic_KernelDwOutIdeal_ReferenceDwOutIdeal (hKernelDwOutIdeal := Cert.KernelDwOutIdeal.Gen.facts)
    (hReferenceDwOutIdeal := Cert.ReferenceDwOutIdeal.Gen.facts) := by
  intro m g m' g' _ hargs
  refine ⟨fun c => grad (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceDwOutIdeal.defs _ _).mono (fun r h c => ⟨(h c).1.trans ?_, (h c).2⟩)
      (Cert.ReferenceDwOutIdeal.Value.run (F := Ideal) m' g')
    rw [(hargs c).1, (hargs c).2]
    exact ref_eq _ _ _ _ _ _

end Cert.Grad.DwOut
-- ==== Proof.Grad.Dmerged.lean ====
module

public import proofs.«01_k».proof.Defs
public import proofs.«01_k».proof.Proof.Gen.KernelDmergedIdeal.Value
public import proofs.«01_k».proof.Proof.Gen.ReferenceDmergedIdeal.Run
public import Idealize.ShloMosaic.Lib.Pipeline.ValueKit
public import Idealize.ShloMosaic.Lib.Pipeline.ReadBack

@[expose] public section

set_option maxRecDepth 16384

noncomputable section

namespace Cert.Grad.Dmerged

open Cert.KernelDmergedIdeal Cert.KernelDmergedIdeal.Gen Idealize.ShloMosaic Idealize.ShloMosaic.TcCoe Idealize.SL.Sem

variable (m : (ℓ : Loc nD τ sig) → Buf (Elt Ideal) ℓ)

/-- The gradient of the merged value. -/
def grad (dy : Vec Ideal S4096x2048 .bf16) (w : Vec Ideal S2048x2048 .bf16) : Vec Ideal S4096x2048 .bf16 := fun i =>
  (∑ n : Fin 2048, dy (ix2 (i 0) ⟨n.val, by omega⟩) * w (ix2 (i 1) n) : EReal)

/-- The product of one block of columns. -/
def part (A : Vec Ideal S512x2048 .bf16) (B : Vec Ideal S1x2048x2048 .bf16) (y : S512x2048.Idx) : EReal :=
  ∑ n : Fin 2048, A (ix2 (y 0) n) * B (ix3 0 (y 1) n)

theorem pay1_apply (A : Vec Ideal S512x2048 .bf16) (B : Vec Ideal S1x2048x2048 .bf16) (y : S512x2048.Idx) :
    k0_pay1 A B y = part A B y := by
  unfold k0_pay1 part
  pointwise

theorem idx (t : Fin grid0.N) : win0_0.index t = ![t.val, 0] ∧ win0_1.index t = ![0, 0, 0]
    ∧ win0_2.index t = ![t.val, 0] :=
  (by decide +kernel : ∀ t : Fin grid0.N, win0_0.index t = ![t.val, 0] ∧ win0_1.index t = ![0, 0, 0]
    ∧ win0_2.index t = ![t.val, 0]) t

/-- The host's layout of the weights: one block. -/
theorem w_eq (c : Dev nD) (i : S1x2048x2048.Idx) : V m c main_v0 i = m ((c : Thread nD τ).loc main_arg1) (ix2 (i 1) (i 2)) := by
  entry_read
  pointwise

theorem out_eq (c : Dev nD) (t : Fin cfg0.N) (y : S512x2048.Idx) : outsAt0 m c t y = part (iblk m c 0 t) (iblk m c 1 t) y := by
  unfold outsAt0
  rw [← pay1_apply]
  unfold out0_A_2
  frame_out
  unfold k0_pay4 k0_pay2
  pointwise

theorem arr_eq (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t y).trans ?_
  unfold part grad
  refine Finset.sum_congr rfl fun k _ => ?_
  congr 1
  · blk_ext [iblk, V, idx t]
  · refine (w_eq m c _).trans ?_
    blk_ext [idx t]

/-- The reference's composed term is the gradient. -/
theorem ref_eq (dy : Vec Ideal S4096x2048 .bf16) (w : Vec Ideal S2048x2048 .bf16) (h₁ : FTy.bf16.bits < FTy.f32.bits) :
    truncf (F := Ideal) .bf16 (Host.dotGeneral Cert.ReferenceDmergedIdeal.dot_S4096x2048_S2048x2048_S4096x2048_1_1_0_0_n_n none (extf (φ := .bf16) .f32 dy h₁) (extf (φ := .bf16) .f32 w h₁)) h₁
      = grad dy w := by
  funext i
  unfold grad
  pointwise

theorem algebraic : Cert.algebraic_KernelDmergedIdeal_ReferenceDmergedIdeal (hKernelDmergedIdeal := Cert.KernelDmergedIdeal.Gen.facts)
    (hReferenceDmergedIdeal := Cert.ReferenceDmergedIdeal.Gen.facts) := by
  intro m g m' g' _ hargs
  refine ⟨fun c => grad (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceDmergedIdeal.defs _ _).mono (fun r h c => ⟨(h c).1.trans ?_, (h c).2⟩)
      (Cert.ReferenceDmergedIdeal.Value.run (F := Ideal) m' g')
    rw [(hargs c).1, (hargs c).2]
    exact ref_eq _ _ _

end Cert.Grad.Dmerged
-- ==== Proof.Grad.DwBrA.lean ====
module

public import proofs.«01_k».proof.Defs
public import proofs.«01_k».proof.Proof.Gen.KernelDwBrAIdeal.Value
public import proofs.«01_k».proof.Proof.Gen.ReferenceDwBrAIdeal.Run
public import Idealize.ShloMosaic.Lib.Pipeline.ValueKit
public import Idealize.ShloMosaic.Lib.Pipeline.ReadBack

@[expose] public section

set_option maxRecDepth 16384

noncomputable section

namespace Cert.Grad.DwBrA

open Cert.KernelDwBrAIdeal Cert.KernelDwBrAIdeal.Gen Idealize.ShloMosaic Idealize.ShloMosaic.TcCoe Idealize.SL.Sem

variable (m : (ℓ : Loc nD τ sig) → Buf (Elt Ideal) ℓ)

/-- The gradient of the weights: column `n` of block `b` is column `b * 256 + n` of the cotangents. -/
def grad (h : Vec Ideal S4096x1024 .bf16) (dbst : Vec Ideal S4096x6144 .bf16) : Vec Ideal S8x1024x256 .bf16 := fun i =>
  (∑ r : Fin 4096, (h (ix2 r (i 1)) : EReal) * dbst (ix2 r ⟨(i 0).val * 256 + (i 2).val, by have := (i 0).isLt; have := (i 2).isLt; simp at *; omega⟩) : EReal)

/-- The product of one block of rows: what one grid point adds. -/
def part (A : Vec Ideal S2048x1024 .bf16) (B : Vec Ideal S2048x256 .bf16) (y : S1024x256.Idx) : EReal :=
  ∑ r : Fin 2048, A (ix2 r (y 0)) * B (ix2 r (y 1))

theorem pay1_apply (A : Vec Ideal S2048x1024 .bf16) (B : Vec Ideal S2048x256 .bf16) (y : S1024x256.Idx) :
    k0_pay1 A B y = part A B y := by
  unfold k0_pay1 part
  pointwise

theorem scratch_eq (c : Dev nD) (t : Fin cfg0.N) (ht : t.val % 2 = 1) (y : S1024x256.Idx) :
    (outsAt0 m c t.val t.isLt).2 y = (0 : EReal) + ∑ s : Fin 2,
      part (iblk m c 0 ⟨2 * (t.val / 2) + s.val, Pipeline.run_point_lt_of_flush t ht s⟩) (iblk m c 1 ⟨2 * (t.val / 2) + s.val, Pipeline.run_point_lt_of_flush t ht s⟩) y := by
  refine Pipeline.eq_sum_fin_of_reset_step_apply_of_flush (M := EReal) (fun n h => (outsAt0 m c n h).2) 2 (fun _ => (0 : EReal))
    (fun t y => part (iblk m c 0 t) (iblk m c 1 t) y) ?_ ?_ t ht y
  · intro t h j
    beta_reduce
    rw [outsAt0_A m c t h (by omega) (by omega), zero_add, ← pay1_apply]
    frame_out
    unfold k0_pay2
    pointwise
  · intro t h j
    beta_reduce
    rw [outsAt0_B m c t h (by omega) (by omega), ← pay1_apply]
    frame_out
    simp only [read_unread_whole]
    unfold k0_pay3
    pointwise

theorem out_eq (c : Dev nD) (t : Fin cfg0.N) (ht : t.val % 2 = 1) (y : S1x1024x256.Idx) :
    (outsAt0 m c t.val t.isLt).1 y = (outsAt0 m c t.val t.isLt).2 (ix2 (y 1) (y 2)) := by
  rw [outsAt0_B m c t (by omega) (by omega) (by omega)]
  frame_out
  unfold k0_pay4
  pointwise

theorem idx (t : Fin grid0.N) : win0_0.index t = ![t.val % 2, t.val / 2 % 1] ∧ win0_1.index t = ![t.val % 2, t.val / 2]
    ∧ win0_2.index t = ![t.val / 2, t.val / 2 % 1, 0] :=
  (by decide +kernel : ∀ t : Fin grid0.N, win0_0.index t = ![t.val % 2, t.val / 2 % 1] ∧ win0_1.index t = ![t.val % 2, t.val / 2]
    ∧ win0_2.index t = ![t.val / 2, t.val / 2 % 1, 0]) t

theorem arr_eq (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht := (flush0_2 t).mp hf
  refine (out_eq m c t ht y).trans ((scratch_eq m c t ht _).trans ?_)
  rw [zero_add]
  unfold part grad
  refine Fin.sum_mul_add_congr fun s k hl => ?_
  congr 1
  · blk_ext [iblk, V, idx t, idx ⟨2 * (t.val / 2) + s.val, Pipeline.run_point_lt_of_flush t ht s⟩]
  · blk_ext [iblk, V, idx t, idx ⟨2 * (t.val / 2) + s.val, Pipeline.run_point_lt_of_flush t ht s⟩]

/-- The reference's composed term is the gradient. -/
theorem ref_eq (h : Vec Ideal S4096x1024 .bf16) (dbst : Vec Ideal S4096x6144 .bf16) (h₁ : FTy.bf16.bits < FTy.f32.bits) (h₂ h₃ h₄ h₅ h₆) :
    transpose S8x1024x256 [1, 0, 2] (shapeCast Cert.ReferenceDwBrAIdeal.S1024x8x256 (truncf (F := Ideal) .bf16 (transpose Cert.ReferenceDwBrAIdeal.S1024x2048 [1, 0]
      (Host.dotGeneral Cert.ReferenceDwBrAIdeal.dot_S4096x2048_S4096x1024_S2048x1024_0_0_1_1_n_n none (extf (φ := .bf16) .f32 (extractStridedSlice Cert.ReferenceDwBrAIdeal.S4096x2048 ![0, 0] dbst h₆) h₁) (extf (φ := .bf16) .f32 h h₁)) h₂) h₃) h₄) h₅
      = grad h dbst := by
  funext i
  unfold grad
  pointwise
  refine Finset.sum_congr rfl fun k _ => ?_
  rw [mul_comm]

theorem algebraic : Cert.algebraic_KernelDwBrAIdeal_ReferenceDwBrAIdeal (hKernelDwBrAIdeal := Cert.KernelDwBrAIdeal.Gen.facts)
    (hReferenceDwBrAIdeal := Cert.ReferenceDwBrAIdeal.Gen.facts) := by
  intro m g m' g' _ hargs
  refine ⟨fun c => grad (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceDwBrAIdeal.defs _ _).mono (fun r h c => ⟨(h c).1.trans ?_, (h c).2⟩)
      (Cert.ReferenceDwBrAIdeal.Value.run (F := Ideal) m' g')
    rw [(hargs c).1, (hargs c).2]
    exact ref_eq _ _ _ _ _ _ _ _

end Cert.Grad.DwBrA
-- ==== Proof.Grad.DwBrB.lean ====
module

public import proofs.«01_k».proof.Defs
public import proofs.«01_k».proof.Proof.Gen.KernelDwBrBIdeal.Value
public import proofs.«01_k».proof.Proof.Gen.ReferenceDwBrBIdeal.Run
public import Idealize.ShloMosaic.Lib.Pipeline.ValueKit
public import Idealize.ShloMosaic.Lib.Pipeline.ReadBack

@[expose] public section

set_option maxRecDepth 16384

noncomputable section

namespace Cert.Grad.DwBrB

open Cert.KernelDwBrBIdeal Cert.KernelDwBrBIdeal.Gen Idealize.ShloMosaic Idealize.ShloMosaic.TcCoe Idealize.SL.Sem

variable (m : (ℓ : Loc nD τ sig) → Buf (Elt Ideal) ℓ)

/-- The gradient of the weights: column `n` of block `b` is column `2048 + b * 2048 + n` of the cotangents. -/
def grad (h : Vec Ideal S4096x2048 .bf16) (dbst : Vec Ideal S4096x6144 .bf16) : Vec Ideal S1x2048x2048 .bf16 := fun i =>
  (∑ r : Fin 4096, (h (ix2 r (i 1)) : EReal) * dbst (ix2 r ⟨2048 + (i 0).val * 2048 + (i 2).val, by have := (i 0).isLt; have := (i 2).isLt; simp at *; omega⟩) : EReal)

/-- The product of one block of rows: what one grid point adds. -/
def part (A : Vec Ideal S1024x512 .bf16) (B : Vec Ideal S1024x2048 .bf16) (y : S512x2048.Idx) : EReal :=
  ∑ r : Fin 1024, A (ix2 r (y 0)) * B (ix2 r (y 1))

theorem pay1_apply (A : Vec Ideal S1024x512 .bf16) (B : Vec Ideal S1024x2048 .bf16) (y : S512x2048.Idx) :
    k0_pay1 A B y = part A B y := by
  unfold k0_pay1 part
  pointwise

theorem scratch_eq (c : Dev nD) (t : Fin cfg0.N) (ht : t.val % 4 = 3) (y : S512x2048.Idx) :
    (outsAt0 m c t.val t.isLt).2 y = (0 : EReal) + ∑ s : Fin 4,
      part (iblk m c 0 ⟨4 * (t.val / 4) + s.val, Pipeline.run_point_lt_of_flush t ht s⟩) (iblk m c 1 ⟨4 * (t.val / 4) + s.val, Pipeline.run_point_lt_of_flush t ht s⟩) y := by
  refine Pipeline.eq_sum_fin_of_reset_step_apply_of_flush (M := EReal) (fun n h => (outsAt0 m c n h).2) 4 (fun _ => (0 : EReal))
    (fun t y => part (iblk m c 0 t) (iblk m c 1 t) y) ?_ ?_ t ht y
  · intro t h j
    beta_reduce
    rw [outsAt0_A m c t h (by omega) (by omega), zero_add, ← pay1_apply]
    frame_out
    unfold k0_pay2
    pointwise
  · intro t h j
    beta_reduce
    by_cases h3 : t.val % 4 = 3
    · rw [outsAt0_C m c t h (by omega) h3, ← pay1_apply]
      frame_out
      simp only [read_unread_whole]
      unfold k0_pay3
      pointwise
    · rw [outsAt0_B m c t h (by omega) h3, ← pay1_apply]
      frame_out
      simp only [read_unread_whole]
      unfold k0_pay3
      pointwise

theorem out_eq (c : Dev nD) (t : Fin cfg0.N) (ht : t.val % 4 = 3) (y : S1x512x2048.Idx) :
    (outsAt0 m c t.val t.isLt).1 y = (outsAt0 m c t.val t.isLt).2 (ix2 (y 1) (y 2)) := by
  rw [outsAt0_C m c t (by omega) (by omega) ht]
  frame_out
  unfold k0_pay4
  pointwise

theorem idx (t : Fin grid0.N) : win0_0.index t = ![t.val % 4, t.val / 4 % 4] ∧ win0_1.index t = ![t.val % 4, 1 + t.val / 16]
    ∧ win0_2.index t = ![t.val / 16, t.val / 4 % 4, 0] :=
  (by decide +kernel : ∀ t : Fin grid0.N, win0_0.index t = ![t.val % 4, t.val / 4 % 4] ∧ win0_1.index t = ![t.val % 4, 1 + t.val / 16]
    ∧ win0_2.index t = ![t.val / 16, t.val / 4 % 4, 0]) t

theorem arr_eq (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht := (flush0_2 t).mp hf
  refine (out_eq m c t ht y).trans ((scratch_eq m c t ht _).trans ?_)
  rw [zero_add]
  unfold part grad
  refine Fin.sum_mul_add_congr fun s k hl => ?_
  congr 1
  · blk_ext [iblk, V, idx t, idx ⟨4 * (t.val / 4) + s.val, Pipeline.run_point_lt_of_flush t ht s⟩]
  · blk_ext [iblk, V, idx t, idx ⟨4 * (t.val / 4) + s.val, Pipeline.run_point_lt_of_flush t ht s⟩]

/-- The reference's composed term is the gradient. -/
theorem ref_eq (h : Vec Ideal S4096x2048 .bf16) (dbst : Vec Ideal S4096x6144 .bf16) (h₁ : FTy.bf16.bits < FTy.f32.bits) (h₂ h₃ h₄ h₆) :
    broadcastInDim S1x2048x2048 ![1, 2] h₄ (truncf (F := Ideal) .bf16 (transpose Cert.ReferenceDwBrBIdeal.S2048x2048 [1, 0]
      (Host.dotGeneral Cert.ReferenceDwBrBIdeal.dot_S4096x2048_S4096x2048_S2048x2048_0_0_1_1_n_n none (extf (φ := .bf16) .f32 (extractStridedSlice Cert.ReferenceDwBrBIdeal.S4096x2048 ![0, 2048] dbst h₆) h₁) (extf (φ := .bf16) .f32 h h₁)) h₂) h₃)
      = grad h dbst := by
  funext i
  unfold grad
  pointwise
  refine Finset.sum_congr rfl fun k _ => ?_
  rw [mul_comm]

theorem algebraic : Cert.algebraic_KernelDwBrBIdeal_ReferenceDwBrBIdeal (hKernelDwBrBIdeal := Cert.KernelDwBrBIdeal.Gen.facts)
    (hReferenceDwBrBIdeal := Cert.ReferenceDwBrBIdeal.Gen.facts) := by
  intro m g m' g' _ hargs
  refine ⟨fun c => grad (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceDwBrBIdeal.defs _ _).mono (fun r h c => ⟨(h c).1.trans ?_, (h c).2⟩)
      (Cert.ReferenceDwBrBIdeal.Value.run (F := Ideal) m' g')
    rw [(hargs c).1, (hargs c).2]
    exact ref_eq _ _ _ _ _ _ _

end Cert.Grad.DwBrB
-- ==== Proof.Grad.DwBrC.lean ====
module

public import proofs.«01_k».proof.Defs
public import proofs.«01_k».proof.Proof.Gen.KernelDwBrCIdeal.Value
public import proofs.«01_k».proof.Proof.Gen.ReferenceDwBrCIdeal.Run
public import Idealize.ShloMosaic.Lib.Pipeline.ValueKit
public import Idealize.ShloMosaic.Lib.Pipeline.ReadBack

@[expose] public section

set_option maxRecDepth 16384

noncomputable section

namespace Cert.Grad.DwBrC

open Cert.KernelDwBrCIdeal Cert.KernelDwBrCIdeal.Gen Idealize.ShloMosaic Idealize.ShloMosaic.TcCoe Idealize.SL.Sem

variable (m : (ℓ : Loc nD τ sig) → Buf (Elt Ideal) ℓ)

/-- The gradient of the weights: column `n` of block `b` is column `4096 + b * 256 + n` of the cotangents. -/
def grad (h : Vec Ideal S4096x1024 .bf16) (dbst : Vec Ideal S4096x6144 .bf16) : Vec Ideal S8x1024x256 .bf16 := fun i =>
  (∑ r : Fin 4096, (h (ix2 r (i 1)) : EReal) * dbst (ix2 r ⟨4096 + ((i 0).val * 256 + (i 2).val), by have := (i 0).isLt; have := (i 2).isLt; simp at *; omega⟩) : EReal)

/-- The product of one block of rows: what one grid point adds. -/
def part (A : Vec Ideal S2048x1024 .bf16) (B : Vec Ideal S2048x256 .bf16) (y : S1024x256.Idx) : EReal :=
  ∑ r : Fin 2048, A (ix2 r (y 0)) * B (ix2 r (y 1))

theorem pay1_apply (A : Vec Ideal S2048x1024 .bf16) (B : Vec Ideal S2048x256 .bf16) (y : S1024x256.Idx) :
    k0_pay1 A B y = part A B y := by
  unfold k0_pay1 part
  pointwise

theorem scratch_eq (c : Dev nD) (t : Fin cfg0.N) (ht : t.val % 2 = 1) (y : S1024x256.Idx) :
    (outsAt0 m c t.val t.isLt).2 y = (0 : EReal) + ∑ s : Fin 2,
      part (iblk m c 0 ⟨2 * (t.val / 2) + s.val, Pipeline.run_point_lt_of_flush t ht s⟩) (iblk m c 1 ⟨2 * (t.val / 2) + s.val, Pipeline.run_point_lt_of_flush t ht s⟩) y := by
  refine Pipeline.eq_sum_fin_of_reset_step_apply_of_flush (M := EReal) (fun n h => (outsAt0 m c n h).2) 2 (fun _ => (0 : EReal))
    (fun t y => part (iblk m c 0 t) (iblk m c 1 t) y) ?_ ?_ t ht y
  · intro t h j
    beta_reduce
    rw [outsAt0_A m c t h (by omega) (by omega), zero_add, ← pay1_apply]
    frame_out
    unfold k0_pay2
    pointwise
  · intro t h j
    beta_reduce
    rw [outsAt0_B m c t h (by omega) (by omega), ← pay1_apply]
    frame_out
    simp only [read_unread_whole]
    unfold k0_pay3
    pointwise

theorem out_eq (c : Dev nD) (t : Fin cfg0.N) (ht : t.val % 2 = 1) (y : S1x1024x256.Idx) :
    (outsAt0 m c t.val t.isLt).1 y = (outsAt0 m c t.val t.isLt).2 (ix2 (y 1) (y 2)) := by
  rw [outsAt0_B m c t (by omega) (by omega) (by omega)]
  frame_out
  unfold k0_pay4
  pointwise

theorem idx (t : Fin grid0.N) : win0_0.index t = ![t.val % 2, t.val / 2 % 1] ∧ win0_1.index t = ![t.val % 2, 16 + t.val / 2]
    ∧ win0_2.index t = ![t.val / 2, t.val / 2 % 1, 0] :=
  (by decide +kernel : ∀ t : Fin grid0.N, win0_0.index t = ![t.val % 2, t.val / 2 % 1] ∧ win0_1.index t = ![t.val % 2, 16 + t.val / 2]
    ∧ win0_2.index t = ![t.val / 2, t.val / 2 % 1, 0]) t

theorem arr_eq (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht := (flush0_2 t).mp hf
  refine (out_eq m c t ht y).trans ((scratch_eq m c t ht _).trans ?_)
  rw [zero_add]
  unfold part grad
  refine Fin.sum_mul_add_congr fun s k hl => ?_
  congr 1
  · blk_ext [iblk, V, idx t, idx ⟨2 * (t.val / 2) + s.val, Pipeline.run_point_lt_of_flush t ht s⟩]
  · blk_ext [iblk, V, idx t, idx ⟨2 * (t.val / 2) + s.val, Pipeline.run_point_lt_of_flush t ht s⟩]

/-- The reference's composed term is the gradient. -/
theorem ref_eq (h : Vec Ideal S4096x1024 .bf16) (dbst : Vec Ideal S4096x6144 .bf16) (h₁ : FTy.bf16.bits < FTy.f32.bits) (h₂ h₃ h₄ h₅ h₆) :
    transpose S8x1024x256 [1, 0, 2] (shapeCast Cert.ReferenceDwBrCIdeal.S1024x8x256 (truncf (F := Ideal) .bf16 (transpose Cert.ReferenceDwBrCIdeal.S1024x2048 [1, 0]
      (Host.dotGeneral Cert.ReferenceDwBrCIdeal.dot_S4096x2048_S4096x1024_S2048x1024_0_0_1_1_n_n none (extf (φ := .bf16) .f32 (extractStridedSlice Cert.ReferenceDwBrCIdeal.S4096x2048 ![0, 4096] dbst h₆) h₁) (extf (φ := .bf16) .f32 h h₁)) h₂) h₃) h₄) h₅
      = grad h dbst := by
  funext i
  unfold grad
  pointwise
  refine Finset.sum_congr rfl fun k _ => ?_
  rw [mul_comm]

theorem algebraic : Cert.algebraic_KernelDwBrCIdeal_ReferenceDwBrCIdeal (hKernelDwBrCIdeal := Cert.KernelDwBrCIdeal.Gen.facts)
    (hReferenceDwBrCIdeal := Cert.ReferenceDwBrCIdeal.Gen.facts) := by
  intro m g m' g' _ hargs
  refine ⟨fun c => grad (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceDwBrCIdeal.defs _ _).mono (fun r h c => ⟨(h c).1.trans ?_, (h c).2⟩)
      (Cert.ReferenceDwBrCIdeal.Value.run (F := Ideal) m' g')
    rw [(hargs c).1, (hargs c).2]
    exact ref_eq _ _ _ _ _ _ _ _

end Cert.Grad.DwBrC
-- ==== Proof.Grad.Dya.lean ====
module

public import proofs.«01_k».proof.Defs
public import proofs.«01_k».proof.Proof.Gen.KernelDyaIdeal.Value
public import proofs.«01_k».proof.Proof.Gen.ReferenceDyaIdeal.Run
public import Idealize.ShloMosaic.Lib.Pipeline.ValueKit
public import Idealize.ShloMosaic.Lib.Pipeline.ReadBack

@[expose] public section

set_option maxRecDepth 16384

noncomputable section

namespace Cert.Grad.Dya

open Cert.KernelDyaIdeal Cert.KernelDyaIdeal.Gen Idealize.ShloMosaic Idealize.ShloMosaic.TcCoe Idealize.SL.Sem

variable (m : (ℓ : Loc nD τ sig) → Buf (Elt Ideal) ℓ)

/-- The gradient of the first branch's value. -/
def grad (dy : Vec Ideal S4096x6144 .bf16) (w : Vec Ideal S1024x2048 .bf16) : Vec Ideal S4096x1024 .bf16 := fun i =>
  (∑ n : Fin 2048, dy (ix2 (i 0) ⟨n.val, by omega⟩) * w (ix2 (i 1) n) : EReal)

/-- The product of one block of columns. -/
def part (A : Vec Ideal S2048x256 .bf16) (B : Vec Ideal S1x1024x256 .bf16) (y : S2048x1024.Idx) : EReal :=
  ∑ n : Fin 256, A (ix2 (y 0) n) * B (ix3 0 (y 1) n)

theorem pay1_apply (A : Vec Ideal S2048x256 .bf16) (B : Vec Ideal S1x1024x256 .bf16) (y : S2048x1024.Idx) :
    k0_pay1 A B y = part A B y := by
  unfold k0_pay1 part
  pointwise

theorem scratch_eq (c : Dev nD) (t : Fin cfg0.N) (ht : t.val % 8 = 7) (y : S2048x1024.Idx) :
    (outsAt0 m c t.val t.isLt).2 y = (0 : EReal) + ∑ s : Fin 8,
      part (iblk m c 0 ⟨8 * (t.val / 8) + s.val, Pipeline.run_point_lt_of_flush t ht s⟩) (iblk m c 1 ⟨8 * (t.val / 8) + s.val, Pipeline.run_point_lt_of_flush t ht s⟩) y := by
  refine Pipeline.eq_sum_fin_of_reset_step_apply_of_flush (M := EReal) (fun n h => (outsAt0 m c n h).2) 8 (fun _ => (0 : EReal))
    (fun t y => part (iblk m c 0 t) (iblk m c 1 t) y) ?_ ?_ t ht y
  · intro t h j
    beta_reduce
    rw [outsAt0_A m c t h (by omega) (by omega), zero_add, ← pay1_apply]
    frame_out
    unfold k0_pay2
    pointwise
  · intro t h j
    beta_reduce
    by_cases h3 : t.val % 8 = 7
    · rw [outsAt0_C m c t h (by omega) h3, ← pay1_apply]
      frame_out
      simp only [read_unread_whole]
      unfold k0_pay3
      pointwise
    · rw [outsAt0_B m c t h (by omega) h3, ← pay1_apply]
      frame_out
      simp only [read_unread_whole]
      unfold k0_pay3
      pointwise

theorem out_eq (c : Dev nD) (t : Fin cfg0.N) (ht : t.val % 8 = 7) (y : S2048x1024.Idx) :
    (outsAt0 m c t.val t.isLt).1 y = (outsAt0 m c t.val t.isLt).2 y := by
  rw [outsAt0_C m c t (by omega) (by omega) ht]
  frame_out
  unfold k0_pay4
  pointwise

theorem idx (t : Fin grid0.N) : win0_0.index t = ![t.val / 8, t.val % 8] ∧ win0_1.index t = ![t.val % 8, 0, 0]
    ∧ win0_2.index t = ![t.val / 8, 0] :=
  (by decide +kernel : ∀ t : Fin grid0.N, win0_0.index t = ![t.val / 8, t.val % 8] ∧ win0_1.index t = ![t.val % 8, 0, 0]
    ∧ win0_2.index t = ![t.val / 8, 0]) t

/-- The host's layout of the weights: column `n` of block `b` is column `b * 256 + n`. -/
theorem w_eq (c : Dev nD) (i : S8x1024x256.Idx) (h : (i 0).val * 256 + (i 2).val < 2048) :
    V m c main_v1 i = m ((c : Thread nD τ).loc main_arg1) (ix2 (i 1) ⟨(i 0).val * 256 + (i 2).val, h⟩) := by
  entry_read
  pointwise
  blk_ext

theorem w_lt (i : S8x1024x256.Idx) : (i 0).val * 256 + (i 2).val < 2048 := by
  have h0 : (i 0).val < 8 := (i 0).isLt
  have h2 : (i 2).val < 256 := (i 2).isLt
  omega

theorem arr_eq (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht := (flush0_2 t).mp hf
  refine (out_eq m c t ht y).trans ((scratch_eq m c t ht _).trans ?_)
  rw [zero_add]
  unfold part grad
  refine Fin.sum_mul_add_congr fun s k hl => ?_
  have hs := s.isLt
  congr 1
  · blk_ext [iblk, V, idx t, idx ⟨8 * (t.val / 8) + s.val, Pipeline.run_point_lt_of_flush t ht s⟩]
  · refine (w_eq m c _ (w_lt _)).trans ?_
    blk_ext [idx t, idx ⟨8 * (t.val / 8) + s.val, Pipeline.run_point_lt_of_flush t ht s⟩]

/-- The reference's composed term is the gradient. -/
theorem ref_eq (dy : Vec Ideal S4096x6144 .bf16) (w : Vec Ideal S1024x2048 .bf16) (h₁ : FTy.bf16.bits < FTy.f32.bits) (h₂) :
    truncf (F := Ideal) .bf16 (Host.dotGeneral Cert.ReferenceDyaIdeal.dot_S4096x2048_S1024x2048_S4096x1024_1_1_0_0_n_n none (extf (φ := .bf16) .f32 (extractStridedSlice Cert.ReferenceDyaIdeal.S4096x2048 ![0, 0] dy h₂) h₁) (extf (φ := .bf16) .f32 w h₁)) h₁
      = grad dy w := by
  funext i
  unfold grad
  pointwise

theorem algebraic : Cert.algebraic_KernelDyaIdeal_ReferenceDyaIdeal (hKernelDyaIdeal := Cert.KernelDyaIdeal.Gen.facts)
    (hReferenceDyaIdeal := Cert.ReferenceDyaIdeal.Gen.facts) := by
  intro m g m' g' _ hargs
  refine ⟨fun c => grad (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceDyaIdeal.defs _ _).mono (fun r h c => ⟨(h c).1.trans ?_, (h c).2⟩)
      (Cert.ReferenceDyaIdeal.Value.run (F := Ideal) m' g')
    rw [(hargs c).1, (hargs c).2]
    exact ref_eq _ _ _ _

end Cert.Grad.Dya
-- ==== Proof.Grad.Dyb.lean ====
module

public import proofs.«01_k».proof.Defs
public import proofs.«01_k».proof.Proof.Gen.KernelDybIdeal.Value
public import proofs.«01_k».proof.Proof.Gen.ReferenceDybIdeal.Run
public import Idealize.ShloMosaic.Lib.Pipeline.ValueKit
public import Idealize.ShloMosaic.Lib.Pipeline.ReadBack

@[expose] public section

set_option maxRecDepth 16384

noncomputable section

namespace Cert.Grad.Dyb

open Cert.KernelDybIdeal Cert.KernelDybIdeal.Gen Idealize.ShloMosaic Idealize.ShloMosaic.TcCoe Idealize.SL.Sem

variable (m : (ℓ : Loc nD τ sig) → Buf (Elt Ideal) ℓ)

/-- The gradient of the second branch's value: its cotangents are the middle 2048 columns. -/
def grad (dy : Vec Ideal S4096x6144 .bf16) (w : Vec Ideal S2048x2048 .bf16) : Vec Ideal S4096x2048 .bf16 := fun i =>
  (∑ n : Fin 2048, dy (ix2 (i 0) ⟨2048 + n.val, by omega⟩) * w (ix2 (i 1) n) : EReal)

/-- The product of one block of columns. -/
def part (A : Vec Ideal S512x2048 .bf16) (B : Vec Ideal S1x2048x2048 .bf16) (y : S512x2048.Idx) : EReal :=
  ∑ n : Fin 2048, A (ix2 (y 0) n) * B (ix3 0 (y 1) n)

theorem pay1_apply (A : Vec Ideal S512x2048 .bf16) (B : Vec Ideal S1x2048x2048 .bf16) (y : S512x2048.Idx) :
    k0_pay1 A B y = part A B y := by
  unfold k0_pay1 part
  pointwise

theorem idx (t : Fin grid0.N) : win0_0.index t = ![t.val, 1] ∧ win0_1.index t = ![0, 0, 0]
    ∧ win0_2.index t = ![t.val, 0] :=
  (by decide +kernel : ∀ t : Fin grid0.N, win0_0.index t = ![t.val, 1] ∧ win0_1.index t = ![0, 0, 0]
    ∧ win0_2.index t = ![t.val, 0]) t

/-- The host's layout of the weights: one block. -/
theorem w_eq (c : Dev nD) (i : S1x2048x2048.Idx) : V m c main_v0 i = m ((c : Thread nD τ).loc main_arg1) (ix2 (i 1) (i 2)) := by
  entry_read
  pointwise

theorem out_eq (c : Dev nD) (t : Fin cfg0.N) (y : S512x2048.Idx) : outsAt0 m c t y = part (iblk m c 0 t) (iblk m c 1 t) y := by
  unfold outsAt0
  rw [← pay1_apply]
  unfold out0_A_2
  frame_out
  unfold k0_pay4 k0_pay2
  pointwise

theorem arr_eq (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t y).trans ?_
  unfold part grad
  refine Finset.sum_congr rfl fun k _ => ?_
  congr 1
  · blk_ext [iblk, V, idx t]
  · refine (w_eq m c _).trans ?_
    blk_ext [idx t]

/-- The reference's composed term is the gradient. -/
theorem ref_eq (dy : Vec Ideal S4096x6144 .bf16) (w : Vec Ideal S2048x2048 .bf16) (h₁ : FTy.bf16.bits < FTy.f32.bits) (h₂) :
    truncf (F := Ideal) .bf16 (Host.dotGeneral Cert.ReferenceDybIdeal.dot_S4096x2048_S2048x2048_S4096x2048_1_1_0_0_n_n none (extf (φ := .bf16) .f32 (extractStridedSlice Cert.ReferenceDybIdeal.S4096x2048 ![0, 2048] dy h₂) h₁) (extf (φ := .bf16) .f32 w h₁)) h₁
      = grad dy w := by
  funext i
  unfold grad
  pointwise

theorem algebraic : Cert.algebraic_KernelDybIdeal_ReferenceDybIdeal (hKernelDybIdeal := Cert.KernelDybIdeal.Gen.facts)
    (hReferenceDybIdeal := Cert.ReferenceDybIdeal.Gen.facts) := by
  intro m g m' g' _ hargs
  refine ⟨fun c => grad (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceDybIdeal.defs _ _).mono (fun r h c => ⟨(h c).1.trans ?_, (h c).2⟩)
      (Cert.ReferenceDybIdeal.Value.run (F := Ideal) m' g')
    rw [(hargs c).1, (hargs c).2]
    exact ref_eq _ _ _ _

end Cert.Grad.Dyb
-- ==== Proof.Grad.Dyc.lean ====
module

public import proofs.«01_k».proof.Defs
public import proofs.«01_k».proof.Proof.Gen.KernelDycIdeal.Value
public import proofs.«01_k».proof.Proof.Gen.ReferenceDycIdeal.Run
public import Idealize.ShloMosaic.Lib.Pipeline.ValueKit
public import Idealize.ShloMosaic.Lib.Pipeline.ReadBack

@[expose] public section

set_option maxRecDepth 16384

noncomputable section

namespace Cert.Grad.Dyc

open Cert.KernelDycIdeal Cert.KernelDycIdeal.Gen Idealize.ShloMosaic Idealize.ShloMosaic.TcCoe Idealize.SL.Sem

variable (m : (ℓ : Loc nD τ sig) → Buf (Elt Ideal) ℓ)

/-- The gradient of the third branch's value: its cotangents are the last 2048 columns. -/
def grad (dy : Vec Ideal S4096x6144 .bf16) (w : Vec Ideal S1024x2048 .bf16) : Vec Ideal S4096x1024 .bf16 := fun i =>
  (∑ n : Fin 2048, dy (ix2 (i 0) ⟨4096 + n.val, by omega⟩) * w (ix2 (i 1) n) : EReal)

/-- The product of one block of columns. -/
def part (A : Vec Ideal S2048x256 .bf16) (B : Vec Ideal S1x1024x256 .bf16) (y : S2048x1024.Idx) : EReal :=
  ∑ n : Fin 256, A (ix2 (y 0) n) * B (ix3 0 (y 1) n)

theorem pay1_apply (A : Vec Ideal S2048x256 .bf16) (B : Vec Ideal S1x1024x256 .bf16) (y : S2048x1024.Idx) :
    k0_pay1 A B y = part A B y := by
  unfold k0_pay1 part
  pointwise

theorem scratch_eq (c : Dev nD) (t : Fin cfg0.N) (ht : t.val % 8 = 7) (y : S2048x1024.Idx) :
    (outsAt0 m c t.val t.isLt).2 y = (0 : EReal) + ∑ s : Fin 8,
      part (iblk m c 0 ⟨8 * (t.val / 8) + s.val, Pipeline.run_point_lt_of_flush t ht s⟩) (iblk m c 1 ⟨8 * (t.val / 8) + s.val, Pipeline.run_point_lt_of_flush t ht s⟩) y := by
  refine Pipeline.eq_sum_fin_of_reset_step_apply_of_flush (M := EReal) (fun n h => (outsAt0 m c n h).2) 8 (fun _ => (0 : EReal))
    (fun t y => part (iblk m c 0 t) (iblk m c 1 t) y) ?_ ?_ t ht y
  · intro t h j
    beta_reduce
    rw [outsAt0_A m c t h (by omega) (by omega), zero_add, ← pay1_apply]
    frame_out
    unfold k0_pay2
    pointwise
  · intro t h j
    beta_reduce
    by_cases h3 : t.val % 8 = 7
    · rw [outsAt0_C m c t h (by omega) h3, ← pay1_apply]
      frame_out
      simp only [read_unread_whole]
      unfold k0_pay3
      pointwise
    · rw [outsAt0_B m c t h (by omega) h3, ← pay1_apply]
      frame_out
      simp only [read_unread_whole]
      unfold k0_pay3
      pointwise

theorem out_eq (c : Dev nD) (t : Fin cfg0.N) (ht : t.val % 8 = 7) (y : S2048x1024.Idx) :
    (outsAt0 m c t.val t.isLt).1 y = (outsAt0 m c t.val t.isLt).2 y := by
  rw [outsAt0_C m c t (by omega) (by omega) ht]
  frame_out
  unfold k0_pay4
  pointwise

theorem idx (t : Fin grid0.N) : win0_0.index t = ![t.val / 8, 16 + t.val % 8] ∧ win0_1.index t = ![t.val % 8, 0, 0]
    ∧ win0_2.index t = ![t.val / 8, 0] :=
  (by decide +kernel : ∀ t : Fin grid0.N, win0_0.index t = ![t.val / 8, 16 + t.val % 8] ∧ win0_1.index t = ![t.val % 8, 0, 0]
    ∧ win0_2.index t = ![t.val / 8, 0]) t

/-- The host's layout of the weights: column `n` of block `b` is column `b * 256 + n`. -/
theorem w_eq (c : Dev nD) (i : S8x1024x256.Idx) (h : (i 0).val * 256 + (i 2).val < 2048) :
    V m c main_v1 i = m ((c : Thread nD τ).loc main_arg1) (ix2 (i 1) ⟨(i 0).val * 256 + (i 2).val, h⟩) := by
  entry_read
  pointwise
  blk_ext

theorem w_lt (i : S8x1024x256.Idx) : (i 0).val * 256 + (i 2).val < 2048 := by
  have h0 : (i 0).val < 8 := (i 0).isLt
  have h2 : (i 2).val < 256 := (i 2).isLt
  omega

theorem arr_eq (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have ht := (flush0_2 t).mp hf
  refine (out_eq m c t ht y).trans ((scratch_eq m c t ht _).trans ?_)
  rw [zero_add]
  unfold part grad
  refine Fin.sum_mul_add_congr fun s k hl => ?_
  have hs := s.isLt
  congr 1
  · blk_ext [iblk, V, idx t, idx ⟨8 * (t.val / 8) + s.val, Pipeline.run_point_lt_of_flush t ht s⟩]
  · refine (w_eq m c _ (w_lt _)).trans ?_
    blk_ext [idx t, idx ⟨8 * (t.val / 8) + s.val, Pipeline.run_point_lt_of_flush t ht s⟩]

/-- The reference's composed term is the gradient. -/
theorem ref_eq (dy : Vec Ideal S4096x6144 .bf16) (w : Vec Ideal S1024x2048 .bf16) (h₁ : FTy.bf16.bits < FTy.f32.bits) (h₂) :
    truncf (F := Ideal) .bf16 (Host.dotGeneral Cert.ReferenceDycIdeal.dot_S4096x2048_S1024x2048_S4096x1024_1_1_0_0_n_n none (extf (φ := .bf16) .f32 (extractStridedSlice Cert.ReferenceDycIdeal.S4096x2048 ![0, 4096] dy h₂) h₁) (extf (φ := .bf16) .f32 w h₁)) h₁
      = grad dy w := by
  funext i
  unfold grad
  pointwise

theorem algebraic : Cert.algebraic_KernelDycIdeal_ReferenceDycIdeal (hKernelDycIdeal := Cert.KernelDycIdeal.Gen.facts)
    (hReferenceDycIdeal := Cert.ReferenceDycIdeal.Gen.facts) := by
  intro m g m' g' _ hargs
  refine ⟨fun c => grad (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceDycIdeal.defs _ _).mono (fun r h c => ⟨(h c).1.trans ?_, (h c).2⟩)
      (Cert.ReferenceDycIdeal.Value.run (F := Ideal) m' g')
    rw [(hargs c).1, (hargs c).2]
    exact ref_eq _ _ _ _

end Cert.Grad.Dyc
-- ==== Proof.Grad.InProj.lean ====
module

public import proofs.«01_k».proof.Defs
public import proofs.«01_k».proof.Proof.Gen.KernelInProjIdeal.Value
public import proofs.«01_k».proof.Proof.Gen.ReferenceInProjIdeal.Run
public import Idealize.ShloMosaic.Lib.Pipeline.ValueKit
public import Idealize.ShloMosaic.Lib.Pipeline.ReadBack

@[expose] public section

set_option maxRecDepth 16384

noncomputable section

namespace Cert.Grad.InProj

open Cert.KernelInProjIdeal Cert.KernelInProjIdeal.Gen Idealize.ShloMosaic Idealize.ShloMosaic.TcCoe Idealize.SL.Sem

variable (m : (ℓ : Loc nD τ sig) → Buf (Elt Ideal) ℓ)

/-- The projection. -/
def proj (h : Vec Ideal S4096x2048 .bf16) (w : Vec Ideal S2048x14336 .bf16) : Vec Ideal S4096x14336 .bf16 := fun i =>
  (∑ k : Fin 2048, h (ix2 (i 0) k) * w (ix2 k (i 1)) : EReal)

/-- The host's layout of the weights: column `n` of block `b` is column `b * 1792 + n`. -/
theorem w_eq (c : Dev nD) (i : S8x2048x1792.Idx) (h : (i 0).val * 1792 + (i 2).val < 14336) :
    V m c main_v1 i = m ((c : Thread nD τ).loc main_arg1) (ix2 (i 1) ⟨(i 0).val * 1792 + (i 2).val, h⟩) := by
  entry_read
  pointwise
  blk_ext

theorem w_lt (i : S8x2048x1792.Idx) : (i 0).val * 1792 + (i 2).val < 14336 := by
  have h0 : (i 0).val < 8 := (i 0).isLt
  have h2 : (i 2).val < 1792 := (i 2).isLt
  omega

theorem pay_apply (A : Vec Ideal S512x2048 .bf16) (B : Vec Ideal S1x2048x1792 .bf16) (y : S512x1792.Idx) :
    k0_pay1 A B y = (∑ k : Fin 2048, A (ix2 (y 0) k) * B (ix3 0 k (y 1)) : EReal) := by
  unfold k0_pay1
  pointwise

theorem idx (t : Fin grid0.N) : win0_0.index t = ![t.val % 8, 0] ∧ win0_1.index t = ![t.val / 8, 0, 0]
    ∧ win0_2.index t = ![t.val % 8, t.val / 8] :=
  (by decide +kernel : ∀ t : Fin grid0.N, win0_0.index t = ![t.val % 8, 0] ∧ win0_1.index t = ![t.val / 8, 0, 0]
    ∧ win0_2.index t = ![t.val % 8, t.val / 8]) t

theorem arr_eq (c : Dev nD) : (dats m 0 c).arrAt 2 cfg0.N
    = proj (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ y).trans ?_
  unfold proj
  refine Finset.sum_congr rfl fun k _ => ?_
  congr 1
  · blk_ext [iblk, V, idx t]
  · refine (w_eq m c _ (w_lt _)).trans ?_
    blk_ext [idx t]

theorem ref_eq (h : Vec Ideal S4096x2048 .bf16) (w : Vec Ideal S2048x14336 .bf16) (h₁ : FTy.bf16.bits < FTy.f32.bits) :
    truncf (F := Ideal) .bf16 (Host.dotGeneral Cert.ReferenceInProjIdeal.dot_S4096x2048_S2048x14336_S4096x14336_1_0_0_1_n_n none (extf (φ := .bf16) .f32 h h₁) (extf (φ := .bf16) .f32 w h₁)) h₁
      = proj h w := by
  funext i
  unfold proj
  pointwise

theorem algebraic : Cert.algebraic_KernelInProjIdeal_ReferenceInProjIdeal (hKernelInProjIdeal := Cert.KernelInProjIdeal.Gen.facts)
    (hReferenceInProjIdeal := Cert.ReferenceInProjIdeal.Gen.facts) := by
  intro m g m' g' _ hargs
  refine ⟨fun c => proj (m ((c : Thread nD τ).loc main_arg0)) (m ((c : Thread nD τ).loc main_arg1)), ?_, ?_⟩
  · exact (θ_run defs _ _).mono (fun r h c => ⟨(h c).1.trans (arr_eq m c), (h c).2⟩) (Value.run_blocks m g)
  · refine (θ_run Cert.ReferenceInProjIdeal.defs _ _).mono (fun r h c => ⟨(h c).1.trans ?_, (h c).2⟩)
      (Cert.ReferenceInProjIdeal.Value.run (F := Ideal) m' g')
    rw [(hargs c).1, (hargs c).2]
    exact ref_eq _ _ _

end Cert.Grad.InProj
-- ==== Proof.Grad.GateProj.lean ====
module

public import proofs.«01_k».proof.Defs
public import proofs.«01_k».proof.Proof.Gen.KernelGateProjIdeal.Value
public import proofs.«01_k».proof.Proof.Gen.ReferenceGateProjIdeal.Run
public import Idealize.ShloMosaic.Lib.Pipeline.ValueKit
public import Idealize.ShloMosaic.Lib.Pipeline.ReadBack

@[expose] public section

set_option maxRecDepth 16384

noncomputable section

namespace Cert.Grad.GateProj

open Cert.KernelGateProjIdeal Cert.KernelGateProjIdeal.Gen Idealize.ShloMosaic Idealize.ShloMosaic.TcCoe Idealize.SL.Sem

variable (m : (ℓ : Loc nD τ sig) → Buf (Elt Ideal) ℓ)

/-- The projection and its bias. -/
def proj (h : Vec Ideal S4096x2048 .bf16) (w : Vec Ideal S2048x6144 .bf16) (b : Vec Ideal S6144 .f32) : Vec Ideal S4096x6144 .bf16 := fun i =>
  ((∑ k : Fin 2048, h (ix2 (i 0) k) * w (ix2 k (i 1))) + b (ix1 (i 1)) : EReal)

/-- The host's layout of the weights: column `n` of block `b` is column `b * 768 + n`. -/
theorem w_eq (c : Dev nD) (i : S8x2048x768.Idx) (h : (i 0).val * 768 + (i 2).val < 6144) :
    V m c main_v1 i = m ((c : Thread nD τ).loc main_arg1) (ix2 (i 1) ⟨(i 0).val * 768 + (i 2).val, h⟩) := by
  entry_read
  pointwise
  blk_ext

theorem b_eq (c : Dev nD) (i : S1x6144.Idx) : V m c main_v2 i = m ((c : Thread nD τ).loc main_arg2) (ix1 (i 1)) := by
  entry_read
  pointwise

theorem w_lt (i : S8x2048x768.Idx) : (i 0).val * 768 + (i 2).val < 6144 := by
  have h0 : (i 0).val < 8 := (i 0).isLt
  have h2 : (i 2).val < 768 := (i 2).isLt
  omega

theorem pay_apply (A : Vec Ideal S512x2048 .bf16) (B : Vec Ideal S1x2048x768 .bf16) (b : Vec Ideal S1x768 .f32) (y : S512x768.Idx) :
    k0_pay1 A B b y = ((∑ k : Fin 2048, A (ix2 (y 0) k) * B (ix3 0 k (y 1))) + b (ix2 0 (y 1)) : EReal) := by
  unfold k0_pay1
  pointwise

theorem idx (t : Fin grid0.N) : win0_0.index t = ![t.val % 8, 0] ∧ win0_1.index t = ![t.val / 8, 0, 0]
    ∧ win0_2.index t = ![0, t.val / 8] ∧ win0_3.index t = ![t.val % 8, t.val / 8] :=
  (by decide +kernel : ∀ t : Fin grid0.N, win0_0.index t = ![t.val % 8, 0] ∧ win0_1.index t = ![t.val / 8, 0, 0]
    ∧ win0_2.index t = ![0, t.val / 8] ∧ win0_3.index t = ![t.val % 8, t.val / 8]) t

theorem arr_eq (c : Dev nD) : (dats m 0 c).arrAt 3 cfg0.N
    = proj (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  refine (pay_apply _ _ _ y).trans ?_
  unfold proj
  refine congrArg₂ (fun a b : EReal => a + b) (Finset.sum_congr rfl fun k _ => ?_) ?_
  · congr 1
    · blk_ext [iblk, V, idx t]
    · refine (w_eq m c _ (w_lt _)).trans ?_
      blk_ext [idx t]
  · refine (b_eq m c _).trans ?_
    blk_ext [idx t]

theorem ref_eq (h : Vec Ideal S4096x2048 .bf16) (w : Vec Ideal S2048x6144 .bf16) (b : Vec Ideal S6144 .f32) (h₁ : FTy.bf16.bits < FTy.f32.bits) (h₂ h₃) :
    truncf (F := Ideal) .bf16 (addf (φ := .f32) (Host.dotGeneral Cert.ReferenceGateProjIdeal.dot_S4096x2048_S2048x6144_S4096x6144_1_0_0_1_n_n none (extf (φ := .bf16) .f32 h h₁) (extf (φ := .bf16) .f32 w h₁))
      (broadcastInDim Cert.ReferenceGateProjIdeal.S4096x6144 ![0, 1] h₂ (broadcastInDim Cert.ReferenceGateProjIdeal.S1x6144 ![1] h₃ b))) h₁
      = proj h w b := by
  funext i
  unfold proj
  pointwise

theorem algebraic : Cert.algebraic_KernelGateProjIdeal_ReferenceGateProjIdeal (hKernelGateProjIdeal := Cert.KernelGateProjIdeal.Gen.facts)
    (hReferenceGateProjIdeal := Cert.ReferenceGateProjIdeal.Gen.facts) := by
  intro m g m' g' _ hargs
  refine ⟨fun c => proj (m ((c : Thread nD τ).loc main_arg0)) (m ((c : Thread nD τ).loc main_arg1)) (m ((c : Thread nD τ).loc main_arg2)), ?_, ?_⟩
  · exact (θ_run defs _ _).mono (fun r h c => ⟨(h c).1.trans (arr_eq m c), (h c).2⟩) (Value.run_blocks m g)
  · refine (θ_run Cert.ReferenceGateProjIdeal.defs _ _).mono (fun r h c => ⟨(h c).1.trans ?_, (h c).2⟩)
      (Cert.ReferenceGateProjIdeal.Value.run (F := Ideal) m' g')
    rw [(hargs c).1, (hargs c).2.1, (hargs c).2.2]
    exact ref_eq _ _ _ _ _ _

end Cert.Grad.GateProj
-- ==== Proof.lean ====
/- The certificate of the attention gradient: its frames, and that the kernel's gradients are the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelDh
public import proofs.«01_k».proof.Proof.Gen.KernelDh.Skeleton
public import proofs.«01_k».proof.Proof.Gen.KernelDh.Launch
public import proofs.«01_k».proof.Proof.Gen.KernelDh.Points
public import proofs.«01_k».proof.Proof.Gen.KernelDh.Frame
public import proofs.«01_k».proof.Proof.Gen.KernelDhIdeal
public import proofs.«01_k».proof.Proof.Gen.KernelDhIdeal.Skeleton
public import proofs.«01_k».proof.Proof.Gen.KernelDhIdeal.Launch
public import proofs.«01_k».proof.Proof.Gen.KernelDhIdeal.Points
public import proofs.«01_k».proof.Proof.Gen.KernelDhIdeal.Frame
public import proofs.«01_k».proof.Proof.Gen.KernelDhIdeal.Value
public import proofs.«01_k».proof.Proof.Gen.ReferenceDhIdeal
public import proofs.«01_k».proof.Proof.Gen.ReferenceDhIdeal.Run
public import proofs.«01_k».proof.Proof.Gen.KernelDwIn
public import proofs.«01_k».proof.Proof.Gen.KernelDwIn.Skeleton
public import proofs.«01_k».proof.Proof.Gen.KernelDwIn.Launch
public import proofs.«01_k».proof.Proof.Gen.KernelDwIn.Points
public import proofs.«01_k».proof.Proof.Gen.KernelDwIn.Frame
public import proofs.«01_k».proof.Proof.Gen.KernelDwInIdeal
public import proofs.«01_k».proof.Proof.Gen.KernelDwInIdeal.Skeleton
public import proofs.«01_k».proof.Proof.Gen.KernelDwInIdeal.Launch
public import proofs.«01_k».proof.Proof.Gen.KernelDwInIdeal.Points
public import proofs.«01_k».proof.Proof.Gen.KernelDwInIdeal.Frame
public import proofs.«01_k».proof.Proof.Gen.KernelDwInIdeal.Value
public import proofs.«01_k».proof.Proof.Gen.ReferenceDwInIdeal
public import proofs.«01_k».proof.Proof.Gen.ReferenceDwInIdeal.Run
public import proofs.«01_k».proof.Proof.Gen.KernelDwGate
public import proofs.«01_k».proof.Proof.Gen.KernelDwGate.Skeleton
public import proofs.«01_k».proof.Proof.Gen.KernelDwGate.Launch
public import proofs.«01_k».proof.Proof.Gen.KernelDwGate.Points
public import proofs.«01_k».proof.Proof.Gen.KernelDwGate.Frame
public import proofs.«01_k».proof.Proof.Gen.KernelDwGateIdeal
public import proofs.«01_k».proof.Proof.Gen.KernelDwGateIdeal.Skeleton
public import proofs.«01_k».proof.Proof.Gen.KernelDwGateIdeal.Launch
public import proofs.«01_k».proof.Proof.Gen.KernelDwGateIdeal.Points
public import proofs.«01_k».proof.Proof.Gen.KernelDwGateIdeal.Frame
public import proofs.«01_k».proof.Proof.Gen.KernelDwGateIdeal.Value
public import proofs.«01_k».proof.Proof.Gen.ReferenceDwGateIdeal
public import proofs.«01_k».proof.Proof.Gen.ReferenceDwGateIdeal.Run
public import proofs.«01_k».proof.Proof.Gen.KernelDwOut
public import proofs.«01_k».proof.Proof.Gen.KernelDwOut.Skeleton
public import proofs.«01_k».proof.Proof.Gen.KernelDwOut.Launch
public import proofs.«01_k».proof.Proof.Gen.KernelDwOut.Points
public import proofs.«01_k».proof.Proof.Gen.KernelDwOut.Frame
public import proofs.«01_k».proof.Proof.Gen.KernelDwOutIdeal
public import proofs.«01_k».proof.Proof.Gen.KernelDwOutIdeal.Skeleton
public import proofs.«01_k».proof.Proof.Gen.KernelDwOutIdeal.Launch
public import proofs.«01_k».proof.Proof.Gen.KernelDwOutIdeal.Points
public import proofs.«01_k».proof.Proof.Gen.KernelDwOutIdeal.Frame
public import proofs.«01_k».proof.Proof.Gen.KernelDwOutIdeal.Value
public import proofs.«01_k».proof.Proof.Gen.ReferenceDwOutIdeal
public import proofs.«01_k».proof.Proof.Gen.ReferenceDwOutIdeal.Run
public import proofs.«01_k».proof.Proof.Gen.KernelDmerged
public import proofs.«01_k».proof.Proof.Gen.KernelDmerged.Skeleton
public import proofs.«01_k».proof.Proof.Gen.KernelDmerged.Launch
public import proofs.«01_k».proof.Proof.Gen.KernelDmerged.Points
public import proofs.«01_k».proof.Proof.Gen.KernelDmerged.Frame
public import proofs.«01_k».proof.Proof.Gen.KernelDmergedIdeal
public import proofs.«01_k».proof.Proof.Gen.KernelDmergedIdeal.Skeleton
public import proofs.«01_k».proof.Proof.Gen.KernelDmergedIdeal.Launch
public import proofs.«01_k».proof.Proof.Gen.KernelDmergedIdeal.Points
public import proofs.«01_k».proof.Proof.Gen.KernelDmergedIdeal.Frame
public import proofs.«01_k».proof.Proof.Gen.KernelDmergedIdeal.Value
public import proofs.«01_k».proof.Proof.Gen.ReferenceDmergedIdeal
public import proofs.«01_k».proof.Proof.Gen.ReferenceDmergedIdeal.Run
public import proofs.«01_k».proof.Proof.Gen.KernelDwBrA
public import proofs.«01_k».proof.Proof.Gen.KernelDwBrA.Skeleton
public import proofs.«01_k».proof.Proof.Gen.KernelDwBrA.Launch
public import proofs.«01_k».proof.Proof.Gen.KernelDwBrA.Points
public import proofs.«01_k».proof.Proof.Gen.KernelDwBrA.Frame
public import proofs.«01_k».proof.Proof.Gen.KernelDwBrAIdeal
public import proofs.«01_k».proof.Proof.Gen.KernelDwBrAIdeal.Skeleton
public import proofs.«01_k».proof.Proof.Gen.KernelDwBrAIdeal.Launch
public import proofs.«01_k».proof.Proof.Gen.KernelDwBrAIdeal.Points
public import proofs.«01_k».proof.Proof.Gen.KernelDwBrAIdeal.Frame
public import proofs.«01_k».proof.Proof.Gen.KernelDwBrAIdeal.Value
public import proofs.«01_k».proof.Proof.Gen.ReferenceDwBrAIdeal
public import proofs.«01_k».proof.Proof.Gen.ReferenceDwBrAIdeal.Run
public import proofs.«01_k».proof.Proof.Gen.KernelDwBrB
public import proofs.«01_k».proof.Proof.Gen.KernelDwBrB.Skeleton
public import proofs.«01_k».proof.Proof.Gen.KernelDwBrB.Launch
public import proofs.«01_k».proof.Proof.Gen.KernelDwBrB.Points
public import proofs.«01_k».proof.Proof.Gen.KernelDwBrB.Frame
public import proofs.«01_k».proof.Proof.Gen.KernelDwBrBIdeal
public import proofs.«01_k».proof.Proof.Gen.KernelDwBrBIdeal.Skeleton
public import proofs.«01_k».proof.Proof.Gen.KernelDwBrBIdeal.Launch
public import proofs.«01_k».proof.Proof.Gen.KernelDwBrBIdeal.Points
public import proofs.«01_k».proof.Proof.Gen.KernelDwBrBIdeal.Frame
public import proofs.«01_k».proof.Proof.Gen.KernelDwBrBIdeal.Value
public import proofs.«01_k».proof.Proof.Gen.ReferenceDwBrBIdeal
public import proofs.«01_k».proof.Proof.Gen.ReferenceDwBrBIdeal.Run
public import proofs.«01_k».proof.Proof.Gen.KernelDwBrC
public import proofs.«01_k».proof.Proof.Gen.KernelDwBrC.Skeleton
public import proofs.«01_k».proof.Proof.Gen.KernelDwBrC.Launch
public import proofs.«01_k».proof.Proof.Gen.KernelDwBrC.Points
public import proofs.«01_k».proof.Proof.Gen.KernelDwBrC.Frame
public import proofs.«01_k».proof.Proof.Gen.KernelDwBrCIdeal
public import proofs.«01_k».proof.Proof.Gen.KernelDwBrCIdeal.Skeleton
public import proofs.«01_k».proof.Proof.Gen.KernelDwBrCIdeal.Launch
public import proofs.«01_k».proof.Proof.Gen.KernelDwBrCIdeal.Points
public import proofs.«01_k».proof.Proof.Gen.KernelDwBrCIdeal.Frame
public import proofs.«01_k».proof.Proof.Gen.KernelDwBrCIdeal.Value
public import proofs.«01_k».proof.Proof.Gen.ReferenceDwBrCIdeal
public import proofs.«01_k».proof.Proof.Gen.ReferenceDwBrCIdeal.Run
public import proofs.«01_k».proof.Proof.Gen.KernelDya
public import proofs.«01_k».proof.Proof.Gen.KernelDya.Skeleton
public import proofs.«01_k».proof.Proof.Gen.KernelDya.Launch
public import proofs.«01_k».proof.Proof.Gen.KernelDya.Points
public import proofs.«01_k».proof.Proof.Gen.KernelDya.Frame
public import proofs.«01_k».proof.Proof.Gen.KernelDyaIdeal
public import proofs.«01_k».proof.Proof.Gen.KernelDyaIdeal.Skeleton
public import proofs.«01_k».proof.Proof.Gen.KernelDyaIdeal.Launch
public import proofs.«01_k».proof.Proof.Gen.KernelDyaIdeal.Points
public import proofs.«01_k».proof.Proof.Gen.KernelDyaIdeal.Frame
public import proofs.«01_k».proof.Proof.Gen.KernelDyaIdeal.Value
public import proofs.«01_k».proof.Proof.Gen.ReferenceDyaIdeal
public import proofs.«01_k».proof.Proof.Gen.ReferenceDyaIdeal.Run
public import proofs.«01_k».proof.Proof.Gen.KernelDyb
public import proofs.«01_k».proof.Proof.Gen.KernelDyb.Skeleton
public import proofs.«01_k».proof.Proof.Gen.KernelDyb.Launch
public import proofs.«01_k».proof.Proof.Gen.KernelDyb.Points
public import proofs.«01_k».proof.Proof.Gen.KernelDyb.Frame
public import proofs.«01_k».proof.Proof.Gen.KernelDybIdeal
public import proofs.«01_k».proof.Proof.Gen.KernelDybIdeal.Skeleton
public import proofs.«01_k».proof.Proof.Gen.KernelDybIdeal.Launch
public import proofs.«01_k».proof.Proof.Gen.KernelDybIdeal.Points
public import proofs.«01_k».proof.Proof.Gen.KernelDybIdeal.Frame
public import proofs.«01_k».proof.Proof.Gen.KernelDybIdeal.Value
public import proofs.«01_k».proof.Proof.Gen.ReferenceDybIdeal
public import proofs.«01_k».proof.Proof.Gen.ReferenceDybIdeal.Run
public import proofs.«01_k».proof.Proof.Gen.KernelDyc
public import proofs.«01_k».proof.Proof.Gen.KernelDyc.Skeleton
public import proofs.«01_k».proof.Proof.Gen.KernelDyc.Launch
public import proofs.«01_k».proof.Proof.Gen.KernelDyc.Points
public import proofs.«01_k».proof.Proof.Gen.KernelDyc.Frame
public import proofs.«01_k».proof.Proof.Gen.KernelDycIdeal
public import proofs.«01_k».proof.Proof.Gen.KernelDycIdeal.Skeleton
public import proofs.«01_k».proof.Proof.Gen.KernelDycIdeal.Launch
public import proofs.«01_k».proof.Proof.Gen.KernelDycIdeal.Points
public import proofs.«01_k».proof.Proof.Gen.KernelDycIdeal.Frame
public import proofs.«01_k».proof.Proof.Gen.KernelDycIdeal.Value
public import proofs.«01_k».proof.Proof.Gen.ReferenceDycIdeal
public import proofs.«01_k».proof.Proof.Gen.ReferenceDycIdeal.Run
public import proofs.«01_k».proof.Proof.Gen.KernelInProj
public import proofs.«01_k».proof.Proof.Gen.KernelInProj.Skeleton
public import proofs.«01_k».proof.Proof.Gen.KernelInProj.Launch
public import proofs.«01_k».proof.Proof.Gen.KernelInProj.Points
public import proofs.«01_k».proof.Proof.Gen.KernelInProj.Frame
public import proofs.«01_k».proof.Proof.Gen.KernelInProjIdeal
public import proofs.«01_k».proof.Proof.Gen.KernelInProjIdeal.Skeleton
public import proofs.«01_k».proof.Proof.Gen.KernelInProjIdeal.Launch
public import proofs.«01_k».proof.Proof.Gen.KernelInProjIdeal.Points
public import proofs.«01_k».proof.Proof.Gen.KernelInProjIdeal.Frame
public import proofs.«01_k».proof.Proof.Gen.KernelInProjIdeal.Value
public import proofs.«01_k».proof.Proof.Gen.ReferenceInProjIdeal
public import proofs.«01_k».proof.Proof.Gen.ReferenceInProjIdeal.Run
public import proofs.«01_k».proof.Proof.Gen.KernelGateProj
public import proofs.«01_k».proof.Proof.Gen.KernelGateProj.Skeleton
public import proofs.«01_k».proof.Proof.Gen.KernelGateProj.Launch
public import proofs.«01_k».proof.Proof.Gen.KernelGateProj.Points
public import proofs.«01_k».proof.Proof.Gen.KernelGateProj.Frame
public import proofs.«01_k».proof.Proof.Gen.KernelGateProjIdeal
public import proofs.«01_k».proof.Proof.Gen.KernelGateProjIdeal.Skeleton
public import proofs.«01_k».proof.Proof.Gen.KernelGateProjIdeal.Launch
public import proofs.«01_k».proof.Proof.Gen.KernelGateProjIdeal.Points
public import proofs.«01_k».proof.Proof.Gen.KernelGateProjIdeal.Frame
public import proofs.«01_k».proof.Proof.Gen.KernelGateProjIdeal.Value
public import proofs.«01_k».proof.Proof.Gen.ReferenceGateProjIdeal
public import proofs.«01_k».proof.Proof.Gen.ReferenceGateProjIdeal.Run
public import proofs.«01_k».proof.Proof.Attn.Run
public import proofs.«01_k».proof.Proof.Bits.Run
public import proofs.«01_k».proof.Proof.Val.Claim
public import proofs.«01_k».proof.Proof.Grad.Dh
public import proofs.«01_k».proof.Proof.Grad.DwIn
public import proofs.«01_k».proof.Proof.Grad.DwGate
public import proofs.«01_k».proof.Proof.Grad.DwOut
public import proofs.«01_k».proof.Proof.Grad.Dmerged
public import proofs.«01_k».proof.Proof.Grad.DwBrA
public import proofs.«01_k».proof.Proof.Grad.DwBrB
public import proofs.«01_k».proof.Proof.Grad.DwBrC
public import proofs.«01_k».proof.Proof.Grad.Dya
public import proofs.«01_k».proof.Proof.Grad.Dyb
public import proofs.«01_k».proof.Proof.Grad.Dyc
public import proofs.«01_k».proof.Proof.Grad.InProj
public import proofs.«01_k».proof.Proof.Grad.GateProj

@[expose] public section

noncomputable section

namespace Cert.Proof

open Idealize.ShloMosaic Idealize.SL.Sem

theorem frame_kernel : Cert.quiescent_Kernel := fun m ρ _ => Cert.Kernel.Attn.frame_any (F := Bits) m ρ

theorem frame_kernelIdeal : Cert.quiescent_KernelIdeal := fun m ρ _ => Cert.KernelIdeal.Attn.frame_any (F := Ideal) m ρ

theorem frame_referenceIdeal : Cert.quiescent_ReferenceIdeal := fun m ρ _ =>
  (θ_run Cert.ReferenceIdeal.defs _ _).mono (fun r h => ⟨fun c => ⟨(h c).2.2.2.2.1, (h c).2.2.2.2.2⟩,
      Idealize.ShloMosaic.sem_eq_zero_of_no_sems (by decide) r.2⟩)
    (Cert.ReferenceIdeal.Value.run (F := Ideal) m ρ)

theorem frame_referenceDh : Cert.quiescent_ReferenceDhIdeal := fun m ρ _ =>
  (θ_run Cert.ReferenceDhIdeal.defs _ _).mono (fun r h => ⟨fun c => (h c).2,
      Idealize.ShloMosaic.sem_eq_zero_of_no_sems (by decide) r.2⟩)
    (Cert.ReferenceDhIdeal.Value.run (F := Ideal) m ρ)

theorem frame_referenceDwIn : Cert.quiescent_ReferenceDwInIdeal := fun m ρ _ =>
  (θ_run Cert.ReferenceDwInIdeal.defs _ _).mono (fun r h => ⟨fun c => (h c).2,
      Idealize.ShloMosaic.sem_eq_zero_of_no_sems (by decide) r.2⟩)
    (Cert.ReferenceDwInIdeal.Value.run (F := Ideal) m ρ)

theorem frame_referenceDwGate : Cert.quiescent_ReferenceDwGateIdeal := fun m ρ _ =>
  (θ_run Cert.ReferenceDwGateIdeal.defs _ _).mono (fun r h => ⟨fun c => (h c).2,
      Idealize.ShloMosaic.sem_eq_zero_of_no_sems (by decide) r.2⟩)
    (Cert.ReferenceDwGateIdeal.Value.run (F := Ideal) m ρ)

theorem frame_referenceDwOut : Cert.quiescent_ReferenceDwOutIdeal := fun m ρ _ =>
  (θ_run Cert.ReferenceDwOutIdeal.defs _ _).mono (fun r h => ⟨fun c => (h c).2,
      Idealize.ShloMosaic.sem_eq_zero_of_no_sems (by decide) r.2⟩)
    (Cert.ReferenceDwOutIdeal.Value.run (F := Ideal) m ρ)

theorem frame_referenceDmerged : Cert.quiescent_ReferenceDmergedIdeal := fun m ρ _ =>
  (θ_run Cert.ReferenceDmergedIdeal.defs _ _).mono (fun r h => ⟨fun c => (h c).2,
      Idealize.ShloMosaic.sem_eq_zero_of_no_sems (by decide) r.2⟩)
    (Cert.ReferenceDmergedIdeal.Value.run (F := Ideal) m ρ)

theorem frame_referenceDwBrA : Cert.quiescent_ReferenceDwBrAIdeal := fun m ρ _ =>
  (θ_run Cert.ReferenceDwBrAIdeal.defs _ _).mono (fun r h => ⟨fun c => (h c).2,
      Idealize.ShloMosaic.sem_eq_zero_of_no_sems (by decide) r.2⟩)
    (Cert.ReferenceDwBrAIdeal.Value.run (F := Ideal) m ρ)

theorem frame_referenceDwBrB : Cert.quiescent_ReferenceDwBrBIdeal := fun m ρ _ =>
  (θ_run Cert.ReferenceDwBrBIdeal.defs _ _).mono (fun r h => ⟨fun c => (h c).2,
      Idealize.ShloMosaic.sem_eq_zero_of_no_sems (by decide) r.2⟩)
    (Cert.ReferenceDwBrBIdeal.Value.run (F := Ideal) m ρ)

theorem frame_referenceDwBrC : Cert.quiescent_ReferenceDwBrCIdeal := fun m ρ _ =>
  (θ_run Cert.ReferenceDwBrCIdeal.defs _ _).mono (fun r h => ⟨fun c => (h c).2,
      Idealize.ShloMosaic.sem_eq_zero_of_no_sems (by decide) r.2⟩)
    (Cert.ReferenceDwBrCIdeal.Value.run (F := Ideal) m ρ)

theorem frame_referenceDya : Cert.quiescent_ReferenceDyaIdeal := fun m ρ _ =>
  (θ_run Cert.ReferenceDyaIdeal.defs _ _).mono (fun r h => ⟨fun c => (h c).2,
      Idealize.ShloMosaic.sem_eq_zero_of_no_sems (by decide) r.2⟩)
    (Cert.ReferenceDyaIdeal.Value.run (F := Ideal) m ρ)

theorem frame_referenceDyb : Cert.quiescent_ReferenceDybIdeal := fun m ρ _ =>
  (θ_run Cert.ReferenceDybIdeal.defs _ _).mono (fun r h => ⟨fun c => (h c).2,
      Idealize.ShloMosaic.sem_eq_zero_of_no_sems (by decide) r.2⟩)
    (Cert.ReferenceDybIdeal.Value.run (F := Ideal) m ρ)

theorem frame_referenceDyc : Cert.quiescent_ReferenceDycIdeal := fun m ρ _ =>
  (θ_run Cert.ReferenceDycIdeal.defs _ _).mono (fun r h => ⟨fun c => (h c).2,
      Idealize.ShloMosaic.sem_eq_zero_of_no_sems (by decide) r.2⟩)
    (Cert.ReferenceDycIdeal.Value.run (F := Ideal) m ρ)

theorem frame_referenceInProj : Cert.quiescent_ReferenceInProjIdeal := fun m ρ _ =>
  (θ_run Cert.ReferenceInProjIdeal.defs _ _).mono (fun r h => ⟨fun c => (h c).2,
      Idealize.ShloMosaic.sem_eq_zero_of_no_sems (by decide) r.2⟩)
    (Cert.ReferenceInProjIdeal.Value.run (F := Ideal) m ρ)

theorem frame_referenceGateProj : Cert.quiescent_ReferenceGateProjIdeal := fun m ρ _ =>
  (θ_run Cert.ReferenceGateProjIdeal.defs _ _).mono (fun r h => ⟨fun c => (h c).2,
      Idealize.ShloMosaic.sem_eq_zero_of_no_sems (by decide) r.2⟩)
    (Cert.ReferenceGateProjIdeal.Value.run (F := Ideal) m ρ)

theorem claim : Cert.Claim :=
  ⟨Cert.Kernel.Gen.facts, Cert.KernelIdeal.Gen.facts, Cert.ReferenceIdeal.Gen.facts,
    Cert.KernelDh.Gen.facts, Cert.KernelDhIdeal.Gen.facts, Cert.ReferenceDhIdeal.Gen.facts,
    Cert.KernelDwIn.Gen.facts, Cert.KernelDwInIdeal.Gen.facts, Cert.ReferenceDwInIdeal.Gen.facts,
    Cert.KernelDwGate.Gen.facts, Cert.KernelDwGateIdeal.Gen.facts, Cert.ReferenceDwGateIdeal.Gen.facts,
    Cert.KernelDwOut.Gen.facts, Cert.KernelDwOutIdeal.Gen.facts, Cert.ReferenceDwOutIdeal.Gen.facts,
    Cert.KernelDmerged.Gen.facts, Cert.KernelDmergedIdeal.Gen.facts, Cert.ReferenceDmergedIdeal.Gen.facts,
    Cert.KernelDwBrA.Gen.facts, Cert.KernelDwBrAIdeal.Gen.facts, Cert.ReferenceDwBrAIdeal.Gen.facts,
    Cert.KernelDwBrB.Gen.facts, Cert.KernelDwBrBIdeal.Gen.facts, Cert.ReferenceDwBrBIdeal.Gen.facts,
    Cert.KernelDwBrC.Gen.facts, Cert.KernelDwBrCIdeal.Gen.facts, Cert.ReferenceDwBrCIdeal.Gen.facts,
    Cert.KernelDya.Gen.facts, Cert.KernelDyaIdeal.Gen.facts, Cert.ReferenceDyaIdeal.Gen.facts,
    Cert.KernelDyb.Gen.facts, Cert.KernelDybIdeal.Gen.facts, Cert.ReferenceDybIdeal.Gen.facts,
    Cert.KernelDyc.Gen.facts, Cert.KernelDycIdeal.Gen.facts, Cert.ReferenceDycIdeal.Gen.facts,
    Cert.KernelInProj.Gen.facts, Cert.KernelInProjIdeal.Gen.facts, Cert.ReferenceInProjIdeal.Gen.facts,
    Cert.KernelGateProj.Gen.facts, Cert.KernelGateProjIdeal.Gen.facts, Cert.ReferenceGateProjIdeal.Gen.facts,
    Cert.Val.facts_finite,
    frame_kernel, frame_kernelIdeal, fun m ρ _ => frame_kernelIdeal m ρ trivial, frame_referenceIdeal, fun m ρ _ => frame_referenceIdeal m ρ trivial,
    fun m ρ _ => Cert.KernelDh.Gen.frame m ρ, fun m ρ _ => Cert.KernelDhIdeal.Gen.frame m ρ, frame_referenceDh,
    fun m ρ _ => Cert.KernelDwIn.Gen.frame m ρ, fun m ρ _ => Cert.KernelDwInIdeal.Gen.frame m ρ, frame_referenceDwIn,
    fun m ρ _ => Cert.KernelDwGate.Gen.frame m ρ, fun m ρ _ => Cert.KernelDwGateIdeal.Gen.frame m ρ, frame_referenceDwGate,
    fun m ρ _ => Cert.KernelDwOut.Gen.frame m ρ, fun m ρ _ => Cert.KernelDwOutIdeal.Gen.frame m ρ, frame_referenceDwOut,
    fun m ρ _ => Cert.KernelDmerged.Gen.frame m ρ, fun m ρ _ => Cert.KernelDmergedIdeal.Gen.frame m ρ, frame_referenceDmerged,
    fun m ρ _ => Cert.KernelDwBrA.Gen.frame m ρ, fun m ρ _ => Cert.KernelDwBrAIdeal.Gen.frame m ρ, frame_referenceDwBrA,
    fun m ρ _ => Cert.KernelDwBrB.Gen.frame m ρ, fun m ρ _ => Cert.KernelDwBrBIdeal.Gen.frame m ρ, frame_referenceDwBrB,
    fun m ρ _ => Cert.KernelDwBrC.Gen.frame m ρ, fun m ρ _ => Cert.KernelDwBrCIdeal.Gen.frame m ρ, frame_referenceDwBrC,
    fun m ρ _ => Cert.KernelDya.Gen.frame m ρ, fun m ρ _ => Cert.KernelDyaIdeal.Gen.frame m ρ, frame_referenceDya,
    fun m ρ _ => Cert.KernelDyb.Gen.frame m ρ, fun m ρ _ => Cert.KernelDybIdeal.Gen.frame m ρ, frame_referenceDyb,
    fun m ρ _ => Cert.KernelDyc.Gen.frame m ρ, fun m ρ _ => Cert.KernelDycIdeal.Gen.frame m ρ, frame_referenceDyc,
    fun m ρ _ => Cert.KernelInProj.Gen.frame m ρ, fun m ρ _ => Cert.KernelInProjIdeal.Gen.frame m ρ, frame_referenceInProj,
    fun m ρ _ => Cert.KernelGateProj.Gen.frame m ρ, fun m ρ _ => Cert.KernelGateProjIdeal.Gen.frame m ρ, frame_referenceGateProj,
    trivial, Cert.Val.algebraic,
    trivial, Cert.Grad.Dh.algebraic,
    trivial, Cert.Grad.DwIn.algebraic,
    trivial, Cert.Grad.DwGate.algebraic,
    trivial, Cert.Grad.DwOut.algebraic,
    trivial, Cert.Grad.Dmerged.algebraic,
    trivial, Cert.Grad.DwBrA.algebraic,
    trivial, Cert.Grad.DwBrB.algebraic,
    trivial, Cert.Grad.DwBrC.algebraic,
    trivial, Cert.Grad.Dya.algebraic,
    trivial, Cert.Grad.Dyb.algebraic,
    trivial, Cert.Grad.Dyc.algebraic,
    trivial, Cert.Grad.InProj.algebraic,
    trivial, Cert.Grad.GateProj.algebraic⟩

end Cert.Proof

end
